-- ==== Defs.lean ====
def Pre_Kernel (m : (ℓ : Loc Cert.Kernel.nD Cert.Kernel.τ Cert.Kernel.sig) → Buf (Elt Bits) ℓ) : Prop :=
  True

def Pre_Halves (m : (ℓ : Loc Cert.Halves.nD Cert.Halves.τ Cert.Halves.sig) → Buf (Elt Bits) ℓ) : Prop :=
  True

def Pre_HalvesIdeal (m : (ℓ : Loc Cert.HalvesIdeal.nD Cert.HalvesIdeal.τ Cert.HalvesIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutReferenceIdeal (m : (ℓ : Loc Cert.OddOutReferenceIdeal.nD Cert.OddOutReferenceIdeal.τ Cert.OddOutReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite [hPre_finite : Cert.Pre_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).1 = (fun _ => 1#1)
    ∧ (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).2 = (fun _ => 1#1)

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_finite_lat [hPre_finite_lat : Cert.Pre_finite_lat.Facts] (m : (ℓ : Loc Cert.LatIdeal.nD Cert.LatIdeal.τ Cert.LatIdeal.sig) → Buf (Elt Ideal) ℓ) : Prop :=
  ∀ c : Dev Cert.LatIdeal.nD,
    (Cert.Pre_finite_lat.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).1 = (fun _ => 1#1)
    ∧ (Cert.Pre_finite_lat.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).2.1 = (fun _ => 1#1)
    ∧ (Cert.Pre_finite_lat.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).2.2 = (fun _ => 1#1)

def Pre_LatReferenceIdeal (m : (ℓ : Loc Cert.LatReferenceIdeal.nD Cert.LatReferenceIdeal.τ Cert.LatReferenceIdeal.sig) → Buf (Elt Ideal) ℓ) : Prop :=
  True

def Pre_LatReferenceIdeal_finite_lat [hPre_finite_lat : Cert.Pre_finite_lat.Facts] (m : (ℓ : Loc Cert.LatReferenceIdeal.nD Cert.LatReferenceIdeal.τ Cert.LatReferenceIdeal.sig) → Buf (Elt Ideal) ℓ) : Prop :=
  ∀ c : Dev Cert.LatReferenceIdeal.nD,
    (Cert.Pre_finite_lat.fn (F := Ideal) (m ((c.tc : Thread Cert.LatReferenceIdeal.nD Cert.LatReferenceIdeal.τ).loc Cert.LatReferenceIdeal.main_arg0)) (m ((c.tc : Thread Cert.LatReferenceIdeal.nD Cert.LatReferenceIdeal.τ).loc Cert.LatReferenceIdeal.main_arg1)) (m ((c.tc : Thread Cert.LatReferenceIdeal.nD Cert.LatReferenceIdeal.τ).loc Cert.LatReferenceIdeal.main_arg2)) (m ((c.tc : Thread Cert.LatReferenceIdeal.nD Cert.LatReferenceIdeal.τ).loc Cert.LatReferenceIdeal.main_arg3)) (m ((c.tc : Thread Cert.LatReferenceIdeal.nD Cert.LatReferenceIdeal.τ).loc Cert.LatReferenceIdeal.main_arg4))).1 = (fun _ => 1#1)
    ∧ (Cert.Pre_finite_lat.fn (F := Ideal) (m ((c.tc : Thread Cert.LatReferenceIdeal.nD Cert.LatReferenceIdeal.τ).loc Cert.LatReferenceIdeal.main_arg0)) (m ((c.tc : Thread Cert.LatReferenceIdeal.nD Cert.LatReferenceIdeal.τ).loc Cert.LatReferenceIdeal.main_arg1)) (m ((c.tc : Thread Cert.LatReferenceIdeal.nD Cert.LatReferenceIdeal.τ).loc Cert.LatReferenceIdeal.main_arg2)) (m ((c.tc : Thread Cert.LatReferenceIdeal.nD Cert.LatReferenceIdeal.τ).loc Cert.LatReferenceIdeal.main_arg3)) (m ((c.tc : Thread Cert.LatReferenceIdeal.nD Cert.LatReferenceIdeal.τ).loc Cert.LatReferenceIdeal.main_arg4))).2.1 = (fun _ => 1#1)
    ∧ (Cert.Pre_finite_lat.fn (F := Ideal) (m ((c.tc : Thread Cert.LatReferenceIdeal.nD Cert.LatReferenceIdeal.τ).loc Cert.LatReferenceIdeal.main_arg0)) (m ((c.tc : Thread Cert.LatReferenceIdeal.nD Cert.LatReferenceIdeal.τ).loc Cert.LatReferenceIdeal.main_arg1)) (m ((c.tc : Thread Cert.LatReferenceIdeal.nD Cert.LatReferenceIdeal.τ).loc Cert.LatReferenceIdeal.main_arg2)) (m ((c.tc : Thread Cert.LatReferenceIdeal.nD Cert.LatReferenceIdeal.τ).loc Cert.LatReferenceIdeal.main_arg3)) (m ((c.tc : Thread Cert.LatReferenceIdeal.nD Cert.LatReferenceIdeal.τ).loc Cert.LatReferenceIdeal.main_arg4))).2.2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Low (m : (ℓ : Loc Cert.Low.nD Cert.Low.τ Cert.Low.sig) → Buf (Elt Bits) ℓ) : Prop :=
  True

def Pre_LowIdeal (m : (ℓ : Loc Cert.LowIdeal.nD Cert.LowIdeal.τ Cert.LowIdeal.sig) → Buf (Elt Ideal) ℓ) : Prop :=
  True

def Pre_LowReferenceIdeal (m : (ℓ : Loc Cert.LowReferenceIdeal.nD Cert.LowReferenceIdeal.τ Cert.LowReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Halves [hHalves : Cert.Halves.Facts] : Prop :=
  ∀ (m : (ℓ : Loc Cert.Halves.nD Cert.Halves.τ Cert.Halves.sig) → Buf (Elt Bits) ℓ) (g : Dev Cert.Halves.nD → PrngReg), Pre_Halves m →
    θ_run (Cert.Halves.defs (F := Bits)) (onTc (τ := Cert.Halves.τ) (Cert.Halves.main (F := Bits))) ⟨m, fun _ => 0, g⟩ (fun r => (∀ c : Dev Cert.Halves.nD,
      r.2.mem ((c.tc : Thread Cert.Halves.nD Cert.Halves.τ).loc Cert.Halves.main_arg0) = m ((c.tc : Thread Cert.Halves.nD Cert.Halves.τ).loc Cert.Halves.main_arg0)
      ∧ r.2.mem ((c.tc : Thread Cert.Halves.nD Cert.Halves.τ).loc Cert.Halves.main_arg1) = m ((c.tc : Thread Cert.Halves.nD Cert.Halves.τ).loc Cert.Halves.main_arg1)
      ∧ r.2.mem ((c.tc : Thread Cert.Halves.nD Cert.Halves.τ).loc Cert.Halves.main_arg2) = m ((c.tc : Thread Cert.Halves.nD Cert.Halves.τ).loc Cert.Halves.main_arg2)
      ∧ r.2.mem ((c.tc : Thread Cert.Halves.nD Cert.Halves.τ).loc Cert.Halves.main_arg3) = m ((c.tc : Thread Cert.Halves.nD Cert.Halves.τ).loc Cert.Halves.main_arg3))
      ∧ r.2.sem = fun _ => 0)

def quiescent_HalvesIdeal [hHalvesIdeal : Cert.HalvesIdeal.Facts] : Prop :=
  ∀ (m : (ℓ : Loc Cert.HalvesIdeal.nD Cert.HalvesIdeal.τ Cert.HalvesIdeal.sig) → Buf (Elt Ideal) ℓ) (g : Dev Cert.HalvesIdeal.nD → PrngReg), Pre_HalvesIdeal m →
    θ_run (Cert.HalvesIdeal.defs (F := Ideal)) (onTc (τ := Cert.HalvesIdeal.τ) (Cert.HalvesIdeal.main (F := Ideal))) ⟨m, fun _ => 0, g⟩ (fun r => (∀ c : Dev Cert.HalvesIdeal.nD,
      r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0)
      ∧ r.2.mem ((c.tc : Thread Cert.HalvesIdeal.nD Cert.HalvesIdeal.τ).loc Cert.HalvesIdeal.main_arg1) = m ((c.tc : Thread Cert.HalvesIdeal.nD Cert.HalvesIdeal.τ).loc Cert.HalvesIdeal.main_arg1)
      ∧ r.2.mem ((c.tc : Thread Cert.HalvesIdeal.nD Cert.HalvesIdeal.τ).loc Cert.HalvesIdeal.main_arg2) = m ((c.tc : Thread Cert.HalvesIdeal.nD Cert.HalvesIdeal.τ).loc Cert.HalvesIdeal.main_arg2)
      ∧ r.2.mem ((c.tc : Thread Cert.HalvesIdeal.nD Cert.HalvesIdeal.τ).loc Cert.HalvesIdeal.main_arg3) = m ((c.tc : Thread Cert.HalvesIdeal.nD Cert.HalvesIdeal.τ).loc Cert.HalvesIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1)
      ∧ r.2.mem ((c.tc : Thread Cert.EvenOutReferenceIdeal.nD Cert.EvenOutReferenceIdeal.τ).loc Cert.EvenOutReferenceIdeal.main_arg2) = m ((c.tc : Thread Cert.EvenOutReferenceIdeal.nD Cert.EvenOutReferenceIdeal.τ).loc Cert.EvenOutReferenceIdeal.main_arg2)
      ∧ r.2.mem ((c.tc : Thread Cert.EvenOutReferenceIdeal.nD Cert.EvenOutReferenceIdeal.τ).loc Cert.EvenOutReferenceIdeal.main_arg3) = m ((c.tc : Thread Cert.EvenOutReferenceIdeal.nD Cert.EvenOutReferenceIdeal.τ).loc Cert.EvenOutReferenceIdeal.main_arg3)
      ∧ r.2.mem ((c.tc : Thread Cert.EvenOutReferenceIdeal.nD Cert.EvenOutReferenceIdeal.τ).loc Cert.EvenOutReferenceIdeal.main_arg4) = m ((c.tc : Thread Cert.EvenOutReferenceIdeal.nD Cert.EvenOutReferenceIdeal.τ).loc Cert.EvenOutReferenceIdeal.main_arg4)
      ∧ r.2.mem ((c.tc : Thread Cert.EvenOutReferenceIdeal.nD Cert.EvenOutReferenceIdeal.τ).loc Cert.EvenOutReferenceIdeal.main_arg5) = m ((c.tc : Thread Cert.EvenOutReferenceIdeal.nD Cert.EvenOutReferenceIdeal.τ).loc Cert.EvenOutReferenceIdeal.main_arg5)
      ∧ r.2.mem ((c.tc : Thread Cert.EvenOutReferenceIdeal.nD Cert.EvenOutReferenceIdeal.τ).loc Cert.EvenOutReferenceIdeal.main_arg6) = m ((c.tc : Thread Cert.EvenOutReferenceIdeal.nD Cert.EvenOutReferenceIdeal.τ).loc Cert.EvenOutReferenceIdeal.main_arg6)
      ∧ r.2.mem ((c.tc : Thread Cert.EvenOutReferenceIdeal.nD Cert.EvenOutReferenceIdeal.τ).loc Cert.EvenOutReferenceIdeal.main_arg7) = m ((c.tc : Thread Cert.EvenOutReferenceIdeal.nD Cert.EvenOutReferenceIdeal.τ).loc Cert.EvenOutReferenceIdeal.main_arg7))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5))
      ∧ r.2.sem = fun _ => 0)

def quiescent_OddOutReferenceIdeal [hOddOutReferenceIdeal : Cert.OddOutReferenceIdeal.Facts] : Prop :=
  ∀ (m : (ℓ : Loc Cert.OddOutReferenceIdeal.nD Cert.OddOutReferenceIdeal.τ Cert.OddOutReferenceIdeal.sig) → Buf (Elt Ideal) ℓ) (g : Dev Cert.OddOutReferenceIdeal.nD → PrngReg), Pre_OddOutReferenceIdeal m →
    θ_run (Cert.OddOutReferenceIdeal.defs (F := Ideal)) (onTc (τ := Cert.OddOutReferenceIdeal.τ) (Cert.OddOutReferenceIdeal.main (F := Ideal))) ⟨m, fun _ => 0, g⟩ (fun r => (∀ c : Dev Cert.OddOutReferenceIdeal.nD,
      r.2.mem ((c.tc : Thread Cert.OddOutReferenceIdeal.nD Cert.OddOutReferenceIdeal.τ).loc Cert.OddOutReferenceIdeal.main_arg0) = m ((c.tc : Thread Cert.OddOutReferenceIdeal.nD Cert.OddOutReferenceIdeal.τ).loc Cert.OddOutReferenceIdeal.main_arg0)
      ∧ r.2.mem ((c.tc : Thread Cert.OddOutReferenceIdeal.nD Cert.OddOutReferenceIdeal.τ).loc Cert.OddOutReferenceIdeal.main_arg1) = m ((c.tc : Thread Cert.OddOutReferenceIdeal.nD Cert.OddOutReferenceIdeal.τ).loc Cert.OddOutReferenceIdeal.main_arg1)
      ∧ r.2.mem ((c.tc : Thread Cert.OddOutReferenceIdeal.nD Cert.OddOutReferenceIdeal.τ).loc Cert.OddOutReferenceIdeal.main_arg2) = m ((c.tc : Thread Cert.OddOutReferenceIdeal.nD Cert.OddOutReferenceIdeal.τ).loc Cert.OddOutReferenceIdeal.main_arg2)
      ∧ r.2.mem ((c.tc : Thread Cert.OddOutReferenceIdeal.nD Cert.OddOutReferenceIdeal.τ).loc Cert.OddOutReferenceIdeal.main_arg3) = m ((c.tc : Thread Cert.OddOutReferenceIdeal.nD Cert.OddOutReferenceIdeal.τ).loc Cert.OddOutReferenceIdeal.main_arg3)
      ∧ r.2.mem ((c.tc : Thread Cert.OddOutReferenceIdeal.nD Cert.OddOutReferenceIdeal.τ).loc Cert.OddOutReferenceIdeal.main_arg4) = m ((c.tc : Thread Cert.OddOutReferenceIdeal.nD Cert.OddOutReferenceIdeal.τ).loc Cert.OddOutReferenceIdeal.main_arg4)
      ∧ r.2.mem ((c.tc : Thread Cert.OddOutReferenceIdeal.nD Cert.OddOutReferenceIdeal.τ).loc Cert.OddOutReferenceIdeal.main_arg5) = m ((c.tc : Thread Cert.OddOutReferenceIdeal.nD Cert.OddOutReferenceIdeal.τ).loc Cert.OddOutReferenceIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_finite [hAttnReferenceIdeal : Cert.AttnReferenceIdeal.Facts] [hPre_finite : Cert.Pre_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatIdeal_pre_finite_lat [hLatIdeal : Cert.LatIdeal.Facts] [hPre_finite_lat : Cert.Pre_finite_lat.Facts] : Prop :=
  ∀ (m : (ℓ : Loc Cert.LatIdeal.nD Cert.LatIdeal.τ Cert.LatIdeal.sig) → Buf (Elt Ideal) ℓ) (g : Dev Cert.LatIdeal.nD → PrngReg), Pre_LatIdeal_finite_lat m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatReferenceIdeal [hLatReferenceIdeal : Cert.LatReferenceIdeal.Facts] : Prop :=
  ∀ (m : (ℓ : Loc Cert.LatReferenceIdeal.nD Cert.LatReferenceIdeal.τ Cert.LatReferenceIdeal.sig) → Buf (Elt Ideal) ℓ) (g : Dev Cert.LatReferenceIdeal.nD → PrngReg), Pre_LatReferenceIdeal m →
    θ_run (Cert.LatReferenceIdeal.defs (F := Ideal)) (onTc (τ := Cert.LatReferenceIdeal.τ) (Cert.LatReferenceIdeal.main (F := Ideal))) ⟨m, fun _ => 0, g⟩ (fun r => (∀ c : Dev Cert.LatReferenceIdeal.nD,
      r.2.mem ((c.tc : Thread Cert.LatReferenceIdeal.nD Cert.LatReferenceIdeal.τ).loc Cert.LatReferenceIdeal.main_arg0) = m ((c.tc : Thread Cert.LatReferenceIdeal.nD Cert.LatReferenceIdeal.τ).loc Cert.LatReferenceIdeal.main_arg0)
      ∧ r.2.mem ((c.tc : Thread Cert.LatReferenceIdeal.nD Cert.LatReferenceIdeal.τ).loc Cert.LatReferenceIdeal.main_arg1) = m ((c.tc : Thread Cert.LatReferenceIdeal.nD Cert.LatReferenceIdeal.τ).loc Cert.LatReferenceIdeal.main_arg1)
      ∧ r.2.mem ((c.tc : Thread Cert.LatReferenceIdeal.nD Cert.LatReferenceIdeal.τ).loc Cert.LatReferenceIdeal.main_arg2) = m ((c.tc : Thread Cert.LatReferenceIdeal.nD Cert.LatReferenceIdeal.τ).loc Cert.LatReferenceIdeal.main_arg2)
      ∧ r.2.mem ((c.tc : Thread Cert.LatReferenceIdeal.nD Cert.LatReferenceIdeal.τ).loc Cert.LatReferenceIdeal.main_arg3) = m ((c.tc : Thread Cert.LatReferenceIdeal.nD Cert.LatReferenceIdeal.τ).loc Cert.LatReferenceIdeal.main_arg3)
      ∧ r.2.mem ((c.tc : Thread Cert.LatReferenceIdeal.nD Cert.LatReferenceIdeal.τ).loc Cert.LatReferenceIdeal.main_arg4) = m ((c.tc : Thread Cert.LatReferenceIdeal.nD Cert.LatReferenceIdeal.τ).loc Cert.LatReferenceIdeal.main_arg4))
      ∧ r.2.sem = fun _ => 0)

def quiescent_LatReferenceIdeal_pre_finite_lat [hLatReferenceIdeal : Cert.LatReferenceIdeal.Facts] [hPre_finite_lat : Cert.Pre_finite_lat.Facts] : Prop :=
  ∀ (m : (ℓ : Loc Cert.LatReferenceIdeal.nD Cert.LatReferenceIdeal.τ Cert.LatReferenceIdeal.sig) → Buf (Elt Ideal) ℓ) (g : Dev Cert.LatReferenceIdeal.nD → PrngReg), Pre_LatReferenceIdeal_finite_lat m →
    θ_run (Cert.LatReferenceIdeal.defs (F := Ideal)) (onTc (τ := Cert.LatReferenceIdeal.τ) (Cert.LatReferenceIdeal.main (F := Ideal))) ⟨m, fun _ => 0, g⟩ (fun r => (∀ c : Dev Cert.LatReferenceIdeal.nD,
      r.2.mem ((c.tc : Thread Cert.LatReferenceIdeal.nD Cert.LatReferenceIdeal.τ).loc Cert.LatReferenceIdeal.main_arg0) = m ((c.tc : Thread Cert.LatReferenceIdeal.nD Cert.LatReferenceIdeal.τ).loc Cert.LatReferenceIdeal.main_arg0)
      ∧ r.2.mem ((c.tc : Thread Cert.LatReferenceIdeal.nD Cert.LatReferenceIdeal.τ).loc Cert.LatReferenceIdeal.main_arg1) = m ((c.tc : Thread Cert.LatReferenceIdeal.nD Cert.LatReferenceIdeal.τ).loc Cert.LatReferenceIdeal.main_arg1)
      ∧ r.2.mem ((c.tc : Thread Cert.LatReferenceIdeal.nD Cert.LatReferenceIdeal.τ).loc Cert.LatReferenceIdeal.main_arg2) = m ((c.tc : Thread Cert.LatReferenceIdeal.nD Cert.LatReferenceIdeal.τ).loc Cert.LatReferenceIdeal.main_arg2)
      ∧ r.2.mem ((c.tc : Thread Cert.LatReferenceIdeal.nD Cert.LatReferenceIdeal.τ).loc Cert.LatReferenceIdeal.main_arg3) = m ((c.tc : Thread Cert.LatReferenceIdeal.nD Cert.LatReferenceIdeal.τ).loc Cert.LatReferenceIdeal.main_arg3)
      ∧ r.2.mem ((c.tc : Thread Cert.LatReferenceIdeal.nD Cert.LatReferenceIdeal.τ).loc Cert.LatReferenceIdeal.main_arg4) = m ((c.tc : Thread Cert.LatReferenceIdeal.nD Cert.LatReferenceIdeal.τ).loc Cert.LatReferenceIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3))
      ∧ r.2.sem = fun _ => 0)

def quiescent_Low [hLow : Cert.Low.Facts] : Prop :=
  ∀ (m : (ℓ : Loc Cert.Low.nD Cert.Low.τ Cert.Low.sig) → Buf (Elt Bits) ℓ) (g : Dev Cert.Low.nD → PrngReg), Pre_Low m →
    θ_run (Cert.Low.defs (F := Bits)) (onTc (τ := Cert.Low.τ) (Cert.Low.main (F := Bits))) ⟨m, fun _ => 0, g⟩ (fun r => (∀ c : Dev Cert.Low.nD,
      r.2.mem ((c.tc : Thread Cert.Low.nD Cert.Low.τ).loc Cert.Low.main_arg0) = m ((c.tc : Thread Cert.Low.nD Cert.Low.τ).loc Cert.Low.main_arg0)
      ∧ r.2.mem ((c.tc : Thread Cert.Low.nD Cert.Low.τ).loc Cert.Low.main_arg1) = m ((c.tc : Thread Cert.Low.nD Cert.Low.τ).loc Cert.Low.main_arg1))
      ∧ r.2.sem = fun _ => 0)

def quiescent_LowIdeal [hLowIdeal : Cert.LowIdeal.Facts] : Prop :=
  ∀ (m : (ℓ : Loc Cert.LowIdeal.nD Cert.LowIdeal.τ Cert.LowIdeal.sig) → Buf (Elt Ideal) ℓ) (g : Dev Cert.LowIdeal.nD → PrngReg), Pre_LowIdeal m →
    θ_run (Cert.LowIdeal.defs (F := Ideal)) (onTc (τ := Cert.LowIdeal.τ) (Cert.LowIdeal.main (F := Ideal))) ⟨m, fun _ => 0, g⟩ (fun r => (∀ c : Dev Cert.LowIdeal.nD,
      r.2.mem ((c.tc : Thread Cert.LowIdeal.nD Cert.LowIdeal.τ).loc Cert.LowIdeal.main_arg0) = m ((c.tc : Thread Cert.LowIdeal.nD Cert.LowIdeal.τ).loc Cert.LowIdeal.main_arg0)
      ∧ r.2.mem ((c.tc : Thread Cert.LowIdeal.nD Cert.LowIdeal.τ).loc Cert.LowIdeal.main_arg1) = m ((c.tc : Thread Cert.LowIdeal.nD Cert.LowIdeal.τ).loc Cert.LowIdeal.main_arg1))
      ∧ r.2.sem = fun _ => 0)

def quiescent_LowReferenceIdeal [hLowReferenceIdeal : Cert.LowReferenceIdeal.Facts] : Prop :=
  ∀ (m : (ℓ : Loc Cert.LowReferenceIdeal.nD Cert.LowReferenceIdeal.τ Cert.LowReferenceIdeal.sig) → Buf (Elt Ideal) ℓ) (g : Dev Cert.LowReferenceIdeal.nD → PrngReg), Pre_LowReferenceIdeal m →
    θ_run (Cert.LowReferenceIdeal.defs (F := Ideal)) (onTc (τ := Cert.LowReferenceIdeal.τ) (Cert.LowReferenceIdeal.main (F := Ideal))) ⟨m, fun _ => 0, g⟩ (fun r => (∀ c : Dev Cert.LowReferenceIdeal.nD,
      r.2.mem ((c.tc : Thread Cert.LowReferenceIdeal.nD Cert.LowReferenceIdeal.τ).loc Cert.LowReferenceIdeal.main_arg0) = m ((c.tc : Thread Cert.LowReferenceIdeal.nD Cert.LowReferenceIdeal.τ).loc Cert.LowReferenceIdeal.main_arg0)
      ∧ r.2.mem ((c.tc : Thread Cert.LowReferenceIdeal.nD Cert.LowReferenceIdeal.τ).loc Cert.LowReferenceIdeal.main_arg1) = m ((c.tc : Thread Cert.LowReferenceIdeal.nD Cert.LowReferenceIdeal.τ).loc Cert.LowReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def bitexact_Kernel_Halves [hKernel : Cert.Kernel.Facts] [hHalves : Cert.Halves.Facts] : Prop :=
  ∀ (m : (ℓ : Loc Cert.Kernel.nD Cert.Kernel.τ Cert.Kernel.sig) → Buf (Elt Bits) ℓ) (g : Dev Cert.Kernel.nD → PrngReg)
    (m' : (ℓ : Loc Cert.Halves.nD Cert.Halves.τ Cert.Halves.sig) → Buf (Elt Bits) ℓ) (g' : Dev Cert.Halves.nD → PrngReg), Pre_Kernel m →
    (∀ c : Dev Cert.Kernel.nD,
      m' ((c.tc : Thread Cert.Halves.nD Cert.Halves.τ).loc Cert.Halves.main_arg0) = m ((c.tc : Thread Cert.Kernel.nD Cert.Kernel.τ).loc Cert.Kernel.main_arg0)
      ∧ m' ((c.tc : Thread Cert.Halves.nD Cert.Halves.τ).loc Cert.Halves.main_arg1) = m ((c.tc : Thread Cert.Kernel.nD Cert.Kernel.τ).loc Cert.Kernel.main_arg1)
      ∧ m' ((c.tc : Thread Cert.Halves.nD Cert.Halves.τ).loc Cert.Halves.main_arg2) = m ((c.tc : Thread Cert.Kernel.nD Cert.Kernel.τ).loc Cert.Kernel.main_arg2)
      ∧ m' ((c.tc : Thread Cert.Halves.nD Cert.Halves.τ).loc Cert.Halves.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v6)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v6) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Halves.defs (F := Bits)) (onTc (τ := Cert.Halves.τ) (Cert.Halves.main (F := Bits))) ⟨m', fun _ => 0, g'⟩ (fun r => ∀ c : Dev Cert.Halves.nD,
          r.2.mem ((c.tc : Thread Cert.Halves.nD Cert.Halves.τ).loc Cert.Halves.main_v6) = v0 c
          ∧ r.2.mem ((c.tc : Thread Cert.Halves.nD Cert.Halves.τ).loc Cert.Halves.main_arg0) = m' ((c.tc : Thread Cert.Halves.nD Cert.Halves.τ).loc Cert.Halves.main_arg0)
          ∧ r.2.mem ((c.tc : Thread Cert.Halves.nD Cert.Halves.τ).loc Cert.Halves.main_arg1) = m' ((c.tc : Thread Cert.Halves.nD Cert.Halves.τ).loc Cert.Halves.main_arg1)
          ∧ r.2.mem ((c.tc : Thread Cert.Halves.nD Cert.Halves.τ).loc Cert.Halves.main_arg2) = m' ((c.tc : Thread Cert.Halves.nD Cert.Halves.τ).loc Cert.Halves.main_arg2)
          ∧ r.2.mem ((c.tc : Thread Cert.Halves.nD Cert.Halves.τ).loc Cert.Halves.main_arg3) = m' ((c.tc : Thread Cert.Halves.nD Cert.Halves.τ).loc Cert.Halves.main_arg3))

def preserves_Halves_HalvesIdeal : Prop :=
  IdealRules.bf16_pair.PackStatement Cert.HalvesIdeal.S2048x256
  ∧ IdealRules.bf16_pair.SelectZeroStatement Cert.HalvesIdeal.S8x256
  ∧ IdealRules.bf16_pair.PackStatement Cert.HalvesIdeal.S8x256
  ∧ IdealRules.bf16_pair.Statement Cert.HalvesIdeal.S16x256 Cert.HalvesIdeal.S8x256
  ∧ IdealRules.bf16_pair.Statement Cert.HalvesIdeal.S4096x256 Cert.HalvesIdeal.S2048x256
  ∧ IdealRules.bf16_pair.HalfStatement Cert.HalvesIdeal.S2048x256

def algebraic_HalvesIdeal_ReferenceIdeal [hHalvesIdeal : Cert.HalvesIdeal.Facts] [hReferenceIdeal : Cert.ReferenceIdeal.Facts] : Prop :=
  ∀ (m : (ℓ : Loc Cert.HalvesIdeal.nD Cert.HalvesIdeal.τ Cert.HalvesIdeal.sig) → Buf (Elt Ideal) ℓ) (g : Dev Cert.HalvesIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_HalvesIdeal m →
    (∀ c : Dev Cert.HalvesIdeal.nD,
      m' ((c.tc : Thread Cert.ReferenceIdeal.nD Cert.ReferenceIdeal.τ).loc Cert.ReferenceIdeal.main_arg0) = m ((c.tc : Thread Cert.HalvesIdeal.nD Cert.HalvesIdeal.τ).loc Cert.HalvesIdeal.main_arg0)
      ∧ m' ((c.tc : Thread Cert.ReferenceIdeal.nD Cert.ReferenceIdeal.τ).loc Cert.ReferenceIdeal.main_arg1) = m ((c.tc : Thread Cert.HalvesIdeal.nD Cert.HalvesIdeal.τ).loc Cert.HalvesIdeal.main_arg1)
      ∧ m' ((c.tc : Thread Cert.ReferenceIdeal.nD Cert.ReferenceIdeal.τ).loc Cert.ReferenceIdeal.main_arg2) = m ((c.tc : Thread Cert.HalvesIdeal.nD Cert.HalvesIdeal.τ).loc Cert.HalvesIdeal.main_arg2)
      ∧ m' ((c.tc : Thread Cert.ReferenceIdeal.nD Cert.ReferenceIdeal.τ).loc Cert.ReferenceIdeal.main_arg3) = m ((c.tc : Thread Cert.HalvesIdeal.nD Cert.HalvesIdeal.τ).loc Cert.HalvesIdeal.main_arg3)) →
    ∃ (v0 : (c : Dev Cert.HalvesIdeal.nD) → Buf (Elt Ideal) ((c.tc : Thread Cert.HalvesIdeal.nD Cert.HalvesIdeal.τ).loc Cert.HalvesIdeal.main_v6)),
      θ_run (Cert.HalvesIdeal.defs (F := Ideal)) (onTc (τ := Cert.HalvesIdeal.τ) (Cert.HalvesIdeal.main (F := Ideal))) ⟨m, fun _ => 0, g⟩ (fun r => ∀ c : Dev Cert.HalvesIdeal.nD,
          r.2.mem ((c.tc : Thread Cert.HalvesIdeal.nD Cert.HalvesIdeal.τ).loc Cert.HalvesIdeal.main_v6) = v0 c
          ∧ r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0)
          ∧ r.2.mem ((c.tc : Thread Cert.HalvesIdeal.nD Cert.HalvesIdeal.τ).loc Cert.HalvesIdeal.main_arg1) = m ((c.tc : Thread Cert.HalvesIdeal.nD Cert.HalvesIdeal.τ).loc Cert.HalvesIdeal.main_arg1)
          ∧ r.2.mem ((c.tc : Thread Cert.HalvesIdeal.nD Cert.HalvesIdeal.τ).loc Cert.HalvesIdeal.main_arg2) = m ((c.tc : Thread Cert.HalvesIdeal.nD Cert.HalvesIdeal.τ).loc Cert.HalvesIdeal.main_arg2)
          ∧ r.2.mem ((c.tc : Thread Cert.HalvesIdeal.nD Cert.HalvesIdeal.τ).loc Cert.HalvesIdeal.main_arg3) = m ((c.tc : Thread Cert.HalvesIdeal.nD Cert.HalvesIdeal.τ).loc Cert.HalvesIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Prompt_PromptIdeal : Prop :=
  True

def algebraic_PromptIdeal_PromptReferenceIdeal [hPromptIdeal : Cert.PromptIdeal.Facts] [hPromptReferenceIdeal : Cert.PromptReferenceIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
      ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)
      ∧ m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)) →
    ∃ (v0 : (c : Dev Cert.PromptIdeal.nD) → Buf (Elt Ideal) ((c.tc : Thread Cert.PromptIdeal.nD Cert.PromptIdeal.τ).loc Cert.PromptIdeal.main_v4)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v4) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v27) = v0 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v4)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v4) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v27) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v7_0)) (v1 : (c : Dev Cert.DownIdeal.nD) → Buf (Elt Ideal) ((c.tc : Thread Cert.DownIdeal.nD Cert.DownIdeal.τ).loc Cert.DownIdeal.main_v7_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v7_0) = v0 c
          ∧ r.2.mem ((c.tc : Thread Cert.DownIdeal.nD Cert.DownIdeal.τ).loc Cert.DownIdeal.main_v7_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v21) = v0 c
          ∧ r.2.mem ((c.tc : Thread Cert.DownReferenceIdeal.nD Cert.DownReferenceIdeal.τ).loc Cert.DownReferenceIdeal.main_v45) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v3)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v3) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v3) = v0 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v4)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v4) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v5) = v0 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1))

def preserves_EvenOut_EvenOutIdeal : Prop :=
  True

def algebraic_EvenOutIdeal_EvenOutReferenceIdeal [hEvenOutIdeal : Cert.EvenOutIdeal.Facts] [hEvenOutReferenceIdeal : Cert.EvenOutReferenceIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutIdeal m →
    (∀ c : Dev Cert.EvenOutIdeal.nD,
      m' ((c.tc : Thread Cert.EvenOutReferenceIdeal.nD Cert.EvenOutReferenceIdeal.τ).loc Cert.EvenOutReferenceIdeal.main_arg0) = m ((c.tc : Thread Cert.EvenOutIdeal.nD Cert.EvenOutIdeal.τ).loc Cert.EvenOutIdeal.main_arg0)
      ∧ m' ((c.tc : Thread Cert.EvenOutReferenceIdeal.nD Cert.EvenOutReferenceIdeal.τ).loc Cert.EvenOutReferenceIdeal.main_arg1) = m ((c.tc : Thread Cert.EvenOutIdeal.nD Cert.EvenOutIdeal.τ).loc Cert.EvenOutIdeal.main_arg1)
      ∧ m' ((c.tc : Thread Cert.EvenOutReferenceIdeal.nD Cert.EvenOutReferenceIdeal.τ).loc Cert.EvenOutReferenceIdeal.main_arg2) = m ((c.tc : Thread Cert.EvenOutIdeal.nD Cert.EvenOutIdeal.τ).loc Cert.EvenOutIdeal.main_arg2)
      ∧ m' ((c.tc : Thread Cert.EvenOutReferenceIdeal.nD Cert.EvenOutReferenceIdeal.τ).loc Cert.EvenOutReferenceIdeal.main_arg3) = m ((c.tc : Thread Cert.EvenOutIdeal.nD Cert.EvenOutIdeal.τ).loc Cert.EvenOutIdeal.main_arg3)
      ∧ m' ((c.tc : Thread Cert.EvenOutReferenceIdeal.nD Cert.EvenOutReferenceIdeal.τ).loc Cert.EvenOutReferenceIdeal.main_arg4) = m ((c.tc : Thread Cert.EvenOutIdeal.nD Cert.EvenOutIdeal.τ).loc Cert.EvenOutIdeal.main_arg4)
      ∧ m' ((c.tc : Thread Cert.EvenOutReferenceIdeal.nD Cert.EvenOutReferenceIdeal.τ).loc Cert.EvenOutReferenceIdeal.main_arg5) = m ((c.tc : Thread Cert.EvenOutIdeal.nD Cert.EvenOutIdeal.τ).loc Cert.EvenOutIdeal.main_arg5)
      ∧ m' ((c.tc : Thread Cert.EvenOutReferenceIdeal.nD Cert.EvenOutReferenceIdeal.τ).loc Cert.EvenOutReferenceIdeal.main_arg6) = m ((c.tc : Thread Cert.EvenOutIdeal.nD Cert.EvenOutIdeal.τ).loc Cert.EvenOutIdeal.main_arg6)
      ∧ m' ((c.tc : Thread Cert.EvenOutReferenceIdeal.nD Cert.EvenOutReferenceIdeal.τ).loc Cert.EvenOutReferenceIdeal.main_arg7) = m ((c.tc : Thread Cert.EvenOutIdeal.nD Cert.EvenOutIdeal.τ).loc Cert.EvenOutIdeal.main_arg7)) →
    ∃ (v0 : (c : Dev Cert.EvenOutIdeal.nD) → Buf (Elt Ideal) ((c.tc : Thread Cert.EvenOutIdeal.nD Cert.EvenOutIdeal.τ).loc Cert.EvenOutIdeal.main_v11_0)) (v1 : (c : Dev Cert.EvenOutIdeal.nD) → Buf (Elt Ideal) ((c.tc : Thread Cert.EvenOutIdeal.nD Cert.EvenOutIdeal.τ).loc Cert.EvenOutIdeal.main_v11_1)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v11_0) = v0 c
          ∧ r.2.mem ((c.tc : Thread Cert.EvenOutIdeal.nD Cert.EvenOutIdeal.τ).loc Cert.EvenOutIdeal.main_v11_1) = v1 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v19) = v0 c
          ∧ r.2.mem ((c.tc : Thread Cert.EvenOutReferenceIdeal.nD Cert.EvenOutReferenceIdeal.τ).loc Cert.EvenOutReferenceIdeal.main_v43) = v1 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1)
          ∧ r.2.mem ((c.tc : Thread Cert.EvenOutReferenceIdeal.nD Cert.EvenOutReferenceIdeal.τ).loc Cert.EvenOutReferenceIdeal.main_arg2) = m' ((c.tc : Thread Cert.EvenOutReferenceIdeal.nD Cert.EvenOutReferenceIdeal.τ).loc Cert.EvenOutReferenceIdeal.main_arg2)
          ∧ r.2.mem ((c.tc : Thread Cert.EvenOutReferenceIdeal.nD Cert.EvenOutReferenceIdeal.τ).loc Cert.EvenOutReferenceIdeal.main_arg3) = m' ((c.tc : Thread Cert.EvenOutReferenceIdeal.nD Cert.EvenOutReferenceIdeal.τ).loc Cert.EvenOutReferenceIdeal.main_arg3)
          ∧ r.2.mem ((c.tc : Thread Cert.EvenOutReferenceIdeal.nD Cert.EvenOutReferenceIdeal.τ).loc Cert.EvenOutReferenceIdeal.main_arg4) = m' ((c.tc : Thread Cert.EvenOutReferenceIdeal.nD Cert.EvenOutReferenceIdeal.τ).loc Cert.EvenOutReferenceIdeal.main_arg4)
          ∧ r.2.mem ((c.tc : Thread Cert.EvenOutReferenceIdeal.nD Cert.EvenOutReferenceIdeal.τ).loc Cert.EvenOutReferenceIdeal.main_arg5) = m' ((c.tc : Thread Cert.EvenOutReferenceIdeal.nD Cert.EvenOutReferenceIdeal.τ).loc Cert.EvenOutReferenceIdeal.main_arg5)
          ∧ r.2.mem ((c.tc : Thread Cert.EvenOutReferenceIdeal.nD Cert.EvenOutReferenceIdeal.τ).loc Cert.EvenOutReferenceIdeal.main_arg6) = m' ((c.tc : Thread Cert.EvenOutReferenceIdeal.nD Cert.EvenOutReferenceIdeal.τ).loc Cert.EvenOutReferenceIdeal.main_arg6)
          ∧ r.2.mem ((c.tc : Thread Cert.EvenOutReferenceIdeal.nD Cert.EvenOutReferenceIdeal.τ).loc Cert.EvenOutReferenceIdeal.main_arg7) = m' ((c.tc : Thread Cert.EvenOutReferenceIdeal.nD Cert.EvenOutReferenceIdeal.τ).loc Cert.EvenOutReferenceIdeal.main_arg7))

def preserves_OddOut_OddOutIdeal : Prop :=
  True

def algebraic_OddOutIdeal_OddOutReferenceIdeal [hOddOutIdeal : Cert.OddOutIdeal.Facts] [hOddOutReferenceIdeal : Cert.OddOutReferenceIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutReferenceIdeal.nD Cert.OddOutReferenceIdeal.τ Cert.OddOutReferenceIdeal.sig) → Buf (Elt Ideal) ℓ) (g' : Dev Cert.OddOutReferenceIdeal.nD → PrngReg), Pre_OddOutIdeal m →
    (∀ c : Dev Cert.OddOutIdeal.nD,
      m' ((c.tc : Thread Cert.OddOutReferenceIdeal.nD Cert.OddOutReferenceIdeal.τ).loc Cert.OddOutReferenceIdeal.main_arg0) = m ((c.tc : Thread Cert.OddOutIdeal.nD Cert.OddOutIdeal.τ).loc Cert.OddOutIdeal.main_arg0)
      ∧ m' ((c.tc : Thread Cert.OddOutReferenceIdeal.nD Cert.OddOutReferenceIdeal.τ).loc Cert.OddOutReferenceIdeal.main_arg1) = m ((c.tc : Thread Cert.OddOutIdeal.nD Cert.OddOutIdeal.τ).loc Cert.OddOutIdeal.main_arg1)
      ∧ m' ((c.tc : Thread Cert.OddOutReferenceIdeal.nD Cert.OddOutReferenceIdeal.τ).loc Cert.OddOutReferenceIdeal.main_arg2) = m ((c.tc : Thread Cert.OddOutIdeal.nD Cert.OddOutIdeal.τ).loc Cert.OddOutIdeal.main_arg2)
      ∧ m' ((c.tc : Thread Cert.OddOutReferenceIdeal.nD Cert.OddOutReferenceIdeal.τ).loc Cert.OddOutReferenceIdeal.main_arg3) = m ((c.tc : Thread Cert.OddOutIdeal.nD Cert.OddOutIdeal.τ).loc Cert.OddOutIdeal.main_arg3)
      ∧ m' ((c.tc : Thread Cert.OddOutReferenceIdeal.nD Cert.OddOutReferenceIdeal.τ).loc Cert.OddOutReferenceIdeal.main_arg4) = m ((c.tc : Thread Cert.OddOutIdeal.nD Cert.OddOutIdeal.τ).loc Cert.OddOutIdeal.main_arg4)
      ∧ m' ((c.tc : Thread Cert.OddOutReferenceIdeal.nD Cert.OddOutReferenceIdeal.τ).loc Cert.OddOutReferenceIdeal.main_arg5) = m ((c.tc : Thread Cert.OddOutIdeal.nD Cert.OddOutIdeal.τ).loc Cert.OddOutIdeal.main_arg5)) →
    ∃ (v0 : (c : Dev Cert.OddOutIdeal.nD) → Buf (Elt Ideal) ((c.tc : Thread Cert.OddOutIdeal.nD Cert.OddOutIdeal.τ).loc Cert.OddOutIdeal.main_v7_0)) (v1 : (c : Dev Cert.OddOutIdeal.nD) → Buf (Elt Ideal) ((c.tc : Thread Cert.OddOutIdeal.nD Cert.OddOutIdeal.τ).loc Cert.OddOutIdeal.main_v7_1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v7_0) = v0 c
          ∧ r.2.mem ((c.tc : Thread Cert.OddOutIdeal.nD Cert.OddOutIdeal.τ).loc Cert.OddOutIdeal.main_v7_1) = v1 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5))
      ∧ θ_run (Cert.OddOutReferenceIdeal.defs (F := Ideal)) (onTc (τ := Cert.OddOutReferenceIdeal.τ) (Cert.OddOutReferenceIdeal.main (F := Ideal))) ⟨m', fun _ => 0, g'⟩ (fun r => ∀ c : Dev Cert.OddOutReferenceIdeal.nD,
          r.2.mem ((c.tc : Thread Cert.OddOutReferenceIdeal.nD Cert.OddOutReferenceIdeal.τ).loc Cert.OddOutReferenceIdeal.main_v15) = v0 c
          ∧ r.2.mem ((c.tc : Thread Cert.OddOutReferenceIdeal.nD Cert.OddOutReferenceIdeal.τ).loc Cert.OddOutReferenceIdeal.main_v39) = v1 c
          ∧ r.2.mem ((c.tc : Thread Cert.OddOutReferenceIdeal.nD Cert.OddOutReferenceIdeal.τ).loc Cert.OddOutReferenceIdeal.main_arg0) = m' ((c.tc : Thread Cert.OddOutReferenceIdeal.nD Cert.OddOutReferenceIdeal.τ).loc Cert.OddOutReferenceIdeal.main_arg0)
          ∧ r.2.mem ((c.tc : Thread Cert.OddOutReferenceIdeal.nD Cert.OddOutReferenceIdeal.τ).loc Cert.OddOutReferenceIdeal.main_arg1) = m' ((c.tc : Thread Cert.OddOutReferenceIdeal.nD Cert.OddOutReferenceIdeal.τ).loc Cert.OddOutReferenceIdeal.main_arg1)
          ∧ r.2.mem ((c.tc : Thread Cert.OddOutReferenceIdeal.nD Cert.OddOutReferenceIdeal.τ).loc Cert.OddOutReferenceIdeal.main_arg2) = m' ((c.tc : Thread Cert.OddOutReferenceIdeal.nD Cert.OddOutReferenceIdeal.τ).loc Cert.OddOutReferenceIdeal.main_arg2)
          ∧ r.2.mem ((c.tc : Thread Cert.OddOutReferenceIdeal.nD Cert.OddOutReferenceIdeal.τ).loc Cert.OddOutReferenceIdeal.main_arg3) = m' ((c.tc : Thread Cert.OddOutReferenceIdeal.nD Cert.OddOutReferenceIdeal.τ).loc Cert.OddOutReferenceIdeal.main_arg3)
          ∧ r.2.mem ((c.tc : Thread Cert.OddOutReferenceIdeal.nD Cert.OddOutReferenceIdeal.τ).loc Cert.OddOutReferenceIdeal.main_arg4) = m' ((c.tc : Thread Cert.OddOutReferenceIdeal.nD Cert.OddOutReferenceIdeal.τ).loc Cert.OddOutReferenceIdeal.main_arg4)
          ∧ r.2.mem ((c.tc : Thread Cert.OddOutReferenceIdeal.nD Cert.OddOutReferenceIdeal.τ).loc Cert.OddOutReferenceIdeal.main_arg5) = m' ((c.tc : Thread Cert.OddOutReferenceIdeal.nD Cert.OddOutReferenceIdeal.τ).loc Cert.OddOutReferenceIdeal.main_arg5))

def preserves_Attn_AttnIdeal : Prop :=
  True

def algebraic_AttnIdeal_AttnReferenceIdeal_pre_finite [hAttnIdeal : Cert.AttnIdeal.Facts] [hAttnReferenceIdeal : Cert.AttnReferenceIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v6_0)) (v1 : (c : Dev Cert.AttnIdeal.nD) → Buf (Elt Ideal) ((c.tc : Thread Cert.AttnIdeal.nD Cert.AttnIdeal.τ).loc Cert.AttnIdeal.main_v6_1)) (v2 : (c : Dev Cert.AttnIdeal.nD) → Buf (Elt Ideal) ((c.tc : Thread Cert.AttnIdeal.nD Cert.AttnIdeal.τ).loc Cert.AttnIdeal.main_v6_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v6_0) = v0 c
          ∧ r.2.mem ((c.tc : Thread Cert.AttnIdeal.nD Cert.AttnIdeal.τ).loc Cert.AttnIdeal.main_v6_1) = v1 c
          ∧ r.2.mem ((c.tc : Thread Cert.AttnIdeal.nD Cert.AttnIdeal.τ).loc Cert.AttnIdeal.main_v6_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v57) = v0 c
          ∧ r.2.mem ((c.tc : Thread Cert.AttnReferenceIdeal.nD Cert.AttnReferenceIdeal.τ).loc Cert.AttnReferenceIdeal.main_v58) = v1 c
          ∧ r.2.mem ((c.tc : Thread Cert.AttnReferenceIdeal.nD Cert.AttnReferenceIdeal.τ).loc Cert.AttnReferenceIdeal.main_v59) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_Lat_LatIdeal : Prop :=
  True

def algebraic_LatIdeal_LatReferenceIdeal_pre_finite_lat [hLatIdeal : Cert.LatIdeal.Facts] [hLatReferenceIdeal : Cert.LatReferenceIdeal.Facts] [hPre_finite_lat : Cert.Pre_finite_lat.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatReferenceIdeal.nD Cert.LatReferenceIdeal.τ Cert.LatReferenceIdeal.sig) → Buf (Elt Ideal) ℓ) (g' : Dev Cert.LatReferenceIdeal.nD → PrngReg), Pre_LatIdeal_finite_lat m →
    (∀ c : Dev Cert.LatIdeal.nD,
      m' ((c.tc : Thread Cert.LatReferenceIdeal.nD Cert.LatReferenceIdeal.τ).loc Cert.LatReferenceIdeal.main_arg0) = m ((c.tc : Thread Cert.LatIdeal.nD Cert.LatIdeal.τ).loc Cert.LatIdeal.main_arg0)
      ∧ m' ((c.tc : Thread Cert.LatReferenceIdeal.nD Cert.LatReferenceIdeal.τ).loc Cert.LatReferenceIdeal.main_arg1) = m ((c.tc : Thread Cert.LatIdeal.nD Cert.LatIdeal.τ).loc Cert.LatIdeal.main_arg1)
      ∧ m' ((c.tc : Thread Cert.LatReferenceIdeal.nD Cert.LatReferenceIdeal.τ).loc Cert.LatReferenceIdeal.main_arg2) = m ((c.tc : Thread Cert.LatIdeal.nD Cert.LatIdeal.τ).loc Cert.LatIdeal.main_arg2)
      ∧ m' ((c.tc : Thread Cert.LatReferenceIdeal.nD Cert.LatReferenceIdeal.τ).loc Cert.LatReferenceIdeal.main_arg3) = m ((c.tc : Thread Cert.LatIdeal.nD Cert.LatIdeal.τ).loc Cert.LatIdeal.main_arg3)
      ∧ m' ((c.tc : Thread Cert.LatReferenceIdeal.nD Cert.LatReferenceIdeal.τ).loc Cert.LatReferenceIdeal.main_arg4) = m ((c.tc : Thread Cert.LatIdeal.nD Cert.LatIdeal.τ).loc Cert.LatIdeal.main_arg4)) →
    ∃ (v0 : (c : Dev Cert.LatIdeal.nD) → Buf (Elt Ideal) ((c.tc : Thread Cert.LatIdeal.nD Cert.LatIdeal.τ).loc Cert.LatIdeal.main_v50)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v50) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ θ_run (Cert.LatReferenceIdeal.defs (F := Ideal)) (onTc (τ := Cert.LatReferenceIdeal.τ) (Cert.LatReferenceIdeal.main (F := Ideal))) ⟨m', fun _ => 0, g'⟩ (fun r => ∀ c : Dev Cert.LatReferenceIdeal.nD,
          r.2.mem ((c.tc : Thread Cert.LatReferenceIdeal.nD Cert.LatReferenceIdeal.τ).loc Cert.LatReferenceIdeal.main_v133) = v0 c
          ∧ r.2.mem ((c.tc : Thread Cert.LatReferenceIdeal.nD Cert.LatReferenceIdeal.τ).loc Cert.LatReferenceIdeal.main_arg0) = m' ((c.tc : Thread Cert.LatReferenceIdeal.nD Cert.LatReferenceIdeal.τ).loc Cert.LatReferenceIdeal.main_arg0)
          ∧ r.2.mem ((c.tc : Thread Cert.LatReferenceIdeal.nD Cert.LatReferenceIdeal.τ).loc Cert.LatReferenceIdeal.main_arg1) = m' ((c.tc : Thread Cert.LatReferenceIdeal.nD Cert.LatReferenceIdeal.τ).loc Cert.LatReferenceIdeal.main_arg1)
          ∧ r.2.mem ((c.tc : Thread Cert.LatReferenceIdeal.nD Cert.LatReferenceIdeal.τ).loc Cert.LatReferenceIdeal.main_arg2) = m' ((c.tc : Thread Cert.LatReferenceIdeal.nD Cert.LatReferenceIdeal.τ).loc Cert.LatReferenceIdeal.main_arg2)
          ∧ r.2.mem ((c.tc : Thread Cert.LatReferenceIdeal.nD Cert.LatReferenceIdeal.τ).loc Cert.LatReferenceIdeal.main_arg3) = m' ((c.tc : Thread Cert.LatReferenceIdeal.nD Cert.LatReferenceIdeal.τ).loc Cert.LatReferenceIdeal.main_arg3)
          ∧ r.2.mem ((c.tc : Thread Cert.LatReferenceIdeal.nD Cert.LatReferenceIdeal.τ).loc Cert.LatReferenceIdeal.main_arg4) = m' ((c.tc : Thread Cert.LatReferenceIdeal.nD Cert.LatReferenceIdeal.τ).loc Cert.LatReferenceIdeal.main_arg4))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v8) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)) →
    ∃ (v0 : (c : Dev Cert.FirstIdeal.nD) → Buf (Elt Ideal) ((c.tc : Thread Cert.FirstIdeal.nD Cert.FirstIdeal.τ).loc Cert.FirstIdeal.main_v5)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v5) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v33) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3))

def preserves_Low_LowIdeal : Prop :=
  True

def algebraic_LowIdeal_LowReferenceIdeal [hLowIdeal : Cert.LowIdeal.Facts] [hLowReferenceIdeal : Cert.LowReferenceIdeal.Facts] : Prop :=
  ∀ (m : (ℓ : Loc Cert.LowIdeal.nD Cert.LowIdeal.τ Cert.LowIdeal.sig) → Buf (Elt Ideal) ℓ) (g : Dev Cert.LowIdeal.nD → PrngReg)
    (m' : (ℓ : Loc Cert.LowReferenceIdeal.nD Cert.LowReferenceIdeal.τ Cert.LowReferenceIdeal.sig) → Buf (Elt Ideal) ℓ) (g' : Dev Cert.LowReferenceIdeal.nD → PrngReg), Pre_LowIdeal m →
    (∀ c : Dev Cert.LowIdeal.nD,
      m' ((c.tc : Thread Cert.LowReferenceIdeal.nD Cert.LowReferenceIdeal.τ).loc Cert.LowReferenceIdeal.main_arg0) = m ((c.tc : Thread Cert.LowIdeal.nD Cert.LowIdeal.τ).loc Cert.LowIdeal.main_arg0)
      ∧ m' ((c.tc : Thread Cert.LowReferenceIdeal.nD Cert.LowReferenceIdeal.τ).loc Cert.LowReferenceIdeal.main_arg1) = m ((c.tc : Thread Cert.LowIdeal.nD Cert.LowIdeal.τ).loc Cert.LowIdeal.main_arg1)) →
    ∃ (v0 : (c : Dev Cert.LowIdeal.nD) → Buf (Elt Ideal) ((c.tc : Thread Cert.LowIdeal.nD Cert.LowIdeal.τ).loc Cert.LowIdeal.main_v5)),
      θ_run (Cert.LowIdeal.defs (F := Ideal)) (onTc (τ := Cert.LowIdeal.τ) (Cert.LowIdeal.main (F := Ideal))) ⟨m, fun _ => 0, g⟩ (fun r => ∀ c : Dev Cert.LowIdeal.nD,
          r.2.mem ((c.tc : Thread Cert.LowIdeal.nD Cert.LowIdeal.τ).loc Cert.LowIdeal.main_v5) = v0 c
          ∧ r.2.mem ((c.tc : Thread Cert.LowIdeal.nD Cert.LowIdeal.τ).loc Cert.LowIdeal.main_arg0) = m ((c.tc : Thread Cert.LowIdeal.nD Cert.LowIdeal.τ).loc Cert.LowIdeal.main_arg0)
          ∧ r.2.mem ((c.tc : Thread Cert.LowIdeal.nD Cert.LowIdeal.τ).loc Cert.LowIdeal.main_arg1) = m ((c.tc : Thread Cert.LowIdeal.nD Cert.LowIdeal.τ).loc Cert.LowIdeal.main_arg1))
      ∧ θ_run (Cert.LowReferenceIdeal.defs (F := Ideal)) (onTc (τ := Cert.LowReferenceIdeal.τ) (Cert.LowReferenceIdeal.main (F := Ideal))) ⟨m', fun _ => 0, g'⟩ (fun r => ∀ c : Dev Cert.LowReferenceIdeal.nD,
          r.2.mem ((c.tc : Thread Cert.LowReferenceIdeal.nD Cert.LowReferenceIdeal.τ).loc Cert.LowReferenceIdeal.main_v6) = v0 c
          ∧ r.2.mem ((c.tc : Thread Cert.LowReferenceIdeal.nD Cert.LowReferenceIdeal.τ).loc Cert.LowReferenceIdeal.main_arg0) = m' ((c.tc : Thread Cert.LowReferenceIdeal.nD Cert.LowReferenceIdeal.τ).loc Cert.LowReferenceIdeal.main_arg0)
          ∧ r.2.mem ((c.tc : Thread Cert.LowReferenceIdeal.nD Cert.LowReferenceIdeal.τ).loc Cert.LowReferenceIdeal.main_arg1) = m' ((c.tc : Thread Cert.LowReferenceIdeal.nD Cert.LowReferenceIdeal.τ).loc Cert.LowReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v19_0)) (v1 : (c : Dev Cert.GateIdeal.nD) → Buf (Elt Ideal) ((c.tc : Thread Cert.GateIdeal.nD Cert.GateIdeal.τ).loc Cert.GateIdeal.main_v19_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v19_0) = v0 c
          ∧ r.2.mem ((c.tc : Thread Cert.GateIdeal.nD Cert.GateIdeal.τ).loc Cert.GateIdeal.main_v19_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v31) = v0 c
          ∧ r.2.mem ((c.tc : Thread Cert.GateReferenceIdeal.nD Cert.GateReferenceIdeal.τ).loc Cert.GateReferenceIdeal.main_v32) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def Claim : Prop :=
  ∃ (hKernel : Cert.Kernel.Facts) (hHalves : Cert.Halves.Facts) (hHalvesIdeal : Cert.HalvesIdeal.Facts) (hReferenceIdeal : Cert.ReferenceIdeal.Facts) (hPrompt : Cert.Prompt.Facts) (hPromptIdeal : Cert.PromptIdeal.Facts) (hPromptReferenceIdeal : Cert.PromptReferenceIdeal.Facts) (hSample : Cert.Sample.Facts) (hSampleIdeal : Cert.SampleIdeal.Facts) (hSampleReferenceIdeal : Cert.SampleReferenceIdeal.Facts) (hDown : Cert.Down.Facts) (hDownIdeal : Cert.DownIdeal.Facts) (hDownReferenceIdeal : Cert.DownReferenceIdeal.Facts) (hEvenIn : Cert.EvenIn.Facts) (hEvenInIdeal : Cert.EvenInIdeal.Facts) (hEvenInReferenceIdeal : Cert.EvenInReferenceIdeal.Facts) (hOddIn : Cert.OddIn.Facts) (hOddInIdeal : Cert.OddInIdeal.Facts) (hOddInReferenceIdeal : Cert.OddInReferenceIdeal.Facts) (hEvenOut : Cert.EvenOut.Facts) (hEvenOutIdeal : Cert.EvenOutIdeal.Facts) (hEvenOutReferenceIdeal : Cert.EvenOutReferenceIdeal.Facts) (hOddOut : Cert.OddOut.Facts) (hOddOutIdeal : Cert.OddOutIdeal.Facts) (hOddOutReferenceIdeal : Cert.OddOutReferenceIdeal.Facts) (hAttn : Cert.Attn.Facts) (hAttnIdeal : Cert.AttnIdeal.Facts) (hAttnReferenceIdeal : Cert.AttnReferenceIdeal.Facts) (hLat : Cert.Lat.Facts) (hLatIdeal : Cert.LatIdeal.Facts) (hLatReferenceIdeal : Cert.LatReferenceIdeal.Facts) (hAda : Cert.Ada.Facts) (hAdaIdeal : Cert.AdaIdeal.Facts) (hAdaReferenceIdeal : Cert.AdaReferenceIdeal.Facts) (hFirst : Cert.First.Facts) (hFirstIdeal : Cert.FirstIdeal.Facts) (hFirstReferenceIdeal : Cert.FirstReferenceIdeal.Facts) (hLow : Cert.Low.Facts) (hLowIdeal : Cert.LowIdeal.Facts) (hLowReferenceIdeal : Cert.LowReferenceIdeal.Facts) (hGate : Cert.Gate.Facts) (hGateIdeal : Cert.GateIdeal.Facts) (hGateReferenceIdeal : Cert.GateReferenceIdeal.Facts) (hPre_finite : Cert.Pre_finite.Facts) (hPre_finite_lat : Cert.Pre_finite_lat.Facts),
    quiescent_Kernel (hKernel := hKernel)
    ∧ quiescent_Halves (hHalves := hHalves)
    ∧ quiescent_HalvesIdeal (hHalvesIdeal := hHalvesIdeal)
    ∧ quiescent_ReferenceIdeal (hReferenceIdeal := hReferenceIdeal)
    ∧ quiescent_Prompt (hPrompt := hPrompt)
    ∧ quiescent_PromptIdeal (hPromptIdeal := hPromptIdeal)
    ∧ quiescent_PromptReferenceIdeal (hPromptReferenceIdeal := hPromptReferenceIdeal)
    ∧ quiescent_Sample (hSample := hSample)
    ∧ quiescent_SampleIdeal (hSampleIdeal := hSampleIdeal)
    ∧ quiescent_SampleReferenceIdeal (hSampleReferenceIdeal := hSampleReferenceIdeal)
    ∧ quiescent_Down (hDown := hDown)
    ∧ quiescent_DownIdeal (hDownIdeal := hDownIdeal)
    ∧ quiescent_DownReferenceIdeal (hDownReferenceIdeal := hDownReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_EvenOut (hEvenOut := hEvenOut)
    ∧ quiescent_EvenOutIdeal (hEvenOutIdeal := hEvenOutIdeal)
    ∧ quiescent_EvenOutReferenceIdeal (hEvenOutReferenceIdeal := hEvenOutReferenceIdeal)
    ∧ quiescent_OddOut (hOddOut := hOddOut)
    ∧ quiescent_OddOutIdeal (hOddOutIdeal := hOddOutIdeal)
    ∧ quiescent_OddOutReferenceIdeal (hOddOutReferenceIdeal := hOddOutReferenceIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnReferenceIdeal (hAttnReferenceIdeal := hAttnReferenceIdeal)
    ∧ quiescent_AttnReferenceIdeal_pre_finite (hAttnReferenceIdeal := hAttnReferenceIdeal) (hPre_finite := hPre_finite)
    ∧ quiescent_Lat (hLat := hLat)
    ∧ quiescent_LatIdeal (hLatIdeal := hLatIdeal)
    ∧ quiescent_LatIdeal_pre_finite_lat (hLatIdeal := hLatIdeal) (hPre_finite_lat := hPre_finite_lat)
    ∧ quiescent_LatReferenceIdeal (hLatReferenceIdeal := hLatReferenceIdeal)
    ∧ quiescent_LatReferenceIdeal_pre_finite_lat (hLatReferenceIdeal := hLatReferenceIdeal) (hPre_finite_lat := hPre_finite_lat)
    ∧ quiescent_Ada (hAda := hAda)
    ∧ quiescent_AdaIdeal (hAdaIdeal := hAdaIdeal)
    ∧ quiescent_AdaReferenceIdeal (hAdaReferenceIdeal := hAdaReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Low (hLow := hLow)
    ∧ quiescent_LowIdeal (hLowIdeal := hLowIdeal)
    ∧ quiescent_LowReferenceIdeal (hLowReferenceIdeal := hLowReferenceIdeal)
    ∧ quiescent_Gate (hGate := hGate)
    ∧ quiescent_GateIdeal (hGateIdeal := hGateIdeal)
    ∧ quiescent_GateReferenceIdeal (hGateReferenceIdeal := hGateReferenceIdeal)
    ∧ bitexact_Kernel_Halves (hKernel := hKernel) (hHalves := hHalves)
    ∧ preserves_Halves_HalvesIdeal
    ∧ algebraic_HalvesIdeal_ReferenceIdeal (hHalvesIdeal := hHalvesIdeal) (hReferenceIdeal := hReferenceIdeal)
    ∧ preserves_Prompt_PromptIdeal
    ∧ algebraic_PromptIdeal_PromptReferenceIdeal (hPromptIdeal := hPromptIdeal) (hPromptReferenceIdeal := hPromptReferenceIdeal)
    ∧ preserves_Sample_SampleIdeal
    ∧ algebraic_SampleIdeal_SampleReferenceIdeal (hSampleIdeal := hSampleIdeal) (hSampleReferenceIdeal := hSampleReferenceIdeal)
    ∧ preserves_Down_DownIdeal
    ∧ algebraic_DownIdeal_DownReferenceIdeal (hDownIdeal := hDownIdeal) (hDownReferenceIdeal := hDownReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_OddIn_OddInIdeal
    ∧ algebraic_OddInIdeal_OddInReferenceIdeal (hOddInIdeal := hOddInIdeal) (hOddInReferenceIdeal := hOddInReferenceIdeal)
    ∧ preserves_EvenOut_EvenOutIdeal
    ∧ algebraic_EvenOutIdeal_EvenOutReferenceIdeal (hEvenOutIdeal := hEvenOutIdeal) (hEvenOutReferenceIdeal := hEvenOutReferenceIdeal)
    ∧ preserves_OddOut_OddOutIdeal
    ∧ algebraic_OddOutIdeal_OddOutReferenceIdeal (hOddOutIdeal := hOddOutIdeal) (hOddOutReferenceIdeal := hOddOutReferenceIdeal)
    ∧ preserves_Attn_AttnIdeal
    ∧ algebraic_AttnIdeal_AttnReferenceIdeal_pre_finite (hAttnIdeal := hAttnIdeal) (hAttnReferenceIdeal := hAttnReferenceIdeal) (hPre_finite := hPre_finite)
    ∧ preserves_Lat_LatIdeal
    ∧ algebraic_LatIdeal_LatReferenceIdeal_pre_finite_lat (hLatIdeal := hLatIdeal) (hLatReferenceIdeal := hLatReferenceIdeal) (hPre_finite_lat := hPre_finite_lat)
    ∧ preserves_Ada_AdaIdeal
    ∧ algebraic_AdaIdeal_AdaReferenceIdeal (hAdaIdeal := hAdaIdeal) (hAdaReferenceIdeal := hAdaReferenceIdeal)
    ∧ preserves_First_FirstIdeal
    ∧ algebraic_FirstIdeal_FirstReferenceIdeal (hFirstIdeal := hFirstIdeal) (hFirstReferenceIdeal := hFirstReferenceIdeal)
    ∧ preserves_Low_LowIdeal
    ∧ algebraic_LowIdeal_LowReferenceIdeal (hLowIdeal := hLowIdeal) (hLowReferenceIdeal := hLowReferenceIdeal)
    ∧ preserves_Gate_GateIdeal
    ∧ algebraic_GateIdeal_GateReferenceIdeal (hGateIdeal := hGateIdeal) (hGateReferenceIdeal := hGateReferenceIdeal)
-- ==== Pre_finite.lean ====
abbrev S16384x3584 : Shape := ⟨2, ![16384, 3584]⟩
abbrev S2x128 : Shape := ⟨2, ![2, 128]⟩
abbrev S1x128 : Shape := ⟨2, ![1, 128]⟩
abbrev S128 : Shape := ⟨1, ![128]⟩
abbrev S_ : Shape := ⟨0, ![]⟩

class Facts : Prop where
  slices_S2x128_S1x128_0_0 : S2x128.Slices ![0, 0] S1x128
  shapeCasts_S1x128_S128 : S1x128.ShapeCasts S128
  bcast_S_S128 : S_.BroadcastsInDim S128 (![] : Fin 0 → Fin S128.rank)

variable [Facts]

def fn {F : FTy → Type} [FloatOps F] (main_arg0 : FVec F S16384x3584 .f32) (main_arg1 : FVec F S2x128 .f32) (main_arg2 : FVec F S2x128 .f32) : IVec S128 1 × IVec S128 1 :=
  let main_v0 : FVec F S1x128 .f32 := (extractStridedSlice S1x128 ![0, 0] · slices_S2x128_S1x128_0_0) main_arg1
  let main_v1 : FVec F S128 .f32 := shapeCast S128 main_v0 shapeCasts_S1x128_S128
  let main_v2 : FVec F S128 .f32 := Host.absf main_v1
  let main_cst : FVec F S_ .f32 := constant S_ .f32 0x7F800000#32
  let main_v3 : FVec F S128 .f32 := broadcastInDim S128 ![] bcast_S_S128 main_cst
  let main_v4 : IVec S128 1 := cmpf .olt main_v2 main_v3
  let main_v5 : FVec F S1x128 .f32 := (extractStridedSlice S1x128 ![0, 0] · slices_S2x128_S1x128_0_0) main_arg2
  let main_v6 : FVec F S128 .f32 := shapeCast S128 main_v5 shapeCasts_S1x128_S128
  let main_v7 : FVec F S128 .f32 := Host.absf main_v6
  let main_cst_0 : FVec F S_ .f32 := constant S_ .f32 0x7F800000#32
  let main_v8 : FVec F S128 .f32 := broadcastInDim S128 ![] bcast_S_S128 main_cst_0
  let main_v9 : IVec S128 1 := cmpf .olt main_v7 main_v8
  (main_v4, main_v9)
-- ==== Pre_finite_lat.lean ====
abbrev S16384x3584 : Shape := ⟨2, ![16384, 3584]⟩
abbrev S4x2x512x2x128 : Shape := ⟨5, ![4, 2, 512, 2, 128]⟩
abbrev S2x128 : Shape := ⟨2, ![2, 128]⟩
abbrev S1x128 : Shape := ⟨2, ![1, 128]⟩
abbrev S128 : Shape := ⟨1, ![128]⟩
abbrev S_ : Shape := ⟨0, ![]⟩
abbrev S4x1x512x2x128 : Shape := ⟨5, ![4, 1, 512, 2, 128]⟩
abbrev S4x512x2x128 : Shape := ⟨4, ![4, 512, 2, 128]⟩

class Facts : Prop where
  slices_S2x128_S1x128_0_0 : S2x128.Slices ![0, 0] S1x128
  shapeCasts_S1x128_S128 : S1x128.ShapeCasts S128
  bcast_S_S128 : S_.BroadcastsInDim S128 (![] : Fin 0 → Fin S128.rank)
  slices_S4x2x512x2x128_S4x1x512x2x128_0_0_0_0_0 : S4x2x512x2x128.Slices ![0, 0, 0, 0, 0] S4x1x512x2x128
  shapeCasts_S4x1x512x2x128_S4x512x2x128 : S4x1x512x2x128.ShapeCasts S4x512x2x128
  bcast_S_S4x512x2x128 : S_.BroadcastsInDim S4x512x2x128 (![] : Fin 0 → Fin S4x512x2x128.rank)

variable [Facts]

def fn {F : FTy → Type} [FloatOps F] (main_arg0 : FVec F S16384x3584 .f32) (main_arg1 : FVec F S4x2x512x2x128 .f32) (main_arg2 : FVec F S4x2x512x2x128 .f32) (main_arg3 : FVec F S2x128 .f32) (main_arg4 : FVec F S2x128 .f32) : IVec S128 1 × IVec S128 1 × IVec S4x512x2x128 1 :=
  let main_v0 : FVec F S1x128 .f32 := (extractStridedSlice S1x128 ![0, 0] · slices_S2x128_S1x128_0_0) main_arg3
  let main_v1 : FVec F S128 .f32 := shapeCast S128 main_v0 shapeCasts_S1x128_S128
  let main_v2 : FVec F S128 .f32 := Host.absf main_v1
  let main_cst : FVec F S_ .f32 := constant S_ .f32 0x7F800000#32
  let main_v3 : FVec F S128 .f32 := broadcastInDim S128 ![] bcast_S_S128 main_cst
  let main_v4 : IVec S128 1 := cmpf .olt main_v2 main_v3
  let main_v5 : FVec F S1x128 .f32 := (extractStridedSlice S1x128 ![0, 0] · slices_S2x128_S1x128_0_0) main_arg4
  let main_v6 : FVec F S128 .f32 := shapeCast S128 main_v5 shapeCasts_S1x128_S128
  let main_v7 : FVec F S128 .f32 := Host.absf main_v6
  let main_cst_0 : FVec F S_ .f32 := constant S_ .f32 0x7F800000#32
  let main_v8 : FVec F S128 .f32 := broadcastInDim S128 ![] bcast_S_S128 main_cst_0
  let main_v9 : IVec S128 1 := cmpf .olt main_v7 main_v8
  let main_v10 : FVec F S4x1x512x2x128 .f32 := (extractStridedSlice S4x1x512x2x128 ![0, 0, 0, 0, 0] · slices_S4x2x512x2x128_S4x1x512x2x128_0_0_0_0_0) main_arg1
  let main_v11 : FVec F S4x512x2x128 .f32 := shapeCast S4x512x2x128 main_v10 shapeCasts_S4x1x512x2x128_S4x512x2x128
  let main_v12 : FVec F S4x512x2x128 .f32 := Host.absf main_v11
  let main_cst_1 : FVec F S_ .f32 := constant S_ .f32 0x7F800000#32
  let main_v13 : FVec F S4x512x2x128 .f32 := broadcastInDim S4x512x2x128 ![] bcast_S_S4x512x2x128 main_cst_1
  let main_v14 : IVec S4x512x2x128 1 := cmpf .olt main_v12 main_v13
  (main_v4, main_v9, main_v14)
-- ==== Kernel.lean ====
abbrev S16384x2048 : Shape := ⟨2, ![16384, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S16384x5632 : Shape := ⟨2, ![16384, 5632]⟩
abbrev S2048x2048 : Shape := ⟨2, ![2048, 2048]⟩
abbrev S1x2048x256 : Shape := ⟨3, ![1, 2048, 256]⟩
abbrev S3x256 : Shape := ⟨2, ![3, 256]⟩
abbrev S1x256 : Shape := ⟨2, ![1, 256]⟩
abbrev S2048x256 : Shape := ⟨2, ![2048, 256]⟩
abbrev S8x256 : Shape := ⟨2, ![8, 256]⟩
abbrev S256x256 : Shape := ⟨2, ![256, 256]⟩
abbrev S248x256 : Shape := ⟨2, ![248, 256]⟩
abbrev S16x256 : Shape := ⟨2, ![16, 256]⟩
abbrev S4096x256 : Shape := ⟨2, ![4096, 256]⟩

abbrev nBuf : Space → Nat
  | .hbm => 11
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S4x2048x11264, .f32⟩
  | .hbm, ⟨2, _⟩ => ⟨S4x3x11264, .f32⟩
  | .hbm, ⟨3, _⟩ => ⟨S4x11264, .f32⟩
  | .hbm, ⟨4, _⟩ => ⟨S1x3x11264, .f32⟩
  | .hbm, ⟨5, _⟩ => ⟨S3x11264, .f32⟩
  | .hbm, ⟨6, _⟩ => ⟨S1x11264, .f32⟩
  | .hbm, ⟨7, _⟩ => ⟨S11264, .f32⟩
  | .hbm, ⟨8, _⟩ => ⟨S1x11264, .f32⟩
  | .hbm, ⟨9, _⟩ => ⟨S1x11264, .f32⟩
  | .hbm, ⟨10, _⟩ => ⟨S16384x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Halves.lean ====
abbrev S16384x2048 : Shape := ⟨2, ![16384, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S16384x5632 : Shape := ⟨2, ![16384, 5632]⟩
abbrev S2048x2048 : Shape := ⟨2, ![2048, 2048]⟩
abbrev S1x2048x256 : Shape := ⟨3, ![1, 2048, 256]⟩
abbrev S3x256 : Shape := ⟨2, ![3, 256]⟩
abbrev S1x256 : Shape := ⟨2, ![1, 256]⟩
abbrev S2048x256 : Shape := ⟨2, ![2048, 256]⟩
abbrev S8x256 : Shape := ⟨2, ![8, 256]⟩
abbrev S256x256 : Shape := ⟨2, ![256, 256]⟩
abbrev S248x256 : Shape := ⟨2, ![248, 256]⟩
abbrev S16x256 : Shape := ⟨2, ![16, 256]⟩
abbrev S4096x256 : Shape := ⟨2, ![4096, 256]⟩

abbrev nBuf : Space → Nat
  | .hbm => 11
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S4x2048x11264, .f32⟩
  | .hbm, ⟨2, _⟩ => ⟨S4x3x11264, .f32⟩
  | .hbm, ⟨3, _⟩ => ⟨S4x11264, .f32⟩
  | .hbm, ⟨4, _⟩ => ⟨S1x3x11264, .f32⟩
  | .hbm, ⟨5, _⟩ => ⟨S3x11264, .f32⟩
  | .hbm, ⟨6, _⟩ => ⟨S1x11264, .f32⟩
  | .hbm, ⟨7, _⟩ => ⟨S11264, .f32⟩
  | .hbm, ⟨8, _⟩ => ⟨S1x11264, .f32⟩
  | .hbm, ⟨9, _⟩ => ⟨S1x11264, .f32⟩
  | .hbm, ⟨10, _⟩ => ⟨S16384x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== HalvesIdeal.lean ====
variable {F : FTy → Type} [FloatOps F]
-- ==== ReferenceIdeal.lean ====
abbrev S16384x2048 : Shape := ⟨2, ![16384, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S1x2048x11264 : Shape := ⟨3, ![1, 2048, 11264]⟩
abbrev S2048x11264 : Shape := ⟨2, ![2048, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S8192x2048 : Shape := ⟨2, ![8192, 2048]⟩
abbrev S32x256x2048 : Shape := ⟨3, ![32, 256, 2048]⟩
abbrev S4x2048x2048 : Shape := ⟨3, ![4, 2048, 2048]⟩
abbrev S32x256x11264 : Shape := ⟨3, ![32, 256, 11264]⟩
abbrev S_ : Shape := ⟨0, ![]⟩
abbrev S32x258x11264 : Shape := ⟨3, ![32, 258, 11264]⟩
abbrev S1x1x11264 : Shape := ⟨3, ![1, 1, 11264]⟩
abbrev S32x256x5632 : Shape := ⟨3, ![32, 256, 5632]⟩
abbrev S8192x5632 : Shape := ⟨2, ![8192, 5632]⟩
abbrev S4x2050x11264 : Shape := ⟨3, ![4, 2050, 11264]⟩
abbrev S4x2048x5632 : Shape := ⟨3, ![4, 2048, 5632]⟩
abbrev S16384x5632 : Shape := ⟨2, ![16384, 5632]⟩

abbrev nBuf : Space → Nat
  | .hbm => 98
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x11264, .f32⟩
  | .hbm, ⟨2, _⟩ => ⟨S4x3x11264, .f32⟩
  | .hbm, ⟨3, _⟩ => ⟨S4x11264, .f32⟩
  | .hbm, ⟨4, _⟩ => ⟨S1x2048x11264, .f32⟩
  | .hbm, ⟨5, _⟩ => ⟨S2048x11264, .f32⟩
  | .hbm, ⟨6, _⟩ => ⟨S1x3x11264, .f32⟩
  | .hbm, ⟨7, _⟩ => ⟨S3x11264, .f32⟩
  | .hbm, ⟨8, _⟩ => ⟨S1x11264, .f32⟩
  | .hbm, ⟨9, _⟩ => ⟨S11264, .f32⟩
  | .hbm, ⟨10, _⟩ => ⟨S8192x2048, .bf16⟩
  | .hbm, ⟨11, _⟩ => ⟨S32x256x2048, .bf16⟩
  | .hbm, ⟨12, _⟩ => ⟨S8192x2048, .bf16⟩
  | .hbm, ⟨13, _⟩ => ⟨S4x2048x2048, .bf16⟩
  | .hbm, ⟨14, _⟩ => ⟨S32x256x2048, .f32⟩
  | .hbm, ⟨15, _⟩ => ⟨S32x256x11264, .f32⟩
  | .hbm, ⟨16, _⟩ => ⟨S_, .i32⟩
  | .hbm, ⟨17, _⟩ => ⟨S_, .f32⟩
  | .hbm, ⟨18, _⟩ => ⟨S32x258x11264, .f32⟩
  | .hbm, ⟨19, _⟩ => ⟨S32x256x11264, .f32⟩
  | .hbm, ⟨20, _⟩ => ⟨S1x11264, .f32⟩
  | .hbm, ⟨21, _⟩ => ⟨S11264, .f32⟩
  | .hbm, ⟨22, _⟩ => ⟨S1x1x11264, .f32⟩
  | .hbm, ⟨23, _⟩ => ⟨S32x256x11264, .f32⟩
  | .hbm, ⟨24, _⟩ => ⟨S32x256x11264, .f32⟩
  | .hbm, ⟨25, _⟩ => ⟨S32x256x11264, .f32⟩
  | .hbm, ⟨26, _⟩ => ⟨S1x11264, .f32⟩
  | .hbm, ⟨27, _⟩ => ⟨S11264, .f32⟩
  | .hbm, ⟨28, _⟩ => ⟨S1x1x11264, .f32⟩
  | .hbm, ⟨29, _⟩ => ⟨S32x256x11264, .f32⟩
  | .hbm, ⟨30, _⟩ => ⟨S32x256x11264, .f32⟩
  | .hbm, ⟨31, _⟩ => ⟨S32x256x11264, .f32⟩
  | .hbm, ⟨32, _⟩ => ⟨S32x256x11264, .f32⟩
  | .hbm, ⟨33, _⟩ => ⟨S1x11264, .f32⟩
  | .hbm, ⟨34, _⟩ => ⟨S11264, .f32⟩
  | .hbm, ⟨35, _⟩ => ⟨S1x1x11264, .f32⟩
  | .hbm, ⟨36, _⟩ => ⟨S32x256x11264, .f32⟩
  | .hbm, ⟨37, _⟩ => ⟨S32x256x11264, .f32⟩
  | .hbm, ⟨38, _⟩ => ⟨S32x256x11264, .f32⟩
  | .hbm, ⟨39, _⟩ => ⟨S1x1x11264, .f32⟩
  | .hbm, ⟨40, _⟩ => ⟨S32x256x11264, .f32⟩
  | .hbm, ⟨41, _⟩ => ⟨S32x256x11264, .f32⟩
  | .hbm, ⟨42, _⟩ => ⟨S32x256x5632, .f32⟩
  | .hbm, ⟨43, _⟩ => ⟨S32x256x5632, .f32⟩
  | .hbm, ⟨44, _⟩ => ⟨S32x256x5632, .f32⟩
  | .hbm, ⟨45, _⟩ => ⟨S32x256x5632, .f32⟩
  | .hbm, ⟨46, _⟩ => ⟨S_, .f32⟩
  | .hbm, ⟨47, _⟩ => ⟨S32x256x5632, .f32⟩
  | .hbm, ⟨48, _⟩ => ⟨S32x256x5632, .f32⟩
  | .hbm, ⟨49, _⟩ => ⟨S_, .f32⟩
  | .hbm, ⟨50, _⟩ => ⟨S32x256x5632, .f32⟩
  | .hbm, ⟨51, _⟩ => ⟨S32x256x5632, .f32⟩
  | .hbm, ⟨52, _⟩ => ⟨S32x256x5632, .f32⟩
  | .hbm, ⟨53, _⟩ => ⟨S32x256x5632, .f32⟩
  | .hbm, ⟨54, _⟩ => ⟨S8192x5632, .f32⟩
  | .hbm, ⟨55, _⟩ => ⟨S4x2048x2048, .f32⟩
  | .hbm, ⟨56, _⟩ => ⟨S4x2048x11264, .f32⟩
  | .hbm, ⟨57, _⟩ => ⟨S_, .i32⟩
  | .hbm, ⟨58, _⟩ => ⟨S_, .f32⟩
  | .hbm, ⟨59, _⟩ => ⟨S4x2050x11264, .f32⟩
  | .hbm, ⟨60, _⟩ => ⟨S4x2048x11264, .f32⟩
  | .hbm, ⟨61, _⟩ => ⟨S1x11264, .f32⟩
  | .hbm, ⟨62, _⟩ => ⟨S11264, .f32⟩
  | .hbm, ⟨63, _⟩ => ⟨S1x1x11264, .f32⟩
  | .hbm, ⟨64, _⟩ => ⟨S4x2048x11264, .f32⟩
  | .hbm, ⟨65, _⟩ => ⟨S4x2048x11264, .f32⟩
  | .hbm, ⟨66, _⟩ => ⟨S4x2048x11264, .f32⟩
  | .hbm, ⟨67, _⟩ => ⟨S1x11264, .f32⟩
  | .hbm, ⟨68, _⟩ => ⟨S11264, .f32⟩
  | .hbm, ⟨69, _⟩ => ⟨S1x1x11264, .f32⟩
  | .hbm, ⟨70, _⟩ => ⟨S4x2048x11264, .f32⟩
  | .hbm, ⟨71, _⟩ => ⟨S4x2048x11264, .f32⟩
  | .hbm, ⟨72, _⟩ => ⟨S4x2048x11264, .f32⟩
  | .hbm, ⟨73, _⟩ => ⟨S4x2048x11264, .f32⟩
  | .hbm, ⟨74, _⟩ => ⟨S1x11264, .f32⟩
  | .hbm, ⟨75, _⟩ => ⟨S11264, .f32⟩
  | .hbm, ⟨76, _⟩ => ⟨S1x1x11264, .f32⟩
  | .hbm, ⟨77, _⟩ => ⟨S4x2048x11264, .f32⟩
  | .hbm, ⟨78, _⟩ => ⟨S4x2048x11264, .f32⟩
  | .hbm, ⟨79, _⟩ => ⟨S4x2048x11264, .f32⟩
  | .hbm, ⟨80, _⟩ => ⟨S1x1x11264, .f32⟩
  | .hbm, ⟨81, _⟩ => ⟨S4x2048x11264, .f32⟩
  | .hbm, ⟨82, _⟩ => ⟨S4x2048x11264, .f32⟩
  | .hbm, ⟨83, _⟩ => ⟨S4x2048x5632, .f32⟩
  | .hbm, ⟨84, _⟩ => ⟨S4x2048x5632, .f32⟩
  | .hbm, ⟨85, _⟩ => ⟨S4x2048x5632, .f32⟩
  | .hbm, ⟨86, _⟩ => ⟨S4x2048x5632, .f32⟩
  | .hbm, ⟨87, _⟩ => ⟨S_, .f32⟩
  | .hbm, ⟨88, _⟩ => ⟨S4x2048x5632, .f32⟩
  | .hbm, ⟨89, _⟩ => ⟨S4x2048x5632, .f32⟩
  | .hbm, ⟨90, _⟩ => ⟨S_, .f32⟩
  | .hbm, ⟨91, _⟩ => ⟨S4x2048x5632, .f32⟩
  | .hbm, ⟨92, _⟩ => ⟨S4x2048x5632, .f32⟩
  | .hbm, ⟨93, _⟩ => ⟨S4x2048x5632, .f32⟩
  | .hbm, ⟨94, _⟩ => ⟨S4x2048x5632, .f32⟩
  | .hbm, ⟨95, _⟩ => ⟨S8192x5632, .f32⟩
  | .hbm, ⟨96, _⟩ => ⟨S16384x5632, .f32⟩
  | .hbm, ⟨97, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_0 : Ref sig .tc := ⟨.hbm, 57, rfl⟩
abbrev main_call2_v0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Prompt.lean ====
abbrev S16384x5632 : Shape := ⟨2, ![16384, 5632]⟩
abbrev S4x5632x2048 : Shape := ⟨3, ![4, 5632, 2048]⟩
abbrev S16384x2048 : Shape := ⟨2, ![16384, 2048]⟩
abbrev S8x6x2048 : Shape := ⟨3, ![8, 6, 2048]⟩
abbrev S2048 : Shape := ⟨1, ![2048]⟩
abbrev S1x5632x2048 : Shape := ⟨3, ![1, 5632, 2048]⟩
abbrev S5632x2048 : Shape := ⟨2, ![5632, 2048]⟩
abbrev S1x2048 : Shape := ⟨2, ![1, 2048]⟩
abbrev S8192x2048 : Shape := ⟨2, ![8192, 2048]⟩
abbrev S256x5632 : Shape := ⟨2, ![256, 5632]⟩
abbrev S256x2048 : Shape := ⟨2, ![256, 2048]⟩
abbrev S1x6x2048 : Shape := ⟨3, ![1, 6, 2048]⟩
abbrev S128x5632 : Shape := ⟨2, ![128, 5632]⟩
abbrev S128x2048 : Shape := ⟨2, ![128, 2048]⟩
abbrev S1x1x2048 : Shape := ⟨3, ![1, 1, 2048]⟩
abbrev S128 : Shape := ⟨1, ![128]⟩
abbrev S128x1 : Shape := ⟨2, ![128, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S4x5632x2048, .f32⟩
  | .hbm, ⟨2, _⟩ => ⟨S16384x2048, .f32⟩
  | .hbm, ⟨3, _⟩ => ⟨S8x6x2048, .f32⟩
  | .hbm, ⟨4, _⟩ => ⟨S2048, .f32⟩
  | .hbm, ⟨5, _⟩ => ⟨S1x5632x2048, .f32⟩
  | .hbm, ⟨6, _⟩ => ⟨S5632x2048, .f32⟩
  | .hbm, ⟨7, _⟩ => ⟨S5632x2048, .bf16⟩
  | .hbm, ⟨8, _⟩ => ⟨S1x2048, .f32⟩
  | .hbm, ⟨9, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 1 := Scalar.cmpi .slt v0 c32_i32
  let c32_i32_0 : BitVec 32 := 32#32
  let v2 : BitVec 32 := Scalar.subi v0 c32_i32_0
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PromptReferenceIdeal.lean ====
abbrev S16384x5632 : Shape := ⟨2, ![16384, 5632]⟩
abbrev S4x5632x2048 : Shape := ⟨3, ![4, 5632, 2048]⟩
abbrev S16384x2048 : Shape := ⟨2, ![16384, 2048]⟩
abbrev S8x6x2048 : Shape := ⟨3, ![8, 6, 2048]⟩
abbrev S2048 : Shape := ⟨1, ![2048]⟩
abbrev S1x1x2048 : Shape := ⟨3, ![1, 1, 2048]⟩
abbrev S1x2048 : Shape := ⟨2, ![1, 2048]⟩
abbrev S8192x5632 : Shape := ⟨2, ![8192, 5632]⟩
abbrev S32x256x5632 : Shape := ⟨3, ![32, 256, 5632]⟩
abbrev S8192x2048 : Shape := ⟨2, ![8192, 2048]⟩
abbrev S32x256x2048 : Shape := ⟨3, ![32, 256, 2048]⟩
abbrev S1x5632x2048 : Shape := ⟨3, ![1, 5632, 2048]⟩
abbrev S5632x2048 : Shape := ⟨2, ![5632, 2048]⟩
abbrev S_ : Shape := ⟨0, ![]⟩
abbrev S32x256 : Shape := ⟨2, ![32, 256]⟩
abbrev S32x256x1 : Shape := ⟨3, ![32, 256, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S4x5632x2048, .f32⟩
  | .hbm, ⟨2, _⟩ => ⟨S16384x2048, .f32⟩
  | .hbm, ⟨3, _⟩ => ⟨S8x6x2048, .f32⟩
  | .hbm, ⟨4, _⟩ => ⟨S2048, .f32⟩
  | .hbm, ⟨5, _⟩ => ⟨S1x1x2048, .f32⟩
  | .hbm, ⟨6, _⟩ => ⟨S1x2048, .f32⟩
  | .hbm, ⟨7, _⟩ => ⟨S1x1x2048, .f32⟩
  | .hbm, ⟨8, _⟩ => ⟨S8192x5632, .bf16⟩
  | .hbm, ⟨9, _⟩ => ⟨S32x256x5632, .bf16⟩
  | .hbm, ⟨10, _⟩ => ⟨S8192x2048, .f32⟩
  | .hbm, ⟨11, _⟩ => ⟨S32x256x2048, .f32⟩
  | .hbm, ⟨12, _⟩ => ⟨S32x256x5632, .f32⟩
  | .hbm, ⟨13, _⟩ => ⟨S1x5632x2048, .f32⟩
  | .hbm, ⟨14, _⟩ => ⟨S5632x2048, .f32⟩
  | .hbm, ⟨15, _⟩ => ⟨S32x256x2048, .f32⟩
  | .hbm, ⟨16, _⟩ => ⟨S32x256x2048, .f32⟩
  | .hbm, ⟨17, _⟩ => ⟨S32x256x2048, .f32⟩
  | .hbm, ⟨18, _⟩ => ⟨S32x256x2048, .f32⟩
  | .hbm, ⟨19, _⟩ => ⟨S32x256x2048, .f32⟩
  | .hbm, ⟨20, _⟩ => ⟨S_, .f32⟩
  | .hbm, ⟨21, _⟩ => ⟨S32x256, .f32⟩
  | .hbm, ⟨22, _⟩ => ⟨S32x256x1, .f32⟩
  | .hbm, ⟨23, _⟩ => ⟨S_, .f32⟩
  | .hbm, ⟨24, _⟩ => ⟨S32x256x1, .f32⟩
  | .hbm, ⟨25, _⟩ => ⟨S32x256x1, .f32⟩
  | .hbm, ⟨26, _⟩ => ⟨S_, .f32⟩
  | .hbm, ⟨27, _⟩ => ⟨S32x256x1, .f32⟩
  | .hbm, ⟨28, _⟩ => ⟨S32x256x1, .f32⟩
  | .hbm, ⟨29, _⟩ => ⟨S32x256x1, .f32⟩
  | .hbm, ⟨30, _⟩ => ⟨S32x256x2048, .f32⟩
  | .hbm, ⟨31, _⟩ => ⟨S32x256x2048, .f32⟩
  | .hbm, ⟨32, _⟩ => ⟨S1x1x2048, .f32⟩
  | .hbm, ⟨33, _⟩ => ⟨S32x256x2048, .f32⟩
  | .hbm, ⟨34, _⟩ => ⟨S32x256x2048, .f32⟩
  | .hbm, ⟨35, _⟩ => ⟨S8192x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Sample.lean ====
abbrev S16384x5632 : Shape := ⟨2, ![16384, 5632]⟩
abbrev S4x5632x2048 : Shape := ⟨3, ![4, 5632, 2048]⟩
abbrev S16384x2048 : Shape := ⟨2, ![16384, 2048]⟩
abbrev S8x6x2048 : Shape := ⟨3, ![8, 6, 2048]⟩
abbrev S2048 : Shape := ⟨1, ![2048]⟩
abbrev S1x5632x2048 : Shape := ⟨3, ![1, 5632, 2048]⟩
abbrev S5632x2048 : Shape := ⟨2, ![5632, 2048]⟩
abbrev S1x2048 : Shape := ⟨2, ![1, 2048]⟩
abbrev S8192x2048 : Shape := ⟨2, ![8192, 2048]⟩
abbrev S256x5632 : Shape := ⟨2, ![256, 5632]⟩
abbrev S256x2048 : Shape := ⟨2, ![256, 2048]⟩
abbrev S1x6x2048 : Shape := ⟨3, ![1, 6, 2048]⟩
abbrev S128x5632 : Shape := ⟨2, ![128, 5632]⟩
abbrev S128x2048 : Shape := ⟨2, ![128, 2048]⟩
abbrev S1x1x2048 : Shape := ⟨3, ![1, 1, 2048]⟩
abbrev S128 : Shape := ⟨1, ![128]⟩
abbrev S128x1 : Shape := ⟨2, ![128, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S4x5632x2048, .f32⟩
  | .hbm, ⟨2, _⟩ => ⟨S16384x2048, .f32⟩
  | .hbm, ⟨3, _⟩ => ⟨S8x6x2048, .f32⟩
  | .hbm, ⟨4, _⟩ => ⟨S2048, .f32⟩
  | .hbm, ⟨5, _⟩ => ⟨S1x5632x2048, .f32⟩
  | .hbm, ⟨6, _⟩ => ⟨S5632x2048, .f32⟩
  | .hbm, ⟨7, _⟩ => ⟨S5632x2048, .bf16⟩
  | .hbm, ⟨8, _⟩ => ⟨S1x2048, .f32⟩
  | .hbm, ⟨9, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c32_i32 : BitVec 32 := 32#32
  let v0 : BitVec 32 := Scalar.addi arg0 c32_i32
  let c32_i32_0 : BitVec 32 := 32#32
  let v1 : BitVec 1 := Scalar.cmpi .slt v0 c32_i32_0
  let c32_i32_1 : BitVec 32 := 32#32
  let v2 : BitVec 32 := Scalar.subi v0 c32_i32_1
  let c8_i32 : BitVec 32 := 8#32
  let v3 : BitVec 32 := Scalar.divsi v2 c8_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SampleReferenceIdeal.lean ====
abbrev S16384x5632 : Shape := ⟨2, ![16384, 5632]⟩
abbrev S4x5632x2048 : Shape := ⟨3, ![4, 5632, 2048]⟩
abbrev S16384x2048 : Shape := ⟨2, ![16384, 2048]⟩
abbrev S8x6x2048 : Shape := ⟨3, ![8, 6, 2048]⟩
abbrev S2048 : Shape := ⟨1, ![2048]⟩
abbrev S4x1x2048 : Shape := ⟨3, ![4, 1, 2048]⟩
abbrev S4x2048 : Shape := ⟨2, ![4, 2048]⟩
abbrev S8192x5632 : Shape := ⟨2, ![8192, 5632]⟩
abbrev S4x2048x5632 : Shape := ⟨3, ![4, 2048, 5632]⟩
abbrev S8192x2048 : Shape := ⟨2, ![8192, 2048]⟩
abbrev S4x2048x2048 : Shape := ⟨3, ![4, 2048, 2048]⟩
abbrev S1x5632x2048 : Shape := ⟨3, ![1, 5632, 2048]⟩
abbrev S5632x2048 : Shape := ⟨2, ![5632, 2048]⟩
abbrev S_ : Shape := ⟨0, ![]⟩
abbrev S4x2048x1 : Shape := ⟨3, ![4, 2048, 1]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S4x5632x2048, .f32⟩
  | .hbm, ⟨2, _⟩ => ⟨S16384x2048, .f32⟩
  | .hbm, ⟨3, _⟩ => ⟨S8x6x2048, .f32⟩
  | .hbm, ⟨4, _⟩ => ⟨S2048, .f32⟩
  | .hbm, ⟨5, _⟩ => ⟨S4x1x2048, .f32⟩
  | .hbm, ⟨6, _⟩ => ⟨S4x2048, .f32⟩
  | .hbm, ⟨7, _⟩ => ⟨S4x1x2048, .f32⟩
  | .hbm, ⟨8, _⟩ => ⟨S8192x5632, .bf16⟩
  | .hbm, ⟨9, _⟩ => ⟨S4x2048x5632, .bf16⟩
  | .hbm, ⟨10, _⟩ => ⟨S8192x2048, .f32⟩
  | .hbm, ⟨11, _⟩ => ⟨S4x2048x2048, .f32⟩
  | .hbm, ⟨12, _⟩ => ⟨S4x2048x5632, .f32⟩
  | .hbm, ⟨13, _⟩ => ⟨S1x5632x2048, .f32⟩
  | .hbm, ⟨14, _⟩ => ⟨S5632x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S8192x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Down.lean ====
abbrev S16384x5632 : Shape := ⟨2, ![16384, 5632]⟩
abbrev S4x5632x2048 : Shape := ⟨3, ![4, 5632, 2048]⟩
abbrev S16384x2048 : Shape := ⟨2, ![16384, 2048]⟩
abbrev S8x6x2048 : Shape := ⟨3, ![8, 6, 2048]⟩
abbrev S4x2048 : Shape := ⟨2, ![4, 2048]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S8x2x2048 : Shape := ⟨3, ![8, 2, 2048]⟩
abbrev S256x5632 : Shape := ⟨2, ![256, 5632]⟩
abbrev S256x2048 : Shape := ⟨2, ![256, 2048]⟩
abbrev S1x6x2048 : Shape := ⟨3, ![1, 6, 2048]⟩
abbrev S1x2x2048 : Shape := ⟨3, ![1, 2, 2048]⟩
abbrev S128x5632 : Shape := ⟨2, ![128, 5632]⟩
abbrev S128x2048 : Shape := ⟨2, ![128, 2048]⟩
abbrev S1x1x2048 : Shape := ⟨3, ![1, 1, 2048]⟩
abbrev S128 : Shape := ⟨1, ![128]⟩
abbrev S128x1 : Shape := ⟨2, ![128, 1]⟩

abbrev nBuf : Space → Nat
  | .hbm => 15
  | .vmem => 14
  | .smem => 0
  | _ => 0

abbrev bufTy : (tb : Table) → Fin (tcTables nBuf tb) → BufTy
  | .hbm, ⟨0, _⟩ => ⟨S16384x5632, .bf16⟩
  | .hbm, ⟨1, _⟩ => ⟨S4x5632x2048, .f32⟩
  | .hbm, ⟨2, _⟩ => ⟨S16384x2048, .f32⟩
  | .hbm, ⟨3, _⟩ => ⟨S8x6x2048, .f32⟩
  | .hbm, ⟨4, _⟩ => ⟨S8x6x2048, .f32⟩
  | .hbm, ⟨5, _⟩ => ⟨S4x2048, .f32⟩
  | .hbm, ⟨6, _⟩ => ⟨S1x5632x2048, .f32⟩
  | .hbm, ⟨7, _⟩ => ⟨S5632x2048, .f32⟩
  | .hbm, ⟨8, _⟩ => ⟨S5632x2048, .bf16⟩
  | .hbm, ⟨9, _⟩ => ⟨S1x2048, .f32⟩
  | .hbm, ⟨10, _⟩ => ⟨S2048, .f32⟩
  | .hbm, ⟨11, _⟩ => ⟨S8x2x2048, .f32⟩
  | .hbm, ⟨12, _⟩ => ⟨S1x2048, .f32⟩
  | .hbm, ⟨13, _⟩ => ⟨S16384x2048, .f32⟩
  | .hbm, ⟨14, _⟩ => ⟨S16384x2048, .bf16⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S1x2x2048, .f32⟩
  | .local _ .vmem, ⟨9, _⟩ => ⟨S1x2x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 1 := Scalar.cmpi .slt v0 c32_i32
  let c32_i32_0 : BitVec 32 := 32#32
  let v2 : BitVec 32 := Scalar.subi v0 c32_i32_0
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 1 := Scalar.cmpi .slt v0 c32_i32
  let c32_i32_0 : BitVec 32 := 32#32
  let v2 : BitVec 32 := Scalar.subi v0 c32_i32_0
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownReferenceIdeal.lean ====
abbrev S16384x5632 : Shape := ⟨2, ![16384, 5632]⟩
abbrev S4x5632x2048 : Shape := ⟨3, ![4, 5632, 2048]⟩
abbrev S16384x2048 : Shape := ⟨2, ![16384, 2048]⟩
abbrev S8x6x2048 : Shape := ⟨3, ![8, 6, 2048]⟩
abbrev S4x2048 : Shape := ⟨2, ![4, 2048]⟩
abbrev S1x6x2048 : Shape := ⟨3, ![1, 6, 2048]⟩
abbrev S8192x6x2048 : Shape := ⟨3, ![8192, 6, 2048]⟩
abbrev S4x6x2048 : Shape := ⟨3, ![4, 6, 2048]⟩
abbrev S4x1x6x2048 : Shape := ⟨4, ![4, 1, 6, 2048]⟩
abbrev S4x2048x6x2048 : Shape := ⟨4, ![4, 2048, 6, 2048]⟩
abbrev S16384x6x2048 : Shape := ⟨3, ![16384, 6, 2048]⟩
abbrev S16384x1x2048 : Shape := ⟨3, ![16384, 1, 2048]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S4x5632x2048, .f32⟩
  | .hbm, ⟨2, _⟩ => ⟨S16384x2048, .f32⟩
  | .hbm, ⟨3, _⟩ => ⟨S8x6x2048, .f32⟩
  | .hbm, ⟨4, _⟩ => ⟨S8x6x2048, .f32⟩
  | .hbm, ⟨5, _⟩ => ⟨S4x2048, .f32⟩
  | .hbm, ⟨6, _⟩ => ⟨S1x6x2048, .f32⟩
  | .hbm, ⟨7, _⟩ => ⟨S8192x6x2048, .f32⟩
  | .hbm, ⟨8, _⟩ => ⟨S4x6x2048, .f32⟩
  | .hbm, ⟨9, _⟩ => ⟨S4x1x6x2048, .f32⟩
  | .hbm, ⟨10, _⟩ => ⟨S4x2048x6x2048, .f32⟩
  | .hbm, ⟨11, _⟩ => ⟨S8192x6x2048, .f32⟩
  | .hbm, ⟨12, _⟩ => ⟨S16384x6x2048, .f32⟩
  | .hbm, ⟨13, _⟩ => ⟨S1x6x2048, .f32⟩
  | .hbm, ⟨14, _⟩ => ⟨S8192x6x2048, .f32⟩
  | .hbm, ⟨15, _⟩ => ⟨S4x6x2048, .f32⟩
  | .hbm, ⟨16, _⟩ => ⟨S4x1x6x2048, .f32⟩
  | .hbm, ⟨17, _⟩ => ⟨S4x2048x6x2048, .f32⟩
  | .hbm, ⟨18, _⟩ => ⟨S8192x6x2048, .f32⟩
  | .hbm, ⟨19, _⟩ => ⟨S16384x6x2048, .f32⟩
  | .hbm, ⟨20, _⟩ => ⟨S16384x1x2048, .f32⟩
  | .hbm, ⟨21, _⟩ => ⟨S16384x2048, .f32⟩
  | .hbm, ⟨22, _⟩ => ⟨S16384x5632, .f32⟩
  | .hbm, ⟨23, _⟩ => ⟨S1x5632x2048, .f32⟩
  | .hbm, ⟨24, _⟩ => ⟨S5632x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S2048, .f32⟩
  | .hbm, ⟨30, _⟩ => ⟨S16384x1x2048, .f32⟩
  | .hbm, ⟨31, _⟩ => ⟨S16384x2048, .f32⟩
  | .hbm, ⟨32, _⟩ => ⟨S16384x1x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x2048, .f32⟩
  | .hbm, ⟨46, _⟩ => ⟨S16384x2048, .f32⟩
  | .hbm, ⟨47, _⟩ => ⟨S1x2048, .f32⟩
  | .hbm, ⟨48, _⟩ => ⟨S16384x2048, .f32⟩
  | .hbm, ⟨49, _⟩ => ⟨S16384x2048, .f32⟩
  | .hbm, ⟨50, _⟩ => ⟨S_, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== EvenIn.lean ====
abbrev S16384x2048 : Shape := ⟨2, ![16384, 2048]⟩
abbrev S2x2048x3584 : Shape := ⟨3, ![2, 2048, 3584]⟩
abbrev S1x2048x3584 : Shape := ⟨3, ![1, 2048, 3584]⟩
abbrev S2048x3584 : Shape := ⟨2, ![2048, 3584]⟩
abbrev S16384x3584 : Shape := ⟨2, ![16384, 3584]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x3584, .f32⟩
  | .hbm, ⟨2, _⟩ => ⟨S1x2048x3584, .f32⟩
  | .hbm, ⟨3, _⟩ => ⟨S2048x3584, .f32⟩
  | .hbm, ⟨4, _⟩ => ⟨S2048x3584, .bf16⟩
  | .hbm, ⟨5, _⟩ => ⟨S16384x3584, .f32⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .f32⟩
  | .local _ .vmem, ⟨5, _⟩ => ⟨S1024x1792, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInReferenceIdeal.lean ====
abbrev S16384x2048 : Shape := ⟨2, ![16384, 2048]⟩
abbrev S2x2048x3584 : Shape := ⟨3, ![2, 2048, 3584]⟩
abbrev S1x2048x3584 : Shape := ⟨3, ![1, 2048, 3584]⟩
abbrev S2048x3584 : Shape := ⟨2, ![2048, 3584]⟩
abbrev S16384x3584 : Shape := ⟨2, ![16384, 3584]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x3584, .f32⟩
  | .hbm, ⟨2, _⟩ => ⟨S16384x2048, .f32⟩
  | .hbm, ⟨3, _⟩ => ⟨S1x2048x3584, .f32⟩
  | .hbm, ⟨4, _⟩ => ⟨S2048x3584, .f32⟩
  | .hbm, ⟨5, _⟩ => ⟨S16384x3584, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OddIn.lean ====
abbrev S16384x2048 : Shape := ⟨2, ![16384, 2048]⟩
abbrev S2x2048x6176 : Shape := ⟨3, ![2, 2048, 6176]⟩
abbrev S1x2048x6176 : Shape := ⟨3, ![1, 2048, 6176]⟩
abbrev S2048x6176 : Shape := ⟨2, ![2048, 6176]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x6176, .f32⟩
  | .hbm, ⟨2, _⟩ => ⟨S1x2048x6176, .f32⟩
  | .hbm, ⟨3, _⟩ => ⟨S2048x6176, .f32⟩
  | .hbm, ⟨4, _⟩ => ⟨S2048x6144, .f32⟩
  | .hbm, ⟨5, _⟩ => ⟨S2048x6144, .bf16⟩
  | .hbm, ⟨6, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInReferenceIdeal.lean ====
abbrev S16384x2048 : Shape := ⟨2, ![16384, 2048]⟩
abbrev S2x2048x6176 : Shape := ⟨3, ![2, 2048, 6176]⟩
abbrev S1x2048x6176 : Shape := ⟨3, ![1, 2048, 6176]⟩
abbrev S2048x6176 : Shape := ⟨2, ![2048, 6176]⟩
abbrev S16384x6176 : Shape := ⟨2, ![16384, 6176]⟩
abbrev S16384x6144 : Shape := ⟨2, ![16384, 6144]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x6176, .f32⟩
  | .hbm, ⟨2, _⟩ => ⟨S16384x2048, .f32⟩
  | .hbm, ⟨3, _⟩ => ⟨S1x2048x6176, .f32⟩
  | .hbm, ⟨4, _⟩ => ⟨S2048x6176, .f32⟩
  | .hbm, ⟨5, _⟩ => ⟨S16384x6176, .f32⟩
  | .hbm, ⟨6, _⟩ => ⟨S16384x6144, .f32⟩
  | .hbm, ⟨7, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== EvenOut.lean ====
abbrev S16384x1024 : Shape := ⟨2, ![16384, 1024]⟩
abbrev S8192x1024 : Shape := ⟨2, ![8192, 1024]⟩
abbrev S2x2048x2048 : Shape := ⟨3, ![2, 2048, 2048]⟩
abbrev S32x256x2048 : Shape := ⟨3, ![32, 256, 2048]⟩
abbrev S4x2048x2048 : Shape := ⟨3, ![4, 2048, 2048]⟩
abbrev S8x6x2048 : Shape := ⟨3, ![8, 6, 2048]⟩
abbrev S4x2048 : Shape := ⟨2, ![4, 2048]⟩
abbrev S8192x2048 : Shape := ⟨2, ![8192, 2048]⟩
abbrev S1x2048x2048 : Shape := ⟨3, ![1, 2048, 2048]⟩
abbrev S2048x2048 : Shape := ⟨2, ![2048, 2048]⟩
abbrev S1024x2048 : Shape := ⟨2, ![1024, 2048]⟩
abbrev S1x2048 : Shape := ⟨2, ![1, 2048]⟩
abbrev S2048 : Shape := ⟨1, ![2048]⟩
abbrev S8x2x2048 : Shape := ⟨3, ![8, 2, 2048]⟩
abbrev S16384x2048 : Shape := ⟨2, ![16384, 2048]⟩
abbrev S512x1024 : Shape := ⟨2, ![512, 1024]⟩
abbrev S512x2048 : Shape := ⟨2, ![512, 2048]⟩
abbrev S1x6x2048 : Shape := ⟨3, ![1, 6, 2048]⟩
abbrev S1x2x2048 : Shape := ⟨3, ![1, 2, 2048]⟩
abbrev S256x1024 : Shape := ⟨2, ![256, 1024]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 21
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S8192x1024, .bf16⟩
  | .hbm, ⟨2, _⟩ => ⟨S8192x1024, .bf16⟩
  | .hbm, ⟨3, _⟩ => ⟨S2x2048x2048, .f32⟩
  | .hbm, ⟨4, _⟩ => ⟨S32x256x2048, .f32⟩
  | .hbm, ⟨5, _⟩ => ⟨S4x2048x2048, .f32⟩
  | .hbm, ⟨6, _⟩ => ⟨S8x6x2048, .f32⟩
  | .hbm, ⟨7, _⟩ => ⟨S4x2048, .f32⟩
  | .hbm, ⟨8, _⟩ => ⟨S8192x2048, .f32⟩
  | .hbm, ⟨9, _⟩ => ⟨S8192x2048, .f32⟩
  | .hbm, ⟨10, _⟩ => ⟨S1x2048x2048, .f32⟩
  | .hbm, ⟨11, _⟩ => ⟨S2048x2048, .f32⟩
  | .hbm, ⟨12, _⟩ => ⟨S2048x2048, .bf16⟩
  | .hbm, ⟨13, _⟩ => ⟨S1024x2048, .bf16⟩
  | .hbm, ⟨14, _⟩ => ⟨S1024x2048, .bf16⟩
  | .hbm, ⟨15, _⟩ => ⟨S1x2048, .f32⟩
  | .hbm, ⟨16, _⟩ => ⟨S2048, .f32⟩
  | .hbm, ⟨17, _⟩ => ⟨S8x2x2048, .f32⟩
  | .hbm, ⟨18, _⟩ => ⟨S1x2048, .f32⟩
  | .hbm, ⟨19, _⟩ => ⟨S16384x2048, .f32⟩
  | .hbm, ⟨20, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S1x6x2048, .f32⟩
  | .local _ .vmem, ⟨13, _⟩ => ⟨S1x6x2048, .f32⟩
  | .local _ .vmem, ⟨14, _⟩ => ⟨S1x2048, .f32⟩
  | .local _ .vmem, ⟨15, _⟩ => ⟨S1x2x2048, .f32⟩
  | .local _ .vmem, ⟨16, _⟩ => ⟨S1x2x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c16_i32_0 : BitVec 32 := 16#32
  let v2 : BitVec 32 := Scalar.subi v0 c16_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c16_i32_0 : BitVec 32 := 16#32
  let v2 : BitVec 32 := Scalar.subi v0 c16_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x2x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== EvenOutReferenceIdeal.lean ====
abbrev S16384x1024 : Shape := ⟨2, ![16384, 1024]⟩
abbrev S8192x1024 : Shape := ⟨2, ![8192, 1024]⟩
abbrev S2x2048x2048 : Shape := ⟨3, ![2, 2048, 2048]⟩
abbrev S32x256x2048 : Shape := ⟨3, ![32, 256, 2048]⟩
abbrev S4x2048x2048 : Shape := ⟨3, ![4, 2048, 2048]⟩
abbrev S8x6x2048 : Shape := ⟨3, ![8, 6, 2048]⟩
abbrev S4x2048 : Shape := ⟨2, ![4, 2048]⟩
abbrev S16384x2048 : Shape := ⟨2, ![16384, 2048]⟩
abbrev S1x2048x2048 : Shape := ⟨3, ![1, 2048, 2048]⟩
abbrev S2048x2048 : Shape := ⟨2, ![2048, 2048]⟩
abbrev S1x6x2048 : Shape := ⟨3, ![1, 6, 2048]⟩
abbrev S8192x6x2048 : Shape := ⟨3, ![8192, 6, 2048]⟩
abbrev S4x6x2048 : Shape := ⟨3, ![4, 6, 2048]⟩
abbrev S4x1x6x2048 : Shape := ⟨4, ![4, 1, 6, 2048]⟩
abbrev S4x2048x6x2048 : Shape := ⟨4, ![4, 2048, 6, 2048]⟩
abbrev S16384x6x2048 : Shape := ⟨3, ![16384, 6, 2048]⟩
abbrev S8192x2048 : Shape := ⟨2, ![8192, 2048]⟩
abbrev S16384x1x2048 : Shape := ⟨3, ![16384, 1, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S8192x1024, .bf16⟩
  | .hbm, ⟨2, _⟩ => ⟨S8192x1024, .bf16⟩
  | .hbm, ⟨3, _⟩ => ⟨S2x2048x2048, .f32⟩
  | .hbm, ⟨4, _⟩ => ⟨S32x256x2048, .f32⟩
  | .hbm, ⟨5, _⟩ => ⟨S4x2048x2048, .f32⟩
  | .hbm, ⟨6, _⟩ => ⟨S8x6x2048, .f32⟩
  | .hbm, ⟨7, _⟩ => ⟨S4x2048, .f32⟩
  | .hbm, ⟨8, _⟩ => ⟨S16384x1024, .bf16⟩
  | .hbm, ⟨9, _⟩ => ⟨S16384x2048, .bf16⟩
  | .hbm, ⟨10, _⟩ => ⟨S16384x2048, .f32⟩
  | .hbm, ⟨11, _⟩ => ⟨S1x2048x2048, .f32⟩
  | .hbm, ⟨12, _⟩ => ⟨S2048x2048, .f32⟩
  | .hbm, ⟨13, _⟩ => ⟨S16384x2048, .f32⟩
  | .hbm, ⟨14, _⟩ => ⟨S1x6x2048, .f32⟩
  | .hbm, ⟨15, _⟩ => ⟨S8192x6x2048, .f32⟩
  | .hbm, ⟨16, _⟩ => ⟨S4x6x2048, .f32⟩
  | .hbm, ⟨17, _⟩ => ⟨S4x1x6x2048, .f32⟩
  | .hbm, ⟨18, _⟩ => ⟨S4x2048x6x2048, .f32⟩
  | .hbm, ⟨19, _⟩ => ⟨S8192x6x2048, .f32⟩
  | .hbm, ⟨20, _⟩ => ⟨S16384x6x2048, .f32⟩
  | .hbm, ⟨21, _⟩ => ⟨S8192x2048, .f32⟩
  | .hbm, ⟨22, _⟩ => ⟨S8192x2048, .f32⟩
  | .hbm, ⟨23, _⟩ => ⟨S16384x2048, .f32⟩
  | .hbm, ⟨24, _⟩ => ⟨S16384x1x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S2048, .f32⟩
  | .hbm, ⟨30, _⟩ => ⟨S16384x1x2048, .f32⟩
  | .hbm, ⟨31, _⟩ => ⟨S16384x2048, .f32⟩
  | .hbm, ⟨32, _⟩ => ⟨S16384x1x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x2048, .f32⟩
  | .hbm, ⟨46, _⟩ => ⟨S16384x2048, .f32⟩
  | .hbm, ⟨47, _⟩ => ⟨S1x2048, .f32⟩
  | .hbm, ⟨48, _⟩ => ⟨S16384x2048, .f32⟩
  | .hbm, ⟨49, _⟩ => ⟨S16384x2048, .f32⟩
  | .hbm, ⟨50, _⟩ => ⟨S_, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== OddOut.lean ====
abbrev S8192x2048 : Shape := ⟨2, ![8192, 2048]⟩
abbrev S2x2048x2048 : Shape := ⟨3, ![2, 2048, 2048]⟩
abbrev S16384x2048 : Shape := ⟨2, ![16384, 2048]⟩
abbrev S8x6x2048 : Shape := ⟨3, ![8, 6, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S8x2x2048 : Shape := ⟨3, ![8, 2, 2048]⟩
abbrev S512x2048 : Shape := ⟨2, ![512, 2048]⟩
abbrev S1x6x2048 : Shape := ⟨3, ![1, 6, 2048]⟩
abbrev S1x2x2048 : Shape := ⟨3, ![1, 2, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x2048x2048, .f32⟩
  | .hbm, ⟨3, _⟩ => ⟨S16384x2048, .f32⟩
  | .hbm, ⟨4, _⟩ => ⟨S8x6x2048, .f32⟩
  | .hbm, ⟨5, _⟩ => ⟨S4x2048, .f32⟩
  | .hbm, ⟨6, _⟩ => ⟨S1x2048x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S2048, .f32⟩
  | .hbm, ⟨11, _⟩ => ⟨S8x2x2048, .f32⟩
  | .hbm, ⟨12, _⟩ => ⟨S1x2048, .f32⟩
  | .hbm, ⟨13, _⟩ => ⟨S16384x2048, .f32⟩
  | .hbm, ⟨14, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x6x2048, .f32⟩
  | .local _ .vmem, ⟨8, _⟩ => ⟨S1x6x2048, .f32⟩
  | .local _ .vmem, ⟨9, _⟩ => ⟨S1x2048, .f32⟩
  | .local _ .vmem, ⟨10, _⟩ => ⟨S1x2x2048, .f32⟩
  | .local _ .vmem, ⟨11, _⟩ => ⟨S1x2x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c16_i32_0 : BitVec 32 := 16#32
  let v2 : BitVec 32 := Scalar.subi v0 c16_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c16_i32_0 : BitVec 32 := 16#32
  let v2 : BitVec 32 := Scalar.subi v0 c16_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OddOutReferenceIdeal.lean ====
abbrev S8192x2048 : Shape := ⟨2, ![8192, 2048]⟩
abbrev S2x2048x2048 : Shape := ⟨3, ![2, 2048, 2048]⟩
abbrev S16384x2048 : Shape := ⟨2, ![16384, 2048]⟩
abbrev S8x6x2048 : Shape := ⟨3, ![8, 6, 2048]⟩
abbrev S4x2048 : Shape := ⟨2, ![4, 2048]⟩
abbrev S1x6x2048 : Shape := ⟨3, ![1, 6, 2048]⟩
abbrev S8192x6x2048 : Shape := ⟨3, ![8192, 6, 2048]⟩
abbrev S4x6x2048 : Shape := ⟨3, ![4, 6, 2048]⟩
abbrev S4x1x6x2048 : Shape := ⟨4, ![4, 1, 6, 2048]⟩
abbrev S4x2048x6x2048 : Shape := ⟨4, ![4, 2048, 6, 2048]⟩
abbrev S16384x6x2048 : Shape := ⟨3, ![16384, 6, 2048]⟩
abbrev S16384x1x2048 : Shape := ⟨3, ![16384, 1, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x2048x2048, .f32⟩
  | .hbm, ⟨3, _⟩ => ⟨S16384x2048, .f32⟩
  | .hbm, ⟨4, _⟩ => ⟨S8x6x2048, .f32⟩
  | .hbm, ⟨5, _⟩ => ⟨S4x2048, .f32⟩
  | .hbm, ⟨6, _⟩ => ⟨S16384x2048, .bf16⟩
  | .hbm, ⟨7, _⟩ => ⟨S16384x2048, .f32⟩
  | .hbm, ⟨8, _⟩ => ⟨S1x6x2048, .f32⟩
  | .hbm, ⟨9, _⟩ => ⟨S8192x6x2048, .f32⟩
  | .hbm, ⟨10, _⟩ => ⟨S4x6x2048, .f32⟩
  | .hbm, ⟨11, _⟩ => ⟨S4x1x6x2048, .f32⟩
  | .hbm, ⟨12, _⟩ => ⟨S4x2048x6x2048, .f32⟩
  | .hbm, ⟨13, _⟩ => ⟨S8192x6x2048, .f32⟩
  | .hbm, ⟨14, _⟩ => ⟨S16384x6x2048, .f32⟩
  | .hbm, ⟨15, _⟩ => ⟨S16384x1x2048, .f32⟩
  | .hbm, ⟨16, _⟩ => ⟨S16384x2048, .f32⟩
  | .hbm, ⟨17, _⟩ => ⟨S1x2048x2048, .f32⟩
  | .hbm, ⟨18, _⟩ => ⟨S2048x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S2048, .f32⟩
  | .hbm, ⟨24, _⟩ => ⟨S16384x1x2048, .f32⟩
  | .hbm, ⟨25, _⟩ => ⟨S16384x2048, .f32⟩
  | .hbm, ⟨26, _⟩ => ⟨S16384x1x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Attn.lean ====
abbrev S16384x3584 : Shape := ⟨2, ![16384, 3584]⟩
abbrev S2x128 : Shape := ⟨2, ![2, 128]⟩
abbrev S1x128 : Shape := ⟨2, ![1, 128]⟩
abbrev S128 : Shape := ⟨1, ![128]⟩
abbrev S8192x1024 : Shape := ⟨2, ![8192, 1024]⟩
abbrev S8192x256 : Shape := ⟨2, ![8192, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 12
  | .vmem => 14
  | .smem => 0
  | _ => 0

abbrev bufTy : (tb : Table) → Fin (tcTables nBuf tb) → BufTy
  | .hbm, ⟨0, _⟩ => ⟨S16384x3584, .f32⟩
  | .hbm, ⟨1, _⟩ => ⟨S2x128, .f32⟩
  | .hbm, ⟨2, _⟩ => ⟨S2x128, .f32⟩
  | .hbm, ⟨3, _⟩ => ⟨S1x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S8192x1024, .bf16⟩
  | .hbm, ⟨10, _⟩ => ⟨S8192x256, .f32⟩
  | .hbm, ⟨11, _⟩ => ⟨S8192x256, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S16384x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnReferenceIdeal.lean ====
abbrev S16384x3584 : Shape := ⟨2, ![16384, 3584]⟩
abbrev S2x128 : Shape := ⟨2, ![2, 128]⟩
abbrev S8192x3584 : Shape := ⟨2, ![8192, 3584]⟩
abbrev S32x256x3584 : Shape := ⟨3, ![32, 256, 3584]⟩
abbrev S32x256x1024 : Shape := ⟨3, ![32, 256, 1024]⟩
abbrev S32x256x8x128 : Shape := ⟨4, ![32, 256, 8, 128]⟩
abbrev S1x128 : Shape := ⟨2, ![1, 128]⟩
abbrev S128 : Shape := ⟨1, ![128]⟩
abbrev S_ : Shape := ⟨0, ![]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S32x256x256 : Shape := ⟨3, ![32, 256, 256]⟩
abbrev S32x256x2x128 : Shape := ⟨4, ![32, 256, 2, 128]⟩
abbrev S32x256x2 : Shape := ⟨3, ![32, 256, 2]⟩
abbrev S32x256x2x1 : Shape := ⟨4, ![32, 256, 2, 1]⟩
abbrev S32x256x2x4x128 : Shape := ⟨5, ![32, 256, 2, 4, 128]⟩
abbrev S32x2x256x256x4 : Shape := ⟨5, ![32, 2, 256, 256, 4]⟩
abbrev S32x2x4x256x256 : Shape := ⟨5, ![32, 2, 4, 256, 256]⟩
abbrev S32x2x4x256 : Shape := ⟨4, ![32, 2, 4, 256]⟩
abbrev S32x2x4x256x1 : Shape := ⟨5, ![32, 2, 4, 256, 1]⟩
abbrev S32x2x128x4x256 : Shape := ⟨5, ![32, 2, 128, 4, 256]⟩
abbrev S8192x1024 : Shape := ⟨2, ![8192, 1024]⟩
abbrev S8192x256 : Shape := ⟨2, ![8192, 256]⟩

abbrev nBuf : Space → Nat
  | .hbm => 73
  | .vmem => 0
  | .smem => 0
  | _ => 0

abbrev bufTy : (tb : Table) → Fin (tcTables nBuf tb) → BufTy
  | .hbm, ⟨0, _⟩ => ⟨S16384x3584, .f32⟩
  | .hbm, ⟨1, _⟩ => ⟨S2x128, .f32⟩
  | .hbm, ⟨2, _⟩ => ⟨S2x128, .f32⟩
  | .hbm, ⟨3, _⟩ => ⟨S8192x3584, .f32⟩
  | .hbm, ⟨4, _⟩ => ⟨S32x256x3584, .f32⟩
  | .hbm, ⟨5, _⟩ => ⟨S32x256x1024, .f32⟩
  | .hbm, ⟨6, _⟩ => ⟨S32x256x8x128, .f32⟩
  | .hbm, ⟨7, _⟩ => ⟨S1x128, .f32⟩
  | .hbm, ⟨8, _⟩ => ⟨S128, .f32⟩
  | .hbm, ⟨9, _⟩ => ⟨S32x256x8x128, .f32⟩
  | .hbm, ⟨10, _⟩ => ⟨S_, .f32⟩
  | .hbm, ⟨11, _⟩ => ⟨S32x256x8, .f32⟩
  | .hbm, ⟨12, _⟩ => ⟨S32x256x8x1, .f32⟩
  | .hbm, ⟨13, _⟩ => ⟨S_, .f32⟩
  | .hbm, ⟨14, _⟩ => ⟨S32x256x8x1, .f32⟩
  | .hbm, ⟨15, _⟩ => ⟨S32x256x8x1, .f32⟩
  | .hbm, ⟨16, _⟩ => ⟨S_, .f32⟩
  | .hbm, ⟨17, _⟩ => ⟨S32x256x8x1, .f32⟩
  | .hbm, ⟨18, _⟩ => ⟨S32x256x8x1, .f32⟩
  | .hbm, ⟨19, _⟩ => ⟨S32x256x8x1, .f32⟩
  | .hbm, ⟨20, _⟩ => ⟨S32x256x8x128, .f32⟩
  | .hbm, ⟨21, _⟩ => ⟨S32x256x8x128, .f32⟩
  | .hbm, ⟨22, _⟩ => ⟨S1x1x1x128, .f32⟩
  | .hbm, ⟨23, _⟩ => ⟨S32x256x8x128, .f32⟩
  | .hbm, ⟨24, _⟩ => ⟨S32x256x8x128, .f32⟩
  | .hbm, ⟨25, _⟩ => ⟨S32x256x256, .f32⟩
  | .hbm, ⟨26, _⟩ => ⟨S32x256x2x128, .f32⟩
  | .hbm, ⟨27, _⟩ => ⟨S1x128, .f32⟩
  | .hbm, ⟨28, _⟩ => ⟨S128, .f32⟩
  | .hbm, ⟨29, _⟩ => ⟨S32x256x2x128, .f32⟩
  | .hbm, ⟨30, _⟩ => ⟨S_, .f32⟩
  | .hbm, ⟨31, _⟩ => ⟨S32x256x2, .f32⟩
  | .hbm, ⟨32, _⟩ => ⟨S32x256x2x1, .f32⟩
  | .hbm, ⟨33, _⟩ => ⟨S_, .f32⟩
  | .hbm, ⟨34, _⟩ => ⟨S32x256x2x1, .f32⟩
  | .hbm, ⟨35, _⟩ => ⟨S32x256x2x1, .f32⟩
  | .hbm, ⟨36, _⟩ => ⟨S_, .f32⟩
  | .hbm, ⟨37, _⟩ => ⟨S32x256x2x1, .f32⟩
  | .hbm, ⟨38, _⟩ => ⟨S32x256x2x1, .f32⟩
  | .hbm, ⟨39, _⟩ => ⟨S32x256x2x1, .f32⟩
  | .hbm, ⟨40, _⟩ => ⟨S32x256x2x128, .f32⟩
  | .hbm, ⟨41, _⟩ => ⟨S32x256x2x128, .f32⟩
  | .hbm, ⟨42, _⟩ => ⟨S1x1x1x128, .f32⟩
  | .hbm, ⟨43, _⟩ => ⟨S32x256x2x128, .f32⟩
  | .hbm, ⟨44, _⟩ => ⟨S32x256x2x128, .f32⟩
  | .hbm, ⟨45, _⟩ => ⟨S32x256x256, .f32⟩
  | .hbm, ⟨46, _⟩ => ⟨S32x256x2x128, .f32⟩
  | .hbm, ⟨47, _⟩ => ⟨S32x256x2x4x128, .f32⟩
  | .hbm, ⟨48, _⟩ => ⟨S32x2x256x256x4, .f32⟩
  | .hbm, ⟨49, _⟩ => ⟨S32x2x4x256x256, .f32⟩
  | .hbm, ⟨50, _⟩ => ⟨S_, .f32⟩
  | .hbm, ⟨51, _⟩ => ⟨S32x2x4x256x256, .f32⟩
  | .hbm, ⟨52, _⟩ => ⟨S32x2x4x256x256, .f32⟩
  | .hbm, ⟨53, _⟩ => ⟨S_, .f32⟩
  | .hbm, ⟨54, _⟩ => ⟨S32x2x4x256, .f32⟩
  | .hbm, ⟨55, _⟩ => ⟨S_, .f32⟩
  | .hbm, ⟨56, _⟩ => ⟨S32x2x4x256, .f32⟩
  | .hbm, ⟨57, _⟩ => ⟨S32x2x4x256, .f32⟩
  | .hbm, ⟨58, _⟩ => ⟨S32x2x4x256x1, .f32⟩
  | .hbm, ⟨59, _⟩ => ⟨S32x2x4x256x256, .f32⟩
  | .hbm, ⟨60, _⟩ => ⟨S32x2x4x256x256, .f32⟩
  | .hbm, ⟨61, _⟩ => ⟨S32x2x4x256x256, .f32⟩
  | .hbm, ⟨62, _⟩ => ⟨S_, .f32⟩
  | .hbm, ⟨63, _⟩ => ⟨S32x2x4x256, .f32⟩
  | .hbm, ⟨64, _⟩ => ⟨S32x2x4x256x1, .f32⟩
  | .hbm, ⟨65, _⟩ => ⟨S32x2x4x256x256, .f32⟩
  | .hbm, ⟨66, _⟩ => ⟨S32x2x4x256x256, .f32⟩
  | .hbm, ⟨67, _⟩ => ⟨S32x2x128x4x256, .f32⟩
  | .hbm, ⟨68, _⟩ => ⟨S32x256x2x4x128, .f32⟩
  | .hbm, ⟨69, _⟩ => ⟨S8192x1024, .f32⟩
  | .hbm, ⟨70, _⟩ => ⟨S8192x1024, .bf16⟩
  | .hbm, ⟨71, _⟩ => ⟨S8192x256, .f32⟩
  | .hbm, ⟨72, _⟩ => ⟨S8192x256, .f32⟩
  | _, _ => ⟨S16384x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Lat.lean ====
abbrev S16384x3584 : Shape := ⟨2, ![16384, 3584]⟩
abbrev S4x2x512x2x128 : Shape := ⟨5, ![4, 2, 512, 2, 128]⟩
abbrev S2x128 : Shape := ⟨2, ![2, 128]⟩
abbrev S2 : Shape := ⟨1, ![2]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x64x2 : Shape := ⟨3, ![2048, 64, 2]⟩
abbrev S2048x128 : Shape := ⟨2, ![2048, 128]⟩
abbrev S1x2 : Shape := ⟨2, ![1, 2]⟩
abbrev S64x2 : Shape := ⟨2, ![64, 2]⟩
abbrev S128 : Shape := ⟨1, ![128]⟩
abbrev S1x128 : Shape := ⟨2, ![1, 128]⟩
abbrev S4x1x512x2x128 : Shape := ⟨5, ![4, 1, 512, 2, 128]⟩
abbrev S4x512x2x128 : Shape := ⟨4, ![4, 512, 2, 128]⟩
abbrev S4x512x256 : Shape := ⟨3, ![4, 512, 256]⟩
abbrev S8192x1024 : Shape := ⟨2, ![8192, 1024]⟩
abbrev S256x512 : Shape := ⟨2, ![256, 512]⟩
abbrev S1x512x128 : Shape := ⟨3, ![1, 512, 128]⟩
abbrev S256x128 : Shape := ⟨2, ![256, 128]⟩
abbrev S2560x128 : Shape := ⟨2, ![2560, 128]⟩
abbrev S256 : Shape := ⟨1, ![256]⟩
abbrev S256x1 : Shape := ⟨2, ![256, 1]⟩
abbrev S512x128 : Shape := ⟨2, ![512, 128]⟩
abbrev S256x2560 : Shape := ⟨2, ![256, 2560]⟩

abbrev nBuf : Space → Nat
  | .hbm => 59
  | .vmem => 22
  | .smem => 0
  | _ => 0

abbrev bufTy : (tb : Table) → Fin (tcTables nBuf tb) → BufTy
  | .hbm, ⟨0, _⟩ => ⟨S16384x3584, .f32⟩
  | .hbm, ⟨1, _⟩ => ⟨S4x2x512x2x128, .f32⟩
  | .hbm, ⟨2, _⟩ => ⟨S4x2x512x2x128, .f32⟩
  | .hbm, ⟨3, _⟩ => ⟨S2x128, .f32⟩
  | .hbm, ⟨4, _⟩ => ⟨S2x128, .f32⟩
  | .hbm, ⟨5, _⟩ => ⟨S2, .f32⟩
  | .hbm, ⟨6, _⟩ => ⟨S32, .i32⟩
  | .hbm, ⟨7, _⟩ => ⟨S32x64, .i32⟩
  | .hbm, ⟨8, _⟩ => ⟨S2048, .i32⟩
  | .hbm, ⟨9, _⟩ => ⟨S2048, .f32⟩
  | .hbm, ⟨10, _⟩ => ⟨S64, .i32⟩
  | .hbm, ⟨11, _⟩ => ⟨S1x64, .i32⟩
  | .hbm, ⟨12, _⟩ => ⟨S32x64, .i32⟩
  | .hbm, ⟨13, _⟩ => ⟨S2048, .i32⟩
  | .hbm, ⟨14, _⟩ => ⟨S2048, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x1, .f32⟩
  | .hbm, ⟨29, _⟩ => ⟨S1x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x64, .f32⟩
  | .hbm, ⟨34, _⟩ => ⟨S2048x64, .f32⟩
  | .hbm, ⟨35, _⟩ => ⟨S2048x64x2, .f32⟩
  | .hbm, ⟨36, _⟩ => ⟨S2048x128, .f32⟩
  | .hbm, ⟨37, _⟩ => ⟨S2048x64, .f32⟩
  | .hbm, ⟨38, _⟩ => ⟨S2048x64x2, .f32⟩
  | .hbm, ⟨39, _⟩ => ⟨S2048x128, .f32⟩
  | .hbm, ⟨40, _⟩ => ⟨S1x2, .f32⟩
  | .hbm, ⟨41, _⟩ => ⟨S64x2, .f32⟩
  | .hbm, ⟨42, _⟩ => ⟨S128, .f32⟩
  | .hbm, ⟨43, _⟩ => ⟨S1x128, .f32⟩
  | .hbm, ⟨44, _⟩ => ⟨S2048x128, .f32⟩
  | .hbm, ⟨45, _⟩ => ⟨S2048x128, .f32⟩
  | .hbm, ⟨46, _⟩ => ⟨S4x1x512x2x128, .f32⟩
  | .hbm, ⟨47, _⟩ => ⟨S4x512x2x128, .f32⟩
  | .hbm, ⟨48, _⟩ => ⟨S4x512x256, .f32⟩
  | .hbm, ⟨49, _⟩ => ⟨S4x1x512x2x128, .f32⟩
  | .hbm, ⟨50, _⟩ => ⟨S4x512x2x128, .f32⟩
  | .hbm, ⟨51, _⟩ => ⟨S4x512x256, .f32⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S1x128, .f32⟩
  | .hbm, ⟨58, _⟩ => ⟨S8192x1024, .bf16⟩
  | .local _ .vmem, ⟨0, _⟩ => ⟨S256x512, .f32⟩
  | .local _ .vmem, ⟨1, _⟩ => ⟨S256x512, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S2048x128, .f32⟩
  | .local _ .vmem, ⟨15, _⟩ => ⟨S2048x128, .f32⟩
  | .local _ .vmem, ⟨16, _⟩ => ⟨S1x128, .f32⟩
  | .local _ .vmem, ⟨17, _⟩ => ⟨S1x128, .f32⟩
  | .local _ .vmem, ⟨18, _⟩ => ⟨S256x512, .bf16⟩
  | .local _ .vmem, ⟨19, _⟩ => ⟨S256x512, .bf16⟩
  | .local _ .vmem, ⟨20, _⟩ => ⟨S2560x128, .bf16⟩
  | .local _ .vmem, ⟨21, _⟩ => ⟨S2560x128, .bf16⟩
  | _, _ => ⟨S16384x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c32_i32 : BitVec 32 := 32#32
  let v1 : BitVec 32 := Scalar.addi c32_i32 v0
  let v2 : BitVec 32 := Scalar.addi v1 arg2
  let c4_i32 : BitVec 32 := 4#32
  let v3 : BitVec 32 := Scalar.addi c4_i32 arg1
  let c0_i32 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c24_i32 : BitVec 32 := 24#32
  let v1 : BitVec 32 := Scalar.addi c24_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c26_i32 : BitVec 32 := 26#32
  let v1 : BitVec 32 := Scalar.addi c26_i32 arg1
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== LatReferenceIdeal.lean ====
abbrev S16384x3584 : Shape := ⟨2, ![16384, 3584]⟩
abbrev S4x2x512x2x128 : Shape := ⟨5, ![4, 2, 512, 2, 128]⟩
abbrev S2x128 : Shape := ⟨2, ![2, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S8192x3584 : Shape := ⟨2, ![8192, 3584]⟩
abbrev S4x2048x3584 : Shape := ⟨3, ![4, 2048, 3584]⟩
abbrev S4x2048x1024 : Shape := ⟨3, ![4, 2048, 1024]⟩
abbrev S4x2048x8x128 : Shape := ⟨4, ![4, 2048, 8, 128]⟩
abbrev S1x128 : Shape := ⟨2, ![1, 128]⟩
abbrev S128 : Shape := ⟨1, ![128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S4x2048x256 : Shape := ⟨3, ![4, 2048, 256]⟩
abbrev S4x2048x2x128 : Shape := ⟨4, ![4, 2048, 2, 128]⟩
abbrev S4x2048x2 : Shape := ⟨3, ![4, 2048, 2]⟩
abbrev S4x2048x2x1 : Shape := ⟨4, ![4, 2048, 2, 1]⟩
abbrev S4x2048x8x64x2 : Shape := ⟨5, ![4, 2048, 8, 64, 2]⟩
abbrev S4x2048x8x64x1 : Shape := ⟨5, ![4, 2048, 8, 64, 1]⟩
abbrev S4x2048x8x64 : Shape := ⟨4, ![4, 2048, 8, 64]⟩
abbrev S1x2048x1x64 : Shape := ⟨4, ![1, 2048, 1, 64]⟩
abbrev S4x2048x2x4x128 : Shape := ⟨5, ![4, 2048, 2, 4, 128]⟩
abbrev S4x2048x2x64x2 : Shape := ⟨5, ![4, 2048, 2, 64, 2]⟩
abbrev S4x2048x2x64x1 : Shape := ⟨5, ![4, 2048, 2, 64, 1]⟩
abbrev S4x2048x2x64 : Shape := ⟨4, ![4, 2048, 2, 64]⟩
abbrev S4x1x512x2x128 : Shape := ⟨5, ![4, 1, 512, 2, 128]⟩
abbrev S4x512x2x128 : Shape := ⟨4, ![4, 512, 2, 128]⟩
abbrev S4x2560x2x128 : Shape := ⟨4, ![4, 2560, 2, 128]⟩
abbrev S4x2x2560x2048x4 : Shape := ⟨5, ![4, 2, 2560, 2048, 4]⟩
abbrev S4x2x4x2048x2560 : Shape := ⟨5, ![4, 2, 4, 2048, 2560]⟩
abbrev S4x2x4x2048 : Shape := ⟨4, ![4, 2, 4, 2048]⟩
abbrev S4x2x4x2048x1 : Shape := ⟨5, ![4, 2, 4, 2048, 1]⟩
abbrev S4x2x128x4x2048 : Shape := ⟨5, ![4, 2, 128, 4, 2048]⟩
abbrev S8192x1024 : Shape := ⟨2, ![8192, 1024]⟩

abbrev nBuf : Space → Nat
  | .hbm => 151
  | .vmem => 0
  | .smem => 0
  | _ => 0

abbrev hbmTy0_0 (i : Nat) : BufTy := match i % 128 with
  | 0 => ⟨S16384x3584, .f32⟩
  | 1 => ⟨S4x2x512x2x128, .f32⟩
  | 2 => ⟨S4x2x512x2x128, .f32⟩
  | 3 => ⟨S2x128, .f32⟩
  | 4 => ⟨S2x128, .f32⟩
  | 5 => ⟨S32, .i32⟩
  | 6 => ⟨S32x64, .i32⟩
  | 7 => ⟨S2048, .i32⟩
  | 8 => ⟨S2048, .f32⟩
  | 9 => ⟨S64, .i32⟩
  | 10 => ⟨S1x64, .i32⟩
  | 11 => ⟨S32x64, .i32⟩
  | 12 => ⟨S2048, .i32⟩
  | 13 => ⟨S2048, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048x1, .f32⟩
  | 23 => ⟨S1x32, .f32⟩
  | 24 => ⟨S2048x32, .f32⟩
  | 25 => ⟨S2048x32, .f32⟩
  | 26 => ⟨S2048x32, .f32⟩
  | 27 => ⟨S2048x1, .f32⟩
  | 28 => ⟨S1x32, .f32⟩
  | 29 => ⟨S2048x32, .f32⟩
  | 30 => ⟨S2048x32, .f32⟩
  | 31 => ⟨S2048x32, .f32⟩
  | 32 => ⟨S2048x64, .f32⟩
  | 33 => ⟨S2048x64, .f32⟩
  | 34 => ⟨S2048x64, .f32⟩
  | 35 => ⟨S8192x3584, .f32⟩
  | 36 => ⟨S4x2048x3584, .f32⟩
  | 37 => ⟨S4x2048x1024, .f32⟩
  | 38 => ⟨S4x2048x8x128, .f32⟩
  | 39 => ⟨S1x128, .f32⟩
  | 40 => ⟨S128, .f32⟩
  | 41 => ⟨S4x2048x8x128, .f32⟩
  | 42 => ⟨S_, .f32⟩
  | 43 => ⟨S4x2048x8, .f32⟩
  | 44 => ⟨S4x2048x8x1, .f32⟩
  | 45 => ⟨S_, .f32⟩
  | 46 => ⟨S4x2048x8x1, .f32⟩
  | 47 => ⟨S4x2048x8x1, .f32⟩
  | 48 => ⟨S_, .f32⟩
  | 49 => ⟨S4x2048x8x1, .f32⟩
  | 50 => ⟨S4x2048x8x1, .f32⟩
  | 51 => ⟨S4x2048x8x1, .f32⟩
  | 52 => ⟨S4x2048x8x128, .f32⟩
  | 53 => ⟨S4x2048x8x128, .f32⟩
  | 54 => ⟨S1x1x1x128, .f32⟩
  | 55 => ⟨S4x2048x8x128, .f32⟩
  | 56 => ⟨S4x2048x8x128, .f32⟩
  | 57 => ⟨S4x2048x256, .f32⟩
  | 58 => ⟨S4x2048x2x128, .f32⟩
  | 59 => ⟨S1x128, .f32⟩
  | 60 => ⟨S128, .f32⟩
  | 61 => ⟨S4x2048x2x128, .f32⟩
  | 62 => ⟨S_, .f32⟩
  | 63 => ⟨S4x2048x2, .f32⟩
  | 64 => ⟨S4x2048x2x1, .f32⟩
  | 65 => ⟨S_, .f32⟩
  | 66 => ⟨S4x2048x2x1, .f32⟩
  | 67 => ⟨S4x2048x2x1, .f32⟩
  | 68 => ⟨S_, .f32⟩
  | 69 => ⟨S4x2048x2x1, .f32⟩
  | 70 => ⟨S4x2048x2x1, .f32⟩
  | 71 => ⟨S4x2048x2x1, .f32⟩
  | 72 => ⟨S4x2048x2x128, .f32⟩
  | 73 => ⟨S4x2048x2x128, .f32⟩
  | 74 => ⟨S1x1x1x128, .f32⟩
  | 75 => ⟨S4x2048x2x128, .f32⟩
  | 76 => ⟨S4x2048x2x128, .f32⟩
  | 77 => ⟨S4x2048x256, .f32⟩
  | 78 => ⟨S4x2048x2x128, .f32⟩
  | 79 => ⟨S4x2048x8x64x2, .f32⟩
  | 80 => ⟨S4x2048x8x64x1, .f32⟩
  | 81 => ⟨S4x2048x8x64, .f32⟩
  | 82 => ⟨S4x2048x8x64x1, .f32⟩
  | 83 => ⟨S4x2048x8x64, .f32⟩
  | 84 => ⟨S1x2048x1x64, .f32⟩
  | 85 => ⟨S1x2048x1x64, .f32⟩
  | 86 => ⟨S4x2048x8x64, .f32⟩
  | 87 => ⟨S4x2048x8x64, .f32⟩
  | 88 => ⟨S4x2048x8x64, .f32⟩
  | 89 => ⟨S4x2048x8x64, .f32⟩
  | 90 => ⟨S4x2048x8x64, .f32⟩
  | 91 => ⟨S4x2048x8x64, .f32⟩
  | 92 => ⟨S4x2048x8x64, .f32⟩
  | 93 => ⟨S4x2048x8x64, .f32⟩
  | 94 => ⟨S4x2048x8x64, .f32⟩
  | 95 => ⟨S4x2048x8x64, .f32⟩
  | 96 => ⟨S4x2048x8x64x1, .f32⟩
  | 97 => ⟨S4x2048x8x64x1, .f32⟩
  | 98 => ⟨S4x2048x8x64x2, .f32⟩
  | 99 => ⟨S4x2048x8x128, .f32⟩
  | 100 => ⟨S4x2048x2x4x128, .f32⟩
  | 101 => ⟨S4x2048x2x64x2, .f32⟩
  | 102 => ⟨S4x2048x2x64x1, .f32⟩
  | 103 => ⟨S4x2048x2x64, .f32⟩
  | 104 => ⟨S4x2048x2x64x1, .f32⟩
  | 105 => ⟨S4x2048x2x64, .f32⟩
  | 106 => ⟨S1x2048x1x64, .f32⟩
  | 107 => ⟨S1x2048x1x64, .f32⟩
  | 108 => ⟨S4x2048x2x64, .f32⟩
  | 109 => ⟨S4x2048x2x64, .f32⟩
  | 110 => ⟨S4x2048x2x64, .f32⟩
  | 111 => ⟨S4x2048x2x64, .f32⟩
  | 112 => ⟨S4x2048x2x64, .f32⟩
  | 113 => ⟨S4x2048x2x64, .f32⟩
  | 114 => ⟨S4x2048x2x64, .f32⟩
  | 115 => ⟨S4x2048x2x64, .f32⟩
  | 116 => ⟨S4x2048x2x64, .f32⟩
  | 117 => ⟨S4x2048x2x64, .f32⟩
  | 118 => ⟨S4x2048x2x64x1, .f32⟩
  | 119 => ⟨S4x2048x2x64x1, .f32⟩
  | 120 => ⟨S4x2048x2x64x2, .f32⟩
  | 121 => ⟨S4x2048x2x128, .f32⟩
  | 122 => ⟨S4x1x512x2x128, .f32⟩
  | 123 => ⟨S4x512x2x128, .f32⟩
  | 124 => ⟨S4x2560x2x128, .f32⟩
  | 125 => ⟨S4x1x512x2x128, .f32⟩
  | 126 => ⟨S4x512x2x128, .f32⟩
  | 127 => ⟨S4x2560x2x128, .f32⟩
  | _ => ⟨S16384x3584, .f32⟩

abbrev hbmTy0_1 (i : Nat) : BufTy := match i % 128 with
  | 0 => ⟨S4x2x2560x2048x4, .f32⟩
  | 1 => ⟨S4x2x4x2048x2560, .f32⟩
  | 2 => ⟨S_, .f32⟩
  | 3 => ⟨S4x2x4x2048x2560, .f32⟩
  | 4 => ⟨S4x2x4x2048x2560, .f32⟩
  | 5 => ⟨S_, .f32⟩
  | 6 => ⟨S4x2x4x2048, .f32⟩
  | 7 => ⟨S_, .f32⟩
  | 8 => ⟨S4x2x4x2048, .f32⟩
  | 9 => ⟨S4x2x4x2048, .f32⟩
  | 10 => ⟨S4x2x4x2048x1, .f32⟩
  | 11 => ⟨S4x2x4x2048x2560, .f32⟩
  | 12 => ⟨S4x2x4x2048x2560, .f32⟩
  | 13 => ⟨S4x2x4x2048x2560, .f32⟩
  | 14 => ⟨S_, .f32⟩
  | 15 => ⟨S4x2x4x2048, .f32⟩
  | 16 => ⟨S4x2x4x2048x1, .f32⟩
  | 17 => ⟨S4x2x4x2048x2560, .f32⟩
  | 18 => ⟨S4x2x4x2048x2560, .f32⟩
  | 19 => ⟨S4x2x128x4x2048, .f32⟩
  | 20 => ⟨S4x2048x2x4x128, .f32⟩
  | 21 => ⟨S8192x1024, .f32⟩
  | 22 => ⟨S8192x1024, .bf16⟩
  | _ => ⟨S16384x3584, .f32⟩

abbrev hbmTy (i : Nat) : BufTy := match i / 128 with
  | 0 => hbmTy0_0 i
  | 1 => hbmTy0_1 i
  | _ => ⟨S16384x3584, .f32⟩

abbrev bufTy : (tb : Table) → Fin (tcTables nBuf tb) → BufTy
  | .hbm, ⟨i, _⟩ => hbmTy i
  | _, _ => ⟨S16384x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_cst_7 : Ref sig .tc := ⟨.hbm, 130, rfl⟩
abbrev main_v117 : Ref sig .tc := ⟨.hbm, 131, rfl⟩
abbrev main_v118 : Ref sig .tc := ⟨.hbm, 132, rfl⟩
abbrev main_cst_8 : Ref sig .tc := ⟨.hbm, 133, rfl⟩
abbrev main_v119 : Ref sig .tc := ⟨.hbm, 134, rfl⟩
abbrev main_cst_9 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_cst_10 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩

abbrev nD : Nat := 1
abbrev τ : Topo := Topo.v7x

variable {F : FTy → Type} [FloatOps F]
-- ==== Ada.lean ====
abbrev S2048 : Shape := ⟨1, ![2048]⟩
abbrev S4x2048 : Shape := ⟨2, ![4, 2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2048, .f32⟩
  | .hbm, ⟨1, _⟩ => ⟨S4x2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S4x1x12288, .f32⟩
  | .hbm, ⟨9, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S2048 : Shape := ⟨1, ![2048]⟩
abbrev S4x2048 : Shape := ⟨2, ![4, 2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S2048, .f32⟩
  | .hbm, ⟨1, _⟩ => ⟨S4x2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S4x12288x8, .f32⟩
  | .hbm, ⟨18, _⟩ => ⟨S4x8x12288, .f32⟩
  | .hbm, ⟨19, _⟩ => ⟨S4x1x12288, .f32⟩
  | .hbm, ⟨20, _⟩ => ⟨S4x8x12288, .f32⟩
  | .hbm, ⟨21, _⟩ => ⟨S4x8x12288, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== First.lean ====
abbrev S32x256x2048 : Shape := ⟨3, ![32, 256, 2048]⟩
abbrev S4x2048x2048 : Shape := ⟨3, ![4, 2048, 2048]⟩
abbrev S4x2048 : Shape := ⟨2, ![4, 2048]⟩
abbrev S8x6x2048 : Shape := ⟨3, ![8, 6, 2048]⟩
abbrev S8192x2048 : Shape := ⟨2, ![8192, 2048]⟩
abbrev S1x2048 : Shape := ⟨2, ![1, 2048]⟩
abbrev S2048 : Shape := ⟨1, ![2048]⟩
abbrev S16384x2048 : Shape := ⟨2, ![16384, 2048]⟩
abbrev S256x2048 : Shape := ⟨2, ![256, 2048]⟩
abbrev S1x6x2048 : Shape := ⟨3, ![1, 6, 2048]⟩
abbrev S256 : Shape := ⟨1, ![256]⟩
abbrev S256x1 : Shape := ⟨2, ![256, 1]⟩
abbrev S1x1x2048 : Shape := ⟨3, ![1, 1, 2048]⟩

abbrev nBuf : Space → Nat
  | .hbm => 10
  | .vmem => 9
  | .smem => 0
  | _ => 0

abbrev bufTy : (tb : Table) → Fin (tcTables nBuf tb) → BufTy
  | .hbm, ⟨0, _⟩ => ⟨S32x256x2048, .f32⟩
  | .hbm, ⟨1, _⟩ => ⟨S4x2048x2048, .f32⟩
  | .hbm, ⟨2, _⟩ => ⟨S4x2048, .f32⟩
  | .hbm, ⟨3, _⟩ => ⟨S8x6x2048, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x6x2048, .f32⟩
  | .local _ .vmem, ⟨6, _⟩ => ⟨S1x6x2048, .f32⟩
  | .local _ .vmem, ⟨7, _⟩ => ⟨S256x2048, .bf16⟩
  | .local _ .vmem, ⟨8, _⟩ => ⟨S256x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FirstReferenceIdeal.lean ====
abbrev S32x256x2048 : Shape := ⟨3, ![32, 256, 2048]⟩
abbrev S4x2048x2048 : Shape := ⟨3, ![4, 2048, 2048]⟩
abbrev S4x2048 : Shape := ⟨2, ![4, 2048]⟩
abbrev S8x6x2048 : Shape := ⟨3, ![8, 6, 2048]⟩
abbrev S1x6x2048 : Shape := ⟨3, ![1, 6, 2048]⟩
abbrev S8192x6x2048 : Shape := ⟨3, ![8192, 6, 2048]⟩
abbrev S4x6x2048 : Shape := ⟨3, ![4, 6, 2048]⟩
abbrev S4x1x6x2048 : Shape := ⟨4, ![4, 1, 6, 2048]⟩
abbrev S4x2048x6x2048 : Shape := ⟨4, ![4, 2048, 6, 2048]⟩
abbrev S16384x6x2048 : Shape := ⟨3, ![16384, 6, 2048]⟩
abbrev S8192x2048 : Shape := ⟨2, ![8192, 2048]⟩
abbrev S16384x2048 : Shape := ⟨2, ![16384, 2048]⟩
abbrev S1x2048 : Shape := ⟨2, ![1, 2048]⟩
abbrev S2048 : Shape := ⟨1, ![2048]⟩
abbrev S16384x1x2048 : Shape := ⟨3, ![16384, 1, 2048]⟩
abbrev S_ : Shape := ⟨0, ![]⟩
abbrev S16384 : Shape := ⟨1, ![16384]⟩
abbrev S16384x1 : Shape := ⟨2, ![16384, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S4x2048x2048, .f32⟩
  | .hbm, ⟨2, _⟩ => ⟨S4x2048, .f32⟩
  | .hbm, ⟨3, _⟩ => ⟨S8x6x2048, .f32⟩
  | .hbm, ⟨4, _⟩ => ⟨S1x6x2048, .f32⟩
  | .hbm, ⟨5, _⟩ => ⟨S8192x6x2048, .f32⟩
  | .hbm, ⟨6, _⟩ => ⟨S4x6x2048, .f32⟩
  | .hbm, ⟨7, _⟩ => ⟨S4x1x6x2048, .f32⟩
  | .hbm, ⟨8, _⟩ => ⟨S4x2048x6x2048, .f32⟩
  | .hbm, ⟨9, _⟩ => ⟨S8192x6x2048, .f32⟩
  | .hbm, ⟨10, _⟩ => ⟨S16384x6x2048, .f32⟩
  | .hbm, ⟨11, _⟩ => ⟨S8192x2048, .f32⟩
  | .hbm, ⟨12, _⟩ => ⟨S8192x2048, .f32⟩
  | .hbm, ⟨13, _⟩ => ⟨S16384x2048, .f32⟩
  | .hbm, ⟨14, _⟩ => ⟨S1x2048, .f32⟩
  | .hbm, ⟨15, _⟩ => ⟨S2048, .f32⟩
  | .hbm, ⟨16, _⟩ => ⟨S16384x1x2048, .f32⟩
  | .hbm, ⟨17, _⟩ => ⟨S16384x2048, .f32⟩
  | .hbm, ⟨18, _⟩ => ⟨S16384x1x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Low.lean ====
abbrev S16384x2048 : Shape := ⟨2, ![16384, 2048]⟩
abbrev S2x2048x6176 : Shape := ⟨3, ![2, 2048, 6176]⟩
abbrev S1x2048x6176 : Shape := ⟨3, ![1, 2048, 6176]⟩
abbrev S2048x6176 : Shape := ⟨2, ![2048, 6176]⟩
abbrev S2048x32 : Shape := ⟨2, ![2048, 32]⟩
abbrev S_ : Shape := ⟨0, ![]⟩
abbrev S2048x128 : Shape := ⟨2, ![2048, 128]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 10
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2x2048x6176, .f32⟩
  | .hbm, ⟨2, _⟩ => ⟨S1x2048x6176, .f32⟩
  | .hbm, ⟨3, _⟩ => ⟨S2048x6176, .f32⟩
  | .hbm, ⟨4, _⟩ => ⟨S2048x32, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x128, .bf16⟩
  | .hbm, ⟨9, _⟩ => ⟨S16384x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .bf16⟩
  | .local _ .vmem, ⟨4, _⟩ => ⟨S1024x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LowReferenceIdeal.lean ====
abbrev S16384x2048 : Shape := ⟨2, ![16384, 2048]⟩
abbrev S2x2048x6176 : Shape := ⟨3, ![2, 2048, 6176]⟩
abbrev S1x2048x6176 : Shape := ⟨3, ![1, 2048, 6176]⟩
abbrev S2048x6176 : Shape := ⟨2, ![2048, 6176]⟩
abbrev S16384x6176 : Shape := ⟨2, ![16384, 6176]⟩
abbrev S16384x32 : Shape := ⟨2, ![16384, 32]⟩
abbrev S_ : Shape := ⟨0, ![]⟩
abbrev S16384x128 : Shape := ⟨2, ![16384, 128]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x6176, .f32⟩
  | .hbm, ⟨2, _⟩ => ⟨S16384x2048, .f32⟩
  | .hbm, ⟨3, _⟩ => ⟨S1x2048x6176, .f32⟩
  | .hbm, ⟨4, _⟩ => ⟨S2048x6176, .f32⟩
  | .hbm, ⟨5, _⟩ => ⟨S16384x6176, .f32⟩
  | .hbm, ⟨6, _⟩ => ⟨S16384x32, .f32⟩
  | .hbm, ⟨7, _⟩ => ⟨S_, .i32⟩
  | .hbm, ⟨8, _⟩ => ⟨S_, .f32⟩
  | .hbm, ⟨9, _⟩ => ⟨S16384x128, .f32⟩
  | .hbm, ⟨10, _⟩ => ⟨S16384x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Gate.lean ====
abbrev S16384x128 : Shape := ⟨2, ![16384, 128]⟩
abbrev S2x2x16x1024 : Shape := ⟨4, ![2, 2, 16, 1024]⟩
abbrev S2x2x1024 : Shape := ⟨3, ![2, 2, 1024]⟩
abbrev S1x2x16x1024 : Shape := ⟨4, ![1, 2, 16, 1024]⟩
abbrev S2x16x1024 : Shape := ⟨3, ![2, 16, 1024]⟩
abbrev S_ : Shape := ⟨0, ![]⟩
abbrev S2x128x1024 : Shape := ⟨3, ![2, 128, 1024]⟩
abbrev S1x16x1024 : Shape := ⟨3, ![1, 16, 1024]⟩
abbrev S16x1024 : Shape := ⟨2, ![16, 1024]⟩
abbrev S1 : Shape := ⟨1, ![1]⟩
abbrev S2 : Shape := ⟨1, ![2]⟩
abbrev S1x2x1024 : Shape := ⟨3, ![1, 2, 1024]⟩
abbrev S2x1024 : Shape := ⟨2, ![2, 1024]⟩
abbrev S2x1x1024 : Shape := ⟨3, ![2, 1, 1024]⟩
abbrev S16384x1024 : Shape := ⟨2, ![16384, 1024]⟩
abbrev S512x128 : Shape := ⟨2, ![512, 128]⟩
abbrev S512x1024 : Shape := ⟨2, ![512, 1024]⟩
abbrev S128x128 : Shape := ⟨2, ![128, 128]⟩
abbrev S1x128x1024 : Shape := ⟨3, ![1, 128, 1024]⟩
abbrev S128x1024 : Shape := ⟨2, ![128, 1024]⟩
abbrev S1x1x1024 : Shape := ⟨3, ![1, 1, 1024]⟩
abbrev S1x1024 : Shape := ⟨2, ![1, 1024]⟩

abbrev nBuf : Space → Nat
  | .hbm => 29
  | .vmem => 8
  | .smem => 0
  | _ => 0

abbrev bufTy : (tb : Table) → Fin (tcTables nBuf tb) → BufTy
  | .hbm, ⟨0, _⟩ => ⟨S16384x128, .bf16⟩
  | .hbm, ⟨1, _⟩ => ⟨S2x2x16x1024, .f32⟩
  | .hbm, ⟨2, _⟩ => ⟨S2x2x1024, .f32⟩
  | .hbm, ⟨3, _⟩ => ⟨S1x2x16x1024, .f32⟩
  | .hbm, ⟨4, _⟩ => ⟨S2x16x1024, .f32⟩
  | .hbm, ⟨5, _⟩ => ⟨S_, .f32⟩
  | .hbm, ⟨6, _⟩ => ⟨S2x128x1024, .f32⟩
  | .hbm, ⟨7, _⟩ => ⟨S1x16x1024, .f32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S2x128x1024, .f32⟩
  | .hbm, ⟨15, _⟩ => ⟨S1x16x1024, .f32⟩
  | .hbm, ⟨16, _⟩ => ⟨S16x1024, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S2x128x1024, .f32⟩
  | .hbm, ⟨23, _⟩ => ⟨S2x128x1024, .bf16⟩
  | .hbm, ⟨24, _⟩ => ⟨S1x2x1024, .f32⟩
  | .hbm, ⟨25, _⟩ => ⟨S2x1024, .f32⟩
  | .hbm, ⟨26, _⟩ => ⟨S2x1x1024, .f32⟩
  | .hbm, ⟨27, _⟩ => ⟨S16384x1024, .f32⟩
  | .hbm, ⟨28, _⟩ => ⟨S16384x1024, .f32⟩
  | .local _ .vmem, ⟨0, _⟩ => ⟨S512x128, .bf16⟩
  | .local _ .vmem, ⟨1, _⟩ => ⟨S512x128, .bf16⟩
  | .local _ .vmem, ⟨2, _⟩ => ⟨S2x128x1024, .bf16⟩
  | .local _ .vmem, ⟨3, _⟩ => ⟨S2x1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateReferenceIdeal.lean ====
abbrev S16384x128 : Shape := ⟨2, ![16384, 128]⟩
abbrev S2x2x16x1024 : Shape := ⟨4, ![2, 2, 16, 1024]⟩
abbrev S2x2x1024 : Shape := ⟨3, ![2, 2, 1024]⟩
abbrev S16384x16 : Shape := ⟨2, ![16384, 16]⟩
abbrev S1x1x16x1024 : Shape := ⟨4, ![1, 1, 16, 1024]⟩
abbrev S16x1024 : Shape := ⟨2, ![16, 1024]⟩
abbrev S16384x1024 : Shape := ⟨2, ![16384, 1024]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩
abbrev S128x128x1024 : Shape := ⟨3, ![128, 128, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16384x128, .bf16⟩
  | .hbm, ⟨1, _⟩ => ⟨S2x2x16x1024, .f32⟩
  | .hbm, ⟨2, _⟩ => ⟨S2x2x1024, .f32⟩
  | .hbm, ⟨3, _⟩ => ⟨S16384x128, .f32⟩
  | .hbm, ⟨4, _⟩ => ⟨S16384x16, .f32⟩
  | .hbm, ⟨5, _⟩ => ⟨S1x1x16x1024, .f32⟩
  | .hbm, ⟨6, _⟩ => ⟨S16x1024, .f32⟩
  | .hbm, ⟨7, _⟩ => ⟨S16384x1024, .f32⟩
  | .hbm, ⟨8, _⟩ => ⟨S1x1x1024, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x16, .f32⟩
  | .hbm, ⟨14, _⟩ => ⟨S1x1x16x1024, .f32⟩
  | .hbm, ⟨15, _⟩ => ⟨S16x1024, .f32⟩
  | .hbm, ⟨16, _⟩ => ⟨S16384x1024, .f32⟩
  | .hbm, ⟨17, _⟩ => ⟨S1x1x1024, .f32⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .i1⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S128x128x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .i1⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S128x128x1024, .f32⟩
  | .hbm, ⟨62, _⟩ => ⟨S_, .f32⟩
  | .hbm, ⟨63, _⟩ => ⟨S_, .f32⟩
  | .hbm, ⟨64, _⟩ => ⟨S128x128x1024, .f32⟩
  | .hbm, ⟨65, _⟩ => ⟨S128x128x1024, .f32⟩
  | .hbm, ⟨66, _⟩ => ⟨S_, .f32⟩
  | .hbm, ⟨67, _⟩ => ⟨S_, .f32⟩
  | .hbm, ⟨68, _⟩ => ⟨S128x128x1024, .f32⟩
  | .hbm, ⟨69, _⟩ => ⟨S128x128x1024, .f32⟩
  | .hbm, ⟨70, _⟩ => ⟨S16384x1024, .f32⟩
  | .hbm, ⟨71, _⟩ => ⟨S16384x1024, .f32⟩
  | _, _ => ⟨S16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_v0 : Ref sig .tc := ⟨.hbm, 42, rfl⟩
abbrev main_call1_call0_cst : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_call0_v2 : Ref sig .tc := ⟨.hbm, 46, rfl⟩
abbrev main_call1_call0_v3 : Ref sig .tc := ⟨.hbm, 47, rfl⟩
abbrev main_call1_call0_v4 : Ref sig .tc := ⟨.hbm, 48, rfl⟩
abbrev main_call1_call0_v5 : Ref sig .tc := ⟨.hbm, 49, rfl⟩
abbrev main_call1_call0_v6 : Ref sig .tc := ⟨.hbm, 50, rfl⟩
abbrev main_call1_call0_v7 : Ref sig .tc := ⟨.hbm, 51, rfl⟩
abbrev main_call1_call0_v8 : Ref sig .tc := ⟨.hbm, 52, rfl⟩
abbrev main_call1_call0_v9 : Ref sig .tc := ⟨.hbm, 53, rfl⟩
abbrev main_call1_call0_v10 : Ref sig .tc := ⟨.hbm, 54, rfl⟩
abbrev main_call1_call0_v11 : Ref sig .tc := ⟨.hbm, 55, rfl⟩
abbrev main_call1_v1 : Ref sig .tc := ⟨.hbm, 56, rfl⟩
abbrev main_v23 : Ref sig .tc := ⟨.hbm, 57, rfl⟩
abbrev main_cst_0 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_call2_call0_cst : Ref sig .tc := ⟨.hbm, 62, rfl⟩
abbrev main_call2_call0_v0 : Ref sig .tc := ⟨.hbm, 63, rfl⟩
abbrev main_v27 : Ref sig .tc := ⟨.hbm, 64, rfl⟩
abbrev main_v28 : Ref sig .tc := ⟨.hbm, 65, rfl⟩
abbrev main_call3_call0_cst : Ref sig .tc := ⟨.hbm, 66, rfl⟩
abbrev main_call3_call0_v0 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩

abbrev nD : Nat := 1
abbrev τ : Topo := Topo.v7x

variable {F : FTy → Type} [FloatOps F]
-- ==== Proof.BitEq.lean ====
/- The version's call, whose two `unpack_elementwise` read the packed word's halves, and the same call reading them by
   narrowing to sixteen bits: block by block and then as whole arrays the two leave the same words. -/
module

public import proofs.«01_k».proof.Proof.Gen.Kernel.Value
public import proofs.«01_k».proof.Proof.Gen.Halves.Value
public import Idealize.ShloMosaic.Lib.Pipeline.ValueKit
public import Idealize.ShloMosaic.Lib.Claim

@[expose] public section

set_option maxRecDepth 16384

noncomputable section

namespace Cert.BitEq

open Idealize.ShloMosaic Idealize.ShloMosaic.TcCoe Idealize.SL.Sem
open Idealize.ShloMosaic.Pipeline (Dat)

variable {F : FTy → Type} [BitOps F]

/-- The low half unpacked is the word narrowed to sixteen bits, read as bfloat16 and widened. -/
theorem unpack_low {s : Shape} (x : IVec s 32) (h : 16 < 32) (h' : FTy.bits .bf16 < FTy.bits .f32) :
    unpackElementwise (F := F) 0 x = extf .f32 (bitcastToFloat .bf16 (trunci 16 x h)) h' := by
  funext j
  show FloatOps.extf .f32 _ (FloatOps.ofBits .bf16 ((x j).extractLsb' (0 * 16) 16))
    = FloatOps.extf .f32 _ (FloatOps.ofBits .bf16 ((x j).setWidth 16))
  congr 2

/-- The high half unpacked is the word shifted down by sixteen, narrowed, read as bfloat16 and widened. -/
theorem unpack_high {s : Shape} (x : IVec s 32) (h : 16 < 32) (h' : FTy.bits .bf16 < FTy.bits .f32) :
    unpackElementwise (F := F) 1 x
      = extf .f32 (bitcastToFloat .bf16 (trunci 16 (shrui x (broadcast s 16#32)) h)) h' := by
  funext j
  show FloatOps.extf .f32 _ (FloatOps.ofBits .bf16 ((x j).extractLsb' (1 * 16) 16))
    = FloatOps.extf .f32 _ (FloatOps.ofBits .bf16 ((shrui x (broadcast s 16#32) j).setWidth 16))
  congr 2

/-- The two bodies' last steps agree: they differ only in how the packed word's halves are read. -/
theorem last_eq (a : FVec F Cert.Kernel.S4096x256 .bf16) (b c : Vec F Cert.Kernel.S1x256 .f32) :
    Cert.Kernel.Gen.k0_pay1 a b c = Cert.Halves.Gen.k0_pay1 a b c := by
  unfold Cert.Kernel.Gen.k0_pay1 Cert.Halves.Gen.k0_pay1
  dsimp only
  rw [unpack_low _ (by decide) (by decide), unpack_high _ (by decide) (by decide)]

/-- At every grid point the two bodies leave the same block. -/
theorem out_eq (i : Cert.Kernel.grid0.Coords) (x0 : Vec F Cert.Kernel.S2048x2048 .bf16)
    (x1 x2 : Vec F Cert.Kernel.S1x2048x256 .f32) (x3 x4 : Vec F Cert.Kernel.S3x256 .f32)
    (x5 x6 : Vec F Cert.Kernel.S1x256 .f32) :
    Cert.Kernel.Gen.out0_7 i x0 x1 x2 x3 x4 x5 x6 = Cert.Halves.Gen.out0_7 i x0 x1 x2 x3 x4 x5 x6 := by
  unfold Cert.Kernel.Gen.out0_7 Cert.Halves.Gen.out0_7
  rw [last_eq]
  rfl

/-- Where the two programs' arguments agree, their input windows' blocks agree, and so the blocks their bodies leave. -/
theorem after_eq (m : (ℓ : Loc Cert.Kernel.nD Cert.Kernel.τ Cert.Kernel.sig) → Buf (Elt F) ℓ)
    (m' : (ℓ : Loc Cert.Halves.nD Cert.Halves.τ Cert.Halves.sig) → Buf (Elt F) ℓ) (c : Dev Cert.Kernel.nD)
    (h0 : m' ((c.tc : Thread Cert.Halves.nD Cert.Halves.τ).loc Cert.Halves.main_arg0)
      = m ((c.tc : Thread Cert.Kernel.nD Cert.Kernel.τ).loc Cert.Kernel.main_arg0))
    (h1 : m' ((c.tc : Thread Cert.Halves.nD Cert.Halves.τ).loc Cert.Halves.main_arg1)
      = m ((c.tc : Thread Cert.Kernel.nD Cert.Kernel.τ).loc Cert.Kernel.main_arg1))
    (h2 : m' ((c.tc : Thread Cert.Halves.nD Cert.Halves.τ).loc Cert.Halves.main_arg2)
      = m ((c.tc : Thread Cert.Kernel.nD Cert.Kernel.τ).loc Cert.Kernel.main_arg2))
    (h3 : m' ((c.tc : Thread Cert.Halves.nD Cert.Halves.τ).loc Cert.Halves.main_arg3)
      = m ((c.tc : Thread Cert.Kernel.nD Cert.Kernel.τ).loc Cert.Kernel.main_arg3))
    (t : Fin Cert.Kernel.cfg0.N) :
    (Cert.Kernel.Gen.dats m 0 c).after 7 t = (Cert.Halves.Gen.dats m' 0 c).after 7 t := by
  rw [Cert.Kernel.Gen.after0_7, Cert.Halves.Gen.after0_7, out_eq]
  have e0 : Cert.Kernel.Gen.V m c Cert.Kernel.main_arg0 = Cert.Halves.Gen.V m' c Cert.Halves.main_arg0 := by
    rw [Cert.Kernel.Gen.V_main_arg0, Cert.Halves.Gen.V_main_arg0]; exact h0.symm
  have e1 : Cert.Kernel.Gen.V m c Cert.Kernel.main_arg1 = Cert.Halves.Gen.V m' c Cert.Halves.main_arg1 := by
    rw [Cert.Kernel.Gen.V_main_arg1, Cert.Halves.Gen.V_main_arg1]; exact h1.symm
  have e2 : Cert.Kernel.Gen.V m c Cert.Kernel.main_v1 = Cert.Halves.Gen.V m' c Cert.Halves.main_v1 := by
    entry_read
    rw [h2]
    rfl
  have e4 : Cert.Kernel.Gen.V m c Cert.Kernel.main_v4 = Cert.Halves.Gen.V m' c Cert.Halves.main_v4 := by
    entry_read
    rw [h3]
    rfl
  have e5 : Cert.Kernel.Gen.V m c Cert.Kernel.main_v5 = Cert.Halves.Gen.V m' c Cert.Halves.main_v5 := by
    entry_read
    rw [h3]
    rfl
  exact congr (congr (congr (congr (congr (congr (congrArg (Cert.Halves.Gen.out0_7 (Cert.Kernel.grid0.coords t))
    (congrArg (((Cert.Kernel.cfg0.win 0).blk t).view.read (Elt F)) e0))
    (congrArg (((Cert.Kernel.cfg0.win 1).blk t).view.read (Elt F)) e1))
    (congrArg (((Cert.Kernel.cfg0.win 2).blk t).view.read (Elt F)) e1))
    (congrArg (((Cert.Kernel.cfg0.win 3).blk t).view.read (Elt F)) e2))
    (congrArg (((Cert.Kernel.cfg0.win 4).blk t).view.read (Elt F)) e2))
    (congrArg (((Cert.Kernel.cfg0.win 5).blk t).view.read (Elt F)) e4))
    (congrArg (((Cert.Kernel.cfg0.win 6).blk t).view.read (Elt F)) e5)

/-- So the two programs leave the same result array. -/
theorem array_eq (m : (ℓ : Loc Cert.Kernel.nD Cert.Kernel.τ Cert.Kernel.sig) → Buf (Elt F) ℓ)
    (m' : (ℓ : Loc Cert.Halves.nD Cert.Halves.τ Cert.Halves.sig) → Buf (Elt F) ℓ) (c : Dev Cert.Kernel.nD)
    (h0 : m' ((c.tc : Thread Cert.Halves.nD Cert.Halves.τ).loc Cert.Halves.main_arg0)
      = m ((c.tc : Thread Cert.Kernel.nD Cert.Kernel.τ).loc Cert.Kernel.main_arg0))
    (h1 : m' ((c.tc : Thread Cert.Halves.nD Cert.Halves.τ).loc Cert.Halves.main_arg1)
      = m ((c.tc : Thread Cert.Kernel.nD Cert.Kernel.τ).loc Cert.Kernel.main_arg1))
    (h2 : m' ((c.tc : Thread Cert.Halves.nD Cert.Halves.τ).loc Cert.Halves.main_arg2)
      = m ((c.tc : Thread Cert.Kernel.nD Cert.Kernel.τ).loc Cert.Kernel.main_arg2))
    (h3 : m' ((c.tc : Thread Cert.Halves.nD Cert.Halves.τ).loc Cert.Halves.main_arg3)
      = m ((c.tc : Thread Cert.Kernel.nD Cert.Kernel.τ).loc Cert.Kernel.main_arg3)) :
    (Cert.Kernel.Gen.dats m 0 c).arrAt 7 Cert.Kernel.cfg0.N
      = (Cert.Halves.Gen.dats m' 0 c).arrAt 7 Cert.Halves.cfg0.N := by
  refine (Cert.Kernel.Gen.dats m 0 c).arrAt_eq_of_covers 7 _ (by decide +kernel) fun t hf y => ?_
  have e := (Cert.Halves.Gen.dats m' 0 c).arrAt_emb_eq_flushed 7 Cert.Halves.Value.disjoint7 t
    (Cert.Halves.Gen.flush0_7 t) y
  refine Eq.trans ?_ e.symm
  rw [after_eq m m' c h0 h1 h2 h3 t]
  rfl

end Cert.BitEq

end
-- ==== Proof.Runs.lean ====
/- The runs of the first call's programs: the frames, and the claim that the two printed forms agree bit for bit. -/
module

public import proofs.«01_k».proof.Defs
public import proofs.«01_k».proof.Proof.Gen.HalvesIdeal.Value
public import proofs.«01_k».proof.Proof.Gen.ReferenceIdeal.Run
public import proofs.«01_k».proof.Proof.BitEq
public import Idealize.ShloMosaic.Lib.Bf16Pair
public import Idealize.ShloMosaic.Lib.Claim
public import Idealize.ShloMosaic.Lib.Quiescent

@[expose] public section

set_option maxRecDepth 16384

noncomputable section

namespace Cert.Runs

open Idealize.ShloMosaic Idealize.SL.Sem

instance : Cert.Kernel.Facts := Cert.Kernel.Gen.facts
instance : Cert.Halves.Facts := Cert.Halves.Gen.facts
instance : Cert.HalvesIdeal.Facts := Cert.HalvesIdeal.Gen.facts
instance : Cert.ReferenceIdeal.Facts := Cert.ReferenceIdeal.Gen.facts

/-- The version's call terminates, leaves its arguments as they were and every counter at zero. -/
theorem frame_P : Cert.quiescent_Kernel := fun m ρ _ => Cert.Kernel.Gen.frame m ρ

/-- The same of the form whose halves are narrowed and widened by hand. -/
theorem frame_H : Cert.quiescent_Halves := fun m ρ _ => Cert.Halves.Gen.frame m ρ

/-- The same of that form over the extended reals. -/
theorem frame_HI : Cert.quiescent_HalvesIdeal := fun m ρ _ => Cert.HalvesIdeal.Gen.frame m ρ

/-- The same of the reference over the extended reals, which has no counter. -/
theorem frame_RI : Cert.quiescent_ReferenceIdeal := fun m ρ _ =>
  (θ_run _ _ _).mono (fun r h => ⟨fun c => (h c).2, sem_eq_zero_of_no_sems (by decide) r.2⟩)
    (Cert.ReferenceIdeal.Value.run m ρ)

/-- The rewrites between the printed and the idealized form are the ones the rule states. -/
theorem preserves : Cert.preserves_Halves_HalvesIdeal :=
  ⟨IdealRules.bf16_pair.packStatement _, IdealRules.bf16_pair.selectZeroStatement _, IdealRules.bf16_pair.packStatement _,
    IdealRules.bf16_pair.statement _ _, IdealRules.bf16_pair.statement _ _, IdealRules.bf16_pair.halfStatement _⟩

/-- The version's call and the form with the halves narrowed by hand leave the same bits. -/
theorem bitexact : Cert.bitexact_Kernel_Halves := fun m g m' g' _ hag =>
  ⟨fun c => (Cert.Kernel.Gen.dats m 0 c).arrAt 7 Cert.Kernel.cfg0.N, Cert.Kernel.Value.run_blocks m g,
    (θ_run _ _ _).mono (fun _ h c => ⟨(h c).1.trans (Cert.BitEq.array_eq m m' c (hag c).1 (hag c).2.1 (hag c).2.2.1 (hag c).2.2.2).symm,
      (h c).2⟩) (Cert.Halves.Value.run_blocks m' g')⟩

end Cert.Runs

end
-- ==== Proof.Edges.lean ====
/- A block of rows moved by one row, with the row at each sequence's edge cleared: the kernel assembles it from sixteen
   pieces, and here each is read at an index. -/
module

public import proofs.«01_k».proof.Proof.Gen.HalvesIdeal.Skeleton
public import Idealize.ShloMosaic.Lib.Pipeline.ValueKit
public import Idealize.ShloMosaic.Lib.Pointwise

@[expose] public section

set_option maxRecDepth 16384

noncomputable section

namespace Cert.Edges

open Cert.HalvesIdeal Cert.HalvesIdeal.Gen Idealize.ShloMosaic

/-- The mask of row `e` of an eight-row piece, lit where `a` is a multiple of the sequence length `seq`. -/
def mask (seq a e : BitVec 32) : IVec S8x256 1 :=
  andi (broadcast S8x256 (Scalar.cmpi .eq (Scalar.andi a (Scalar.subi seq 1#32)) 0#32))
    (cmpi .eq (iota .tc S8x256 32 [0] iota_S8x256_d0_w32) (broadcast S8x256 e))

section
variable {F : FTy → Type} [FloatOps F]

/-- The first eight rows of segment `k`, the first one cleared at a sequence's start. -/
def head8 (seq : BitVec 32) (x : FVec F S2048x256 .bf16) (k : ℕ) (h : S2048x256.Slices ![256 * k, 0] S256x256) :
    FVec F S8x256 .bf16 :=
  select (mask seq (BitVec.ofNat 32 (256 * k)) 0#32) (constant S8x256 .bf16 0x0000#16)
    (extractStridedSlice S8x256 ![0, 0] (extractStridedSlice S256x256 ![256 * k, 0] x h) slices_S256x256_o0_0_S8x256)

/-- The other rows of segment `k`. -/
def tail248 (x : FVec F S2048x256 .bf16) (k : ℕ) (h : S2048x256.Slices ![256 * k, 0] S256x256) : FVec F S248x256 .bf16 :=
  extractStridedSlice S248x256 ![8, 0] (extractStridedSlice S256x256 ![256 * k, 0] x h) slices_S256x256_o8_0_S248x256

/-- The first rows of segment `k`. -/
def head248 (x : FVec F S2048x256 .bf16) (k : ℕ) (h : S2048x256.Slices ![256 * k, 0] S256x256) : FVec F S248x256 .bf16 :=
  extractStridedSlice S248x256 ![0, 0] (extractStridedSlice S256x256 ![256 * k, 0] x h) slices_S256x256_o0_0_S248x256

/-- The last eight rows of segment `k`, the last one cleared at a sequence's end. -/
def tail8 (seq : BitVec 32) (x : FVec F S2048x256 .bf16) (k : ℕ) (h : S2048x256.Slices ![256 * k, 0] S256x256) :
    FVec F S8x256 .bf16 :=
  select (mask seq (BitVec.ofNat 32 (256 * (k + 1))) 7#32) (constant S8x256 .bf16 0x0000#16)
    (extractStridedSlice S8x256 ![248, 0] (extractStridedSlice S256x256 ![256 * k, 0] x h) slices_S256x256_o248_0_S8x256)

/-- The block with each sequence's first row cleared, as the kernel assembles it. -/
def first0 (seq : BitVec 32) (x : FVec F S2048x256 .bf16) : FVec F S2048x256 .bf16 :=
  concatenate S2048x256 0 [⟨S8x256, head8 seq x 0 slices_S2048x256_o0_0_S256x256⟩, ⟨S248x256, tail248 x 0 slices_S2048x256_o0_0_S256x256⟩,
    ⟨S8x256, head8 seq x 1 slices_S2048x256_o256_0_S256x256⟩, ⟨S248x256, tail248 x 1 slices_S2048x256_o256_0_S256x256⟩,
    ⟨S8x256, head8 seq x 2 slices_S2048x256_o512_0_S256x256⟩, ⟨S248x256, tail248 x 2 slices_S2048x256_o512_0_S256x256⟩,
    ⟨S8x256, head8 seq x 3 slices_S2048x256_o768_0_S256x256⟩, ⟨S248x256, tail248 x 3 slices_S2048x256_o768_0_S256x256⟩,
    ⟨S8x256, head8 seq x 4 slices_S2048x256_o1024_0_S256x256⟩, ⟨S248x256, tail248 x 4 slices_S2048x256_o1024_0_S256x256⟩,
    ⟨S8x256, head8 seq x 5 slices_S2048x256_o1280_0_S256x256⟩, ⟨S248x256, tail248 x 5 slices_S2048x256_o1280_0_S256x256⟩,
    ⟨S8x256, head8 seq x 6 slices_S2048x256_o1536_0_S256x256⟩, ⟨S248x256, tail248 x 6 slices_S2048x256_o1536_0_S256x256⟩,
    ⟨S8x256, head8 seq x 7 slices_S2048x256_o1792_0_S256x256⟩, ⟨S248x256, tail248 x 7 slices_S2048x256_o1792_0_S256x256⟩]
    concatenates_S8x256_S248x256_S8x256_S248x256_S8x256_S248x256_S8x256_S248x256_S8x256_S248x256_S8x256_S248x256_S8x256_S248x256_S8x256_S248x256_S2048x256_d0

/-- The block with each sequence's last row cleared, as the kernel assembles it. -/
def last0 (seq : BitVec 32) (x : FVec F S2048x256 .bf16) : FVec F S2048x256 .bf16 :=
  concatenate S2048x256 0 [⟨S248x256, head248 x 0 slices_S2048x256_o0_0_S256x256⟩, ⟨S8x256, tail8 seq x 0 slices_S2048x256_o0_0_S256x256⟩,
    ⟨S248x256, head248 x 1 slices_S2048x256_o256_0_S256x256⟩, ⟨S8x256, tail8 seq x 1 slices_S2048x256_o256_0_S256x256⟩,
    ⟨S248x256, head248 x 2 slices_S2048x256_o512_0_S256x256⟩, ⟨S8x256, tail8 seq x 2 slices_S2048x256_o512_0_S256x256⟩,
    ⟨S248x256, head248 x 3 slices_S2048x256_o768_0_S256x256⟩, ⟨S8x256, tail8 seq x 3 slices_S2048x256_o768_0_S256x256⟩,
    ⟨S248x256, head248 x 4 slices_S2048x256_o1024_0_S256x256⟩, ⟨S8x256, tail8 seq x 4 slices_S2048x256_o1024_0_S256x256⟩,
    ⟨S248x256, head248 x 5 slices_S2048x256_o1280_0_S256x256⟩, ⟨S8x256, tail8 seq x 5 slices_S2048x256_o1280_0_S256x256⟩,
    ⟨S248x256, head248 x 6 slices_S2048x256_o1536_0_S256x256⟩, ⟨S8x256, tail8 seq x 6 slices_S2048x256_o1536_0_S256x256⟩,
    ⟨S248x256, head248 x 7 slices_S2048x256_o1792_0_S256x256⟩, ⟨S8x256, tail8 seq x 7 slices_S2048x256_o1792_0_S256x256⟩]
    concatenates_S248x256_S8x256_S248x256_S8x256_S248x256_S8x256_S248x256_S8x256_S248x256_S8x256_S248x256_S8x256_S248x256_S8x256_S248x256_S8x256_S2048x256_d0

end

/-- The mask at a row: the row is `e` and `a` is a multiple of the length. -/
theorem mask_apply (seq a e : BitVec 32) (r : Fin 8) (c : Fin 256) :
    mask seq a e (ix2 r c) = if a &&& (seq - 1#32) = 0#32 ∧ BitVec.ofNat 32 r.val = e then 1#1 else 0#1 := by
  pointwise [mask]
  show BitVec.ofBool (a &&& (seq - 1#32) == 0#32) &&& BitVec.ofBool (BitVec.ofNat 32 r.val == e) = _
  rw [show (a &&& (seq - 1#32) == 0#32) = decide (a &&& (seq - 1#32) = 0#32) from rfl,
    show (BitVec.ofNat 32 r.val == e) = decide (BitVec.ofNat 32 r.val = e) from rfl]
  by_cases h1 : a &&& (seq - 1#32) = 0#32 <;> by_cases h2 : BitVec.ofNat 32 r.val = e <;> simp [h1, h2]

theorem select_if {α : Type} (p : Prop) [Decidable p] (a b : α) :
    Scalar.select (if p then 1#1 else 0#1) a b = if p then a else b := by
  by_cases h : p <;> simp [h, Scalar.select]

/-- The first eight rows of a segment at an index. -/
theorem head8_apply (seq : BitVec 32) (x : FVec Ideal S2048x256 .bf16) (k : ℕ) (hk : k < 8) (h : S2048x256.Slices ![256 * k, 0] S256x256)
    (r : Fin 8) (c : Fin 256) :
    head8 seq x k h (ix2 r c) = if BitVec.ofNat 32 (256 * k) &&& (seq - 1#32) = 0#32 ∧ r.val = 0 then 0
      else x (ix2 (⟨256 * k + r.val, by omega⟩ : Fin 2048) c) := by
  unfold head8
  pointwise []
  rw [mask_apply, select_if]
  have : BitVec.ofNat 32 r.val = 0#32 ↔ r.val = 0 := by revert r; decide
  simp only [this]

/-- The last eight rows of a segment at an index. -/
theorem tail8_apply (seq : BitVec 32) (x : FVec Ideal S2048x256 .bf16) (k : ℕ) (hk : k < 8) (h : S2048x256.Slices ![256 * k, 0] S256x256)
    (r : Fin 8) (c : Fin 256) :
    tail8 seq x k h (ix2 r c) = if BitVec.ofNat 32 (256 * (k + 1)) &&& (seq - 1#32) = 0#32 ∧ r.val = 7 then 0
      else x (ix2 (⟨256 * k + (248 + r.val), by omega⟩ : Fin 2048) c) := by
  unfold tail8
  pointwise []
  rw [mask_apply, select_if]
  have : BitVec.ofNat 32 r.val = 7#32 ↔ r.val = 7 := by revert r; decide
  simp only [this]

theorem tail248_apply (x : FVec Ideal S2048x256 .bf16) (k : ℕ) (hk : k < 8) (h : S2048x256.Slices ![256 * k, 0] S256x256)
    (r : Fin 248) (c : Fin 256) :
    tail248 x k h (ix2 r c) = x (ix2 (⟨256 * k + (8 + r.val), by omega⟩ : Fin 2048) c) := by
  unfold tail248
  pointwise []

theorem head248_apply (x : FVec Ideal S2048x256 .bf16) (k : ℕ) (hk : k < 8) (h : S2048x256.Slices ![256 * k, 0] S256x256)
    (r : Fin 248) (c : Fin 256) :
    head248 x k h (ix2 r c) = x (ix2 (⟨256 * k + r.val, by omega⟩ : Fin 2048) c) := by
  unfold head248
  pointwise []

section
variable {α : Type}

/-- Off the rows' axis a piece's index is the block's. -/
theorem off_axis {n : ℕ} (a : Fin n) (r : Fin 2048) {c : Fin 256} (b : Fin 2) (hb : b ≠ 0) :
    ((ix2 a c : Shape.Idx ⟨2, ![n, 256]⟩) b).val = ((ix2 r c : Shape.Idx ⟨2, ![2048, 256]⟩) b).val := by
  fin_cases b
  · exact absurd rfl hb
  · rfl

/-- Pieces of `n` rows stacked: the block's row lies in piece `k`, whose rows begin at `pre`. -/
theorem piece (xs : List ((s : Shape) × (s.Idx → α))) (h : Shape.Concatenates (xs.map (·.1)) S2048x256 0) {r : Fin 2048} {c : Fin 256}
    (k n pre : ℕ) (hk : k < xs.length) (x : Shape.Idx ⟨2, ![n, 256]⟩ → α) (e : xs[k] = ⟨⟨2, ![n, 256]⟩, x⟩)
    (hpre : (((xs.take k).map (·.1)).map fun s => if h : s.rank = S2048x256.rank then s.size ((0 : Fin S2048x256.rank).cast h.symm) else 0).sum = pre)
    (q : Fin n) (hr : pre + q.val = r.val) : concatenate S2048x256 0 xs h (ix2 r c) = x (ix2 q c) :=
  concatenate_apply_piece (t := S2048x256) 0 xs h (ix2 r c) k hk _ x e rfl pre hpre (ix2 q c) (off_axis q r) hr

/-- Eight pieces of eight rows, each followed by one of the segment's other rows. -/
abbrev Ps (f : Fin 8 → S8x256.Idx → α) (g : Fin 8 → S248x256.Idx → α) : List ((s : Shape) × (s.Idx → α)) :=
  [⟨S8x256, f 0⟩, ⟨S248x256, g 0⟩, ⟨S8x256, f 1⟩, ⟨S248x256, g 1⟩, ⟨S8x256, f 2⟩, ⟨S248x256, g 2⟩, ⟨S8x256, f 3⟩, ⟨S248x256, g 3⟩, ⟨S8x256, f 4⟩, ⟨S248x256, g 4⟩, ⟨S8x256, f 5⟩, ⟨S248x256, g 5⟩, ⟨S8x256, f 6⟩, ⟨S248x256, g 6⟩, ⟨S8x256, f 7⟩, ⟨S248x256, g 7⟩]

/-- Eight pieces of a segment's first rows, each followed by one of its last eight. -/
abbrev Qs (f : Fin 8 → S248x256.Idx → α) (g : Fin 8 → S8x256.Idx → α) : List ((s : Shape) × (s.Idx → α)) :=
  [⟨S248x256, f 0⟩, ⟨S8x256, g 0⟩, ⟨S248x256, f 1⟩, ⟨S8x256, g 1⟩, ⟨S248x256, f 2⟩, ⟨S8x256, g 2⟩, ⟨S248x256, f 3⟩, ⟨S8x256, g 3⟩, ⟨S248x256, f 4⟩, ⟨S8x256, g 4⟩, ⟨S248x256, f 5⟩, ⟨S8x256, g 5⟩, ⟨S248x256, f 6⟩, ⟨S8x256, g 6⟩, ⟨S248x256, f 7⟩, ⟨S8x256, g 7⟩]

variable {r : Fin 2048} {c : Fin 256} (k : Fin 8)

/-- A row of the stack in the first piece of segment `k`. -/
theorem Ps_fst (f : Fin 8 → S8x256.Idx → α) (g : Fin 8 → S248x256.Idx → α) (h : Shape.Concatenates ((Ps f g).map (·.1)) S2048x256 0)
    (q : Fin 8) (hr : r.val = 256 * k.val + q.val) : concatenate S2048x256 0 (Ps f g) h (ix2 r c) = f k (ix2 q c) := by
  fin_cases k
  · exact piece (Ps f g) h 0 8 0 (by simp) (f 0) rfl (by simp) q (by simpa [add_assoc] using hr.symm)
  · exact piece (Ps f g) h 2 8 256 (by simp) (f 1) rfl (by simp) q (by simpa [add_assoc] using hr.symm)
  · exact piece (Ps f g) h 4 8 512 (by simp) (f 2) rfl (by simp) q (by simpa [add_assoc] using hr.symm)
  · exact piece (Ps f g) h 6 8 768 (by simp) (f 3) rfl (by simp) q (by simpa [add_assoc] using hr.symm)
  · exact piece (Ps f g) h 8 8 1024 (by simp) (f 4) rfl (by simp) q (by simpa [add_assoc] using hr.symm)
  · exact piece (Ps f g) h 10 8 1280 (by simp) (f 5) rfl (by simp) q (by simpa [add_assoc] using hr.symm)
  · exact piece (Ps f g) h 12 8 1536 (by simp) (f 6) rfl (by simp) q (by simpa [add_assoc] using hr.symm)
  · exact piece (Ps f g) h 14 8 1792 (by simp) (f 7) rfl (by simp) q (by simpa [add_assoc] using hr.symm)

/-- A row of the stack in the second piece of segment `k`. -/
theorem Ps_snd (f : Fin 8 → S8x256.Idx → α) (g : Fin 8 → S248x256.Idx → α) (h : Shape.Concatenates ((Ps f g).map (·.1)) S2048x256 0)
    (q : Fin 248) (hr : r.val = 256 * k.val + 8 + q.val) : concatenate S2048x256 0 (Ps f g) h (ix2 r c) = g k (ix2 q c) := by
  fin_cases k
  · exact piece (Ps f g) h 1 248 8 (by simp) (g 0) rfl (by simp) q (by simpa [add_assoc] using hr.symm)
  · exact piece (Ps f g) h 3 248 264 (by simp) (g 1) rfl (by simp) q (by simpa [add_assoc] using hr.symm)
  · exact piece (Ps f g) h 5 248 520 (by simp) (g 2) rfl (by simp) q (by simpa [add_assoc] using hr.symm)
  · exact piece (Ps f g) h 7 248 776 (by simp) (g 3) rfl (by simp) q (by simpa [add_assoc] using hr.symm)
  · exact piece (Ps f g) h 9 248 1032 (by simp) (g 4) rfl (by simp) q (by simpa [add_assoc] using hr.symm)
  · exact piece (Ps f g) h 11 248 1288 (by simp) (g 5) rfl (by simp) q (by simpa [add_assoc] using hr.symm)
  · exact piece (Ps f g) h 13 248 1544 (by simp) (g 6) rfl (by simp) q (by simpa [add_assoc] using hr.symm)
  · exact piece (Ps f g) h 15 248 1800 (by simp) (g 7) rfl (by simp) q (by simpa [add_assoc] using hr.symm)

/-- A row of the stack in the first piece of segment `k`. -/
theorem Qs_fst (f : Fin 8 → S248x256.Idx → α) (g : Fin 8 → S8x256.Idx → α) (h : Shape.Concatenates ((Qs f g).map (·.1)) S2048x256 0)
    (q : Fin 248) (hr : r.val = 256 * k.val + q.val) : concatenate S2048x256 0 (Qs f g) h (ix2 r c) = f k (ix2 q c) := by
  fin_cases k
  · exact piece (Qs f g) h 0 248 0 (by simp) (f 0) rfl (by simp) q (by simpa [add_assoc] using hr.symm)
  · exact piece (Qs f g) h 2 248 256 (by simp) (f 1) rfl (by simp) q (by simpa [add_assoc] using hr.symm)
  · exact piece (Qs f g) h 4 248 512 (by simp) (f 2) rfl (by simp) q (by simpa [add_assoc] using hr.symm)
  · exact piece (Qs f g) h 6 248 768 (by simp) (f 3) rfl (by simp) q (by simpa [add_assoc] using hr.symm)
  · exact piece (Qs f g) h 8 248 1024 (by simp) (f 4) rfl (by simp) q (by simpa [add_assoc] using hr.symm)
  · exact piece (Qs f g) h 10 248 1280 (by simp) (f 5) rfl (by simp) q (by simpa [add_assoc] using hr.symm)
  · exact piece (Qs f g) h 12 248 1536 (by simp) (f 6) rfl (by simp) q (by simpa [add_assoc] using hr.symm)
  · exact piece (Qs f g) h 14 248 1792 (by simp) (f 7) rfl (by simp) q (by simpa [add_assoc] using hr.symm)

/-- A row of the stack in the second piece of segment `k`. -/
theorem Qs_snd (f : Fin 8 → S248x256.Idx → α) (g : Fin 8 → S8x256.Idx → α) (h : Shape.Concatenates ((Qs f g).map (·.1)) S2048x256 0)
    (q : Fin 8) (hr : r.val = 256 * k.val + 248 + q.val) : concatenate S2048x256 0 (Qs f g) h (ix2 r c) = g k (ix2 q c) := by
  fin_cases k
  · exact piece (Qs f g) h 1 8 248 (by simp) (g 0) rfl (by simp) q (by simpa [add_assoc] using hr.symm)
  · exact piece (Qs f g) h 3 8 504 (by simp) (g 1) rfl (by simp) q (by simpa [add_assoc] using hr.symm)
  · exact piece (Qs f g) h 5 8 760 (by simp) (g 2) rfl (by simp) q (by simpa [add_assoc] using hr.symm)
  · exact piece (Qs f g) h 7 8 1016 (by simp) (g 3) rfl (by simp) q (by simpa [add_assoc] using hr.symm)
  · exact piece (Qs f g) h 9 8 1272 (by simp) (g 4) rfl (by simp) q (by simpa [add_assoc] using hr.symm)
  · exact piece (Qs f g) h 11 8 1528 (by simp) (g 5) rfl (by simp) q (by simpa [add_assoc] using hr.symm)
  · exact piece (Qs f g) h 13 8 1784 (by simp) (g 6) rfl (by simp) q (by simpa [add_assoc] using hr.symm)
  · exact piece (Qs f g) h 15 8 2040 (by simp) (g 7) rfl (by simp) q (by simpa [add_assoc] using hr.symm)

end

/-- The slice of segment `k` is a slice of the block. -/
theorem seg (k : Fin 8) : S2048x256.Slices ![256 * k.val, 0] S256x256 := by
  fin_cases k
  · exact slices_S2048x256_o0_0_S256x256
  · exact slices_S2048x256_o256_0_S256x256
  · exact slices_S2048x256_o512_0_S256x256
  · exact slices_S2048x256_o768_0_S256x256
  · exact slices_S2048x256_o1024_0_S256x256
  · exact slices_S2048x256_o1280_0_S256x256
  · exact slices_S2048x256_o1536_0_S256x256
  · exact slices_S2048x256_o1792_0_S256x256

/-- The block with its first rows cleared, at an index. -/
theorem first0_apply (seq : BitVec 32) (x : FVec Ideal S2048x256 .bf16) (r : Fin 2048) (c : Fin 256) :
    first0 seq x (ix2 r c) = if BitVec.ofNat 32 (256 * (r.val / 256)) &&& (seq - 1#32) = 0#32 ∧ r.val % 256 = 0 then 0 else x (ix2 r c) := by
  have hr : r.val = 256 * (r.val / 256) + r.val % 256 := by omega
  have hm : r.val % 256 < 256 := by omega
  have hk : r.val / 256 < 8 := by omega
  show concatenate S2048x256 0 (Ps (fun k => head8 seq x k.val (seg k)) fun k => tail248 x k.val (seg k)) _ _ = _
  by_cases hq : r.val % 256 < 8
  · rw [Ps_fst ⟨r.val / 256, hk⟩ _ _ _ ⟨r.val % 256, hq⟩ hr, head8_apply _ _ _ hk]
    simp only [show (⟨256 * (r.val / 256) + r.val % 256, by omega⟩ : Fin 2048) = r from Fin.ext hr.symm]
  · rw [Ps_snd ⟨r.val / 256, hk⟩ _ _ _ ⟨r.val % 256 - 8, by omega⟩ (by dsimp only; omega), tail248_apply _ _ hk, if_neg (by omega)]
    simp only [show (⟨256 * (r.val / 256) + (8 + (r.val % 256 - 8)), by omega⟩ : Fin 2048) = r from Fin.ext (by dsimp only; omega)]

/-- The block with its last rows cleared, at an index. -/
theorem last0_apply (seq : BitVec 32) (x : FVec Ideal S2048x256 .bf16) (r : Fin 2048) (c : Fin 256) :
    last0 seq x (ix2 r c) = if BitVec.ofNat 32 (256 * (r.val / 256 + 1)) &&& (seq - 1#32) = 0#32 ∧ r.val % 256 = 255 then 0 else x (ix2 r c) := by
  have hr : r.val = 256 * (r.val / 256) + r.val % 256 := by omega
  have hm : r.val % 256 < 256 := by omega
  have hk : r.val / 256 < 8 := by omega
  show concatenate S2048x256 0 (Qs (fun k => head248 x k.val (seg k)) fun k => tail8 seq x k.val (seg k)) _ _ = _
  by_cases hq : r.val % 256 < 248
  · rw [Qs_fst ⟨r.val / 256, hk⟩ _ _ _ ⟨r.val % 256, hq⟩ hr, head248_apply _ _ hk, if_neg (by omega)]
    simp only [show (⟨256 * (r.val / 256) + r.val % 256, by omega⟩ : Fin 2048) = r from Fin.ext hr.symm]
  · rw [Qs_snd ⟨r.val / 256, hk⟩ _ _ _ ⟨r.val % 256 - 248, by omega⟩ (by dsimp only; omega), tail8_apply _ _ _ hk]
    simp only [show (⟨256 * (r.val / 256) + (248 + (r.val % 256 - 248)), by omega⟩ : Fin 2048) = r from Fin.ext (by dsimp only; omega),
      show r.val % 256 - 248 = 7 ↔ r.val % 256 = 255 by omega]

end Cert.Edges

end
-- ==== Proof.Body.lean ====
/- What one grid point of the call computes, at an index of its block: two convolved channels and their gated product. -/
module

public import proofs.«01_k».proof.Proof.Gen.HalvesIdeal.Frame
public import proofs.«01_k».proof.Proof.Edges
public import Idealize.ShloMosaic.Lib.Bf16PairInverse

@[expose] public section

set_option maxRecDepth 16384

noncomputable section

namespace Cert.Body

open Cert.HalvesIdeal Cert.HalvesIdeal.Gen Cert.Edges Idealize.ShloMosaic

/-- A channel row of each half, widened to eight rows and paired. -/
def pairRows (lo hi : FVec Ideal S1x256 .f32) : FVec Ideal S16x256 .bf16 :=
  interleaveRows S16x256
    (truncf .bf16 (broadcastTo S8x256 (shapeCast S1x256 (shapeCast S1x256 lo shapeCasts_S1x256_S1x256) shapeCasts_S1x256_S1x256) broadcasts_S1x256_S8x256 : FVec Ideal S8x256 .f32))
    (truncf .bf16 (broadcastTo S8x256 (shapeCast S1x256 (shapeCast S1x256 hi shapeCasts_S1x256_S1x256) shapeCasts_S1x256_S1x256) broadcasts_S1x256_S8x256 : FVec Ideal S8x256 .f32)) bitcasts_S16x256_w16_S8x256_w32

/-- 256 blocks of sixteen rows make 4096 rows. -/
theorem tile_ok : Shape.Concatenates (List.replicate 256 S16x256) S4096x256 0 := by decide +kernel

/-- A channel row repeated over the block, the pair's two halves on alternating rows, as the kernel tiles it. -/
def tile (lo hi : FVec Ideal S1x256 .f32) : FVec Ideal S4096x256 .bf16 :=
  concatenate S4096x256 0 (List.replicate 256 ⟨S16x256, pairRows lo hi⟩) (by rw [List.map_replicate]; exact tile_ok)

/-- The two channels' convolutions on alternating rows. -/
def wide (ul uh pl ph nl nh : FVec Ideal S2048x256 .bf16) (wl0 wh0 wl1 wh1 wl2 wh2 bl bh : Vec Ideal S1x256 .f32) : FVec Ideal S4096x256 .bf16 :=
  addf (addf (addf (mulf (tile wl0 wh0) (interleaveRows S4096x256 pl ph bitcasts_S4096x256_w16_S2048x256_w32))
    (mulf (tile wl1 wh1) (interleaveRows S4096x256 ul uh bitcasts_S4096x256_w16_S2048x256_w32)))
    (mulf (tile wl2 wh2) (interleaveRows S4096x256 nl nh bitcasts_S4096x256_w16_S2048x256_w32))) (tile bl bh)

set_option maxHeartbeats 2000000 in
/-- The block's value is the gated product of the two halves of `wide`. -/
theorem last_eq (ul uh pl ph nl nh : FVec Ideal S2048x256 .bf16) (wl0 wh0 wl1 wh1 wl2 wh2 bl bh : Vec Ideal S1x256 .f32) :
    k0_pay1 nl nh (k0_pay117 ul uh pl ph wl0 wh0 wl1 wh1) (k0_pay118 wl2) (k0_pay119 wh2) bl bh
      = truncf .bf16 (mulf (mulf (extf .f32 (rowsOfParity 0 S2048x256 (wide ul uh pl ph nl nh wl0 wh0 wl1 wh1 wl2 wh2 bl bh) bitcasts_S4096x256_w16_S2048x256_w32) bitsLt_bf16_f32)
          (logistic (extf .f32 (rowsOfParity 0 S2048x256 (wide ul uh pl ph nl nh wl0 wh0 wl1 wh1 wl2 wh2 bl bh) bitcasts_S4096x256_w16_S2048x256_w32) bitsLt_bf16_f32)))
        (extf .f32 (rowsOfParity 1 S2048x256 (wide ul uh pl ph nl nh wl0 wh0 wl1 wh1 wl2 wh2 bl bh) bitcasts_S4096x256_w16_S2048x256_w32) bitsLt_bf16_f32)) bitsLt_bf16_f32 := by
  rfl

/-- The tile's rows of one parity hold that half's row. -/
theorem tile_row (p : Fin 2) (lo hi : Vec Ideal S1x256 .f32) (r : Fin 2048) (c : Fin 256) :
    rowsOfParity p S2048x256 (tile lo hi) bitcasts_S4096x256_w16_S2048x256_w32 (ix2 r c) = if p = 0 then lo (ix2 0 c) else hi (ix2 0 c) := by
  have e : rowsOfParity p S2048x256 (tile lo hi) bitcasts_S4096x256_w16_S2048x256_w32 (ix2 r c)
      = tile lo hi (ix2 (⟨2 * r.val + p.val, by omega⟩ : Fin 4096) c) := by
    unfold rowsOfParity
    congr 1; funext a; fin_cases a <;> rfl
  have e2 : pairRows lo hi (ix2 (⟨(2 * r.val + p.val) % 16, Nat.mod_lt _ (by decide)⟩ : Fin 16) c)
      = rowsOfParity p S8x256 (pairRows lo hi) bitcasts_S16x256_w16_S8x256_w32 (ix2 (⟨r.val % 8, Nat.mod_lt _ (by decide)⟩ : Fin 8) c) := by
    unfold rowsOfParity
    congr 1; funext a; fin_cases a
    · exact Fin.ext (show (2 * r.val + p.val) % 16 = 2 * (r.val % 8) + p.val by omega)
    · rfl
  rw [e]
  unfold tile
  rw [concatenate_replicate_apply (t := S4096x256) 0 256 (pairRows lo hi) _ rfl _ (ix2 (⟨(2 * r.val + p.val) % 16, Nat.mod_lt _ (by decide)⟩ : Fin 16) c) rfl
    (by intro b hb; fin_cases b; exact absurd rfl hb; rfl), e2]
  unfold pairRows
  rw [rowsOfParity_interleaveRows]
  split
  · pointwise []
  · pointwise []

/-- One parity's rows of `wide`: the three weighted rows of that half, and its bias. -/
theorem wide_row (p : Fin 2) (ul uh pl ph nl nh : FVec Ideal S2048x256 .bf16) (wl0 wh0 wl1 wh1 wl2 wh2 bl bh : Vec Ideal S1x256 .f32)
    (r : Fin 2048) (c : Fin 256) :
    rowsOfParity p S2048x256 (wide ul uh pl ph nl nh wl0 wh0 wl1 wh1 wl2 wh2 bl bh) bitcasts_S4096x256_w16_S2048x256_w32 (ix2 r c)
      = (if p = 0 then wl0 (ix2 0 c) else wh0 (ix2 0 c)) * (if p = 0 then pl else ph) (ix2 r c)
        + (if p = 0 then wl1 (ix2 0 c) else wh1 (ix2 0 c)) * (if p = 0 then ul else uh) (ix2 r c)
        + (if p = 0 then wl2 (ix2 0 c) else wh2 (ix2 0 c)) * (if p = 0 then nl else nh) (ix2 r c)
        + (if p = 0 then bl (ix2 0 c) else bh (ix2 0 c)) := by
  rw [← tile_row p wl0 wh0 r c, ← tile_row p wl1 wh1 r c, ← tile_row p wl2 wh2 r c, ← tile_row p bl bh r c,
    ← rowsOfParity_interleaveRows p bitcasts_S4096x256_w16_S2048x256_w32 pl ph,
    ← rowsOfParity_interleaveRows p bitcasts_S4096x256_w16_S2048x256_w32 ul uh,
    ← rowsOfParity_interleaveRows p bitcasts_S4096x256_w16_S2048x256_w32 nl nh]
  rfl

/-- The length of the block's sequences, as the kernel computes it from the grid point. -/
def seqOf (i : grid0.Coords) : BitVec 32 := Scalar.select (Scalar.cmpi .slt (BitVec.ofNat 32 (i 0).val) 4#32) 256#32 2048#32

section
variable (i : grid0.Coords) (x0 : Vec Ideal S2048x2048 .bf16) (x1 x2 : Vec Ideal S1x2048x256 .f32) (x3 x4 : Vec Ideal S3x256 .f32) (x5 x6 : Vec Ideal S1x256 .f32)

set_option maxHeartbeats 4000000 in
/-- The block the kernel stores, its moved rows read as `first0` and `last0`. -/
theorem out_eq : out0_7 i x0 x1 x2 x3 x4 x5 x6 = View.canon [⟨r0_6,
    k0_pay1 (last0 (seqOf i) (k0_pay59 (k0_pay2 (View.ld x0 r0_0) (View.ld x1 r0_1)))) (last0 (seqOf i) (k0_pay60 (k0_pay3 (View.ld x0 r0_0) (View.ld x2 r0_1))))
      (k0_pay117 (k0_pay2 (View.ld x0 r0_0) (View.ld x1 r0_1)) (k0_pay3 (View.ld x0 r0_0) (View.ld x2 r0_1))
        (first0 (seqOf i) (k0_pay4 (View.ld x0 r0_0) (View.ld x1 r0_1))) (first0 (seqOf i) (k0_pay5 (View.ld x0 r0_0) (View.ld x2 r0_1)))
        (View.ld x3 r0_2) (View.ld x4 r0_2) (View.ld x3 r0_3) (View.ld x4 r0_3))
      (k0_pay118 (View.ld x3 r0_4)) (k0_pay119 (View.ld x4 r0_4)) (View.ld x5 r0_5) (View.ld x6 r0_5)⟩] := by
  rfl

/-- One half's product at an index. -/
theorem prod_apply (w : Vec Ideal S1x2048x256 .f32) (r : Fin 2048) (c : Fin 256) :
    k0_pay2 (F := Ideal) x0 w (ix2 r c) = ∑ k : Fin 2048, x0 (ix2 r k) * w (ix3 0 k c) := by
  pointwise [k0_pay2]

/-- Moved down by a row. -/
theorem down_apply (w : Vec Ideal S1x2048x256 .f32) (r : Fin 2048) (c : Fin 256) :
    k0_pay4 (F := Ideal) x0 w (ix2 r c) = k0_pay2 (F := Ideal) x0 w (ix2 (⟨(r.val + 2047) % 2048, Nat.mod_lt _ (by decide)⟩ : Fin 2048) c) := by
  unfold k0_pay4
  pointwise []
  rfl

/-- Moved up by a row. -/
theorem up_apply (u : FVec Ideal S2048x256 .bf16) (r : Fin 2048) (c : Fin 256) :
    k0_pay59 (F := Ideal) u (ix2 r c) = u (ix2 (⟨(r.val + 1) % 2048, Nat.mod_lt _ (by decide)⟩ : Fin 2048) c) := by
  unfold k0_pay59
  pointwise []
  rfl

end

/-- The length of the sequences in the grid point's rows. -/
def len (i : grid0.Coords) : ℕ := if (i 0).val < 4 then 256 else 2048

/-- Three rows of one channel weighted, a row outside the sequence read as zero, and the bias. -/
def conv (L : ℕ) (P : ℕ → EReal) (a0 a1 a2 b : EReal) (r : ℕ) : EReal :=
  a0 * (if r % L = 0 then 0 else P (r - 1)) + a1 * P r + a2 * (if r % L = L - 1 then 0 else P (r + 1)) + b

/-- One channel of a block's product, by row (zero past the block's rows). -/
def chan (x0 : Vec Ideal S2048x2048 .bf16) (w : Vec Ideal S1x2048x256 .f32) (c : Fin 256) (r : ℕ) : EReal :=
  if h : r < 2048 then ∑ k : Fin 2048, x0 (ix2 (⟨r, h⟩ : Fin 2048) k) * w (ix3 0 k c) else 0

theorem chan_val (x0 : Vec Ideal S2048x2048 .bf16) (w : Vec Ideal S1x2048x256 .f32) (c : Fin 256) (r : Fin 2048) :
    k0_pay2 (F := Ideal) x0 w (ix2 r c) = chan x0 w c r.val := by
  rw [prod_apply, chan, dif_pos r.isLt]

/-- The words of the edge tests, as arithmetic on the row. -/
theorem first_edge (i : grid0.Coords) (r : Fin 2048) :
    (BitVec.ofNat 32 (256 * (r.val / 256)) &&& (seqOf i - 1#32) = 0#32 ∧ r.val % 256 = 0) ↔ r.val % len i = 0 := by
  have hk : r.val / 256 < 8 := by omega
  have h0 : (i 0).val < 8 := (i 0).isLt
  have hs : seqOf i = if (i 0).val < 4 then 256#32 else 2048#32 := by
    unfold seqOf
    generalize (i 0).val = n at h0
    revert n; decide
  have e1 : ∀ k < 8, (BitVec.ofNat 32 (256 * k) &&& (256#32 - 1#32) = 0#32) := by decide
  have e2 : ∀ k < 8, (BitVec.ofNat 32 (256 * k) &&& (2048#32 - 1#32) = 0#32 ↔ k = 0) := by decide
  rw [hs]
  unfold len
  split
  · rw [and_iff_right (e1 _ hk)]
  · rw [e2 _ hk]; omega

theorem last_edge (i : grid0.Coords) (r : Fin 2048) :
    (BitVec.ofNat 32 (256 * (r.val / 256 + 1)) &&& (seqOf i - 1#32) = 0#32 ∧ r.val % 256 = 255) ↔ r.val % len i = len i - 1 := by
  have hk : r.val / 256 < 8 := by omega
  have h0 : (i 0).val < 8 := (i 0).isLt
  have hs : seqOf i = if (i 0).val < 4 then 256#32 else 2048#32 := by
    unfold seqOf
    generalize (i 0).val = n at h0
    revert n; decide
  have e1 : ∀ k < 8, (BitVec.ofNat 32 (256 * (k + 1)) &&& (256#32 - 1#32) = 0#32) := by decide
  have e2 : ∀ k < 8, (BitVec.ofNat 32 (256 * (k + 1)) &&& (2048#32 - 1#32) = 0#32 ↔ k = 7) := by decide
  rw [hs]
  unfold len
  split
  · rw [and_iff_right (e1 _ hk)]
  · rw [e2 _ hk]; omega

section
variable (i : grid0.Coords) (x0 : Vec Ideal S2048x2048 .bf16) (w : Vec Ideal S1x2048x256 .f32) (r : Fin 2048) (c : Fin 256)

theorem first_apply : first0 (seqOf i) (k0_pay4 (F := Ideal) x0 w) (ix2 r c) = if r.val % len i = 0 then 0 else chan x0 w c (r.val - 1) := by
  rw [first0_apply]
  simp only [first_edge]
  split
  · rfl
  · next h =>
    have h1 : r.val ≠ 0 := fun e => h (by rw [e]; exact Nat.zero_mod _)
    rw [down_apply, chan_val]
    congr 1
    show (r.val + 2047) % 2048 = r.val - 1
    omega

theorem last_apply : last0 (seqOf i) (k0_pay59 (F := Ideal) (k0_pay2 x0 w)) (ix2 r c) = if r.val % len i = len i - 1 then 0 else chan x0 w c (r.val + 1) := by
  rw [last0_apply]
  simp only [last_edge]
  split
  · rfl
  · next h =>
    have h1 : r.val ≠ 2047 := by
      intro e; apply h; rw [e]; unfold len; split <;> rfl
    rw [up_apply, chan_val]
    congr 1
    show (r.val + 1) % 2048 = r.val + 1
    omega

end

section
variable (i : grid0.Coords) (x0 : Vec Ideal S2048x2048 .bf16) (x1 x2 : Vec Ideal S1x2048x256 .f32) (x3 x4 : Vec Ideal S3x256 .f32) (x5 x6 : Vec Ideal S1x256 .f32)
variable (r : Fin 2048) (c : Fin 256)

theorem ldrow (x : Vec Ideal S3x256 .f32) : View.ld x r0_2 (ix2 0 c) = x (ix2 0 c) ∧ View.ld x r0_3 (ix2 0 c) = x (ix2 1 c) ∧ View.ld x r0_4 (ix2 0 c) = x (ix2 2 c) := by
  refine ⟨View.ld_unit_apply_of x _ _ _ _ _ ?_, View.ld_unit_apply_of x _ _ _ _ _ ?_, View.ld_unit_apply_of x _ _ _ _ _ ?_⟩ <;>
    (intro a; fin_cases a <;> simp)

/-- What a grid point stores: the gate's channel through its logistic gate, times the value's channel. -/
theorem block_apply : out0_7 i x0 x1 x2 x3 x4 x5 x6 (ix2 r c)
    = conv (len i) (chan x0 x1 c) (x3 (ix2 0 c)) (x3 (ix2 1 c)) (x3 (ix2 2 c)) (x5 (ix2 0 c)) r.val
        * FloatOps.logistic (F := Ideal) (φ := .f32) (conv (len i) (chan x0 x1 c) (x3 (ix2 0 c)) (x3 (ix2 1 c)) (x3 (ix2 2 c)) (x5 (ix2 0 c)) r.val)
      * conv (len i) (chan x0 x2 c) (x4 (ix2 0 c)) (x4 (ix2 1 c)) (x4 (ix2 2 c)) (x6 (ix2 0 c)) r.val := by
  rw [out_eq, View.canon_unit_zero (by funext a; fin_cases a <;> rfl), last_eq]
  have hz : ∀ (x : Vec Ideal S2048x2048 .bf16), View.ld x r0_0 = x := fun x => View.ld_unit_zero (by funext a; fin_cases a <;> rfl) _ x
  have hw : ∀ (x : Vec Ideal S1x2048x256 .f32), View.ld x r0_1 = x := fun x => View.ld_unit_zero (by funext a; fin_cases a <;> rfl) _ x
  have hb : ∀ (x : Vec Ideal S1x256 .f32), View.ld x r0_5 = x := fun x => View.ld_unit_zero (by funext a; fin_cases a <;> rfl) _ x
  rw [hz, hw, hw, hb, hb]
  have e (p : Fin 2) := wide_row p (k0_pay2 x0 x1) (k0_pay3 x0 x2) (first0 (seqOf i) (k0_pay4 x0 x1)) (first0 (seqOf i) (k0_pay5 x0 x2))
    (last0 (seqOf i) (k0_pay59 (k0_pay2 x0 x1))) (last0 (seqOf i) (k0_pay60 (k0_pay3 x0 x2))) (View.ld x3 r0_2)
    (View.ld x4 r0_2) (View.ld x3 r0_3) (View.ld x4 r0_3) (View.ld x3 r0_4) (View.ld x4 r0_4) x5 x6 r c
  have e0 := (e 0).trans (c := conv (len i) (chan x0 x1 c) (x3 (ix2 0 c)) (x3 (ix2 1 c)) (x3 (ix2 2 c)) (x5 (ix2 0 c)) r.val) (by
    simp only [if_true, (ldrow c x3).1, (ldrow c x3).2.1, (ldrow c x3).2.2]
    rw [first_apply, last_apply, chan_val]; rfl)
  have e1 := (e 1).trans (c := conv (len i) (chan x0 x2 c) (x4 (ix2 0 c)) (x4 (ix2 1 c)) (x4 (ix2 2 c)) (x6 (ix2 0 c)) r.val) (by
    simp only [show ((1 : Fin 2) = 0) = False from by simp, if_false, (ldrow c x4).1, (ldrow c x4).2.1, (ldrow c x4).2.2]
    rw [show k0_pay3 x0 x2 = k0_pay2 x0 x2 from rfl, show k0_pay5 x0 x2 = k0_pay4 x0 x2 from rfl, show k0_pay60 (k0_pay2 x0 x2) = k0_pay59 (k0_pay2 x0 x2) from rfl,
      first_apply, last_apply, chan_val]; rfl)
  rw [← e0, ← e1]
  rfl

end

end Cert.Body

end
-- ==== Proof.Blocks.lean ====
/- The call's array after its run: at row `R` and channel `C`, the gated product of two convolved channels, from the four arguments. -/
module

public import proofs.«01_k».proof.Proof.Gen.HalvesIdeal.Value
public import proofs.«01_k».proof.Proof.Body
public import Idealize.ShloMosaic.Lib.Pipeline.ValueKit

@[expose] public section

set_option maxRecDepth 16384

noncomputable section

namespace Cert.Blocks

open Cert.HalvesIdeal Cert.HalvesIdeal.Gen Cert.Body Idealize.ShloMosaic Idealize.ShloMosaic.TcCoe Idealize.SL.Sem
open Idealize.ShloMosaic.Pipeline (Dat)

/-- The length of the sequence a row of all tokens lies in. -/
def len' (R : ℕ) : ℕ := if R < 8192 then 256 else 2048

/-- One channel of the up-projection, by row of all tokens (zero past the last). -/
def up (A : FVec Ideal S16384x2048 .bf16) (W : FVec Ideal S4x2048x11264 .f32) (C : Fin 11264) (R : ℕ) : EReal :=
  if h : R < 16384 then ∑ k : Fin 2048, A (ix2 (⟨R, h⟩ : Fin 16384) k) * W (ix3 0 k C) else 0

/-- One channel convolved over its rows. -/
def channel (A : FVec Ideal S16384x2048 .bf16) (W : FVec Ideal S4x2048x11264 .f32) (K : FVec Ideal S4x3x11264 .f32) (B : FVec Ideal S4x11264 .f32)
    (C : Fin 11264) (R : ℕ) : EReal :=
  conv (len' R) (up A W C) (K (ix3 0 0 C)) (K (ix3 0 1 C)) (K (ix3 0 2 C)) (B (ix2 0 C)) R

/-- The gated product of channels `C` and `5632 + C`. -/
def gated (A : FVec Ideal S16384x2048 .bf16) (W : FVec Ideal S4x2048x11264 .f32) (K : FVec Ideal S4x3x11264 .f32) (B : FVec Ideal S4x11264 .f32) :
    FVec Ideal S16384x5632 .bf16 := fun y =>
  let g : EReal := channel A W K B ⟨(y 1).val, by have := (y 1).isLt; change _ < 5632 at this; omega⟩ (y 0).val
  g * FloatOps.logistic (F := Ideal) (φ := .f32) g
    * channel A W K B ⟨5632 + (y 1).val, by have := (y 1).isLt; change _ < 5632 at this; omega⟩ (y 0).val

/-- The convolution reads rows `r - 1`, `r`, `r + 1`, the first and last only inside the sequence. -/
theorem conv_shift (L L' o r : ℕ) (P P' : ℕ → EReal) (a0 a1 a2 b : EReal) (hL : L = L') (h0 : 0 < L) (ho : o % L = 0)
    (h : ∀ s, (s + 1 = r ∧ r % L ≠ 0) ∨ s = r ∨ (s = r + 1 ∧ r % L ≠ L - 1) → P s = P' (o + s)) :
    conv L P a0 a1 a2 b r = conv L' P' a0 a1 a2 b (o + r) := by
  subst hL
  have hr : (o + r) % L = r % L := by rw [Nat.add_mod, ho, Nat.zero_add, Nat.mod_mod]
  unfold conv
  rw [hr]
  have e1 : (if r % L = 0 then (0 : EReal) else P (r - 1)) = if r % L = 0 then 0 else P' (o + r - 1) := by
    split
    · rfl
    · next hn =>
      have : r ≠ 0 := fun e => hn (by rw [e]; exact Nat.zero_mod _)
      rw [h (r - 1) (Or.inl ⟨by omega, hn⟩)]; congr 1; omega
  have e2 : (if r % L = L - 1 then (0 : EReal) else P (r + 1)) = if r % L = L - 1 then 0 else P' (o + r + 1) := by
    split
    · rfl
    · next hn => rw [h (r + 1) (Or.inr (Or.inr ⟨rfl, hn⟩))]; congr 1
  rw [e1, e2, h r (Or.inr (Or.inl rfl))]

variable (m : (ℓ : Loc nD τ sig) → Buf (Elt Ideal) ℓ) (c : Dev nD)

/-- Each window's block at a grid point. -/
theorem idx : ∀ t : Fin cfg0.N, win0_0.index t = ![t.val / 22, 0] ∧ win0_1.index t = ![0, 0, t.val % 22] ∧ win0_2.index t = ![0, 0, 22 + t.val % 22]
    ∧ win0_3.index t = ![0, t.val % 22] ∧ win0_4.index t = ![0, 22 + t.val % 22] ∧ win0_5.index t = ![0, t.val % 22] ∧ win0_6.index t = ![0, 22 + t.val % 22]
    ∧ win0_7.index t = ![t.val / 22, t.val % 22] ∧ (grid0.coords t 0).val = t.val / 22 ∧ t.val / 22 < 8 :=
  (by decide +kernel : ∀ t : Fin grid0.N, _)

/-- The kernel windows the host's slices of the weights: layer 0's rows. -/
theorem taps (a : Fin 3) (C : Fin 11264) : (V m c main_v1 : FVec Ideal S3x11264 .f32) (ix2 a C) = m (c, Proc.tc.devRef main_arg2) (ix3 0 a C) := by
  have h : (V m c main_v1 : FVec Ideal S3x11264 .f32) = shapeCast S3x11264 (extractStridedSlice S1x3x11264 ![0, 0, 0] (m (c, Proc.tc.devRef main_arg2)) slices_S4x3x11264_S1x3x11264_0_0_0) shapeCasts_S1x3x11264_S3x11264 := by
    entry_read; rfl
  rw [h]; pointwise []

/-- The bias row as either window finds it: layer 0's. -/
theorem bias (C : Fin 11264) : (V m c main_v4 : FVec Ideal S1x11264 .f32) (ix2 0 C) = m (c, Proc.tc.devRef main_arg3) (ix2 0 C)
    ∧ (V m c main_v5 : FVec Ideal S1x11264 .f32) (ix2 0 C) = m (c, Proc.tc.devRef main_arg3) (ix2 0 C) := by
  have h : (V m c main_v4 : FVec Ideal S1x11264 .f32) = shapeCast S1x11264 (shapeCast S11264 (extractStridedSlice S1x11264 ![0, 0] (m (c, Proc.tc.devRef main_arg3)) slices_S4x11264_S1x11264_0_0) shapeCasts_S1x11264_S11264) shapeCasts_S11264_S1x11264 := by
    entry_read; rfl
  have h' : (V m c main_v5 : FVec Ideal S1x11264 .f32) = shapeCast S1x11264 (shapeCast S11264 (extractStridedSlice S1x11264 ![0, 0] (m (c, Proc.tc.devRef main_arg3)) slices_S4x11264_S1x11264_0_0) shapeCasts_S1x11264_S11264) shapeCasts_S11264_S1x11264 := by
    entry_read; rfl
  rw [h, h']
  constructor <;> pointwise []

section
variable (t : Fin cfg0.N) (y1 : Fin 256)

theorem left_lt : t.val % 22 * 256 + y1.val < 11264 := by omega
theorem right_lt : (22 + t.val % 22) * 256 + y1.val < 11264 := by omega

/-- A grid point's product, channel by channel, is the whole product's at the block's place. -/
theorem chan_left (s : ℕ) (hs : s < 2048) : chan (iblk m c 0 t) (iblk m c 1 t) y1 s
    = up (m ((c : Thread nD τ).loc main_arg0)) (m ((c : Thread nD τ).loc main_arg1)) ⟨_, left_lt t y1⟩ (2048 * (t.val / 22) + s) := by
  have h8 := (idx t).2.2.2.2.2.2.2.2.2
  rw [chan, up, dif_pos hs, dif_pos (by omega)]
  blk_point [iblk, V, idx t]

theorem chan_right (s : ℕ) (hs : s < 2048) : chan (iblk m c 0 t) (iblk m c 2 t) y1 s
    = up (m ((c : Thread nD τ).loc main_arg0)) (m ((c : Thread nD τ).loc main_arg1)) ⟨_, right_lt t y1⟩ (2048 * (t.val / 22) + s) := by
  have h8 := (idx t).2.2.2.2.2.2.2.2.2
  rw [chan, up, dif_pos hs, dif_pos (by omega)]
  blk_point [iblk, V, idx t]

theorem taps_left (a : Fin 3) : (iblk m c 3 t : FVec Ideal S3x256 .f32) (ix2 a y1) = m ((c : Thread nD τ).loc main_arg2) (ix3 0 a ⟨_, left_lt t y1⟩) := by
  have e := taps m c a ⟨_, left_lt t y1⟩
  refine Eq.trans ?_ e
  blk_ext [iblk, idx t]

theorem taps_right (a : Fin 3) : (iblk m c 4 t : FVec Ideal S3x256 .f32) (ix2 a y1) = m ((c : Thread nD τ).loc main_arg2) (ix3 0 a ⟨_, right_lt t y1⟩) := by
  have e := taps m c a ⟨_, right_lt t y1⟩
  refine Eq.trans ?_ e
  blk_ext [iblk, idx t]

theorem bias_left : (iblk m c 5 t : FVec Ideal S1x256 .f32) (ix2 0 y1) = m ((c : Thread nD τ).loc main_arg3) (ix2 0 ⟨_, left_lt t y1⟩) := by
  refine Eq.trans ?_ (bias m c ⟨_, left_lt t y1⟩).1
  blk_ext [iblk, idx t]

theorem bias_right : (iblk m c 6 t : FVec Ideal S1x256 .f32) (ix2 0 y1) = m ((c : Thread nD τ).loc main_arg3) (ix2 0 ⟨_, right_lt t y1⟩) := by
  refine Eq.trans ?_ (bias m c ⟨_, right_lt t y1⟩).2
  blk_ext [iblk, idx t]

theorem len_eq : len (grid0.coords t) = len' (2048 * (t.val / 22)) ∧ 2048 * (t.val / 22) % len (grid0.coords t) = 0 ∧ 0 < len (grid0.coords t)
    ∧ ∀ r < 2048, len' (2048 * (t.val / 22) + r) = len' (2048 * (t.val / 22)) ∧ ∀ s, (s + 1 = r ∧ r % len (grid0.coords t) ≠ 0) ∨ s = r ∨ (s = r + 1 ∧ r % len (grid0.coords t) ≠ len (grid0.coords t) - 1) → s < 2048 := by
  have e := (idx t).2.2.2.2.2.2.2.2.1
  have h8 := (idx t).2.2.2.2.2.2.2.2.2
  unfold len
  rw [e]
  unfold len'
  refine ⟨?_, ?_, ?_, fun r hr => ⟨?_, fun s hs => ?_⟩⟩
  · split <;> split <;> omega
  · split <;> omega
  · split <;> omega
  · split <;> split <;> omega
  · split at hs <;> omega

variable (y0 : Fin 2048)

theorem conv_left : conv (len (grid0.coords t)) (chan (iblk m c 0 t) (iblk m c 1 t) y1) ((iblk m c 3 t : FVec Ideal S3x256 .f32) (ix2 0 y1))
      ((iblk m c 3 t : FVec Ideal S3x256 .f32) (ix2 1 y1)) ((iblk m c 3 t : FVec Ideal S3x256 .f32) (ix2 2 y1)) ((iblk m c 5 t : FVec Ideal S1x256 .f32) (ix2 0 y1)) y0.val
    = channel (m ((c : Thread nD τ).loc main_arg0)) (m ((c : Thread nD τ).loc main_arg1)) (m ((c : Thread nD τ).loc main_arg2)) (m ((c : Thread nD τ).loc main_arg3))
        ⟨_, left_lt t y1⟩ (2048 * (t.val / 22) + y0.val) := by
  obtain ⟨e1, e2, e3, e4⟩ := len_eq t
  rw [taps_left, taps_left, taps_left, bias_left, channel]
  exact conv_shift _ _ _ _ _ _ _ _ _ _ (e1.trans (e4 y0.val y0.isLt).1.symm) e3 e2 fun s hs => chan_left m c t y1 s ((e4 y0.val y0.isLt).2 s hs)

theorem conv_right : conv (len (grid0.coords t)) (chan (iblk m c 0 t) (iblk m c 2 t) y1) ((iblk m c 4 t : FVec Ideal S3x256 .f32) (ix2 0 y1))
      ((iblk m c 4 t : FVec Ideal S3x256 .f32) (ix2 1 y1)) ((iblk m c 4 t : FVec Ideal S3x256 .f32) (ix2 2 y1)) ((iblk m c 6 t : FVec Ideal S1x256 .f32) (ix2 0 y1)) y0.val
    = channel (m ((c : Thread nD τ).loc main_arg0)) (m ((c : Thread nD τ).loc main_arg1)) (m ((c : Thread nD τ).loc main_arg2)) (m ((c : Thread nD τ).loc main_arg3))
        ⟨_, right_lt t y1⟩ (2048 * (t.val / 22) + y0.val) := by
  obtain ⟨e1, e2, e3, e4⟩ := len_eq t
  rw [taps_right, taps_right, taps_right, bias_right, channel]
  exact conv_shift _ _ _ _ _ _ _ _ _ _ (e1.trans (e4 y0.val y0.isLt).1.symm) e3 e2 fun s hs => chan_right m c t y1 s ((e4 y0.val y0.isLt).2 s hs)

end

/-- The array the call leaves is the gated product. -/
theorem final : (dats m 0 c).arrAt 7 (cfgs 0).N
    = gated (m ((c : Thread nD τ).loc main_arg0)) (m ((c : Thread nD τ).loc main_arg1)) (m ((c : Thread nD τ).loc main_arg2)) (m ((c : Thread nD τ).loc main_arg3)) := by
  refine (dats m 0 c).arrAt_eq_of_covers 7 (gated (m ((c : Thread nD τ).loc main_arg0)) (m ((c : Thread nD τ).loc main_arg1)) (m ((c : Thread nD τ).loc main_arg2)) (m ((c : Thread nD τ).loc main_arg3)))
    (by decide +kernel) fun t _ y => ?_
  blk_simp
  rw [after0_7]
  idx_vars y
  refine (block_apply _ _ _ _ _ _ _ _ _ _).trans ?_
  rw [conv_left, conv_right]
  unfold gated
  blk_simp [idx t]
  simp only [show (22 + t.val % 22) * 256 + y1.val = 5632 + (t.val % 22 * 256 + y1.val) from by omega,
    Nat.mul_comm 2048 (t.val / 22)]

end Cert.Blocks

end
-- ==== Proof.RefVal.lean ====
/- The reference at a row and a channel: the same gated product. -/
module

public import proofs.«01_k».proof.Proof.Gen.ReferenceIdeal.Read
public import proofs.«01_k».proof.Proof.Blocks

@[expose] public section

set_option maxRecDepth 16384

noncomputable section

namespace Cert.RefVal

open Cert.ReferenceIdeal Cert.ReferenceIdeal.Gen Cert.ReferenceIdeal.Read Idealize.ShloMosaic

variable (A : FVec Ideal S16384x2048 .bf16) (W : FVec Ideal S4x2048x11264 .f32) (K : FVec Ideal S4x3x11264 .f32) (B : FVec Ideal S4x11264 .f32)

/-- Three neighbouring rows of a sequence padded by one zero at each end, weighted, are the convolution that reads zero outside it. -/
theorem conv_of_pad (L o t : ℕ) (P : ℕ → EReal) (a0 a1 a2 b q0 q1 q2 : EReal) (ht : t < L) (ho : o % L = 0)
    (h0 : q0 = if t = 0 ∨ t = L + 1 then 0 else P (o + t - 1)) (h1 : q1 = if 1 + t = 0 ∨ 1 + t = L + 1 then 0 else P (o + (1 + t) - 1))
    (h2 : q2 = if 2 + t = 0 ∨ 2 + t = L + 1 then 0 else P (o + (2 + t) - 1)) :
    q0 * a0 + q1 * a1 + q2 * a2 + b = Body.conv L P a0 a1 a2 b (o + t) := by
  have hr : (o + t) % L = t := by rw [Nat.add_mod, ho, Nat.zero_add, Nat.mod_mod, Nat.mod_eq_of_lt ht]
  have e0 : q0 = if t = 0 then 0 else P (o + t - 1) := by
    rw [h0]; split <;> split <;> first | rfl | omega
  have e1 : q1 = P (o + t) := by
    rw [h1, if_neg (by omega), show o + (1 + t) - 1 = o + t by omega]
  have e2 : q2 = if t = L - 1 then 0 else P (o + t + 1) := by
    rw [h2, show o + (2 + t) - 1 = o + t + 1 by omega]; split <;> split <;> first | rfl | omega
  unfold Body.conv
  rw [hr, e0, e1, e2, mul_comm a0, mul_comm a1, mul_comm a2]

/-- The first group's product, at a sequence, a place and a channel. -/
theorem prod_short (b : Fin 32) (t : Fin 256) (C : Fin 11264) : val_main_v11 (F := Ideal) A W (ix3 b t C) = Blocks.up A W C (256 * b.val + t.val) := by
  rw [Blocks.up, dif_pos (by omega)]
  unfold val_main_v11 val_main_v10 val_main_v7 val_main_v6 val_main_v1 val_main_v0
  pointwise []
  simp only [Nat.mul_comm b.val 256]

theorem pad_short (b : Fin 32) (t : Fin 258) (C : Fin 11264) : val_main_v12 (F := Ideal) A W (ix3 b t C)
    = if t.val = 0 ∨ t.val = 256 + 1 then 0 else Blocks.up A W C (256 * b.val + t.val - 1) := by
  unfold val_main_v12
  pointwise [val_main_call0_v0, val_main_c]
  split
  · next h => rw [if_neg (by omega), prod_short]; congr 1; show 256 * b.val + (t.val - 1) = _; omega
  · next h => rw [if_pos (by omega)]; show (((0#32).toInt : ℝ) : EReal) = 0; simp

/-- The first group convolved. -/
theorem conv_short (b : Fin 32) (t : Fin 256) (C : Fin 11264) : val_main_v35 (F := Ideal) A W K B (ix3 b t C) = Blocks.channel A W K B C (256 * b.val + t.val) := by
  simp only [val_main_v35, val_main_v32, val_main_v25, val_main_v18, val_main_v24, val_main_v31, val_main_v13, val_main_v19, val_main_v26,
    val_main_v17, val_main_v16, val_main_v15, val_main_v14, val_main_v3, val_main_v2, val_main_v23, val_main_v22, val_main_v21, val_main_v20,
    val_main_v30, val_main_v29, val_main_v28, val_main_v27, val_main_v34, val_main_v33, val_main_v5, val_main_v4]
  pointwise []
  rw [Blocks.channel, show Blocks.len' (256 * b.val + t.val) = 256 from if_pos (by omega)]
  exact conv_of_pad _ _ _ _ _ _ _ _ _ _ _ t.isLt (by omega) (pad_short ..) (pad_short ..) (pad_short ..)

/-- The second group's product, at a sequence, a place and a channel. -/
theorem prod_long (b : Fin 4) (t : Fin 2048) (C : Fin 11264) : val_main_v42 (F := Ideal) A W (ix3 b t C) = Blocks.up A W C (8192 + 2048 * b.val + t.val) := by
  rw [Blocks.up, dif_pos (by omega)]
  unfold val_main_v42 val_main_v41 val_main_v9 val_main_v8 val_main_v1 val_main_v0
  pointwise []
  simp only [Nat.mul_comm b.val 2048, ← Nat.add_assoc]

theorem pad_long (b : Fin 4) (t : Fin 2050) (C : Fin 11264) : val_main_v43 (F := Ideal) A W (ix3 b t C)
    = if t.val = 0 ∨ t.val = 2048 + 1 then 0 else Blocks.up A W C (8192 + 2048 * b.val + t.val - 1) := by
  unfold val_main_v43
  pointwise [val_main_call2_v0, val_main_c_0]
  split
  · next h => rw [if_neg (by omega), prod_long]; congr 1; show 8192 + 2048 * b.val + (t.val - 1) = _; omega
  · next h => rw [if_pos (by omega)]; show (((0#32).toInt : ℝ) : EReal) = 0; simp

/-- The second group convolved. -/
theorem conv_long (b : Fin 4) (t : Fin 2048) (C : Fin 11264) : val_main_v66 (F := Ideal) A W K B (ix3 b t C) = Blocks.channel A W K B C (8192 + 2048 * b.val + t.val) := by
  simp only [val_main_v66, val_main_v63, val_main_v56, val_main_v49, val_main_v55, val_main_v62, val_main_v44, val_main_v50, val_main_v57,
    val_main_v48, val_main_v47, val_main_v46, val_main_v45, val_main_v3, val_main_v2, val_main_v54, val_main_v53, val_main_v52, val_main_v51,
    val_main_v61, val_main_v60, val_main_v59, val_main_v58, val_main_v65, val_main_v64, val_main_v5, val_main_v4]
  pointwise []
  rw [Blocks.channel, show Blocks.len' (8192 + 2048 * b.val + t.val) = 2048 from if_neg (by omega)]
  exact conv_of_pad _ _ _ _ _ _ _ _ _ _ _ t.isLt (by omega) (pad_long ..) (pad_long ..) (pad_long ..)

/-- The first group gated: its rows of the result. -/
theorem gated_short (r : Fin 8192) (C : Fin 5632) : val_main_v40 (F := Ideal) A W K B (ix2 r C) = Blocks.gated A W K B (ix2 (⟨r.val, by omega⟩ : Fin 16384) C) := by
  unfold Blocks.gated
  simp only [val_main_v40, val_main_v39, val_main_v38, val_main_call1_v5, val_main_call1_v4, val_main_call1_v3, val_main_call1_v2, val_main_call1_v1, val_main_call1_v0,
    val_main_call1_cst, val_main_call1_cst_0, val_main_v37, val_main_v36]
  pointwise []
  rw [conv_short, conv_short, show 256 * (⟨r.val / 256, by omega⟩ : Fin 32).val + (⟨r.val % 256, by omega⟩ : Fin 256).val = r.val from Nat.div_add_mod ..]
  rfl

/-- The second group gated: the rows after the first group's. -/
theorem gated_long (r : Fin 8192) (C : Fin 5632) : val_main_v71 (F := Ideal) A W K B (ix2 r C) = Blocks.gated A W K B (ix2 (⟨8192 + r.val, by omega⟩ : Fin 16384) C) := by
  unfold Blocks.gated
  simp only [val_main_v71, val_main_v70, val_main_v69, val_main_call3_v5, val_main_call3_v4, val_main_call3_v3, val_main_call3_v2, val_main_call3_v1, val_main_call3_v0,
    val_main_call3_cst, val_main_call3_cst_0, val_main_v68, val_main_v67]
  pointwise []
  rw [conv_long, conv_long, show 8192 + 2048 * (⟨r.val / 2048, by omega⟩ : Fin 4).val + (⟨r.val % 2048, by omega⟩ : Fin 2048).val = 8192 + r.val from by
    show 8192 + 2048 * (r.val / 2048) + r.val % 2048 = _; omega]
  rfl

/-- The reference's result is the gated product. -/
theorem result : val_main_v73 (F := Ideal) A W K B = Blocks.gated A W K B := by
  funext y
  idx_vars y
  show val_main_v72 (F := Ideal) A W K B (ix2 y0 y1) = _
  unfold val_main_v72
  pointwise []
  split
  · exact gated_short A W K B ⟨y0.val, by assumption⟩ y1
  · next h =>
    have e : (⟨8192 + (y0.val - 8192), by omega⟩ : Fin 16384) = y0 := Fin.ext (show 8192 + (y0.val - 8192) = y0.val by omega)
    have g := gated_long A W K B ⟨y0.val - 8192, by omega⟩ y1
    rw [show (⟨8192 + (⟨y0.val - 8192, by omega⟩ : Fin 8192).val, by have := y0.isLt; show 8192 + (y0.val - 8192) < 16384; omega⟩ : Fin 16384) = y0 from e] at g
    exact g

end Cert.RefVal

end
-- ==== Proof.Equal.lean ====
/- The first call against its reference, over the extended reals. -/
module

public import proofs.«01_k».proof.Proof.RefVal
public import proofs.«01_k».proof.Proof.Runs

@[expose] public section

set_option maxRecDepth 16384

noncomputable section

namespace Cert.Equal

open Idealize.ShloMosaic Idealize.SL.Sem Cert.Runs

/-- From the same arguments, the call and the reference leave the same array. -/
theorem ffn_up : Cert.algebraic_HalvesIdeal_ReferenceIdeal := fun m g m' g' _ hag =>
  ⟨fun c => (Cert.HalvesIdeal.Gen.dats m 0 c).arrAt 7 Cert.HalvesIdeal.cfg0.N, Cert.HalvesIdeal.Value.run_blocks m g,
    (θ_run _ _ _).mono (fun _ h c => ⟨(h c).1.trans (by
        rw [Cert.ReferenceIdeal.Read.val_main_v73_eq]
        obtain ⟨h0, h1, h2, h3⟩ := hag c
        refine Eq.trans ?_ (Cert.Blocks.final m c).symm
        refine Eq.trans ?_ (Cert.RefVal.result _ _ _ _)
        rw [← h0, ← h1, ← h2, ← h3]), (h c).2⟩) (Cert.ReferenceIdeal.Value.run m' g')⟩

end Cert.Equal

end
-- ==== Proof.Row.lean ====
/- One row of a residual step and of its normalisation, over the extended reals. -/
module

public import Idealize.ShloMosaic.Lib.Pipeline.ValueKit

@[expose] public section

noncomputable section

namespace Cert.Row

open Idealize.ShloMosaic

/-- A row of the residual stream and its gated increment: the row `u` times the matrix `w`. -/
def resid {n : ℕ} (x gate : Fin 2048 → EReal) (u : Fin n → EReal) (w : Fin n → Fin 2048 → EReal) (k : Fin 2048) : EReal :=
  x k + gate k * ∑ j, u j * w j k

/-- A row divided by its root mean square (the mean over 2048 channels, the printed constant added), times `g`. -/
def rms (x g : Fin 2048 → EReal) (k : Fin 2048) : EReal :=
  x k * Ideal.rsqrt (Ideal.div (∑ j, x j * x j) (Ideal.ofBits FTy.f32 1157627904#32) + Ideal.ofBits FTy.f32 897988541#32) * g k

/-- A row normalised, then scaled by one more than `s` and shifted by `b`. -/
def modulated (x g s b : Fin 2048 → EReal) (k : Fin 2048) : EReal :=
  rms x g k * (1 + s k) + b k

/-- The modulation row of a token: the prompts' is 0, sample `s`'s is `1 + s`. -/
def tok (R : Fin 16384) : Fin 8 :=
  if R.val < 8192 then 0 else ⟨1 + (R.val - 8192) / 2048, by have := R.isLt; omega⟩

/-- Two halves of 1024 entries, one after the other. -/
def both {α : Type} (a b : Fin 1024 → α) (j : Fin 2048) : α :=
  if h : j.val < 1024 then a ⟨j.val, h⟩ else b ⟨j.val - 1024, by omega⟩

/-- The halves of a row, joined, are the row. -/
theorem both_split {α : Type} (f : Fin 2048 → α) : both (fun j => f ⟨j.val, by omega⟩) (fun j => f ⟨1024 + j.val, by omega⟩) = f := by
  funext j
  unfold both
  split
  · rfl
  · exact congrArg f (Fin.ext (by show 1024 + (j.val - 1024) = j.val; omega))

/-- The step by two products of half the rows is the step by the product of the joined rows. -/
theorem resid_both (x gate : Fin 2048 → EReal) (a b : Fin 1024 → EReal) (v w : Fin 1024 → Fin 2048 → EReal) (k : Fin 2048) :
    x k + gate k * (∑ j, a j * v j k + ∑ j, b j * w j k) = resid x gate (both a b) (both v w) k := by
  unfold resid
  congr 2
  refine Eq.trans ?_ (Fin.sum_univ_add (fun j : Fin (1024 + 1024) => both a b j * both v w j k)).symm
  have h0 : ∀ j : Fin 1024, (Fin.castAdd 1024 j : Fin 2048).val < 1024 := fun j => j.isLt
  have h1 : ∀ j : Fin 1024, ¬(Fin.natAdd 1024 j : Fin 2048).val < 1024 := fun j => by show ¬1024 + j.val < 1024; omega
  have e : ∀ {α : Type} (f g : Fin 1024 → α) (j : Fin 1024), both f g (Fin.castAdd 1024 j) = f j := fun f g j => dif_pos (h0 j)
  have e' : ∀ {α : Type} (f g : Fin 1024 → α) (j : Fin 1024), both f g (Fin.natAdd 1024 j) = g j := fun f g j =>
    (dif_neg (h1 j)).trans (congrArg g (Fin.ext (by show 1024 + j.val - 1024 = j.val; omega)))
  simp only [e, e']

end Cert.Row

end
-- ==== Proof.Tail.lean ====
/- The last call's block: row `r` of what a grid point stores is the row's residual step, normalised. -/
module

public import proofs.«01_k».proof.Proof.Gen.PromptIdeal.Frame
public import proofs.«01_k».proof.Proof.Row

@[expose] public section

set_option maxRecDepth 16384

noncomputable section

namespace Cert.Tail

open Cert.PromptIdeal Cert.PromptIdeal.Gen Idealize.ShloMosaic Idealize.ShloMosaic.TcCoe Idealize.SL.Sem

/-- What a point stores in half a block, from its loads. -/
theorem half (u : Vec Ideal S128x5632 .bf16) (w : Vec Ideal S5632x2048 .bf16) (x : Vec Ideal S128x2048 .f32) (gate : Vec Ideal S1x1x2048 .f32)
    (g : Vec Ideal S1x2048 .f32) (r : Fin 128) (k : Fin 2048) : k0_pay2 (F := Ideal) u w x gate g (ix2 r k)
    = Row.rms (Row.resid (fun k => x (ix2 r k)) (fun k => gate (ix3 0 0 k)) (fun j => u (ix2 r j)) fun j k => w (ix2 j k)) (fun k => g (ix2 0 k)) k := by
  unfold k0_pay2
  pointwise []
  rfl

/-- The second half's store is the first's expression of the second half's loads. -/
theorem half_eq (u : Vec Ideal S128x5632 .bf16) (w : Vec Ideal S5632x2048 .bf16) (x : Vec Ideal S128x2048 .f32) (gate : Vec Ideal S1x1x2048 .f32)
    (g : Vec Ideal S1x2048 .f32) : k0_pay1 (F := Ideal) (k0_pay3 u w) x gate g = k0_pay2 u w x gate g := rfl

/-- What a point stores, row by row: the row of the residual stream, stepped and normalised. -/
theorem block_apply (U : Vec Ideal S256x5632 .bf16) (W : Vec Ideal S5632x2048 .bf16) (X : Vec Ideal S256x2048 .f32) (M : Vec Ideal S1x6x2048 .f32)
    (G : Vec Ideal S1x2048 .f32) (r : Fin 256) (k : Fin 2048) : out0_5 (F := Ideal) U W X M G (ix2 r k)
    = Row.rms (Row.resid (fun k => X (ix2 r k)) (fun k => M (ix3 0 5 k)) (fun j => U (ix2 r j)) fun j k => W (ix2 j k)) (fun k => G (ix2 0 k)) k := by
  have hw : ∀ (W : Vec Ideal S5632x2048 .bf16), View.ld W r0_1 = W := fun W => View.ld_unit_zero (by funext a; fin_cases a <;> rfl) _ W
  have hg : ∀ (G : Vec Ideal S1x2048 .f32), View.ld G r0_4 = G := fun G => View.ld_unit_zero (by funext a; fin_cases a <;> rfl) _ G
  have hm : ∀ k : Fin 2048, View.ld M r0_3 (ix3 0 0 k) = M (ix3 0 5 k) := fun k =>
    View.ld_unit_apply_of _ _ _ _ _ _ (by intro a; fin_cases a; exacts [rfl, rfl, (Nat.zero_add _).symm])
  unfold out0_5
  rw [half_eq, hw, hg]
  generalize hy : (ix2 r k : S256x2048.Idx) = y
  canon_tiles x
  case piece0 =>
    subst hy
    idx_vars x
    obtain rfl : x1 = k := Fin.ext h1.symm
    rw [half]
    simp only [hm]
    congr 2
    · funext k'
      exact View.ld_unit_apply_of _ _ _ _ _ _ (by intro a; fin_cases a; exacts [h0, (Nat.zero_add _).symm])
    · funext j
      exact View.ld_unit_apply_of _ _ _ _ _ _ (by intro a; fin_cases a; exacts [h0, (Nat.zero_add _).symm])
  case piece1 =>
    subst hy
    idx_vars x
    obtain rfl : x1 = k := Fin.ext h1.symm
    rw [half]
    simp only [hm]
    congr 2
    · funext k'
      exact View.ld_unit_apply_of _ _ _ _ _ _ (by intro a; fin_cases a; exacts [h0.trans (Nat.zero_add _).symm, (Nat.zero_add _).symm])
    · funext j
      exact View.ld_unit_apply_of _ _ _ _ _ _ (by intro a; fin_cases a; exacts [h0.trans (Nat.zero_add _).symm, (Nat.zero_add _).symm])

end Cert.Tail

end
-- ==== Proof.Last.lean ====
/- The last layer's second product, residual and final norm as one function of the five arguments, by row of all tokens. -/
module

public import proofs.«01_k».proof.Proof.Tail

@[expose] public section

noncomputable section

namespace Cert.Last

open Cert.PromptIdeal Idealize.ShloMosaic

/-- Row `R` of all tokens, whose modulation lies in row `b`. -/
def row (u : FVec Ideal S16384x5632 .bf16) (w : FVec Ideal S4x5632x2048 .f32) (x : FVec Ideal S16384x2048 .f32) (mod : FVec Ideal S8x6x2048 .f32)
    (g : FVec Ideal S2048 .f32) (b : Fin 8) (R : Fin 16384) : Fin 2048 → EReal :=
  Row.rms (Row.resid (fun k => x (ix2 R k)) (fun k => mod (ix3 b 5 k)) (fun j => u (ix2 R j)) fun j k => w (ix3 3 j k)) fun k => g (ix1 k)

/-- A block whose row `r` reads the arrays' row `R` stores that row. -/
theorem block_row {U : Vec Ideal S256x5632 .bf16} {W : Vec Ideal S5632x2048 .bf16} {X : Vec Ideal S256x2048 .f32} {M : Vec Ideal S1x6x2048 .f32}
    {G : Vec Ideal S1x2048 .f32} {u : FVec Ideal S16384x5632 .bf16} {w : FVec Ideal S4x5632x2048 .f32} {x : FVec Ideal S16384x2048 .f32}
    {mod : FVec Ideal S8x6x2048 .f32} {g : FVec Ideal S2048 .f32} {b : Fin 8} {R : Fin 16384} {r : Fin 256} (hu : ∀ j, U (ix2 r j) = u (ix2 R j))
    (hw : ∀ j k, W (ix2 j k) = w (ix3 3 j k)) (hx : ∀ k, X (ix2 r k) = x (ix2 R k)) (hm : ∀ k, M (ix3 0 5 k) = mod (ix3 b 5 k))
    (hg : ∀ k, G (ix2 0 k) = g (ix1 k)) (k : Fin 2048) : Gen.out0_5 (F := Ideal) U W X M G (ix2 r k) = row u w x mod g b R k := by
  rw [Tail.block_apply]
  simp only [hu, hw, hx, hm, hg]
  rfl

/-- The prompts: the first 8192 rows, modulated by row 0. -/
def prompt (u : FVec Ideal S16384x5632 .bf16) (w : FVec Ideal S4x5632x2048 .f32) (x : FVec Ideal S16384x2048 .f32) (mod : FVec Ideal S8x6x2048 .f32)
    (g : FVec Ideal S2048 .f32) : FVec Ideal S8192x2048 .f32 := fun y =>
  row u w x mod g 0 ⟨(y 0).val, by have := (y 0).isLt; change _ < 8192 at this; omega⟩ (y 1)

/-- The samples: the rows after them, sample `s` of 2048 rows modulated by row `1 + s`. -/
def sample (u : FVec Ideal S16384x5632 .bf16) (w : FVec Ideal S4x5632x2048 .f32) (x : FVec Ideal S16384x2048 .f32) (mod : FVec Ideal S8x6x2048 .f32)
    (g : FVec Ideal S2048 .f32) : FVec Ideal S8192x2048 .f32 := fun y =>
  row u w x mod g ⟨1 + (y 0).val / 2048, by have := (y 0).isLt; change _ < 8192 at this; omega⟩ ⟨8192 + (y 0).val, by have := (y 0).isLt; change _ < 8192 at this; omega⟩ (y 1)

end Cert.Last

end
-- ==== Proof.LastPrompt.lean ====
/- The last call for the prompts: its runs, the array it leaves, and that the reference's result is the same. -/
module

public import proofs.«01_k».proof.Defs
public import proofs.«01_k».proof.Proof.Gen.Prompt.Frame
public import proofs.«01_k».proof.Proof.Gen.PromptIdeal.Value
public import proofs.«01_k».proof.Proof.Gen.PromptReferenceIdeal.Run
public import proofs.«01_k».proof.Proof.Gen.PromptReferenceIdeal.Read
public import proofs.«01_k».proof.Proof.Tail
public import proofs.«01_k».proof.Proof.Last
public import Idealize.ShloMosaic.Lib.Claim
public import Idealize.ShloMosaic.Lib.Quiescent

@[expose] public section

set_option maxRecDepth 16384

noncomputable section

namespace Cert.LastPrompt

open Idealize.ShloMosaic Idealize.ShloMosaic.TcCoe Idealize.SL.Sem

instance : Cert.Prompt.Facts := Cert.Prompt.Gen.facts
instance : Cert.PromptIdeal.Facts := Cert.PromptIdeal.Gen.facts
instance : Cert.PromptReferenceIdeal.Facts := Cert.PromptReferenceIdeal.Gen.facts

/-- The call terminates, leaves its arguments as they were and every counter at zero. -/
theorem frame_P : Cert.quiescent_Prompt := fun m ρ _ => Cert.Prompt.Gen.frame m ρ

/-- The same over the extended reals. -/
theorem frame_PI : Cert.quiescent_PromptIdeal := fun m ρ _ => Cert.PromptIdeal.Gen.frame m ρ

/-- The same of the reference over the extended reals, which has no counter. -/
theorem frame_RI : Cert.quiescent_PromptReferenceIdeal := fun m ρ _ =>
  (θ_run _ _ _).mono (fun r h => ⟨fun c => (h c).2, sem_eq_zero_of_no_sems (by decide) r.2⟩)
    (Cert.PromptReferenceIdeal.Value.run m ρ)

/-- No operation was rewritten for the extended reals. -/
theorem preserves : Cert.preserves_Prompt_PromptIdeal := trivial

section
open Cert.PromptIdeal Cert.PromptIdeal.Gen

variable (m : (ℓ : Loc nD τ sig) → Buf (Elt Ideal) ℓ) (c : Dev nD)

/-- Each window's block at a grid point. -/
theorem idx : ∀ t : Fin cfg0.N, win0_0.index t = ![t.val, 0] ∧ win0_1.index t = ![0, 0] ∧ win0_2.index t = ![t.val, 0]
    ∧ win0_3.index t = ![0, 0, 0] ∧ win0_4.index t = ![0, 0] ∧ win0_5.index t = ![t.val, 0] ∧ t.val < 32 :=
  (by decide +kernel : ∀ t : Fin grid0.N, _)

/-- The weights the host prepares: layer 3's. -/
theorem weights (j : Fin 5632) (k : Fin 2048) : (V m c main_v2 : FVec Ideal S5632x2048 .bf16) (ix2 j k) = m (c, Proc.tc.devRef main_arg1) (ix3 3 j k) := by
  have h : (V m c main_v2 : FVec Ideal S5632x2048 .bf16) = truncf (F := Ideal) (φ := .f32) .bf16 (shapeCast S5632x2048 (extractStridedSlice S1x5632x2048 ![3, 0, 0] (m (c, Proc.tc.devRef main_arg1)) slices_S4x5632x2048_S1x5632x2048_3_0_0) shapeCasts_S1x5632x2048_S5632x2048) := by
    entry_read; rfl
  rw [h]; pointwise []

/-- The final norm's weights as a row. -/
theorem gain (k : Fin 2048) : (V m c main_v3 : FVec Ideal S1x2048 .f32) (ix2 0 k) = m (c, Proc.tc.devRef main_arg4) (ix1 k) := by
  have h : (V m c main_v3 : FVec Ideal S1x2048 .f32) = shapeCast S1x2048 (m (c, Proc.tc.devRef main_arg4)) shapeCasts_S2048_S1x2048 := by
    entry_read; rfl
  rw [h]; pointwise []

/-- The array the call leaves. -/
theorem final : (dats m 0 c).arrAt 5 (cfgs 0).N
    = Last.prompt (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 5 (Last.prompt (m ((c : Thread nD τ).loc main_arg0)) (m ((c : Thread nD τ).loc main_arg1)) (m ((c : Thread nD τ).loc main_arg2))
    (m ((c : Thread nD τ).loc main_arg3)) (m ((c : Thread nD τ).loc main_arg4))) (by decide +kernel) fun t _ y => ?_
  blk_simp
  rw [after0_5]
  idx_vars y
  have h32 := (idx t).2.2.2.2.2.2
  have ey : ((win0_5.blk t).view.emb (ix2 y0 y1) 1 : Fin 2048) = y1 := Fin.ext (by blk_simp [idx t])
  refine (Last.block_row (u := m ((c : Thread nD τ).loc main_arg0)) (x := m ((c : Thread nD τ).loc main_arg2)) (mod := m ((c : Thread nD τ).loc main_arg3))
    (R := ⟨t.val * 256 + y0.val, by omega⟩) (b := 0) (fun j => ?_) (fun j k => Eq.trans ?_ (weights m c j k)) (fun k => ?_) (fun k => ?_)
    (fun k => Eq.trans ?_ (gain m c k)) y1).trans ?_
  · blk_ext [iblk, V, idx t]
  · blk_ext [iblk, idx t]
  · blk_ext [iblk, V, idx t]
  · blk_ext [iblk, V, idx t]
  · blk_ext [iblk, idx t]
  unfold Last.prompt
  blk_simp [idx t]
  rw [ey]

end

section
open Cert.PromptReferenceIdeal Cert.PromptReferenceIdeal.Gen Cert.PromptReferenceIdeal.Read

/-- The reference's result. -/
theorem result (u : FVec Ideal S16384x5632 .bf16) (w : FVec Ideal S4x5632x2048 .f32) (x : FVec Ideal S16384x2048 .f32) (mod : FVec Ideal S8x6x2048 .f32)
    (g : FVec Ideal S2048 .f32) : val_main_v27 (F := Ideal) u w x mod g = Last.prompt u w x mod g := by
  funext y
  idx_vars y
  show val_main_v27 (F := Ideal) u w x mod g (ix2 y0 y1) = _
  simp only [← val_main_v27_eq]
  pointwise []
  rfl

end

/-- The call leaves the reference's result. -/
theorem equal : Cert.algebraic_PromptIdeal_PromptReferenceIdeal := fun m g m' g' _ hag =>
  ⟨fun c => (Cert.PromptIdeal.Gen.dats m 0 c).arrAt 5 Cert.PromptIdeal.cfg0.N, Cert.PromptIdeal.Value.run_blocks m g,
    (θ_run _ _ _).mono (fun _ h c => ⟨(h c).1.trans (by
        rw [Cert.PromptReferenceIdeal.Read.val_main_v27_eq]
        obtain ⟨h0, h1, h2, h3, h4⟩ := hag c
        refine Eq.trans ?_ (final m c).symm
        refine Eq.trans ?_ (result _ _ _ _ _)
        rw [← h0, ← h1, ← h2, ← h3, ← h4]), (h c).2⟩) (Cert.PromptReferenceIdeal.Value.run m' g')⟩

end Cert.LastPrompt

end
-- ==== Proof.LastSample.lean ====
/- The last call for the samples: its runs, the array it leaves, and that the reference's result is the same. -/
module

public import proofs.«01_k».proof.Defs
public import proofs.«01_k».proof.Proof.Gen.Sample.Frame
public import proofs.«01_k».proof.Proof.Gen.SampleIdeal.Value
public import proofs.«01_k».proof.Proof.Gen.SampleReferenceIdeal.Run
public import proofs.«01_k».proof.Proof.Gen.SampleReferenceIdeal.Read
public import proofs.«01_k».proof.Proof.Tail
public import proofs.«01_k».proof.Proof.Last
public import Idealize.ShloMosaic.Lib.Claim
public import Idealize.ShloMosaic.Lib.Quiescent

@[expose] public section

set_option maxRecDepth 16384

noncomputable section

namespace Cert.LastSample

open Idealize.ShloMosaic Idealize.ShloMosaic.TcCoe Idealize.SL.Sem

instance : Cert.Sample.Facts := Cert.Sample.Gen.facts
instance : Cert.SampleIdeal.Facts := Cert.SampleIdeal.Gen.facts
instance : Cert.SampleReferenceIdeal.Facts := Cert.SampleReferenceIdeal.Gen.facts

/-- The call terminates, leaves its arguments as they were and every counter at zero. -/
theorem frame_P : Cert.quiescent_Sample := fun m ρ _ => Cert.Sample.Gen.frame m ρ

/-- The same over the extended reals. -/
theorem frame_PI : Cert.quiescent_SampleIdeal := fun m ρ _ => Cert.SampleIdeal.Gen.frame m ρ

/-- The same of the reference over the extended reals, which has no counter. -/
theorem frame_RI : Cert.quiescent_SampleReferenceIdeal := fun m ρ _ =>
  (θ_run _ _ _).mono (fun r h => ⟨fun c => (h c).2, sem_eq_zero_of_no_sems (by decide) r.2⟩)
    (Cert.SampleReferenceIdeal.Value.run m ρ)

/-- No operation was rewritten for the extended reals. -/
theorem preserves : Cert.preserves_Sample_SampleIdeal := trivial

section
open Cert.SampleIdeal Cert.SampleIdeal.Gen

variable (m : (ℓ : Loc nD τ sig) → Buf (Elt Ideal) ℓ) (c : Dev nD)

/-- Each window's block at a grid point. -/
theorem idx : ∀ t : Fin cfg0.N, win0_0.index t = ![32 + t.val, 0] ∧ win0_1.index t = ![0, 0] ∧ win0_2.index t = ![32 + t.val, 0]
    ∧ win0_3.index t = ![1 + t.val / 8, 0, 0] ∧ win0_4.index t = ![0, 0] ∧ win0_5.index t = ![t.val, 0] ∧ t.val < 32 :=
  (by decide +kernel : ∀ t : Fin grid0.N, _)

/-- The weights the host prepares: layer 3's. -/
theorem weights (j : Fin 5632) (k : Fin 2048) : (V m c main_v2 : FVec Ideal S5632x2048 .bf16) (ix2 j k) = m (c, Proc.tc.devRef main_arg1) (ix3 3 j k) := by
  have h : (V m c main_v2 : FVec Ideal S5632x2048 .bf16) = truncf (F := Ideal) (φ := .f32) .bf16 (shapeCast S5632x2048 (extractStridedSlice S1x5632x2048 ![3, 0, 0] (m (c, Proc.tc.devRef main_arg1)) slices_S4x5632x2048_S1x5632x2048_3_0_0) shapeCasts_S1x5632x2048_S5632x2048) := by
    entry_read; rfl
  rw [h]; pointwise []

/-- The final norm's weights as a row. -/
theorem gain (k : Fin 2048) : (V m c main_v3 : FVec Ideal S1x2048 .f32) (ix2 0 k) = m (c, Proc.tc.devRef main_arg4) (ix1 k) := by
  have h : (V m c main_v3 : FVec Ideal S1x2048 .f32) = shapeCast S1x2048 (m (c, Proc.tc.devRef main_arg4)) shapeCasts_S2048_S1x2048 := by
    entry_read; rfl
  rw [h]; pointwise []

/-- The array the call leaves. -/
theorem final : (dats m 0 c).arrAt 5 (cfgs 0).N
    = Last.sample (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 5 (Last.sample (m ((c : Thread nD τ).loc main_arg0)) (m ((c : Thread nD τ).loc main_arg1)) (m ((c : Thread nD τ).loc main_arg2))
    (m ((c : Thread nD τ).loc main_arg3)) (m ((c : Thread nD τ).loc main_arg4))) (by decide +kernel) fun t _ y => ?_
  blk_simp
  rw [after0_5]
  idx_vars y
  have h32 := (idx t).2.2.2.2.2.2
  have ey : ((win0_5.blk t).view.emb (ix2 y0 y1) 1 : Fin 2048) = y1 := Fin.ext (by blk_simp [idx t])
  refine (Last.block_row (u := m ((c : Thread nD τ).loc main_arg0)) (x := m ((c : Thread nD τ).loc main_arg2)) (mod := m ((c : Thread nD τ).loc main_arg3))
    (R := ⟨8192 + (t.val * 256 + y0.val), by omega⟩) (b := ⟨1 + (t.val * 256 + y0.val) / 2048, by omega⟩) (fun j => ?_) (fun j k => Eq.trans ?_ (weights m c j k)) (fun k => ?_) (fun k => ?_)
    (fun k => Eq.trans ?_ (gain m c k)) y1).trans ?_
  · blk_ext [iblk, V, idx t]
  · blk_ext [iblk, idx t]
  · blk_ext [iblk, V, idx t]
  · blk_ext [iblk, V, idx t]
  · blk_ext [iblk, idx t]
  unfold Last.sample
  blk_simp [idx t]
  rw [ey]

end

section
open Cert.SampleReferenceIdeal Cert.SampleReferenceIdeal.Gen Cert.SampleReferenceIdeal.Read

/-- The reference's result. -/
theorem result (u : FVec Ideal S16384x5632 .bf16) (w : FVec Ideal S4x5632x2048 .f32) (x : FVec Ideal S16384x2048 .f32) (mod : FVec Ideal S8x6x2048 .f32)
    (g : FVec Ideal S2048 .f32) : val_main_v27 (F := Ideal) u w x mod g = Last.sample u w x mod g := by
  funext y
  idx_vars y
  show val_main_v27 (F := Ideal) u w x mod g (ix2 y0 y1) = _
  simp only [← val_main_v27_eq]
  pointwise []
  rfl

end

/-- The call leaves the reference's result. -/
theorem equal : Cert.algebraic_SampleIdeal_SampleReferenceIdeal := fun m g m' g' _ hag =>
  ⟨fun c => (Cert.SampleIdeal.Gen.dats m 0 c).arrAt 5 Cert.SampleIdeal.cfg0.N, Cert.SampleIdeal.Value.run_blocks m g,
    (θ_run _ _ _).mono (fun _ h c => ⟨(h c).1.trans (by
        rw [Cert.SampleReferenceIdeal.Read.val_main_v27_eq]
        obtain ⟨h0, h1, h2, h3, h4⟩ := hag c
        refine Eq.trans ?_ (final m c).symm
        refine Eq.trans ?_ (result _ _ _ _ _)
        rw [← h0, ← h1, ← h2, ← h3, ← h4]), (h c).2⟩) (Cert.SampleReferenceIdeal.Value.run m' g')⟩

end Cert.LastSample

end
-- ==== Proof.Down.lean ====
/- The first layer's second product: the block a grid point stores, of the residual stream and of the next layer's input. -/
module

public import proofs.«01_k».proof.Proof.Gen.DownIdeal.Frame
public import proofs.«01_k».proof.Proof.Row

@[expose] public section

set_option maxRecDepth 16384

noncomputable section

namespace Cert.Down

open Cert.DownIdeal Cert.DownIdeal.Gen Idealize.ShloMosaic Idealize.ShloMosaic.TcCoe Idealize.SL.Sem

section
variable (u : Vec Ideal S128x5632 .bf16) (w : Vec Ideal S5632x2048 .bf16) (x : Vec Ideal S128x2048 .f32) (gate : Vec Ideal S1x1x2048 .f32)
  (g : Vec Ideal S1x2048 .f32) (s b : Vec Ideal S1x1x2048 .f32)

/-- The residual step a point stores in half a block, from its loads. -/
theorem step (r : Fin 128) (k : Fin 2048) : k0_pay2 (F := Ideal) u w x gate (ix2 r k)
    = Row.resid (fun k => x (ix2 r k)) (fun k => gate (ix3 0 0 k)) (fun j => u (ix2 r j)) (fun j k => w (ix2 j k)) k := by
  unfold k0_pay2
  pointwise []
  rfl

/-- The next layer's input a point stores in half a block, from its loads. -/
theorem norm (r : Fin 128) (k : Fin 2048) : k0_pay5 (F := Ideal) (k0_pay3 u w x gate g s) (k0_pay4 b) (ix2 r k)
    = Row.modulated (Row.resid (fun k => x (ix2 r k)) (fun k => gate (ix3 0 0 k)) (fun j => u (ix2 r j)) fun j k => w (ix2 j k))
        (fun k => g (ix2 0 k)) (fun k => s (ix3 0 0 k)) (fun k => b (ix3 0 0 k)) k := by
  unfold k0_pay5 k0_pay4 k0_pay3
  pointwise []
  simp only [step]
  rfl

/-- The second half's step is the first's expression of the second half's loads. -/
theorem step_eq : k0_pay6 (F := Ideal) u w x gate = k0_pay2 u w x gate := rfl

/-- The same of the input it stores. -/
theorem norm_eq : k0_pay1 (F := Ideal) (k0_pay7 u w x gate g s) b = k0_pay5 (k0_pay3 u w x gate g s) (k0_pay4 b) := rfl

end

section
variable (U : Vec Ideal S256x5632 .bf16) (W : Vec Ideal S5632x2048 .bf16) (X : Vec Ideal S256x2048 .f32) (M : Vec Ideal S1x6x2048 .f32)
  (G : Vec Ideal S1x2048 .f32) (N : Vec Ideal S1x2x2048 .f32)

theorem ld_w (W : Vec Ideal S5632x2048 .bf16) : View.ld W r0_1 = W := View.ld_unit_zero (by funext a; fin_cases a <;> rfl) _ W

theorem ld_gate (k : Fin 2048) : View.ld M r0_3 (ix3 0 0 k) = M (ix3 0 5 k) :=
  View.ld_unit_apply_of _ _ _ _ _ _ (by intro a; fin_cases a; exacts [rfl, rfl, (Nat.zero_add _).symm])

theorem ld_gain (G : Vec Ideal S1x2048 .f32) : View.ld G r0_4 = G := View.ld_unit_zero (by funext a; fin_cases a <;> rfl) _ G

theorem ld_scale (k : Fin 2048) : View.ld N r0_5 (ix3 0 0 k) = N (ix3 0 1 k) :=
  View.ld_unit_apply_of _ _ _ _ _ _ (by intro a; fin_cases a; exacts [rfl, rfl, (Nat.zero_add _).symm])

theorem ld_shift (k : Fin 2048) : View.ld N r0_6 (ix3 0 0 k) = N (ix3 0 0 k) :=
  View.ld_unit_apply_of _ _ _ _ _ _ (by intro a; fin_cases a; exacts [rfl, rfl, (Nat.zero_add _).symm])

/-- The residual stream a point stores, row by row. -/
theorem block_step (r : Fin 256) (k : Fin 2048) : out0_6 (F := Ideal) U W X M G N (ix2 r k)
    = Row.resid (fun k => X (ix2 r k)) (fun k => M (ix3 0 5 k)) (fun j => U (ix2 r j)) (fun j k => W (ix2 j k)) k := by
  have hm := ld_gate M
  unfold out0_6
  rw [step_eq, ld_w]
  generalize hy : (ix2 r k : S256x2048.Idx) = y
  canon_tiles x
  case piece0 =>
    subst hy
    idx_vars x
    obtain rfl : x1 = k := Fin.ext h1.symm
    rw [step]
    simp only [hm]
    congr 1
    · funext k'
      exact View.ld_unit_apply_of _ _ _ _ _ _ (by intro a; fin_cases a; exacts [h0, (Nat.zero_add _).symm])
    · funext j
      exact View.ld_unit_apply_of _ _ _ _ _ _ (by intro a; fin_cases a; exacts [h0, (Nat.zero_add _).symm])
  case piece1 =>
    subst hy
    idx_vars x
    obtain rfl : x1 = k := Fin.ext h1.symm
    rw [step]
    simp only [hm]
    congr 1
    · funext k'
      exact View.ld_unit_apply_of _ _ _ _ _ _ (by intro a; fin_cases a; exacts [h0.trans (Nat.zero_add _).symm, (Nat.zero_add _).symm])
    · funext j
      exact View.ld_unit_apply_of _ _ _ _ _ _ (by intro a; fin_cases a; exacts [h0.trans (Nat.zero_add _).symm, (Nat.zero_add _).symm])

/-- The next layer's input a point stores, row by row. -/
theorem block_norm (r : Fin 256) (k : Fin 2048) : out0_7 (F := Ideal) U W X M G N (ix2 r k)
    = Row.modulated (Row.resid (fun k => X (ix2 r k)) (fun k => M (ix3 0 5 k)) (fun j => U (ix2 r j)) fun j k => W (ix2 j k))
        (fun k => G (ix2 0 k)) (fun k => N (ix3 0 1 k)) (fun k => N (ix3 0 0 k)) k := by
  have hm := ld_gate M
  have hs := ld_scale N
  have hb := ld_shift N
  unfold out0_7
  rw [norm_eq, ld_w, ld_gain]
  generalize hy : (ix2 r k : S256x2048.Idx) = y
  canon_tiles x
  case piece0 =>
    subst hy
    idx_vars x
    obtain rfl : x1 = k := Fin.ext h1.symm
    rw [norm]
    simp only [hm, hs, hb]
    congr 2
    · funext k'
      exact View.ld_unit_apply_of _ _ _ _ _ _ (by intro a; fin_cases a; exacts [h0, (Nat.zero_add _).symm])
    · funext j
      exact View.ld_unit_apply_of _ _ _ _ _ _ (by intro a; fin_cases a; exacts [h0, (Nat.zero_add _).symm])
  case piece1 =>
    subst hy
    idx_vars x
    obtain rfl : x1 = k := Fin.ext h1.symm
    rw [norm]
    simp only [hm, hs, hb]
    congr 2
    · funext k'
      exact View.ld_unit_apply_of _ _ _ _ _ _ (by intro a; fin_cases a; exacts [h0.trans (Nat.zero_add _).symm, (Nat.zero_add _).symm])
    · funext j
      exact View.ld_unit_apply_of _ _ _ _ _ _ (by intro a; fin_cases a; exacts [h0.trans (Nat.zero_add _).symm, (Nat.zero_add _).symm])

end

end Cert.Down

end
-- ==== Proof.DownCall.lean ====
/- The first layer's second product: its runs, the two arrays it leaves, and that the reference's results are the same. -/
module

public import proofs.«01_k».proof.Defs
public import proofs.«01_k».proof.Proof.Gen.Down.Frame
public import proofs.«01_k».proof.Proof.Gen.DownIdeal.Value
public import proofs.«01_k».proof.Proof.Gen.DownReferenceIdeal.Run
public import proofs.«01_k».proof.Proof.Gen.DownReferenceIdeal.Read
public import proofs.«01_k».proof.Proof.Down
public import Idealize.ShloMosaic.Lib.Claim
public import Idealize.ShloMosaic.Lib.Quiescent

@[expose] public section

set_option maxRecDepth 16384

noncomputable section

namespace Cert.DownCall

open Idealize.ShloMosaic Idealize.ShloMosaic.TcCoe Idealize.SL.Sem

instance : Cert.Down.Facts := Cert.Down.Gen.facts
instance : Cert.DownIdeal.Facts := Cert.DownIdeal.Gen.facts
instance : Cert.DownReferenceIdeal.Facts := Cert.DownReferenceIdeal.Gen.facts

/-- The call terminates, leaves its arguments as they were and every counter at zero. -/
theorem frame_P : Cert.quiescent_Down := fun m ρ _ => Cert.Down.Gen.frame m ρ

/-- The same over the extended reals. -/
theorem frame_PI : Cert.quiescent_DownIdeal := fun m ρ _ => Cert.DownIdeal.Gen.frame m ρ

/-- The same of the reference over the extended reals, which has no counter. -/
theorem frame_RI : Cert.quiescent_DownReferenceIdeal := fun m ρ _ =>
  (θ_run _ _ _).mono (fun r h => ⟨fun c => (h c).2.2, sem_eq_zero_of_no_sems (by decide) r.2⟩)
    (Cert.DownReferenceIdeal.Value.run m ρ)

/-- No operation was rewritten for the extended reals. -/
theorem preserves : Cert.preserves_Down_DownIdeal := trivial

section
open Cert.DownIdeal

variable (u : FVec Ideal S16384x5632 .bf16) (w : FVec Ideal S4x5632x2048 .f32) (x : FVec Ideal S16384x2048 .f32) (mod next : FVec Ideal S8x6x2048 .f32)
  (g : FVec Ideal S4x2048 .f32)

/-- Row `R` of the residual stream after the step, modulated by row `b`. -/
def step (b : Fin 8) (R : Fin 16384) : Fin 2048 → EReal :=
  Row.resid (fun k => x (ix2 R k)) (fun k => mod (ix3 b 5 k)) (fun j => u (ix2 R j)) fun j k => w (ix3 0 j k)

/-- Row `R` of the next layer's input, modulated by row `b`. -/
def norm (b : Fin 8) (R : Fin 16384) : Fin 2048 → EReal :=
  Row.modulated (step u w x mod b R) (fun k => g (ix2 1 k)) (fun k => next (ix3 b 1 k)) fun k => next (ix3 b 0 k)

/-- The residual stream after the step. -/
def stream : FVec Ideal S16384x2048 .f32 := fun y =>
  step u w x mod (Row.tok ⟨(y 0).val, (y 0).isLt⟩) ⟨(y 0).val, (y 0).isLt⟩ ⟨(y 1).val, (y 1).isLt⟩

/-- The next layer's input. -/
def input : FVec Ideal S16384x2048 .bf16 := fun y =>
  norm u w x mod next g (Row.tok ⟨(y 0).val, (y 0).isLt⟩) ⟨(y 0).val, (y 0).isLt⟩ ⟨(y 1).val, (y 1).isLt⟩

end

section
open Cert.DownIdeal Cert.DownIdeal.Gen

variable (m : (ℓ : Loc nD τ sig) → Buf (Elt Ideal) ℓ) (c : Dev nD)

/-- The modulation row of a grid point: the prompts' blocks read row 0, a sample's eight blocks its own. -/
def at_ (t : ℕ) : ℕ := if t < 32 then 0 else 1 + (t - 32) / 8

/-- Each window's block at a grid point. -/
theorem idx : ∀ t : Fin cfg0.N, win0_0.index t = ![t.val, 0] ∧ win0_1.index t = ![0, 0] ∧ win0_2.index t = ![t.val, 0]
    ∧ win0_3.index t = ![at_ t.val, 0, 0] ∧ win0_4.index t = ![0, 0] ∧ win0_5.index t = ![at_ t.val, 0, 0] ∧ win0_6.index t = ![t.val, 0]
    ∧ win0_7.index t = ![t.val, 0] ∧ t.val < 64 :=
  (by decide +kernel : ∀ t : Fin grid0.N, _)

/-- The weights the host prepares: layer 0's. -/
theorem weights (j : Fin 5632) (k : Fin 2048) : (V m c main_v2 : FVec Ideal S5632x2048 .bf16) (ix2 j k) = m (c, Proc.tc.devRef main_arg1) (ix3 0 j k) := by
  have h : (V m c main_v2 : FVec Ideal S5632x2048 .bf16) = truncf (F := Ideal) (φ := .f32) .bf16 (shapeCast S5632x2048 (extractStridedSlice S1x5632x2048 ![0, 0, 0] (m (c, Proc.tc.devRef main_arg1)) slices_S4x5632x2048_S1x5632x2048_0_0_0) shapeCasts_S1x5632x2048_S5632x2048) := by
    entry_read; rfl
  rw [h]; pointwise []

/-- The next norm's weights as a row. -/
theorem gain (k : Fin 2048) : (V m c main_v6 : FVec Ideal S1x2048 .f32) (ix2 0 k) = m (c, Proc.tc.devRef main_arg5) (ix2 1 k) := by
  have h : (V m c main_v6 : FVec Ideal S1x2048 .f32) = shapeCast S1x2048 (shapeCast S2048 (extractStridedSlice S1x2048 ![1, 0] (m (c, Proc.tc.devRef main_arg5)) slices_S4x2048_S1x2048_1_0) shapeCasts_S1x2048_S2048) shapeCasts_S2048_S1x2048 := by
    entry_read; rfl
  rw [h]; pointwise []

/-- The next modulation's first two rows. -/
theorem rows (b : Fin 8) (a : Fin 2) (k : Fin 2048) : (V m c main_v5 : FVec Ideal S8x2x2048 .f32) (ix3 b a k)
    = m (c, Proc.tc.devRef main_arg4) (ix3 b ⟨a.val, by omega⟩ k) := by
  have h : (V m c main_v5 : FVec Ideal S8x2x2048 .f32) = extractStridedSlice S8x2x2048 ![0, 0, 0] (m (c, Proc.tc.devRef main_arg4)) slices_S8x6x2048_S8x2x2048_0_0_0 := by
    entry_read; rfl
  rw [h]; pointwise []

/-- A point's modulation row is its tokens'. -/
theorem at_tok (t : Fin cfg0.N) (r : Fin 256) (h : t.val * 256 + r.val < 16384) : at_ t.val = (Row.tok ⟨t.val * 256 + r.val, h⟩).val := by
  have := r.isLt
  unfold at_ Row.tok
  split <;> split <;> simp at * <;> omega

section
variable (t : Fin cfg0.N) (r : Fin 256) (h : t.val * 256 + r.val < 16384)

theorem rd_u (j : Fin 5632) : (iblk m c 0 t : FVec Ideal S256x5632 .bf16) (ix2 r j) = m ((c : Thread nD τ).loc main_arg0) (ix2 ⟨t.val * 256 + r.val, h⟩ j) := by
  blk_ext [iblk, V, idx t]

theorem rd_w (j : Fin 5632) (k : Fin 2048) : (iblk m c 1 t : FVec Ideal S5632x2048 .bf16) (ix2 j k) = m ((c : Thread nD τ).loc main_arg1) (ix3 0 j k) := by
  refine Eq.trans ?_ (weights m c j k)
  blk_ext [iblk, idx t]

theorem rd_x (k : Fin 2048) : (iblk m c 2 t : FVec Ideal S256x2048 .f32) (ix2 r k) = m ((c : Thread nD τ).loc main_arg2) (ix2 ⟨t.val * 256 + r.val, h⟩ k) := by
  blk_ext [iblk, V, idx t]

theorem rd_mod (k : Fin 2048) : (iblk m c 3 t : FVec Ideal S1x6x2048 .f32) (ix3 0 5 k)
    = m ((c : Thread nD τ).loc main_arg3) (ix3 (Row.tok ⟨t.val * 256 + r.val, h⟩) 5 k) := by
  blk_ext [iblk, V, idx t, at_tok t r h]

theorem rd_gain (k : Fin 2048) : (iblk m c 4 t : FVec Ideal S1x2048 .f32) (ix2 0 k) = m ((c : Thread nD τ).loc main_arg5) (ix2 1 k) := by
  refine Eq.trans ?_ (gain m c k)
  blk_ext [iblk, idx t]

theorem rd_next (a : Fin 2) (k : Fin 2048) : (iblk m c 5 t : FVec Ideal S1x2x2048 .f32) (ix3 0 a k)
    = m ((c : Thread nD τ).loc main_arg4) (ix3 (Row.tok ⟨t.val * 256 + r.val, h⟩) ⟨a.val, by omega⟩ k) := by
  refine Eq.trans ?_ (rows m c (Row.tok ⟨t.val * 256 + r.val, h⟩) a k)
  blk_ext [iblk, idx t, at_tok t r h]

end

/-- The residual stream the call leaves. -/
theorem final_x : (dats m 0 c).arrAt 6 (cfgs 0).N
    = stream (m ((c : Thread nD τ).loc main_arg0)) (m ((c : Thread nD τ).loc main_arg1)) (m ((c : Thread nD τ).loc main_arg2)) (m ((c : Thread nD τ).loc main_arg3)) := by
  refine (dats m 0 c).arrAt_eq_of_covers 6 (stream (m ((c : Thread nD τ).loc main_arg0)) (m ((c : Thread nD τ).loc main_arg1)) (m ((c : Thread nD τ).loc main_arg2))
    (m ((c : Thread nD τ).loc main_arg3))) (by decide +kernel) fun t _ y => ?_
  blk_simp
  rw [after0_6]
  idx_vars y
  have h64 := (idx t).2.2.2.2.2.2.2.2
  have h : t.val * 256 + y0.val < 16384 := by omega
  refine (Down.block_step _ _ _ _ _ _ y0 y1).trans ?_
  simp only [rd_u m c t y0 h, rd_w m c t, rd_x m c t y0 h, rd_mod m c t y0 h]
  unfold stream
  blk_simp [idx t]
  rfl

/-- The next layer's input the call leaves. -/
theorem final_h : (dats m 0 c).arrAt 7 (cfgs 0).N
    = input (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 7 (input (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))) (by decide +kernel) fun t _ y => ?_
  blk_simp
  rw [after0_7]
  idx_vars y
  have h64 := (idx t).2.2.2.2.2.2.2.2
  have h : t.val * 256 + y0.val < 16384 := by omega
  refine (Down.block_norm _ _ _ _ _ _ y0 y1).trans ?_
  simp only [rd_u m c t y0 h, rd_w m c t, rd_x m c t y0 h, rd_mod m c t y0 h, rd_gain m c t, rd_next m c t y0 h]
  unfold input
  blk_simp [idx t]
  rfl

end

section
open Cert.DownReferenceIdeal Cert.DownReferenceIdeal.Gen Cert.DownReferenceIdeal.Read

/-- The reference's modulation, token by token. -/
theorem tokens (mod : FVec Ideal S8x6x2048 .f32) (R : Fin 16384) (a : Fin 6) (k : Fin 2048) :
    val_main_v6 (F := Ideal) mod (ix3 R a k) = mod (ix3 (Row.tok R) a k) := by
  unfold val_main_v6 val_main_v1 val_main_v0 val_main_v5 val_main_v4 val_main_v3 val_main_v2
  pointwise []
  unfold Row.tok
  split <;> rfl

/-- The reference's residual stream. -/
theorem result_x (u : FVec Ideal S16384x5632 .bf16) (w : FVec Ideal S4x5632x2048 .f32) (x : FVec Ideal S16384x2048 .f32) (mod : FVec Ideal S8x6x2048 .f32) :
    val_main_v21 (F := Ideal) u w x mod = stream u w x mod := by
  funext y
  idx_vars y
  show val_main_v21 (F := Ideal) u w x mod (ix2 y0 y1) = _
  unfold val_main_v21 val_main_v20 val_main_v15 val_main_v14 val_main_v19 val_main_v18 val_main_v17 val_main_v16
  pointwise []
  simp only [tokens]
  rfl

/-- The reference's next input. -/
theorem result_h (u : FVec Ideal S16384x5632 .bf16) (w : FVec Ideal S4x5632x2048 .f32) (x : FVec Ideal S16384x2048 .f32) (mod next : FVec Ideal S8x6x2048 .f32)
    (g : FVec Ideal S4x2048 .f32) : val_main_v45 (F := Ideal) u w x mod next g = input u w x mod next g := by
  funext y
  idx_vars y
  show val_main_v45 (F := Ideal) u w x mod next g (ix2 y0 y1) = _
  unfold val_main_v45 val_main_v44 val_main_v43 val_main_v42 val_main_v41 val_main_v40 val_main_v39 val_main_v38 val_main_v37 val_main_v36 val_main_v35 val_main_v34
    val_main_v33 val_main_v32 val_main_v31 val_main_v30 val_main_v29 val_main_v28 val_main_v27 val_main_v26 val_main_v25 val_main_v24 val_main_v23 val_main_v22
    val_main_cst_2 val_main_cst_1 val_main_cst_0 val_main_cst
  rw [result_x]
  pointwise []
  rw [show val_main_v13 (F := Ideal) next = val_main_v6 next from rfl]
  simp only [tokens]
  rfl

end

/-- The call leaves the reference's results. -/
theorem equal : Cert.algebraic_DownIdeal_DownReferenceIdeal := fun m g m' g' _ hag =>
  ⟨fun c => (Cert.DownIdeal.Gen.dats m 0 c).arrAt 6 Cert.DownIdeal.cfg0.N, fun c => (Cert.DownIdeal.Gen.dats m 0 c).arrAt 7 Cert.DownIdeal.cfg0.N,
    Cert.DownIdeal.Value.run_blocks m g,
    (θ_run _ _ _).mono (fun _ h c => ⟨(h c).1.trans (by
        refine (Cert.DownReferenceIdeal.Read.val_main_v21_eq _ _ _ _).trans ?_
        obtain ⟨h0, h1, h2, h3, h4, h5⟩ := hag c
        refine Eq.trans ?_ (final_x m c).symm
        refine Eq.trans ?_ (result_x _ _ _ _)
        rw [← h0, ← h1, ← h2, ← h3]), (h c).2.1.trans (by
        rw [Cert.DownReferenceIdeal.Read.val_main_v45_eq]
        obtain ⟨h0, h1, h2, h3, h4, h5⟩ := hag c
        refine Eq.trans ?_ (final_h m c).symm
        refine Eq.trans ?_ (result_h _ _ _ _ _ _)
        rw [← h0, ← h1, ← h2, ← h3, ← h4, ← h5]), (h c).2.2⟩) (Cert.DownReferenceIdeal.Value.run m' g')⟩

end Cert.DownCall

end
-- ==== Proof.Even.lean ====
/- An even layer's input projection: its runs, the array it leaves, and that the reference's result is the same. -/
module

public import proofs.«01_k».proof.Defs
public import proofs.«01_k».proof.Proof.Gen.EvenIn.Frame
public import proofs.«01_k».proof.Proof.Gen.EvenInIdeal.Value
public import proofs.«01_k».proof.Proof.Gen.EvenInReferenceIdeal.Run
public import proofs.«01_k».proof.Proof.Gen.EvenInReferenceIdeal.Read
public import Idealize.ShloMosaic.Lib.Pipeline.ValueKit
public import Idealize.ShloMosaic.Lib.Claim
public import Idealize.ShloMosaic.Lib.Quiescent

@[expose] public section

set_option maxRecDepth 16384

noncomputable section

namespace Cert.Even

open Idealize.ShloMosaic Idealize.ShloMosaic.TcCoe Idealize.SL.Sem

instance : Cert.EvenIn.Facts := Cert.EvenIn.Gen.facts
instance : Cert.EvenInIdeal.Facts := Cert.EvenInIdeal.Gen.facts
instance : Cert.EvenInReferenceIdeal.Facts := Cert.EvenInReferenceIdeal.Gen.facts

/-- The call terminates, leaves its arguments as they were and every counter at zero. -/
theorem frame_P : Cert.quiescent_EvenIn := fun m ρ _ => Cert.EvenIn.Gen.frame m ρ

/-- The same over the extended reals. -/
theorem frame_PI : Cert.quiescent_EvenInIdeal := fun m ρ _ => Cert.EvenInIdeal.Gen.frame m ρ

/-- The same of the reference over the extended reals, which has no counter. -/
theorem frame_RI : Cert.quiescent_EvenInReferenceIdeal := fun m ρ _ =>
  (θ_run _ _ _).mono (fun r h => ⟨fun c => (h c).2, sem_eq_zero_of_no_sems (by decide) r.2⟩)
    (Cert.EvenInReferenceIdeal.Value.run m ρ)

/-- No operation was rewritten for the extended reals. -/
theorem preserves : Cert.preserves_EvenIn_EvenInIdeal := trivial

section
open Cert.EvenInIdeal Cert.EvenInIdeal.Gen

/-- The product of the activations with the first even layer's weights. -/
def product (h : FVec Ideal S16384x2048 .bf16) (w : FVec Ideal S2x2048x3584 .f32) : FVec Ideal S16384x3584 .f32 := fun y =>
  (∑ k : Fin 2048, h (ix2 (y 0 : Fin 16384) k) * w (ix3 0 k ⟨(y 1).val, (y 1).isLt⟩) : EReal)

/-- What a point stores: the product of its two blocks. -/
theorem block_apply (a : Vec Ideal S1024x2048 .bf16) (b : Vec Ideal S2048x1792 .bf16) (r : Fin 1024) (k : Fin 1792) :
    out0_2 (F := Ideal) a b (ix2 r k) = (∑ j : Fin 2048, a (ix2 r j) * b (ix2 j k) : EReal) := by
  have ha : ∀ (a : Vec Ideal S1024x2048 .bf16), View.ld a r0_0 = a := fun a => View.ld_unit_zero (by funext a; fin_cases a <;> rfl) _ a
  have hb : ∀ (b : Vec Ideal S2048x1792 .bf16), View.ld b r0_1 = b := fun b => View.ld_unit_zero (by funext a; fin_cases a <;> rfl) _ b
  unfold out0_2
  rw [View.canon_unit_zero (by funext a; fin_cases a <;> rfl), ha, hb]
  unfold k0_pay1
  pointwise []

variable (m : (ℓ : Loc nD τ sig) → Buf (Elt Ideal) ℓ) (c : Dev nD)

/-- Each window's block at a grid point. -/
theorem idx : ∀ t : Fin cfg0.N, win0_0.index t = ![t.val / 2, 0] ∧ win0_1.index t = ![0, t.val % 2] ∧ win0_2.index t = ![t.val / 2, t.val % 2] ∧ t.val < 32 :=
  (by decide +kernel : ∀ t : Fin grid0.N, _)

/-- The weights the host prepares. -/
theorem weights (j : Fin 2048) (k : Fin 3584) : (V m c main_v2 : FVec Ideal S2048x3584 .bf16) (ix2 j k) = m (c, Proc.tc.devRef main_arg1) (ix3 0 j k) := by
  have h : (V m c main_v2 : FVec Ideal S2048x3584 .bf16) = truncf (F := Ideal) (φ := .f32) .bf16 (shapeCast S2048x3584 (extractStridedSlice S1x2048x3584 ![0, 0, 0] (m (c, Proc.tc.devRef main_arg1)) slices_S2x2048x3584_S1x2048x3584_0_0_0) shapeCasts_S1x2048x3584_S2048x3584) := by
    entry_read; rfl
  rw [h]; pointwise []

/-- The array the call leaves. -/
theorem final : (dats m 0 c).arrAt 2 (cfgs 0).N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t _ y => ?_
  blk_simp
  rw [after0_2]
  idx_vars y
  have h32 := (idx t).2.2.2
  refine (block_apply _ _ y0 y1).trans ?_
  unfold product
  refine Fin.sum_fin_congr fun k => ?_
  have e := weights m c k ⟨t.val % 2 * 1792 + y1.val, by omega⟩
  have e1 : (iblk m c 1 t : FVec Ideal S2048x1792 .bf16) (ix2 k y1) = m ((c : Thread nD τ).loc main_arg1) (ix3 0 k ⟨t.val % 2 * 1792 + y1.val, by omega⟩) := by
    refine Eq.trans ?_ e
    blk_ext [iblk, idx t]
  rw [e1]
  blk_simp [idx t]
  congr 1
  blk_ext [iblk, V, idx t]

end

section
open Cert.EvenInReferenceIdeal Cert.EvenInReferenceIdeal.Gen Cert.EvenInReferenceIdeal.Read

/-- The reference's result. -/
theorem result (h : FVec Ideal S16384x2048 .bf16) (w : FVec Ideal S2x2048x3584 .f32) : val_main_v3 (F := Ideal) h w = product h w := by
  funext y
  idx_vars y
  show val_main_v3 (F := Ideal) h w (ix2 y0 y1) = _
  simp only [← val_main_v3_eq]
  pointwise []
  rfl

end

/-- The call leaves the reference's result. -/
theorem equal : Cert.algebraic_EvenInIdeal_EvenInReferenceIdeal := fun m g m' g' _ hag =>
  ⟨fun c => (Cert.EvenInIdeal.Gen.dats m 0 c).arrAt 2 Cert.EvenInIdeal.cfg0.N, Cert.EvenInIdeal.Value.run_blocks m g,
    (θ_run _ _ _).mono (fun _ h c => ⟨(h c).1.trans (by
        rw [Cert.EvenInReferenceIdeal.Read.val_main_v3_eq]
        obtain ⟨h0, h1⟩ := hag c
        refine Eq.trans ?_ (final m c).symm
        refine Eq.trans ?_ (result _ _)
        rw [← h0, ← h1]), (h c).2⟩) (Cert.EvenInReferenceIdeal.Value.run m' g')⟩

end Cert.Even

end
-- ==== Proof.Odd.lean ====
/- An odd layer's input projection: its runs, the array it leaves, and that the reference's result is the same. -/
module

public import proofs.«01_k».proof.Defs
public import proofs.«01_k».proof.Proof.Gen.OddIn.Frame
public import proofs.«01_k».proof.Proof.Gen.OddInIdeal.Value
public import proofs.«01_k».proof.Proof.Gen.OddInReferenceIdeal.Run
public import proofs.«01_k».proof.Proof.Gen.OddInReferenceIdeal.Read
public import Idealize.ShloMosaic.Lib.Pipeline.ValueKit
public import Idealize.ShloMosaic.Lib.Claim
public import Idealize.ShloMosaic.Lib.Quiescent

@[expose] public section

set_option maxRecDepth 16384

noncomputable section

namespace Cert.Odd

open Idealize.ShloMosaic Idealize.ShloMosaic.TcCoe Idealize.SL.Sem

instance : Cert.OddIn.Facts := Cert.OddIn.Gen.facts
instance : Cert.OddInIdeal.Facts := Cert.OddInIdeal.Gen.facts
instance : Cert.OddInReferenceIdeal.Facts := Cert.OddInReferenceIdeal.Gen.facts

/-- The call terminates, leaves its arguments as they were and every counter at zero. -/
theorem frame_P : Cert.quiescent_OddIn := fun m ρ _ => Cert.OddIn.Gen.frame m ρ

/-- The same over the extended reals. -/
theorem frame_PI : Cert.quiescent_OddInIdeal := fun m ρ _ => Cert.OddInIdeal.Gen.frame m ρ

/-- The same of the reference over the extended reals, which has no counter. -/
theorem frame_RI : Cert.quiescent_OddInReferenceIdeal := fun m ρ _ =>
  (θ_run _ _ _).mono (fun r h => ⟨fun c => (h c).2, sem_eq_zero_of_no_sems (by decide) r.2⟩)
    (Cert.OddInReferenceIdeal.Value.run m ρ)

/-- No operation was rewritten for the extended reals. -/
theorem preserves : Cert.preserves_OddIn_OddInIdeal := trivial

section
open Cert.OddInIdeal Cert.OddInIdeal.Gen

/-- The product of the activations with the first 6144 columns of the first odd layer's weights. -/
def product (h : FVec Ideal S16384x2048 .bf16) (w : FVec Ideal S2x2048x6176 .f32) : FVec Ideal S16384x6144 .bf16 := fun y =>
  (∑ k : Fin 2048, h (ix2 (y 0 : Fin 16384) k) * w (ix3 0 k ⟨(y 1).val, by have := (y 1).isLt; change _ < 6144 at this; omega⟩) : EReal)

/-- What a point stores: the product of its two blocks. -/
theorem block_apply (a : Vec Ideal S1024x2048 .bf16) (b : Vec Ideal S2048x1024 .bf16) (r k : Fin 1024) :
    out0_2 (F := Ideal) a b (ix2 r k) = (∑ j : Fin 2048, a (ix2 r j) * b (ix2 j k) : EReal) := by
  have ha : ∀ (a : Vec Ideal S1024x2048 .bf16), View.ld a r0_0 = a := fun a => View.ld_unit_zero (by funext a; fin_cases a <;> rfl) _ a
  have hb : ∀ (b : Vec Ideal S2048x1024 .bf16), View.ld b r0_1 = b := fun b => View.ld_unit_zero (by funext a; fin_cases a <;> rfl) _ b
  unfold out0_2
  rw [View.canon_unit_zero (by funext a; fin_cases a <;> rfl), ha, hb]
  unfold k0_pay1
  pointwise []

variable (m : (ℓ : Loc nD τ sig) → Buf (Elt Ideal) ℓ) (c : Dev nD)

/-- Each window's block at a grid point. -/
theorem idx : ∀ t : Fin cfg0.N, win0_0.index t = ![t.val / 6, 0] ∧ win0_1.index t = ![0, t.val % 6] ∧ win0_2.index t = ![t.val / 6, t.val % 6] ∧ t.val < 96 :=
  (by decide +kernel : ∀ t : Fin grid0.N, _)

/-- The weights the host prepares. -/
theorem weights (j : Fin 2048) (k : Fin 6144) : (V m c main_v3 : FVec Ideal S2048x6144 .bf16) (ix2 j k) = m (c, Proc.tc.devRef main_arg1) (ix3 0 j ⟨k.val, by omega⟩) := by
  have h : (V m c main_v3 : FVec Ideal S2048x6144 .bf16) = truncf (F := Ideal) (φ := .f32) .bf16 (extractStridedSlice S2048x6144 ![0, 0] (shapeCast S2048x6176 (extractStridedSlice S1x2048x6176 ![0, 0, 0] (m (c, Proc.tc.devRef main_arg1)) slices_S2x2048x6176_S1x2048x6176_0_0_0) shapeCasts_S1x2048x6176_S2048x6176) slices_S2048x6176_S2048x6144_0_0) := by
    entry_read; rfl
  rw [h]; pointwise []

/-- The array the call leaves. -/
theorem final : (dats m 0 c).arrAt 2 (cfgs 0).N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t _ y => ?_
  blk_simp
  rw [after0_2]
  idx_vars y
  have h96 := (idx t).2.2.2
  refine (block_apply _ _ y0 y1).trans ?_
  unfold product
  refine Fin.sum_fin_congr fun k => ?_
  have e := weights m c k ⟨t.val % 6 * 1024 + y1.val, by omega⟩
  have e1 : (iblk m c 1 t : FVec Ideal S2048x1024 .bf16) (ix2 k y1) = m ((c : Thread nD τ).loc main_arg1) (ix3 0 k ⟨t.val % 6 * 1024 + y1.val, by omega⟩) := by
    refine Eq.trans ?_ e
    blk_ext [iblk, idx t]
  rw [e1]
  blk_simp [idx t]
  congr 1
  blk_ext [iblk, V, idx t]

end

section
open Cert.OddInReferenceIdeal Cert.OddInReferenceIdeal.Gen Cert.OddInReferenceIdeal.Read

/-- The reference's result. -/
theorem result (h : FVec Ideal S16384x2048 .bf16) (w : FVec Ideal S2x2048x6176 .f32) : val_main_v5 (F := Ideal) h w = product h w := by
  funext y
  idx_vars y
  show val_main_v5 (F := Ideal) h w (ix2 y0 y1) = _
  simp only [← val_main_v5_eq]
  pointwise []
  rfl

end

/-- The call leaves the reference's result. -/
theorem equal : Cert.algebraic_OddInIdeal_OddInReferenceIdeal := fun m g m' g' _ hag =>
  ⟨fun c => (Cert.OddInIdeal.Gen.dats m 0 c).arrAt 2 Cert.OddInIdeal.cfg0.N, Cert.OddInIdeal.Value.run_blocks m g,
    (θ_run _ _ _).mono (fun _ h c => ⟨(h c).1.trans (by
        rw [Cert.OddInReferenceIdeal.Read.val_main_v5_eq]
        obtain ⟨h0, h1⟩ := hag c
        refine Eq.trans ?_ (final m c).symm
        refine Eq.trans ?_ (result _ _)
        rw [← h0, ← h1]), (h c).2⟩) (Cert.OddInReferenceIdeal.Value.run m' g')⟩

end Cert.Odd

end
-- ==== Proof.EvenProj.lean ====
/- The first layer's output projection: the block a grid point stores, of the residual stream and of the feed-forward's input. -/
module

public import proofs.«01_k».proof.Proof.Gen.EvenOutIdeal.Frame
public import proofs.«01_k».proof.Proof.Row

@[expose] public section

set_option maxRecDepth 16384

noncomputable section

namespace Cert.EvenProj

open Cert.EvenOutIdeal Cert.EvenOutIdeal.Gen Idealize.ShloMosaic Idealize.ShloMosaic.TcCoe Idealize.SL.Sem

section
variable (a : Vec Ideal S256x1024 .bf16) (v : Vec Ideal S1024x2048 .bf16) (u : Vec Ideal S256x1024 .bf16) (w : Vec Ideal S1024x2048 .bf16)
  (x : Vec Ideal S256x2048 .f32) (gate : Vec Ideal S1x1x2048 .f32) (g : Vec Ideal S1x2048 .f32) (s b : Vec Ideal S1x1x2048 .f32)

/-- The residual step a point stores in half a block, from its loads. -/
theorem step (r : Fin 256) (k : Fin 2048) : k0_pay3 (F := Ideal) a v u w x gate (ix2 r k)
    = Row.resid (fun k => x (ix2 r k)) (fun k => gate (ix3 0 0 k)) (Row.both (fun j => a (ix2 r j)) fun j => u (ix2 r j))
        (Row.both (fun j k => v (ix2 j k)) fun j k => w (ix2 j k)) k := by
  unfold k0_pay3
  pointwise []
  exact Row.resid_both (fun k => x (ix2 r k)) (fun k => gate (ix3 0 0 k)) (fun j => a (ix2 r j)) (fun j => u (ix2 r j)) (fun j k => v (ix2 j k))
    (fun j k => w (ix2 j k)) k

/-- What a point stores of the feed-forward's input in half a block, from its loads. -/
def store : FVec Ideal S256x2048 .bf16 := k0_pay6 (k0_pay4 a v u w x gate g) (k0_pay5 s) (FloatOps.ofBits FTy.f32 1065353216#32) b

/-- That store, row by row. -/
theorem norm (r : Fin 256) (k : Fin 2048) : store a v u w x gate g s b (ix2 r k)
    = Row.modulated (Row.resid (fun k => x (ix2 r k)) (fun k => gate (ix3 0 0 k)) (Row.both (fun j => a (ix2 r j)) fun j => u (ix2 r j))
        (Row.both (fun j k => v (ix2 j k)) fun j k => w (ix2 j k))) (fun k => g (ix2 0 k)) (fun k => s (ix3 0 0 k)) (fun k => b (ix3 0 0 k)) k := by
  unfold store k0_pay6 k0_pay5 k0_pay4
  pointwise []
  simp only [step]
  rfl

end

/-- The rows a half of a block reads and stores. -/
abbrev lo : Rect S512x2048 := Rect.unit (s := S512x2048) ![0, 0] S256x2048.size inb_S512x2048_S256x2048_0_0
abbrev hi : Rect S512x2048 := Rect.unit (s := S512x2048) ![256, 0] S256x2048.size inb_S512x2048_S256x2048_256_0
/-- The same of the products' operands. -/
abbrev loU : Rect S512x1024 := Rect.unit (s := S512x1024) ![0, 0] S256x1024.size inb_S512x1024_S256x1024_0_0
abbrev hiU : Rect S512x1024 := Rect.unit (s := S512x1024) ![256, 0] S256x1024.size inb_S512x1024_S256x1024_256_0
/-- The gate, the scale and the shift among the modulation rows. -/
abbrev gate : Rect S1x6x2048 := Rect.unit (s := S1x6x2048) ![0, 2, 0] S1x1x2048.size inb_S1x6x2048_S1x1x2048_0_2_0
abbrev scale : Rect S1x2x2048 := Rect.unit (s := S1x2x2048) ![0, 1, 0] S1x1x2048.size inb_S1x2x2048_S1x1x2048_0_1_0
abbrev shift : Rect S1x2x2048 := Rect.unit (s := S1x2x2048) ![0, 0, 0] S1x1x2048.size inb_S1x2x2048_S1x1x2048_0_0_0

section
variable (A : Vec Ideal S512x1024 .bf16) (T : Vec Ideal S1024x2048 .bf16) (U : Vec Ideal S512x1024 .bf16) (W : Vec Ideal S1024x2048 .bf16) (X : Vec Ideal S512x2048 .f32) (M : Vec Ideal S1x6x2048 .f32)
  (G : Vec Ideal S1x2048 .f32) (N : Vec Ideal S1x2x2048 .f32)

/-- The block of the residual stream a point stores: its two halves, by the expression the first half's store has. -/
def blockX : Vec Ideal S512x2048 .f32 :=
  View.canon [⟨hi, k0_pay3 (F := Ideal) (View.ld A hiU) T (View.ld U hiU) W (View.ld X hi) (View.ld M gate)⟩,
    ⟨lo, k0_pay3 (F := Ideal) (View.ld A loU) T (View.ld U loU) W (View.ld X lo) (View.ld M gate)⟩]

/-- The block of the feed-forward's input a point stores. -/
def blockH : Vec Ideal S512x2048 .bf16 :=
  View.canon [⟨hi, store (View.ld A hiU) T (View.ld U hiU) W (View.ld X hi) (View.ld M gate) G (View.ld N scale) (View.ld N shift)⟩,
    ⟨lo, store (View.ld A loU) T (View.ld U loU) W (View.ld X lo) (View.ld M gate) G (View.ld N scale) (View.ld N shift)⟩]

theorem ld_gate (k : Fin 2048) : View.ld M gate (ix3 0 0 k) = M (ix3 0 2 k) :=
  View.ld_unit_apply_of _ _ _ _ _ _ (by intro a; fin_cases a; exacts [rfl, rfl, (Nat.zero_add _).symm])

theorem ld_scale (k : Fin 2048) : View.ld N scale (ix3 0 0 k) = N (ix3 0 1 k) :=
  View.ld_unit_apply_of _ _ _ _ _ _ (by intro a; fin_cases a; exacts [rfl, rfl, (Nat.zero_add _).symm])

theorem ld_shift (k : Fin 2048) : View.ld N shift (ix3 0 0 k) = N (ix3 0 0 k) :=
  View.ld_unit_apply_of _ _ _ _ _ _ (by intro a; fin_cases a; exacts [rfl, rfl, (Nat.zero_add _).symm])

/-- The residual stream a point stores, row by row. -/
theorem block_step (r : Fin 512) (k : Fin 2048) : blockX A T U W X M (ix2 r k)
    = Row.resid (fun k => X (ix2 r k)) (fun k => M (ix3 0 2 k)) (Row.both (fun j => A (ix2 r j)) fun j => U (ix2 r j)) (Row.both (fun j k => T (ix2 j k)) fun j k => W (ix2 j k)) k := by
  have hm := ld_gate M
  unfold blockX
  generalize hy : (ix2 r k : S512x2048.Idx) = y
  canon_tiles x
  case piece0 =>
    subst hy
    idx_vars x
    obtain rfl : x1 = k := Fin.ext h1.symm
    rw [step]
    simp only [hm]
    congr 1
    · funext k'
      exact View.ld_unit_apply_of _ _ _ _ _ _ (by intro a; fin_cases a; exacts [h0, (Nat.zero_add _).symm])
    · refine congrArg₂ Row.both (funext fun j => ?_) (funext fun j => ?_)
      · exact View.ld_unit_apply_of _ _ _ _ _ _ (by intro a; fin_cases a; exacts [h0, (Nat.zero_add _).symm])
      · exact View.ld_unit_apply_of _ _ _ _ _ _ (by intro a; fin_cases a; exacts [h0, (Nat.zero_add _).symm])
  case piece1 =>
    subst hy
    idx_vars x
    obtain rfl : x1 = k := Fin.ext h1.symm
    rw [step]
    simp only [hm]
    congr 1
    · funext k'
      exact View.ld_unit_apply_of _ _ _ _ _ _ (by intro a; fin_cases a; exacts [h0.trans (Nat.zero_add _).symm, (Nat.zero_add _).symm])
    · refine congrArg₂ Row.both (funext fun j => ?_) (funext fun j => ?_)
      · exact View.ld_unit_apply_of _ _ _ _ _ _ (by intro a; fin_cases a; exacts [h0.trans (Nat.zero_add _).symm, (Nat.zero_add _).symm])
      · exact View.ld_unit_apply_of _ _ _ _ _ _ (by intro a; fin_cases a; exacts [h0.trans (Nat.zero_add _).symm, (Nat.zero_add _).symm])

/-- The feed-forward's input a point stores, row by row. -/
theorem block_norm (r : Fin 512) (k : Fin 2048) : blockH A T U W X M G N (ix2 r k)
    = Row.modulated (Row.resid (fun k => X (ix2 r k)) (fun k => M (ix3 0 2 k)) (Row.both (fun j => A (ix2 r j)) fun j => U (ix2 r j)) (Row.both (fun j k => T (ix2 j k)) fun j k => W (ix2 j k)))
        (fun k => G (ix2 0 k)) (fun k => N (ix3 0 1 k)) (fun k => N (ix3 0 0 k)) k := by
  have hm := ld_gate M
  have hs := ld_scale N
  have hb := ld_shift N
  unfold blockH
  generalize hy : (ix2 r k : S512x2048.Idx) = y
  canon_tiles x
  case piece0 =>
    subst hy
    idx_vars x
    obtain rfl : x1 = k := Fin.ext h1.symm
    rw [norm]
    simp only [hm, hs, hb]
    congr 2
    · funext k'
      exact View.ld_unit_apply_of _ _ _ _ _ _ (by intro a; fin_cases a; exacts [h0, (Nat.zero_add _).symm])
    · refine congrArg₂ Row.both (funext fun j => ?_) (funext fun j => ?_)
      · exact View.ld_unit_apply_of _ _ _ _ _ _ (by intro a; fin_cases a; exacts [h0, (Nat.zero_add _).symm])
      · exact View.ld_unit_apply_of _ _ _ _ _ _ (by intro a; fin_cases a; exacts [h0, (Nat.zero_add _).symm])
  case piece1 =>
    subst hy
    idx_vars x
    obtain rfl : x1 = k := Fin.ext h1.symm
    rw [norm]
    simp only [hm, hs, hb]
    congr 2
    · funext k'
      exact View.ld_unit_apply_of _ _ _ _ _ _ (by intro a; fin_cases a; exacts [h0.trans (Nat.zero_add _).symm, (Nat.zero_add _).symm])
    · refine congrArg₂ Row.both (funext fun j => ?_) (funext fun j => ?_)
      · exact View.ld_unit_apply_of _ _ _ _ _ _ (by intro a; fin_cases a; exacts [h0.trans (Nat.zero_add _).symm, (Nat.zero_add _).symm])
      · exact View.ld_unit_apply_of _ _ _ _ _ _ (by intro a; fin_cases a; exacts [h0.trans (Nat.zero_add _).symm, (Nat.zero_add _).symm])

end

section
variable (m : (ℓ : Loc nD τ sig) → Buf (Elt Ideal) ℓ) (c : Dev nD) (t : Fin cfg0.N)

/-- A point of the prompts stores the blocks of the prompts' rows. -/
theorem outs_prompt (h0 : t.val < 16) : outsAt0 m c t.val t.isLt = (blockX (iblk m c 0 t) (iblk m c 3 t) (iblk m c 1 t) (iblk m c 4 t) (iblk m c 5 t) (iblk m c 7 t),
    blockH (iblk m c 0 t) (iblk m c 3 t) (iblk m c 1 t) (iblk m c 4 t) (iblk m c 5 t) (iblk m c 7 t) (iblk m c 8 t) (iblk m c 9 t)) := by
  rw [outsAt0_A m c t h0 (by omega)]
  refine Prod.ext ?_ ?_
  · frame_out
    rfl
  · frame_out
    rfl

/-- A point of the samples stores the blocks of the samples' rows. -/
theorem outs_sample (h0 : ¬t.val < 16) : outsAt0 m c t.val t.isLt = (blockX (iblk m c 0 t) (iblk m c 3 t) (iblk m c 2 t) (iblk m c 4 t) (iblk m c 6 t) (iblk m c 7 t),
    blockH (iblk m c 0 t) (iblk m c 3 t) (iblk m c 2 t) (iblk m c 4 t) (iblk m c 6 t) (iblk m c 7 t) (iblk m c 8 t) (iblk m c 9 t)) := by
  rw [outsAt0_B m c t h0 (by omega)]
  refine Prod.ext ?_ ?_
  · frame_out
    rfl
  · frame_out
    rfl

end

end Cert.EvenProj

end
-- ==== Proof.EvenProjCall.lean ====
/- The first layer's output projection: its runs, the two arrays it leaves, and that the reference's results are the same. -/
module

public import proofs.«01_k».proof.Defs
public import proofs.«01_k».proof.Proof.Gen.EvenOut.Frame
public import proofs.«01_k».proof.Proof.Gen.EvenOutIdeal.Value
public import proofs.«01_k».proof.Proof.Gen.EvenOutReferenceIdeal.Run
public import proofs.«01_k».proof.Proof.Gen.EvenOutReferenceIdeal.Read
public import proofs.«01_k».proof.Proof.EvenProj
public import Idealize.ShloMosaic.Lib.Claim
public import Idealize.ShloMosaic.Lib.Quiescent

@[expose] public section

set_option maxRecDepth 16384

noncomputable section

namespace Cert.EvenProjCall

open Idealize.ShloMosaic Idealize.ShloMosaic.TcCoe Idealize.SL.Sem

instance : Cert.EvenOut.Facts := Cert.EvenOut.Gen.facts
instance : Cert.EvenOutIdeal.Facts := Cert.EvenOutIdeal.Gen.facts
instance : Cert.EvenOutReferenceIdeal.Facts := Cert.EvenOutReferenceIdeal.Gen.facts

/-- The call terminates, leaves its arguments as they were and every counter at zero. -/
theorem frame_P : Cert.quiescent_EvenOut := fun m ρ _ => Cert.EvenOut.Gen.frame m ρ

/-- The same over the extended reals. -/
theorem frame_PI : Cert.quiescent_EvenOutIdeal := fun m ρ _ => Cert.EvenOutIdeal.Gen.frame m ρ

/-- The same of the reference over the extended reals, which has no counter. -/
theorem frame_RI : Cert.quiescent_EvenOutReferenceIdeal := fun m ρ _ =>
  (θ_run _ _ _).mono (fun r h => ⟨fun c => (h c).2.2, sem_eq_zero_of_no_sems (by decide) r.2⟩)
    (Cert.EvenOutReferenceIdeal.Value.run m ρ)

/-- No operation was rewritten for the extended reals. -/
theorem preserves : Cert.preserves_EvenOut_EvenOutIdeal := trivial

section
open Cert.EvenOutIdeal

variable (a : FVec Ideal S16384x1024 .bf16) (op os : FVec Ideal S8192x1024 .bf16) (w : FVec Ideal S2x2048x2048 .f32) (xp : FVec Ideal S32x256x2048 .f32)
  (xs : FVec Ideal S4x2048x2048 .f32) (mod : FVec Ideal S8x6x2048 .f32) (g : FVec Ideal S4x2048 .f32)

/-- Row `R` of the prompts' attention and the samples' after it. -/
def rows (R : Fin 16384) (j : Fin 1024) : EReal :=
  if h : R.val < 8192 then op (ix2 ⟨R.val, h⟩ j) else os (ix2 ⟨R.val - 8192, by omega⟩ j)

/-- Token `R` of the prompts' sequences of 256 and the samples' of 2048 after them. -/
def tokens_in (R : Fin 16384) (k : Fin 2048) : EReal :=
  if h : R.val < 8192 then xp (ix3 ⟨R.val / 256, by omega⟩ ⟨R.val % 256, by omega⟩ k)
  else xs (ix3 ⟨(R.val - 8192) / 2048, by omega⟩ ⟨(R.val - 8192) % 2048, by omega⟩ k)

/-- Row `R` of the residual stream after the step, modulated by row `b`. -/
def step (b : Fin 8) (R : Fin 16384) : Fin 2048 → EReal :=
  Row.resid (fun k => tokens_in xp xs R k) (fun k => mod (ix3 b 2 k)) (Row.both (fun j => a (ix2 R j)) fun j => rows op os R j) fun j k => w (ix3 0 j k)

/-- Row `R` of the feed-forward's input, modulated by row `b`. -/
def norm (b : Fin 8) (R : Fin 16384) : Fin 2048 → EReal :=
  Row.modulated (step a op os w xp xs mod b R) (fun k => g (ix2 0 k)) (fun k => mod (ix3 b 4 k)) fun k => mod (ix3 b 3 k)

/-- The residual stream after the step. -/
def stream : FVec Ideal S16384x2048 .f32 := fun y =>
  step a op os w xp xs mod (Row.tok ⟨(y 0).val, (y 0).isLt⟩) ⟨(y 0).val, (y 0).isLt⟩ ⟨(y 1).val, (y 1).isLt⟩

/-- The feed-forward's input. -/
def input : FVec Ideal S16384x2048 .bf16 := fun y =>
  norm a op os w xp xs mod g (Row.tok ⟨(y 0).val, (y 0).isLt⟩) ⟨(y 0).val, (y 0).isLt⟩ ⟨(y 1).val, (y 1).isLt⟩

end

section
open Cert.EvenOutIdeal Cert.EvenOutIdeal.Gen

variable (m : (ℓ : Loc nD τ sig) → Buf (Elt Ideal) ℓ) (c : Dev nD)

/-- The modulation row of a grid point: the prompts' blocks read row 0, a sample's four blocks its own. -/
def at_ (t : ℕ) : ℕ := if t < 16 then 0 else 1 + (t - 16) / 4

/-- Each window's block at a grid point. -/
theorem idx : ∀ t : Fin cfg0.N, win0_0.index t = ![t.val, 0] ∧ win0_1.index t = ![min t.val 15, 0] ∧ win0_2.index t = ![t.val - 16, 0] ∧ win0_3.index t = ![0, 0]
    ∧ win0_4.index t = ![0, 0] ∧ win0_5.index t = ![min t.val 15, 0] ∧ win0_6.index t = ![t.val - 16, 0] ∧ win0_7.index t = ![at_ t.val, 0, 0]
    ∧ win0_8.index t = ![0, 0] ∧ win0_9.index t = ![at_ t.val, 0, 0] ∧ win0_10.index t = ![t.val, 0] ∧ win0_11.index t = ![t.val, 0] ∧ t.val < 32 :=
  (by decide +kernel : ∀ t : Fin grid0.N, _)

/-- The weights the host prepares. -/
theorem weights (j k : Fin 2048) : (V m c main_v4 : FVec Ideal S2048x2048 .bf16) (ix2 j k) = m (c, Proc.tc.devRef main_arg3) (ix3 0 j k) := by
  have h : (V m c main_v4 : FVec Ideal S2048x2048 .bf16) = truncf (F := Ideal) (φ := .f32) .bf16 (shapeCast S2048x2048 (extractStridedSlice S1x2048x2048 ![0, 0, 0] (m (c, Proc.tc.devRef main_arg3)) slices_S2x2048x2048_S1x2048x2048_0_0_0) shapeCasts_S1x2048x2048_S2048x2048) := by
    entry_read; rfl
  rw [h]; pointwise []

/-- The first half of their rows. -/
theorem weights_lo (j : Fin 1024) (k : Fin 2048) : (V m c main_v5 : FVec Ideal S1024x2048 .bf16) (ix2 j k)
    = m (c, Proc.tc.devRef main_arg3) (ix3 0 ⟨j.val, by omega⟩ k) := by
  have h : (V m c main_v5 : FVec Ideal S1024x2048 .bf16) = extractStridedSlice S1024x2048 ![0, 0] (V m c main_v4 : FVec Ideal S2048x2048 .bf16) slices_S2048x2048_S1024x2048_0_0 := by
    entry_read; rfl
  rw [h]
  refine Eq.trans ?_ (weights m c ⟨j.val, by omega⟩ k)
  generalize (V m c main_v4 : FVec Ideal S2048x2048 .bf16) = z
  pointwise []

/-- The second half. -/
theorem weights_hi (j : Fin 1024) (k : Fin 2048) : (V m c main_v6 : FVec Ideal S1024x2048 .bf16) (ix2 j k)
    = m (c, Proc.tc.devRef main_arg3) (ix3 0 ⟨1024 + j.val, by omega⟩ k) := by
  have h : (V m c main_v6 : FVec Ideal S1024x2048 .bf16) = extractStridedSlice S1024x2048 ![1024, 0] (V m c main_v4 : FVec Ideal S2048x2048 .bf16) slices_S2048x2048_S1024x2048_1024_0 := by
    entry_read; rfl
  rw [h]
  refine Eq.trans ?_ (weights m c ⟨1024 + j.val, by omega⟩ k)
  generalize (V m c main_v4 : FVec Ideal S2048x2048 .bf16) = z
  pointwise []

/-- The prompts' tokens as rows. -/
theorem prompts (R : Fin 8192) (k : Fin 2048) : (V m c main_v0 : FVec Ideal S8192x2048 .f32) (ix2 R k)
    = m (c, Proc.tc.devRef main_arg4) (ix3 ⟨R.val / 256, by omega⟩ ⟨R.val % 256, by omega⟩ k) := by
  have h : (V m c main_v0 : FVec Ideal S8192x2048 .f32) = shapeCast S8192x2048 (m (c, Proc.tc.devRef main_arg4)) shapeCasts_S32x256x2048_S8192x2048 := by
    entry_read; rfl
  have hz : ∀ z : FVec Ideal S32x256x2048 .f32, shapeCast S8192x2048 z shapeCasts_S32x256x2048_S8192x2048 (ix2 R k)
      = z (ix3 ⟨R.val / 256, by omega⟩ ⟨R.val % 256, by omega⟩ k) := fun z => by pointwise []
  rw [h]
  exact hz _

/-- The samples' tokens as rows. -/
theorem samples (R : Fin 8192) (k : Fin 2048) : (V m c main_v1 : FVec Ideal S8192x2048 .f32) (ix2 R k)
    = m (c, Proc.tc.devRef main_arg5) (ix3 ⟨R.val / 2048, by omega⟩ ⟨R.val % 2048, by omega⟩ k) := by
  have h : (V m c main_v1 : FVec Ideal S8192x2048 .f32) = shapeCast S8192x2048 (m (c, Proc.tc.devRef main_arg5)) shapeCasts_S4x2048x2048_S8192x2048 := by
    entry_read; rfl
  have hz : ∀ z : FVec Ideal S4x2048x2048 .f32, shapeCast S8192x2048 z shapeCasts_S4x2048x2048_S8192x2048 (ix2 R k)
      = z (ix3 ⟨R.val / 2048, by omega⟩ ⟨R.val % 2048, by omega⟩ k) := fun z => by pointwise []
  rw [h]
  exact hz _

/-- The norm's weights as a row. -/
theorem gain (k : Fin 2048) : (V m c main_v10 : FVec Ideal S1x2048 .f32) (ix2 0 k) = m (c, Proc.tc.devRef main_arg7) (ix2 0 k) := by
  have h : (V m c main_v10 : FVec Ideal S1x2048 .f32) = shapeCast S1x2048 (shapeCast S2048 (extractStridedSlice S1x2048 ![0, 0] (m (c, Proc.tc.devRef main_arg7)) slices_S4x2048_S1x2048_0_0) shapeCasts_S1x2048_S2048) shapeCasts_S2048_S1x2048 := by
    entry_read; rfl
  rw [h]; pointwise []

/-- The modulation's rows 3 and 4. -/
theorem pair (b : Fin 8) (a : Fin 2) (k : Fin 2048) : (V m c main_v9 : FVec Ideal S8x2x2048 .f32) (ix3 b a k)
    = m (c, Proc.tc.devRef main_arg6) (ix3 b ⟨3 + a.val, by omega⟩ k) := by
  have h : (V m c main_v9 : FVec Ideal S8x2x2048 .f32) = extractStridedSlice S8x2x2048 ![0, 3, 0] (m (c, Proc.tc.devRef main_arg6)) slices_S8x6x2048_S8x2x2048_0_3_0 := by
    entry_read; rfl
  rw [h]; pointwise []

/-- A point's modulation row is its tokens'. -/
theorem at_tok (t : Fin cfg0.N) (r : Fin 512) (h : t.val * 512 + r.val < 16384) : at_ t.val = (Row.tok ⟨t.val * 512 + r.val, h⟩).val := by
  have := r.isLt
  unfold at_ Row.tok
  split <;> split <;> simp at * <;> omega

section
variable (t : Fin cfg0.N)

theorem rd_lo (j : Fin 1024) (k : Fin 2048) : (iblk m c 3 t : FVec Ideal S1024x2048 .bf16) (ix2 j k)
    = m ((c : Thread nD τ).loc main_arg3) (ix3 0 ⟨j.val, by omega⟩ k) := by
  refine Eq.trans ?_ (weights_lo m c j k)
  blk_ext [iblk, idx t]

theorem rd_hi (j : Fin 1024) (k : Fin 2048) : (iblk m c 4 t : FVec Ideal S1024x2048 .bf16) (ix2 j k)
    = m ((c : Thread nD τ).loc main_arg3) (ix3 0 ⟨1024 + j.val, by omega⟩ k) := by
  refine Eq.trans ?_ (weights_hi m c j k)
  blk_ext [iblk, idx t]

end

section
variable (t : Fin cfg0.N) (r : Fin 512) (h : t.val * 512 + r.val < 16384)

theorem rd_a (j : Fin 1024) : (iblk m c 0 t : FVec Ideal S512x1024 .bf16) (ix2 r j) = m ((c : Thread nD τ).loc main_arg0) (ix2 ⟨t.val * 512 + r.val, h⟩ j) := by
  blk_ext [iblk, V, idx t]

theorem rd_p (h0 : t.val < 16) (j : Fin 1024) : (iblk m c 1 t : FVec Ideal S512x1024 .bf16) (ix2 r j)
    = rows (m ((c : Thread nD τ).loc main_arg1)) (m ((c : Thread nD τ).loc main_arg2)) ⟨t.val * 512 + r.val, h⟩ j := by
  have h8 : t.val * 512 + r.val < 8192 := by have := r.isLt; omega
  have hr : rows (m ((c : Thread nD τ).loc main_arg1)) (m ((c : Thread nD τ).loc main_arg2)) ⟨t.val * 512 + r.val, h⟩ j
      = m ((c : Thread nD τ).loc main_arg1) (ix2 ⟨t.val * 512 + r.val, h8⟩ j) := dif_pos h8
  rw [hr]
  have h15 : min t.val 15 = t.val := by omega
  blk_ext [iblk, V, idx t, h15]

theorem rd_s (h0 : ¬t.val < 16) (j : Fin 1024) : (iblk m c 2 t : FVec Ideal S512x1024 .bf16) (ix2 r j)
    = rows (m ((c : Thread nD τ).loc main_arg1)) (m ((c : Thread nD τ).loc main_arg2)) ⟨t.val * 512 + r.val, h⟩ j := by
  have h8 : ¬t.val * 512 + r.val < 8192 := by omega
  have hr : rows (m ((c : Thread nD τ).loc main_arg1)) (m ((c : Thread nD τ).loc main_arg2)) ⟨t.val * 512 + r.val, h⟩ j
      = m ((c : Thread nD τ).loc main_arg2) (ix2 ⟨t.val * 512 + r.val - 8192, by omega⟩ j) := dif_neg h8
  rw [hr]
  blk_ext [iblk, V, idx t]

theorem rd_xp (h0 : t.val < 16) (k : Fin 2048) : (iblk m c 5 t : FVec Ideal S512x2048 .f32) (ix2 r k)
    = tokens_in (m ((c : Thread nD τ).loc main_arg4)) (m ((c : Thread nD τ).loc main_arg5)) ⟨t.val * 512 + r.val, h⟩ k := by
  have h8 : t.val * 512 + r.val < 8192 := by have := r.isLt; omega
  have h15 : min t.val 15 = t.val := by omega
  have hr : tokens_in (m ((c : Thread nD τ).loc main_arg4)) (m ((c : Thread nD τ).loc main_arg5)) ⟨t.val * 512 + r.val, h⟩ k
      = m ((c : Thread nD τ).loc main_arg4) (ix3 ⟨(t.val * 512 + r.val) / 256, by omega⟩ ⟨(t.val * 512 + r.val) % 256, by omega⟩ k) := dif_pos h8
  rw [hr]
  refine Eq.trans ?_ (prompts m c ⟨t.val * 512 + r.val, h8⟩ k)
  blk_ext [iblk, idx t, h15]

theorem rd_xs (h0 : ¬t.val < 16) (k : Fin 2048) : (iblk m c 6 t : FVec Ideal S512x2048 .f32) (ix2 r k)
    = tokens_in (m ((c : Thread nD τ).loc main_arg4)) (m ((c : Thread nD τ).loc main_arg5)) ⟨t.val * 512 + r.val, h⟩ k := by
  have h8 : ¬t.val * 512 + r.val < 8192 := by omega
  have hr : tokens_in (m ((c : Thread nD τ).loc main_arg4)) (m ((c : Thread nD τ).loc main_arg5)) ⟨t.val * 512 + r.val, h⟩ k
      = m ((c : Thread nD τ).loc main_arg5) (ix3 ⟨(t.val * 512 + r.val - 8192) / 2048, by omega⟩ ⟨(t.val * 512 + r.val - 8192) % 2048, by omega⟩ k) := dif_neg h8
  rw [hr]
  refine Eq.trans ?_ (samples m c ⟨t.val * 512 + r.val - 8192, by omega⟩ k)
  blk_ext [iblk, idx t]

theorem rd_mod (k : Fin 2048) : (iblk m c 7 t : FVec Ideal S1x6x2048 .f32) (ix3 0 2 k)
    = m ((c : Thread nD τ).loc main_arg6) (ix3 (Row.tok ⟨t.val * 512 + r.val, h⟩) 2 k) := by
  blk_ext [iblk, V, idx t, at_tok t r h]

theorem rd_gain (k : Fin 2048) : (iblk m c 8 t : FVec Ideal S1x2048 .f32) (ix2 0 k) = m ((c : Thread nD τ).loc main_arg7) (ix2 0 k) := by
  refine Eq.trans ?_ (gain m c k)
  blk_ext [iblk, idx t]

theorem rd_pair (a : Fin 2) (k : Fin 2048) : (iblk m c 9 t : FVec Ideal S1x2x2048 .f32) (ix3 0 a k)
    = m ((c : Thread nD τ).loc main_arg6) (ix3 (Row.tok ⟨t.val * 512 + r.val, h⟩) ⟨3 + a.val, by omega⟩ k) := by
  refine Eq.trans ?_ (pair m c (Row.tok ⟨t.val * 512 + r.val, h⟩) a k)
  blk_ext [iblk, idx t, at_tok t r h]

end

/-- The halves of the weights, joined. -/
theorem weights_both (t : Fin cfg0.N) : Row.both (fun j k => (iblk m c 3 t : FVec Ideal S1024x2048 .bf16) (ix2 j k))
    (fun j k => (iblk m c 4 t : FVec Ideal S1024x2048 .bf16) (ix2 j k)) = fun j k => m ((c : Thread nD τ).loc main_arg3) (ix3 0 j k) :=
  (congrArg₂ Row.both (funext fun j => funext fun k => rd_lo m c t j k) (funext fun j => funext fun k => rd_hi m c t j k)).trans
    (Row.both_split fun j k => m ((c : Thread nD τ).loc main_arg3) (ix3 0 j k))

/-- What a point stores of the residual stream. -/
theorem stored_x (t : Fin cfg0.N) (r : Fin 512) (h : t.val * 512 + r.val < 16384) (k : Fin 2048) : (outsAt0 m c t.val t.isLt).1 (ix2 r k)
    = step (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Row.tok ⟨t.val * 512 + r.val, h⟩) ⟨t.val * 512 + r.val, h⟩ k := by
  by_cases h0 : t.val < 16
  · rw [EvenProj.outs_prompt m c t h0]
    dsimp only
    rw [EvenProj.block_step]
    simp only [rd_a m c t r h, rd_p m c t r h h0, rd_xp m c t r h h0, rd_mod m c t r h, weights_both m c t]
    rfl
  · rw [EvenProj.outs_sample m c t h0]
    dsimp only
    rw [EvenProj.block_step]
    simp only [rd_a m c t r h, rd_s m c t r h h0, rd_xs m c t r h h0, rd_mod m c t r h, weights_both m c t]
    rfl

/-- What a point stores of the feed-forward's input. -/
theorem stored_h (t : Fin cfg0.N) (r : Fin 512) (h : t.val * 512 + r.val < 16384) (k : Fin 2048) : (outsAt0 m c t.val t.isLt).2 (ix2 r k)
    = norm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (Row.tok ⟨t.val * 512 + r.val, h⟩) ⟨t.val * 512 + r.val, h⟩ k := by
  by_cases h0 : t.val < 16
  · rw [EvenProj.outs_prompt m c t h0]
    dsimp only
    rw [EvenProj.block_norm]
    simp only [rd_a m c t r h, rd_p m c t r h h0, rd_xp m c t r h h0, rd_mod m c t r h, rd_gain m c t, rd_pair m c t r h, weights_both m c t]
    rfl
  · rw [EvenProj.outs_sample m c t h0]
    dsimp only
    rw [EvenProj.block_norm]
    simp only [rd_a m c t r h, rd_s m c t r h h0, rd_xs m c t r h h0, rd_mod m c t r h, rd_gain m c t, rd_pair m c t r h, weights_both m c t]
    rfl

/-- The residual stream the call leaves. -/
theorem final_x : (dats m 0 c).arrAt 10 (cfgs 0).N
    = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 (stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (by decide +kernel) fun t _ y => ?_
  blk_simp
  rw [after0_10]
  idx_vars y
  have h32 := (idx t).2.2.2.2.2.2.2.2.2.2.2.2
  have h : t.val * 512 + y0.val < 16384 := by omega
  refine (stored_x m c t y0 h y1).trans ?_
  unfold stream
  blk_simp [idx t]

/-- The feed-forward's input the call leaves. -/
theorem final_h : (dats m 0 c).arrAt 11 (cfgs 0).N
    = input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 (input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (by decide +kernel) fun t _ y => ?_
  blk_simp
  rw [after0_11]
  idx_vars y
  have h32 := (idx t).2.2.2.2.2.2.2.2.2.2.2.2
  have h : t.val * 512 + y0.val < 16384 := by omega
  refine (stored_h m c t y0 h y1).trans ?_
  unfold input
  blk_simp [idx t]

end

section
open Cert.EvenOutReferenceIdeal Cert.EvenOutReferenceIdeal.Gen Cert.EvenOutReferenceIdeal.Read

/-- The reference's modulation, token by token. -/
theorem tokens (mod : FVec Ideal S8x6x2048 .f32) (R : Fin 16384) (a : Fin 6) (k : Fin 2048) :
    val_main_v12 (F := Ideal) mod (ix3 R a k) = mod (ix3 (Row.tok R) a k) := by
  unfold val_main_v12 val_main_v11 val_main_v10 val_main_v9 val_main_v8 val_main_v7 val_main_v6
  pointwise []
  unfold Row.tok
  split <;> rfl

/-- The reference's rows of the two mixers, side by side. -/
theorem joined (a : FVec Ideal S16384x1024 .bf16) (op os : FVec Ideal S8192x1024 .bf16) (R : Fin 16384) (j : Fin 2048) :
    val_main_v1 (F := Ideal) a op os (ix2 R j) = Row.both (fun j => a (ix2 R j)) (fun j => rows op os R j) j := by
  unfold val_main_v1 val_main_v0
  pointwise []
  rfl

/-- The reference's residual stream before the step. -/
theorem before (xp : FVec Ideal S32x256x2048 .f32) (xs : FVec Ideal S4x2048x2048 .f32) (R : Fin 16384) (k : Fin 2048) :
    val_main_v15 (F := Ideal) xp xs (ix2 R k) = tokens_in xp xs R k := by
  unfold val_main_v15 val_main_v14 val_main_v13
  pointwise []
  rfl

section
variable (a : FVec Ideal S16384x1024 .bf16) (op os : FVec Ideal S8192x1024 .bf16) (w : FVec Ideal S2x2048x2048 .f32) (xp : FVec Ideal S32x256x2048 .f32)
  (xs : FVec Ideal S4x2048x2048 .f32) (mod : FVec Ideal S8x6x2048 .f32) (g : FVec Ideal S4x2048 .f32)

/-- The reference's residual stream. -/
theorem result_x : val_main_v19 (F := Ideal) a op os w xp xs mod = stream a op os w xp xs mod := by
  funext y
  idx_vars y
  show val_main_v19 (F := Ideal) a op os w xp xs mod (ix2 y0 y1) = _
  unfold val_main_v19 val_main_v18 val_main_v17 val_main_v16 val_main_v5 val_main_v4 val_main_v3 val_main_v2
  pointwise []
  simp only [tokens, joined, before]
  rfl

/-- The reference's input of the feed-forward. -/
theorem result_h : val_main_v43 (F := Ideal) a op os w xp xs mod g = input a op os w xp xs mod g := by
  funext y
  idx_vars y
  show val_main_v43 (F := Ideal) a op os w xp xs mod g (ix2 y0 y1) = _
  unfold val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20
    val_main_cst_2 val_main_cst_1 val_main_cst_0 val_main_cst
  rw [result_x]
  pointwise []
  simp only [tokens]
  rfl

end
end

/-- The call leaves the reference's results. -/
theorem equal : Cert.algebraic_EvenOutIdeal_EvenOutReferenceIdeal := fun m g m' g' _ hag =>
  ⟨fun c => (Cert.EvenOutIdeal.Gen.dats m 0 c).arrAt 10 Cert.EvenOutIdeal.cfg0.N, fun c => (Cert.EvenOutIdeal.Gen.dats m 0 c).arrAt 11 Cert.EvenOutIdeal.cfg0.N,
    Cert.EvenOutIdeal.Value.run_blocks m g,
    (θ_run _ _ _).mono (fun _ h c => ⟨(h c).1.trans (by
        refine (Cert.EvenOutReferenceIdeal.Read.val_main_v19_eq _ _ _ _ _ _ _).trans ?_
        obtain ⟨h0, h1, h2, h3, h4, h5, h6, h7⟩ := hag c
        refine Eq.trans ?_ (final_x m c).symm
        refine Eq.trans ?_ (result_x _ _ _ _ _ _ _)
        rw [← h0, ← h1, ← h2, ← h3, ← h4, ← h5, ← h6]), (h c).2.1.trans (by
        rw [Cert.EvenOutReferenceIdeal.Read.val_main_v43_eq]
        obtain ⟨h0, h1, h2, h3, h4, h5, h6, h7⟩ := hag c
        refine Eq.trans ?_ (final_h m c).symm
        refine Eq.trans ?_ (result_h _ _ _ _ _ _ _ _)
        rw [← h0, ← h1, ← h2, ← h3, ← h4, ← h5, ← h6, ← h7]), (h c).2.2⟩) (Cert.EvenOutReferenceIdeal.Value.run m' g')⟩

end Cert.EvenProjCall

end
-- ==== Proof.OddProj.lean ====
/- The second layer's output projection: the block a grid point stores, of the residual stream and of the feed-forward's input. -/
module

public import proofs.«01_k».proof.Proof.Gen.OddOutIdeal.Frame
public import proofs.«01_k».proof.Proof.Row

@[expose] public section

set_option maxRecDepth 16384

noncomputable section

namespace Cert.OddProj

open Cert.OddOutIdeal Cert.OddOutIdeal.Gen Idealize.ShloMosaic Idealize.ShloMosaic.TcCoe Idealize.SL.Sem

section
variable (u : Vec Ideal S256x2048 .bf16) (w : Vec Ideal S2048x2048 .bf16) (x : Vec Ideal S256x2048 .f32) (gate : Vec Ideal S1x1x2048 .f32)
  (g : Vec Ideal S1x2048 .f32) (s b : Vec Ideal S1x1x2048 .f32)

/-- The residual step a point stores in half a block, from its loads. -/
theorem step (r : Fin 256) (k : Fin 2048) : k0_pay3 (F := Ideal) u w x gate (ix2 r k)
    = Row.resid (fun k => x (ix2 r k)) (fun k => gate (ix3 0 0 k)) (fun j => u (ix2 r j)) (fun j k => w (ix2 j k)) k := by
  unfold k0_pay3
  pointwise []
  rfl

/-- The feed-forward's input a point stores in half a block, from its loads. -/
theorem norm (r : Fin 256) (k : Fin 2048) : k0_pay5 (F := Ideal) (k0_pay4 u w x gate g s b) (ix2 r k)
    = Row.modulated (Row.resid (fun k => x (ix2 r k)) (fun k => gate (ix3 0 0 k)) (fun j => u (ix2 r j)) fun j k => w (ix2 j k))
        (fun k => g (ix2 0 k)) (fun k => s (ix3 0 0 k)) (fun k => b (ix3 0 0 k)) k := by
  unfold k0_pay5 k0_pay4
  pointwise []
  simp only [step]
  rfl

end

/-- The rows a half of a block reads and stores. -/
abbrev lo : Rect S512x2048 := Rect.unit (s := S512x2048) ![0, 0] S256x2048.size inb_S512x2048_S256x2048_0_0
abbrev hi : Rect S512x2048 := Rect.unit (s := S512x2048) ![256, 0] S256x2048.size inb_S512x2048_S256x2048_256_0
/-- The gate, the scale and the shift among the modulation rows. -/
abbrev gate : Rect S1x6x2048 := Rect.unit (s := S1x6x2048) ![0, 2, 0] S1x1x2048.size inb_S1x6x2048_S1x1x2048_0_2_0
abbrev scale : Rect S1x2x2048 := Rect.unit (s := S1x2x2048) ![0, 1, 0] S1x1x2048.size inb_S1x2x2048_S1x1x2048_0_1_0
abbrev shift : Rect S1x2x2048 := Rect.unit (s := S1x2x2048) ![0, 0, 0] S1x1x2048.size inb_S1x2x2048_S1x1x2048_0_0_0

section
variable (U : Vec Ideal S512x2048 .bf16) (W : Vec Ideal S2048x2048 .bf16) (X : Vec Ideal S512x2048 .f32) (M : Vec Ideal S1x6x2048 .f32)
  (G : Vec Ideal S1x2048 .f32) (N : Vec Ideal S1x2x2048 .f32)

/-- The block of the residual stream a point stores: its two halves, by the expression the first half's store has. -/
def blockX : Vec Ideal S512x2048 .f32 :=
  View.canon [⟨hi, k0_pay3 (F := Ideal) (View.ld U hi) W (View.ld X hi) (View.ld M gate)⟩,
    ⟨lo, k0_pay3 (F := Ideal) (View.ld U lo) W (View.ld X lo) (View.ld M gate)⟩]

/-- The block of the feed-forward's input a point stores. -/
def blockH : Vec Ideal S512x2048 .bf16 :=
  View.canon [⟨hi, k0_pay5 (F := Ideal) (k0_pay4 (View.ld U hi) W (View.ld X hi) (View.ld M gate) G (View.ld N scale) (View.ld N shift))⟩,
    ⟨lo, k0_pay5 (F := Ideal) (k0_pay4 (View.ld U lo) W (View.ld X lo) (View.ld M gate) G (View.ld N scale) (View.ld N shift))⟩]

theorem ld_gate (k : Fin 2048) : View.ld M gate (ix3 0 0 k) = M (ix3 0 2 k) :=
  View.ld_unit_apply_of _ _ _ _ _ _ (by intro a; fin_cases a; exacts [rfl, rfl, (Nat.zero_add _).symm])

theorem ld_scale (k : Fin 2048) : View.ld N scale (ix3 0 0 k) = N (ix3 0 1 k) :=
  View.ld_unit_apply_of _ _ _ _ _ _ (by intro a; fin_cases a; exacts [rfl, rfl, (Nat.zero_add _).symm])

theorem ld_shift (k : Fin 2048) : View.ld N shift (ix3 0 0 k) = N (ix3 0 0 k) :=
  View.ld_unit_apply_of _ _ _ _ _ _ (by intro a; fin_cases a; exacts [rfl, rfl, (Nat.zero_add _).symm])

/-- The residual stream a point stores, row by row. -/
theorem block_step (r : Fin 512) (k : Fin 2048) : blockX U W X M (ix2 r k)
    = Row.resid (fun k => X (ix2 r k)) (fun k => M (ix3 0 2 k)) (fun j => U (ix2 r j)) (fun j k => W (ix2 j k)) k := by
  have hm := ld_gate M
  unfold blockX
  generalize hy : (ix2 r k : S512x2048.Idx) = y
  canon_tiles x
  case piece0 =>
    subst hy
    idx_vars x
    obtain rfl : x1 = k := Fin.ext h1.symm
    rw [step]
    simp only [hm]
    congr 1
    · funext k'
      exact View.ld_unit_apply_of _ _ _ _ _ _ (by intro a; fin_cases a; exacts [h0, (Nat.zero_add _).symm])
    · funext j
      exact View.ld_unit_apply_of _ _ _ _ _ _ (by intro a; fin_cases a; exacts [h0, (Nat.zero_add _).symm])
  case piece1 =>
    subst hy
    idx_vars x
    obtain rfl : x1 = k := Fin.ext h1.symm
    rw [step]
    simp only [hm]
    congr 1
    · funext k'
      exact View.ld_unit_apply_of _ _ _ _ _ _ (by intro a; fin_cases a; exacts [h0.trans (Nat.zero_add _).symm, (Nat.zero_add _).symm])
    · funext j
      exact View.ld_unit_apply_of _ _ _ _ _ _ (by intro a; fin_cases a; exacts [h0.trans (Nat.zero_add _).symm, (Nat.zero_add _).symm])

/-- The feed-forward's input a point stores, row by row. -/
theorem block_norm (r : Fin 512) (k : Fin 2048) : blockH U W X M G N (ix2 r k)
    = Row.modulated (Row.resid (fun k => X (ix2 r k)) (fun k => M (ix3 0 2 k)) (fun j => U (ix2 r j)) fun j k => W (ix2 j k))
        (fun k => G (ix2 0 k)) (fun k => N (ix3 0 1 k)) (fun k => N (ix3 0 0 k)) k := by
  have hm := ld_gate M
  have hs := ld_scale N
  have hb := ld_shift N
  unfold blockH
  generalize hy : (ix2 r k : S512x2048.Idx) = y
  canon_tiles x
  case piece0 =>
    subst hy
    idx_vars x
    obtain rfl : x1 = k := Fin.ext h1.symm
    rw [norm]
    simp only [hm, hs, hb]
    congr 2
    · funext k'
      exact View.ld_unit_apply_of _ _ _ _ _ _ (by intro a; fin_cases a; exacts [h0, (Nat.zero_add _).symm])
    · funext j
      exact View.ld_unit_apply_of _ _ _ _ _ _ (by intro a; fin_cases a; exacts [h0, (Nat.zero_add _).symm])
  case piece1 =>
    subst hy
    idx_vars x
    obtain rfl : x1 = k := Fin.ext h1.symm
    rw [norm]
    simp only [hm, hs, hb]
    congr 2
    · funext k'
      exact View.ld_unit_apply_of _ _ _ _ _ _ (by intro a; fin_cases a; exacts [h0.trans (Nat.zero_add _).symm, (Nat.zero_add _).symm])
    · funext j
      exact View.ld_unit_apply_of _ _ _ _ _ _ (by intro a; fin_cases a; exacts [h0.trans (Nat.zero_add _).symm, (Nat.zero_add _).symm])

end

section
variable (m : (ℓ : Loc nD τ sig) → Buf (Elt Ideal) ℓ) (c : Dev nD) (t : Fin cfg0.N)

/-- A point of the prompts stores the blocks of the prompts' rows. -/
theorem outs_prompt (h0 : t.val < 16) : outsAt0 m c t.val t.isLt = (blockX (iblk m c 0 t) (iblk m c 2 t) (iblk m c 3 t) (iblk m c 4 t),
    blockH (iblk m c 0 t) (iblk m c 2 t) (iblk m c 3 t) (iblk m c 4 t) (iblk m c 5 t) (iblk m c 6 t)) := by
  rw [outsAt0_A m c t h0 (by omega)]
  refine Prod.ext ?_ ?_
  · frame_out
    rfl
  · frame_out
    rfl

/-- A point of the samples stores the blocks of the samples' rows. -/
theorem outs_sample (h0 : ¬t.val < 16) : outsAt0 m c t.val t.isLt = (blockX (iblk m c 1 t) (iblk m c 2 t) (iblk m c 3 t) (iblk m c 4 t),
    blockH (iblk m c 1 t) (iblk m c 2 t) (iblk m c 3 t) (iblk m c 4 t) (iblk m c 5 t) (iblk m c 6 t)) := by
  rw [outsAt0_B m c t h0 (by omega)]
  refine Prod.ext ?_ ?_
  · frame_out
    rfl
  · frame_out
    rfl

end

end Cert.OddProj

end
-- ==== Proof.OddProjCall.lean ====
/- The second layer's output projection: its runs, the two arrays it leaves, and that the reference's results are the same. -/
module

public import proofs.«01_k».proof.Defs
public import proofs.«01_k».proof.Proof.Gen.OddOut.Frame
public import proofs.«01_k».proof.Proof.Gen.OddOutIdeal.Value
public import proofs.«01_k».proof.Proof.Gen.OddOutReferenceIdeal.Run
public import proofs.«01_k».proof.Proof.Gen.OddOutReferenceIdeal.Read
public import proofs.«01_k».proof.Proof.OddProj
public import Idealize.ShloMosaic.Lib.Claim
public import Idealize.ShloMosaic.Lib.Quiescent

@[expose] public section

set_option maxRecDepth 16384

noncomputable section

namespace Cert.OddProjCall

open Idealize.ShloMosaic Idealize.ShloMosaic.TcCoe Idealize.SL.Sem

instance : Cert.OddOut.Facts := Cert.OddOut.Gen.facts
instance : Cert.OddOutIdeal.Facts := Cert.OddOutIdeal.Gen.facts
instance : Cert.OddOutReferenceIdeal.Facts := Cert.OddOutReferenceIdeal.Gen.facts

/-- The call terminates, leaves its arguments as they were and every counter at zero. -/
theorem frame_P : Cert.quiescent_OddOut := fun m ρ _ => Cert.OddOut.Gen.frame m ρ

/-- The same over the extended reals. -/
theorem frame_PI : Cert.quiescent_OddOutIdeal := fun m ρ _ => Cert.OddOutIdeal.Gen.frame m ρ

/-- The same of the reference over the extended reals, which has no counter. -/
theorem frame_RI : Cert.quiescent_OddOutReferenceIdeal := fun m ρ _ =>
  (θ_run _ _ _).mono (fun r h => ⟨fun c => (h c).2.2, sem_eq_zero_of_no_sems (by decide) r.2⟩)
    (Cert.OddOutReferenceIdeal.Value.run m ρ)

/-- No operation was rewritten for the extended reals. -/
theorem preserves : Cert.preserves_OddOut_OddOutIdeal := trivial

section
open Cert.OddOutIdeal

variable (yp ys : FVec Ideal S8192x2048 .bf16) (w : FVec Ideal S2x2048x2048 .f32) (x : FVec Ideal S16384x2048 .f32) (mod : FVec Ideal S8x6x2048 .f32)
  (g : FVec Ideal S4x2048 .f32)

/-- Row `R` of the prompts' rows and the samples' after them. -/
def rows (R : Fin 16384) (j : Fin 2048) : EReal :=
  if h : R.val < 8192 then yp (ix2 ⟨R.val, h⟩ j) else ys (ix2 ⟨R.val - 8192, by omega⟩ j)

/-- Row `R` of the residual stream after the step, modulated by row `b`. -/
def step (b : Fin 8) (R : Fin 16384) : Fin 2048 → EReal :=
  Row.resid (fun k => x (ix2 R k)) (fun k => mod (ix3 b 2 k)) (fun j => rows yp ys R j) fun j k => w (ix3 0 j k)

/-- Row `R` of the feed-forward's input, modulated by row `b`. -/
def norm (b : Fin 8) (R : Fin 16384) : Fin 2048 → EReal :=
  Row.modulated (step yp ys w x mod b R) (fun k => g (ix2 1 k)) (fun k => mod (ix3 b 4 k)) fun k => mod (ix3 b 3 k)

/-- The residual stream after the step. -/
def stream : FVec Ideal S16384x2048 .f32 := fun y =>
  step yp ys w x mod (Row.tok ⟨(y 0).val, (y 0).isLt⟩) ⟨(y 0).val, (y 0).isLt⟩ ⟨(y 1).val, (y 1).isLt⟩

/-- The feed-forward's input. -/
def input : FVec Ideal S16384x2048 .bf16 := fun y =>
  norm yp ys w x mod g (Row.tok ⟨(y 0).val, (y 0).isLt⟩) ⟨(y 0).val, (y 0).isLt⟩ ⟨(y 1).val, (y 1).isLt⟩

end

section
open Cert.OddOutIdeal Cert.OddOutIdeal.Gen

variable (m : (ℓ : Loc nD τ sig) → Buf (Elt Ideal) ℓ) (c : Dev nD)

/-- The modulation row of a grid point: the prompts' blocks read row 0, a sample's four blocks its own. -/
def at_ (t : ℕ) : ℕ := if t < 16 then 0 else 1 + (t - 16) / 4

/-- Each window's block at a grid point. -/
theorem idx : ∀ t : Fin cfg0.N, win0_0.index t = ![min t.val 15, 0] ∧ win0_1.index t = ![t.val - 16, 0] ∧ win0_2.index t = ![0, 0] ∧ win0_3.index t = ![t.val, 0]
    ∧ win0_4.index t = ![at_ t.val, 0, 0] ∧ win0_5.index t = ![0, 0] ∧ win0_6.index t = ![at_ t.val, 0, 0] ∧ win0_7.index t = ![t.val, 0]
    ∧ win0_8.index t = ![t.val, 0] ∧ t.val < 32 :=
  (by decide +kernel : ∀ t : Fin grid0.N, _)

/-- The weights the host prepares. -/
theorem weights (j : Fin 2048) (k : Fin 2048) : (V m c main_v2 : FVec Ideal S2048x2048 .bf16) (ix2 j k) = m (c, Proc.tc.devRef main_arg2) (ix3 0 j k) := by
  have h : (V m c main_v2 : FVec Ideal S2048x2048 .bf16) = truncf (F := Ideal) (φ := .f32) .bf16 (shapeCast S2048x2048 (extractStridedSlice S1x2048x2048 ![0, 0, 0] (m (c, Proc.tc.devRef main_arg2)) slices_S2x2048x2048_S1x2048x2048_0_0_0) shapeCasts_S1x2048x2048_S2048x2048) := by
    entry_read; rfl
  rw [h]; pointwise []

/-- The norm's weights as a row. -/
theorem gain (k : Fin 2048) : (V m c main_v6 : FVec Ideal S1x2048 .f32) (ix2 0 k) = m (c, Proc.tc.devRef main_arg5) (ix2 1 k) := by
  have h : (V m c main_v6 : FVec Ideal S1x2048 .f32) = shapeCast S1x2048 (shapeCast S2048 (extractStridedSlice S1x2048 ![1, 0] (m (c, Proc.tc.devRef main_arg5)) slices_S4x2048_S1x2048_1_0) shapeCasts_S1x2048_S2048) shapeCasts_S2048_S1x2048 := by
    entry_read; rfl
  rw [h]; pointwise []

/-- The modulation's rows 3 and 4. -/
theorem pair (b : Fin 8) (a : Fin 2) (k : Fin 2048) : (V m c main_v5 : FVec Ideal S8x2x2048 .f32) (ix3 b a k)
    = m (c, Proc.tc.devRef main_arg4) (ix3 b ⟨3 + a.val, by omega⟩ k) := by
  have h : (V m c main_v5 : FVec Ideal S8x2x2048 .f32) = extractStridedSlice S8x2x2048 ![0, 3, 0] (m (c, Proc.tc.devRef main_arg4)) slices_S8x6x2048_S8x2x2048_0_3_0 := by
    entry_read; rfl
  rw [h]; pointwise []

/-- A point's modulation row is its tokens'. -/
theorem at_tok (t : Fin cfg0.N) (r : Fin 512) (h : t.val * 512 + r.val < 16384) : at_ t.val = (Row.tok ⟨t.val * 512 + r.val, h⟩).val := by
  have := r.isLt
  unfold at_ Row.tok
  split <;> split <;> simp at * <;> omega

section
variable (t : Fin cfg0.N) (r : Fin 512) (h : t.val * 512 + r.val < 16384)

theorem rd_p (h0 : t.val < 16) (j : Fin 2048) : (iblk m c 0 t : FVec Ideal S512x2048 .bf16) (ix2 r j)
    = rows (m ((c : Thread nD τ).loc main_arg0)) (m ((c : Thread nD τ).loc main_arg1)) ⟨t.val * 512 + r.val, h⟩ j := by
  have h8 : t.val * 512 + r.val < 8192 := by have := r.isLt; omega
  have hr : rows (m ((c : Thread nD τ).loc main_arg0)) (m ((c : Thread nD τ).loc main_arg1)) ⟨t.val * 512 + r.val, h⟩ j
      = m ((c : Thread nD τ).loc main_arg0) (ix2 ⟨t.val * 512 + r.val, h8⟩ j) := dif_pos h8
  rw [hr]
  have h15 : min t.val 15 = t.val := by omega
  blk_ext [iblk, V, idx t, h15]

theorem rd_s (h0 : ¬t.val < 16) (j : Fin 2048) : (iblk m c 1 t : FVec Ideal S512x2048 .bf16) (ix2 r j)
    = rows (m ((c : Thread nD τ).loc main_arg0)) (m ((c : Thread nD τ).loc main_arg1)) ⟨t.val * 512 + r.val, h⟩ j := by
  have h8 : ¬t.val * 512 + r.val < 8192 := by omega
  have hr : rows (m ((c : Thread nD τ).loc main_arg0)) (m ((c : Thread nD τ).loc main_arg1)) ⟨t.val * 512 + r.val, h⟩ j
      = m ((c : Thread nD τ).loc main_arg1) (ix2 ⟨t.val * 512 + r.val - 8192, by omega⟩ j) := dif_neg h8
  rw [hr]
  blk_ext [iblk, V, idx t]

theorem rd_w (j k : Fin 2048) : (iblk m c 2 t : FVec Ideal S2048x2048 .bf16) (ix2 j k) = m ((c : Thread nD τ).loc main_arg2) (ix3 0 j k) := by
  refine Eq.trans ?_ (weights m c j k)
  blk_ext [iblk, idx t]

theorem rd_x (k : Fin 2048) : (iblk m c 3 t : FVec Ideal S512x2048 .f32) (ix2 r k) = m ((c : Thread nD τ).loc main_arg3) (ix2 ⟨t.val * 512 + r.val, h⟩ k) := by
  blk_ext [iblk, V, idx t]

theorem rd_mod (k : Fin 2048) : (iblk m c 4 t : FVec Ideal S1x6x2048 .f32) (ix3 0 2 k)
    = m ((c : Thread nD τ).loc main_arg4) (ix3 (Row.tok ⟨t.val * 512 + r.val, h⟩) 2 k) := by
  blk_ext [iblk, V, idx t, at_tok t r h]

theorem rd_gain (k : Fin 2048) : (iblk m c 5 t : FVec Ideal S1x2048 .f32) (ix2 0 k) = m ((c : Thread nD τ).loc main_arg5) (ix2 1 k) := by
  refine Eq.trans ?_ (gain m c k)
  blk_ext [iblk, idx t]

theorem rd_pair (a : Fin 2) (k : Fin 2048) : (iblk m c 6 t : FVec Ideal S1x2x2048 .f32) (ix3 0 a k)
    = m ((c : Thread nD τ).loc main_arg4) (ix3 (Row.tok ⟨t.val * 512 + r.val, h⟩) ⟨3 + a.val, by omega⟩ k) := by
  refine Eq.trans ?_ (pair m c (Row.tok ⟨t.val * 512 + r.val, h⟩) a k)
  blk_ext [iblk, idx t, at_tok t r h]

end

/-- What a point stores of the residual stream. -/
theorem stored_x (t : Fin cfg0.N) (r : Fin 512) (h : t.val * 512 + r.val < 16384) (k : Fin 2048) : (outsAt0 m c t.val t.isLt).1 (ix2 r k)
    = step (m ((c : Thread nD τ).loc main_arg0)) (m ((c : Thread nD τ).loc main_arg1)) (m ((c : Thread nD τ).loc main_arg2)) (m ((c : Thread nD τ).loc main_arg3))
        (m ((c : Thread nD τ).loc main_arg4)) (Row.tok ⟨t.val * 512 + r.val, h⟩) ⟨t.val * 512 + r.val, h⟩ k := by
  by_cases h0 : t.val < 16
  · rw [OddProj.outs_prompt m c t h0]
    dsimp only
    rw [OddProj.block_step]
    simp only [rd_p m c t r h h0, rd_w m c t, rd_x m c t r h, rd_mod m c t r h]
    rfl
  · rw [OddProj.outs_sample m c t h0]
    dsimp only
    rw [OddProj.block_step]
    simp only [rd_s m c t r h h0, rd_w m c t, rd_x m c t r h, rd_mod m c t r h]
    rfl

/-- What a point stores of the feed-forward's input. -/
theorem stored_h (t : Fin cfg0.N) (r : Fin 512) (h : t.val * 512 + r.val < 16384) (k : Fin 2048) : (outsAt0 m c t.val t.isLt).2 (ix2 r k)
    = norm (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (Row.tok ⟨t.val * 512 + r.val, h⟩) ⟨t.val * 512 + r.val, h⟩ k := by
  by_cases h0 : t.val < 16
  · rw [OddProj.outs_prompt m c t h0]
    dsimp only
    rw [OddProj.block_norm]
    simp only [rd_p m c t r h h0, rd_w m c t, rd_x m c t r h, rd_mod m c t r h, rd_gain m c t, rd_pair m c t r h]
    rfl
  · rw [OddProj.outs_sample m c t h0]
    dsimp only
    rw [OddProj.block_norm]
    simp only [rd_s m c t r h h0, rd_w m c t, rd_x m c t r h, rd_mod m c t r h, rd_gain m c t, rd_pair m c t r h]
    rfl

/-- The residual stream the call leaves. -/
theorem final_x : (dats m 0 c).arrAt 7 (cfgs 0).N
    = stream (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 7 (stream (m ((c : Thread nD τ).loc main_arg0)) (m ((c : Thread nD τ).loc main_arg1)) (m ((c : Thread nD τ).loc main_arg2))
    (m ((c : Thread nD τ).loc main_arg3)) (m ((c : Thread nD τ).loc main_arg4))) (by decide +kernel) fun t _ y => ?_
  blk_simp
  rw [after0_7]
  idx_vars y
  have h32 := (idx t).2.2.2.2.2.2.2.2.2
  have h : t.val * 512 + y0.val < 16384 := by omega
  refine (stored_x m c t y0 h y1).trans ?_
  unfold stream
  blk_simp [idx t]

/-- The feed-forward's input the call leaves. -/
theorem final_h : (dats m 0 c).arrAt 8 (cfgs 0).N
    = input (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 8 (input (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))) (by decide +kernel) fun t _ y => ?_
  blk_simp
  rw [after0_8]
  idx_vars y
  have h32 := (idx t).2.2.2.2.2.2.2.2.2
  have h : t.val * 512 + y0.val < 16384 := by omega
  refine (stored_h m c t y0 h y1).trans ?_
  unfold input
  blk_simp [idx t]

end

section
open Cert.OddOutReferenceIdeal Cert.OddOutReferenceIdeal.Gen Cert.OddOutReferenceIdeal.Read

/-- The reference's modulation, token by token. -/
theorem tokens (mod : FVec Ideal S8x6x2048 .f32) (R : Fin 16384) (a : Fin 6) (k : Fin 2048) :
    val_main_v8 (F := Ideal) mod (ix3 R a k) = mod (ix3 (Row.tok R) a k) := by
  unfold val_main_v8 val_main_v7 val_main_v6 val_main_v5 val_main_v4 val_main_v3 val_main_v2
  pointwise []
  unfold Row.tok
  split <;> rfl

/-- The reference's rows of the two inputs. -/
theorem joined (yp ys : FVec Ideal S8192x2048 .bf16) (R : Fin 16384) (j : Fin 2048) : val_main_v0 (F := Ideal) yp ys (ix2 R j) = rows yp ys R j := by
  unfold val_main_v0
  pointwise []
  rfl

section
variable (yp ys : FVec Ideal S8192x2048 .bf16) (w : FVec Ideal S2x2048x2048 .f32) (x : FVec Ideal S16384x2048 .f32) (mod : FVec Ideal S8x6x2048 .f32)
  (g : FVec Ideal S4x2048 .f32)

/-- The reference's residual stream. -/
theorem result_x : val_main_v15 (F := Ideal) yp ys w x mod = stream yp ys w x mod := by
  funext y
  idx_vars y
  show val_main_v15 (F := Ideal) yp ys w x mod (ix2 y0 y1) = _
  unfold val_main_v15 val_main_v14 val_main_v13 val_main_v12 val_main_v11 val_main_v10 val_main_v9 val_main_v1
  pointwise []
  simp only [tokens, joined]
  rfl

/-- The reference's input of the feed-forward. -/
theorem result_h : val_main_v39 (F := Ideal) yp ys w x mod g = input yp ys w x mod g := by
  funext y
  idx_vars y
  show val_main_v39 (F := Ideal) yp ys w x mod g (ix2 y0 y1) = _
  unfold val_main_v39 val_main_v38 val_main_v37 val_main_v36 val_main_v35 val_main_v34 val_main_v33 val_main_v32 val_main_v31 val_main_v30 val_main_v29 val_main_v28
    val_main_v27 val_main_v26 val_main_v25 val_main_v24 val_main_v23 val_main_v22 val_main_v21 val_main_v20 val_main_v19 val_main_v18 val_main_v17 val_main_v16
    val_main_cst_2 val_main_cst_1 val_main_cst_0 val_main_cst
  rw [result_x]
  pointwise []
  simp only [tokens]
  rfl

end
end

/-- The call leaves the reference's results. -/
theorem equal : Cert.algebraic_OddOutIdeal_OddOutReferenceIdeal := fun m g m' g' _ hag =>
  ⟨fun c => (Cert.OddOutIdeal.Gen.dats m 0 c).arrAt 7 Cert.OddOutIdeal.cfg0.N, fun c => (Cert.OddOutIdeal.Gen.dats m 0 c).arrAt 8 Cert.OddOutIdeal.cfg0.N,
    Cert.OddOutIdeal.Value.run_blocks m g,
    (θ_run _ _ _).mono (fun _ h c => ⟨(h c).1.trans (by
        refine (Cert.OddOutReferenceIdeal.Read.val_main_v15_eq _ _ _ _ _).trans ?_
        obtain ⟨h0, h1, h2, h3, h4, h5⟩ := hag c
        refine Eq.trans ?_ (final_x m c).symm
        refine Eq.trans ?_ (result_x _ _ _ _ _)
        rw [← h0, ← h1, ← h2, ← h3, ← h4]), (h c).2.1.trans (by
        rw [Cert.OddOutReferenceIdeal.Read.val_main_v39_eq]
        obtain ⟨h0, h1, h2, h3, h4, h5⟩ := hag c
        refine Eq.trans ?_ (final_h m c).symm
        refine Eq.trans ?_ (result_h _ _ _ _ _ _)
        rw [← h0, ← h1, ← h2, ← h3, ← h4, ← h5]), (h c).2.2⟩) (Cert.OddOutReferenceIdeal.Value.run m' g')⟩

end Cert.OddProjCall

end
-- ==== Proof.Heads.lean ====
/- One query's attention over the extended reals. -/
module

public import Idealize.ShloMosaic.Lib.Pipeline.ValueKit

@[expose] public section

noncomputable section

namespace Cert.Heads

open Idealize.ShloMosaic

/-- A head's row divided by its root mean square (the mean over 128 channels, the printed constant added), times `g`. -/
def rms (x g : Fin 128 → EReal) (d : Fin 128) : EReal :=
  x d * Ideal.rsqrt (Ideal.div (∑ e, x e * x e) (Ideal.ofBits FTy.f32 0x43000000#32) + Ideal.ofBits FTy.f32 0x358637BD#32) * g d

/-- The greatest score of a query. -/
def top {n : ℕ} (s : Fin n → EReal) : EReal := Finset.univ.fold max (Ideal.ofBits FTy.f32 0xFF800000#32) s

/-- A query's scores, the query scaled before the product. -/
def score {n : ℕ} (q : Fin 128 → EReal) (k : Fin n → Fin 128 → EReal) (j : Fin n) : EReal :=
  ∑ d, q d * Ideal.ofBits FTy.f32 0x3DB504F3#32 * k j d

/-- The weights of a query's scores, not yet divided by their sum. -/
def weight {n : ℕ} (s : Fin n → EReal) (j : Fin n) : EReal := Ideal.exp (s j - top s)

/-- A query's attention: the weighted sum of a value channel, divided by the weights' sum. -/
def head {n : ℕ} (q : Fin 128 → EReal) (k : Fin n → Fin 128 → EReal) (v : Fin n → EReal) : EReal :=
  Ideal.div (∑ j, weight (score q k) j * v j) (∑ j, weight (score q k) j)

/-- A number neither infinity. -/
def Real' (x : EReal) : Prop := ∃ r : ℝ, x = r

/-- The printed scale of a query is a nonnegative real. -/
theorem scale_real : ∃ r : ℝ, 0 ≤ r ∧ Ideal.ofBits FTy.f32 0x3DB504F3#32 = r := by
  refine ⟨11863283 / 2 ^ 27, by norm_num, ?_⟩
  simp [Ideal.ofBits, Ideal.ieee]
  rw [← EReal.coe_mul]
  norm_num

/-- The printed constant added to the mean is a positive real. -/
theorem eps_real : ∃ r : ℝ, 0 < r ∧ Ideal.ofBits FTy.f32 0x358637BD#32 = r := by
  refine ⟨8796093 / 2 ^ 43, by norm_num, ?_⟩
  simp [Ideal.ofBits, Ideal.ieee]
  rw [← EReal.coe_mul]
  norm_num

/-- The printed number of channels is a positive real. -/
theorem channels_real : ∃ r : ℝ, 0 < r ∧ Ideal.ofBits FTy.f32 0x43000000#32 = r := by
  refine ⟨128, by norm_num, ?_⟩
  simp [Ideal.ofBits, Ideal.ieee]
  rw [← EReal.coe_mul]
  norm_num

/-- The start of a maximum is the least number. -/
theorem start_bot : Ideal.ofBits FTy.f32 0xFF800000#32 = ⊥ := by
  simp [Ideal.ofBits, Ideal.ieee]

/-- A nonnegative number other than infinity times a sum is the sum of its products. -/
theorem sum_mul {ι : Type} (s : Finset ι) (f : ι → EReal) (c : EReal) (h0 : 0 ≤ c) (h1 : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

/-- A normalised row is real when its gain is: a row with an infinite entry is normalised to zero. -/
theorem rms_real (x g : Fin 128 → EReal) (hg : ∀ d, Real' (g d)) (d : Fin 128) : Real' (rms x g d) := by
  obtain ⟨e, he, hE⟩ := eps_real
  obtain ⟨n, hn, hN⟩ := channels_real
  obtain ⟨y, hy⟩ := hg d
  have hq : ∀ z : EReal, 0 ≤ z * z := fun z => by
    rcases le_total 0 z with h | h
    · exact mul_nonneg h h
    · have := mul_nonneg (EReal.neg_nonneg.mpr h) (EReal.neg_nonneg.mpr h)
      rwa [neg_mul_neg] at this
  unfold rms
  rw [hE, hN, hy]
  have hle : x d * x d ≤ ∑ j, x j * x j := Finset.single_le_sum (f := fun j => x j * x j) (fun j _ => hq (x j)) (Finset.mem_univ d)
  have hS0 : 0 ≤ ∑ j, x j * x j := Finset.sum_nonneg fun j _ => hq (x j)
  generalize (∑ j, x j * x j) = S at hle hS0
  have hn0 : (n : EReal) ≠ 0 := by exact_mod_cast hn.ne'
  have hdiv : Ideal.div S n = S * ((n⁻¹ : ℝ) : EReal) := by
    unfold Ideal.div
    rw [if_neg hn0, EReal.coe_inv]
  rw [hdiv]
  induction S using EReal.rec with
  | bot => exact absurd hS0 (by simp)
  | top =>
    rw [EReal.top_mul_coe_of_pos (inv_pos.mpr hn), EReal.top_add_coe]
    refine ⟨0, ?_⟩
    show x d * 0 * _ = _
    simp
  | coe S =>
    have hS : 0 ≤ S := by exact_mod_cast hS0
    have hp : 0 < S * n⁻¹ + e := by have := mul_nonneg hS (inv_pos.mpr hn).le; linarith
    have hx : ∃ r : ℝ, x d = r := by
      generalize x d = z at hle
      induction z using EReal.rec with
      | bot => simp at hle
      | top => simp at hle
      | coe r => exact ⟨r, rfl⟩
    obtain ⟨r, hr⟩ := hx
    have hs : Ideal.rsqrt ((S : EReal) * ((n⁻¹ : ℝ) : EReal) + (e : EReal)) = (((Real.sqrt (S * n⁻¹ + e))⁻¹ : ℝ) : EReal) := by
      rw [← EReal.coe_mul, ← EReal.coe_add]
      show (if S * n⁻¹ + e < 0 then ⊥ else if S * n⁻¹ + e = 0 then ⊤ else _) = _
      rw [if_neg hp.le.not_gt, if_neg hp.ne']
    rw [hs, hr, ← EReal.coe_mul, ← EReal.coe_mul]
    exact ⟨_, rfl⟩

/-- The scale may be applied to a score instead of the query. -/
theorem score_eq {n : ℕ} (q : Fin 128 → EReal) (k : Fin n → Fin 128 → EReal) (j : Fin n) :
    score q k j = (∑ d, k j d * q d) * Ideal.ofBits FTy.f32 0x3DB504F3#32 := by
  obtain ⟨c, hc, hC⟩ := scale_real
  unfold score
  rw [hC, sum_mul _ _ _ (by exact_mod_cast hc) (EReal.coe_ne_top c)]
  exact Finset.sum_congr rfl fun d _ => by rw [mul_right_comm, mul_comm (q d)]

/-- A score of a real query and real keys is real. -/
theorem score_real {n : ℕ} (q : Fin 128 → EReal) (k : Fin n → Fin 128 → EReal) (hq : ∀ d, Real' (q d)) (hk : ∀ j d, Real' (k j d)) (j : Fin n) :
    Real' (score q k j) := by
  obtain ⟨c, _, hC⟩ := scale_real
  choose a ha using hq
  choose b hb using hk
  unfold score
  simp only [hC, ha, hb, ← EReal.coe_mul]
  refine ⟨∑ d, a d * c * b j d, ?_⟩
  norm_cast

theorem exp_nonneg (x : EReal) : 0 ≤ Ideal.exp x := by
  induction x using EReal.rec with
  | bot => simp
  | top => simp
  | coe r => rw [Ideal.exp_coe]; exact_mod_cast (Real.exp_pos r).le

/-- The weights of real scores sum to a positive number: the greatest score's weight is 1. -/
theorem weights_pos {n : ℕ} [NeZero n] (s : Fin n → EReal) (hs : ∀ j, Real' (s j)) : 0 < ∑ j, weight s j := by
  have ht : top s = Finset.univ.sup s := by
    unfold top
    rw [start_bot]
    rfl
  obtain ⟨i, _, hi⟩ := Finset.exists_mem_eq_sup Finset.univ Finset.univ_nonempty s
  obtain ⟨r, hr⟩ := hs i
  have h1 : weight s i = 1 := by
    unfold weight
    rw [ht, hi, hr, ← EReal.coe_sub, sub_self, Ideal.exp_coe, Real.exp_zero]
    rfl
  refine lt_of_lt_of_le (b := weight s i) (by rw [h1]; exact one_pos) ?_
  exact Finset.single_le_sum (f := weight s) (fun j _ => exp_nonneg _) (Finset.mem_univ i)

/-- Dividing the weighted sum by the weights' sum is weighing by the divided weights. -/
theorem head_eq {n : ℕ} [NeZero n] (q : Fin 128 → EReal) (k : Fin n → Fin 128 → EReal) (v : Fin n → EReal) (hq : ∀ d, Real' (q d)) (hk : ∀ j d, Real' (k j d)) :
    head q k v = ∑ j, v j * Ideal.div (weight (score q k) j) (∑ j, weight (score q k) j) := by
  have hd := weights_pos (score q k) (score_real q k hq hk)
  unfold head
  generalize hD : (∑ j, weight (score q k) j) = D at hd ⊢
  have h0 : ∀ x, Ideal.div x D = x * D⁻¹ := fun x => by
    unfold Ideal.div
    rw [if_neg hd.ne']
  simp only [h0]
  rw [sum_mul _ _ _ (EReal.inv_nonneg_of_nonneg hd.le) ?_]
  · exact Finset.sum_congr rfl fun j _ => by rw [mul_assoc, mul_left_comm]
  · induction D using EReal.rec with
    | bot => exact absurd hd (by simp)
    | top => simp
    | coe r => rw [← EReal.coe_inv]; exact EReal.coe_ne_top _

/-- A head's row with its lanes rotated in pairs, by the cosines `c` and the sines `s` of the pairs' angles. -/
def rope (c s : Fin 64 → EReal) (x : Fin 128 → EReal) (d : Fin 128) : EReal :=
  if d.val % 2 = 0 then x d * c ⟨d.val / 2, by omega⟩ - x ⟨(d.val + 1) % 128, by omega⟩ * s ⟨d.val / 2, by omega⟩
  else x ⟨d.val - 1, by omega⟩ * s ⟨d.val / 2, by omega⟩ + x d * c ⟨d.val / 2, by omega⟩

/-- The sign of a lane's partner in the rotation. -/
def sign (d : Fin 128) : EReal := if d.val % 2 = 0 then Ideal.ofBits FTy.f32 0xBF800000#32 else Ideal.ofBits FTy.f32 0x3F800000#32

/-- The same, from tables of each lane's cosine and signed sine, a lane's partner found by rotating the row one lane either way. -/
def turn (C S x : Fin 128 → EReal) (d : Fin 128) : EReal :=
  x d * C d + (if d.val % 2 = 0 then x ⟨(d.val + 128 - 127) % 128, by omega⟩ else x ⟨(d.val + 128 - 1) % 128, by omega⟩) * S d

theorem minus_one : Ideal.ofBits FTy.f32 0xBF800000#32 = -1 := by
  simp [Ideal.ofBits, Ideal.ieee]
  rw [← EReal.coe_mul, ← EReal.coe_one]
  norm_num

theorem plus_one : Ideal.ofBits FTy.f32 0x3F800000#32 = 1 := by
  simp [Ideal.ofBits, Ideal.ieee]
  rw [← EReal.coe_mul, ← EReal.coe_one]
  norm_num

/-- With the tables read off the pairs' angles, both rotations agree. -/
theorem turn_eq (c s : Fin 64 → EReal) (x : Fin 128 → EReal) (d : Fin 128) :
    turn (fun d => c ⟨d.val / 2, by omega⟩) (fun d => s ⟨d.val / 2, by omega⟩ * sign d) x d = rope c s x d := by
  unfold turn rope sign
  by_cases h : d.val % 2 = 0
  · simp only [h, if_true, minus_one]
    have e : (⟨(d.val + 128 - 127) % 128, by omega⟩ : Fin 128) = ⟨(d.val + 1) % 128, by omega⟩ := Fin.ext (by simp only; omega)
    rw [e, mul_neg_one, mul_neg, sub_eq_add_neg]
  · simp only [h, if_false, plus_one, mul_one]
    have e : (⟨(d.val + 128 - 1) % 128, by omega⟩ : Fin 128) = ⟨d.val - 1, by omega⟩ := Fin.ext (by simp only; omega)
    rw [e, add_comm]

theorem real_mul {x y : EReal} (hx : Real' x) (hy : Real' y) : Real' (x * y) := by
  obtain ⟨a, rfl⟩ := hx
  obtain ⟨b, rfl⟩ := hy
  exact ⟨a * b, (EReal.coe_mul a b).symm⟩

theorem real_add {x y : EReal} (hx : Real' x) (hy : Real' y) : Real' (x + y) := by
  obtain ⟨a, rfl⟩ := hx
  obtain ⟨b, rfl⟩ := hy
  exact ⟨a + b, (EReal.coe_add a b).symm⟩

theorem real_sub {x y : EReal} (hx : Real' x) (hy : Real' y) : Real' (x - y) := by
  obtain ⟨a, rfl⟩ := hx
  obtain ⟨b, rfl⟩ := hy
  exact ⟨a - b, (EReal.coe_sub a b).symm⟩

/-- The rotation of a real row by real cosines and sines is real. -/
theorem rope_real (c s : Fin 64 → EReal) (x : Fin 128 → EReal) (hc : ∀ i, Real' (c i)) (hs : ∀ i, Real' (s i)) (hx : ∀ d, Real' (x d)) (d : Fin 128) :
    Real' (rope c s x d) := by
  unfold rope
  split
  · exact real_sub (real_mul (hx _) (hc _)) (real_mul (hx _) (hs _))
  · exact real_add (real_mul (hx _) (hs _)) (real_mul (hx _) (hc _))

end Cert.Heads

end
-- ==== Proof.Attn.lean ====
/- A prompt's attention: what a grid point stores of a group of heads, of their keys and of their values. -/
module

public import proofs.«01_k».proof.Proof.Gen.AttnIdeal.Frame
public import proofs.«01_k».proof.Proof.Heads

@[expose] public section

set_option maxRecDepth 16384

noncomputable section

namespace Cert.Attn

open Cert.AttnIdeal Cert.AttnIdeal.Gen Idealize.ShloMosaic Idealize.ShloMosaic.TcCoe Idealize.SL.Sem

section
variable (x : Vec Ideal S256x128 .f32) (g : Vec Ideal S1x128 .f32) (k : Vec Ideal S256x128 .f32) (h : Vec Ideal S1x128 .f32) (v : Vec Ideal S256x128 .f32)

/-- The keys a point stores, from its loads. -/
theorem keys (r : Fin 256) (d : Fin 128) : k0_pay2 (F := Ideal) k h (ix2 r d) = Heads.rms (fun d => k (ix2 r d)) (fun d => h (ix2 0 d)) d := by
  unfold k0_pay2
  pointwise []
  rfl

/-- The keys the products read are the stored ones. -/
theorem keys' (r : Fin 256) (d : Fin 128) : k0_pay3 (F := Ideal) k h (ix2 r d) = Heads.rms (fun d => k (ix2 r d)) (fun d => h (ix2 0 d)) d := by
  unfold k0_pay3
  refine Eq.trans ?_ (keys k h r d)
  pointwise []

/-- One head at a row and a channel. -/
def one (r : Fin 256) (d : Fin 128) : EReal :=
  Heads.head (Heads.rms (fun d => x (ix2 r d)) fun d => g (ix2 0 d)) (fun j => Heads.rms (fun d => k (ix2 j d)) fun d => h (ix2 0 d)) fun j => v (ix2 j d)

/-- The first head a point stores, from its loads. -/
theorem head0 (r : Fin 256) (d : Fin 128) :
    k0_pay6 (F := Ideal) (k0_pay3 k h) (k0_pay4 v) (k0_pay5 x g) (FloatOps.ofBits FTy.f32 0x3DB504F3#32) (ix2 r d) = one x g k h v r d := by
  unfold k0_pay6 k0_pay5 k0_pay4
  pointwise []
  simp only [keys']
  rfl

/-- The second head. -/
theorem head1 (r : Fin 256) (d : Fin 128) :
    k0_pay9 (F := Ideal) (k0_pay4 v) (k0_pay7 (k0_pay3 k h) x g) (k0_pay8 (k0_pay3 k h) x g) (ix2 r d) = one x g k h v r d := by
  unfold k0_pay9 k0_pay8 k0_pay7 k0_pay4
  pointwise []
  simp only [keys']
  rfl

/-- The third head. -/
theorem head2 (r : Fin 256) (d : Fin 128) : k0_pay10 (F := Ideal) (k0_pay3 k h) (k0_pay4 v) x g (ix2 r d) = one x g k h v r d := by
  unfold k0_pay10 k0_pay4
  pointwise []
  simp only [keys']
  rfl

/-- The fourth head. -/
theorem head3 (r : Fin 256) (d : Fin 128) : k0_pay1 (F := Ideal) (k0_pay3 k h) (k0_pay4 v) x g (ix2 r d) = one x g k h v r d := by
  unfold k0_pay1 k0_pay4
  pointwise []
  simp only [keys']
  rfl

end

section
variable (X : Vec Ideal S256x512 .f32) (K : Vec Ideal S256x128 .f32) (W : Vec Ideal S256x128 .f32) (G H : Vec Ideal S1x128 .f32)

theorem ld_rows (r : Fin 256) (d : Fin 128) : View.ld K r0_0 (ix2 r d) = K (ix2 r d) :=
  View.ld_unit_apply_of _ _ _ _ _ _ (by intro a; fin_cases a; exacts [(Nat.zero_add _).symm, (Nat.zero_add _).symm])

theorem ld_gain (d : Fin 128) : View.ld G r0_1 (ix2 0 d) = G (ix2 0 d) :=
  View.ld_unit_apply_of _ _ _ _ _ _ (by intro a; fin_cases a; exacts [rfl, (Nat.zero_add _).symm])

/-- The keys a point leaves, row by row. -/
theorem block_keys (r : Fin 256) (d : Fin 128) : out0_6 X K W G H (ix2 r d) = Heads.rms (fun d => K (ix2 r d)) (fun d => H (ix2 0 d)) d := by
  have hk := ld_rows K
  have hh := ld_gain H
  unfold out0_6
  generalize hy : (ix2 r d : S256x128.Idx) = y
  canon_tiles x
  subst hy
  idx_vars x
  obtain rfl : x1 = d := Fin.ext h1.symm
  obtain rfl : x0 = r := Fin.ext h0.symm
  rw [keys]
  simp only [hk, hh]

/-- The values a point leaves are the ones it read. -/
theorem block_values (r : Fin 256) (d : Fin 128) : out0_7 X K W G H (ix2 r d) = W (ix2 r d) := by
  have hk := ld_rows W
  unfold out0_7
  generalize hy : (ix2 r d : S256x128.Idx) = y
  canon_tiles x
  subst hy
  idx_vars x
  obtain rfl : x1 = d := Fin.ext h1.symm
  obtain rfl : x0 = r := Fin.ext h0.symm
  simp only [hk]

/-- The group of heads a point leaves, row by row. -/
theorem block_heads (r : Fin 256) (C : Fin 512) : out0_5 X K W G H (ix2 r C)
    = Heads.head (Heads.rms (fun d => X (ix2 r ⟨C.val / 128 * 128 + d.val, by omega⟩)) fun d => G (ix2 0 d))
        (fun j => Heads.rms (fun d => K (ix2 j d)) fun d => H (ix2 0 d)) fun j => W (ix2 j ⟨C.val % 128, by omega⟩) := by
  have hk := ld_rows K
  have hw := ld_rows W
  have hg := ld_gain G
  have hh := ld_gain H
  unfold out0_5 k0_pay12 k0_pay11
  generalize hy : (ix2 r C : S256x512.Idx) = y
  canon_tiles x
  case piece0 =>
    subst hy
    idx_vars x
    rw [head3]
    unfold one
    simp only [hk, hw, hg, hh]
    have hq : C.val / 128 * 128 = 384 := by omega
    have hd : C.val % 128 = x1.val := by omega
    refine congr (congrArg₂ Heads.head (congrArg (Heads.rms · _) (funext fun d => ?_)) rfl) (funext fun j => congrArg (fun d => W (ix2 j d)) (Fin.ext hd.symm))
    exact View.ld_unit_apply_of _ _ _ _ _ _ (by intro a; fin_cases a; exacts [h0.trans (Nat.zero_add _).symm, congrArg (· + d.val) hq])
  case piece1 =>
    subst hy
    idx_vars x
    rw [head2]
    unfold one
    simp only [hk, hw, hg, hh]
    have hq : C.val / 128 * 128 = 256 := by omega
    have hd : C.val % 128 = x1.val := by omega
    refine congr (congrArg₂ Heads.head (congrArg (Heads.rms · _) (funext fun d => ?_)) rfl) (funext fun j => congrArg (fun d => W (ix2 j d)) (Fin.ext hd.symm))
    exact View.ld_unit_apply_of _ _ _ _ _ _ (by intro a; fin_cases a; exacts [h0.trans (Nat.zero_add _).symm, congrArg (· + d.val) hq])
  case piece2 =>
    subst hy
    idx_vars x
    rw [head1]
    unfold one
    simp only [hk, hw, hg, hh]
    have hq : C.val / 128 * 128 = 128 := by omega
    have hd : C.val % 128 = x1.val := by omega
    refine congr (congrArg₂ Heads.head (congrArg (Heads.rms · _) (funext fun d => ?_)) rfl) (funext fun j => congrArg (fun d => W (ix2 j d)) (Fin.ext hd.symm))
    exact View.ld_unit_apply_of _ _ _ _ _ _ (by intro a; fin_cases a; exacts [h0.trans (Nat.zero_add _).symm, congrArg (· + d.val) hq])
  case piece3 =>
    subst hy
    idx_vars x
    rw [head0]
    unfold one
    simp only [hk, hw, hg, hh]
    have hq : C.val / 128 * 128 = 0 := by omega
    have hd : C.val % 128 = x1.val := by omega
    refine congr (congrArg₂ Heads.head (congrArg (Heads.rms · _) (funext fun d => ?_)) rfl) (funext fun j => congrArg (fun d => W (ix2 j d)) (Fin.ext hd.symm))
    exact View.ld_unit_apply_of _ _ _ _ _ _ (by intro a; fin_cases a; exacts [h0.trans (Nat.zero_add _).symm, congrArg (· + d.val) hq])

end

end Cert.Attn

end
-- ==== Proof.AttnReference.lean ====
/- The prompts' attention in closed form, and that the reference computes it. -/
module

public import proofs.«01_k».proof.Proof.Gen.AttnReferenceIdeal.Run
public import proofs.«01_k».proof.Proof.Gen.AttnReferenceIdeal.Read
public import proofs.«01_k».proof.Proof.Heads

@[expose] public section

set_option maxRecDepth 16384

noncomputable section

namespace Cert.AttnCall

open Idealize.ShloMosaic Idealize.ShloMosaic.TcCoe Idealize.SL.Sem
open Cert.AttnReferenceIdeal Cert.AttnReferenceIdeal.Gen Cert.AttnReferenceIdeal.Read

variable (p : FVec Ideal S16384x3584 .f32) (q g : FVec Ideal S2x128 .f32)

/-- Token `t` of prompt `b` among the rows. -/
def token (b : Fin 32) (t : Fin 256) : Fin 8192 := ⟨b.val * 256 + t.val, by omega⟩

/-- Head `h`'s normalised query of row `R`. -/
def query (R : Fin 8192) (h : Fin 8) : Fin 128 → EReal :=
  Heads.rms (fun d => p (ix2 ⟨R.val, by omega⟩ ⟨2048 + (h.val * 128 + d.val), by omega⟩)) fun d => q (ix2 0 d)

/-- Head `h`'s normalised key of row `R`. -/
def key (R : Fin 8192) (h : Fin 2) : Fin 128 → EReal :=
  Heads.rms (fun d => p (ix2 ⟨R.val, by omega⟩ ⟨3072 + (h.val * 128 + d.val), by omega⟩)) fun d => g (ix2 0 d)

/-- Head `h`'s value of row `R`. -/
def value (R : Fin 8192) (h : Fin 2) (d : Fin 128) : EReal := p (ix2 ⟨R.val, by omega⟩ ⟨3328 + (h.val * 128 + d.val), by omega⟩)

/-- The attention of row `R` at channel `C`: its query head over the keys and values of its prompt. -/
def attend (R : Fin 8192) (C : Fin 1024) : EReal :=
  Heads.head (query p q R ⟨C.val / 128, by omega⟩) (fun j => key p g (token ⟨R.val / 256, by omega⟩ j) ⟨C.val / 512, by omega⟩)
    fun j => value p (token ⟨R.val / 256, by omega⟩ j) ⟨C.val / 512, by omega⟩ ⟨C.val % 128, by omega⟩

/-- The attention of the prompts. -/
def heads : FVec Ideal S8192x1024 .bf16 := fun y => attend p q g ⟨(y 0).val, (y 0).isLt⟩ ⟨(y 1).val, (y 1).isLt⟩

/-- The keys of the prompts. -/
def keys : FVec Ideal S8192x256 .f32 := fun y =>
  key p g ⟨(y 0).val, (y 0).isLt⟩ ⟨(y 1).val / 128, by have : (y 1).val < 256 := (y 1).isLt; omega⟩ ⟨(y 1).val % 128, by omega⟩

/-- The values of the prompts. -/
def values : FVec Ideal S8192x256 .f32 := fun y =>
  value p ⟨(y 0).val, (y 0).isLt⟩ ⟨(y 1).val / 128, by have : (y 1).val < 256 := (y 1).isLt; omega⟩ ⟨(y 1).val % 128, by omega⟩

/-- A maximum over the keys, at an index. -/
theorem fold_max (z : FVec Ideal S32x2x4x256x256 .f32) (b : Fin 32) (k : Fin 2) (a : Fin 4) (t : Fin 256) :
    Host.reduce FloatOps.maximumf z (val_main_cst_6 (F := Ideal)) reducesTo_S32x2x4x256x256_S32x2x4x256_d4 h_S_ (ix4 b k a t)
      = Finset.fold max (Ideal.ofBits FTy.f32 0xFF800000#32) (fun s => z (ix5 b k a t s)) Finset.univ := by
  rw [Host.reduce_eq_fold_single FloatOps.maximumf z _ reducesTo_S32x2x4x256x256_S32x2x4x256_d4 (by decide)]
  refine congrArg (fun f : Fin 256 → EReal => Finset.fold max (Ideal.ofBits FTy.f32 0xFF800000#32) f Finset.univ) (funext fun s => ?_)
  exact congrArg z (funext fun a => Fin.ext (by match a with | ⟨0, _⟩ => rfl | ⟨1, _⟩ => rfl | ⟨2, _⟩ => rfl | ⟨3, _⟩ => rfl | ⟨4, _⟩ => rfl))

section
variable (b : Fin 32) (t : Fin 256)

theorem raw_q (h : Fin 8) (d : Fin 128) : val_main_v3 (F := Ideal) p (ix4 b t h d) = p (ix2 ⟨(token b t).val, by omega⟩ ⟨2048 + (h.val * 128 + d.val), by omega⟩) := by
  unfold val_main_v3 val_main_v2 val_main_v1 val_main_v0
  pointwise []
  rfl

theorem raw_k (h : Fin 2) (d : Fin 128) : val_main_v20 (F := Ideal) p (ix4 b t h d) = p (ix2 ⟨(token b t).val, by omega⟩ ⟨3072 + (h.val * 128 + d.val), by omega⟩) := by
  unfold val_main_v20 val_main_v19 val_main_v1 val_main_v0
  pointwise []
  rfl

theorem read_v (h : Fin 2) (d : Fin 128) : val_main_v37 (F := Ideal) p (ix4 b t h d) = value p (token b t) h d := by
  unfold val_main_v37 val_main_v36 val_main_v1 val_main_v0
  pointwise []
  rfl

theorem read_q (h : Fin 8) (d : Fin 128) : val_main_v18 (F := Ideal) p q (ix4 b t h d) = query p q (token b t) h d := by
  unfold val_main_v18 val_main_v17 val_main_v16 val_main_v15 val_main_v14 val_main_v13 val_main_v12 val_main_v11 val_main_v10 val_main_v9 val_main_v8 val_main_v7
    val_main_v6 val_main_v5 val_main_v4 val_main_cst_1 val_main_cst_0 val_main_cst
  pointwise []
  simp only [raw_q]
  rfl

theorem read_k (h : Fin 2) (d : Fin 128) : val_main_v35 (F := Ideal) p g (ix4 b t h d) = key p g (token b t) h d := by
  unfold val_main_v35 val_main_v34 val_main_v33 val_main_v32 val_main_v31 val_main_v30 val_main_v29 val_main_v28 val_main_v27 val_main_v26 val_main_v25 val_main_v24
    val_main_v23 val_main_v22 val_main_v21 val_main_cst_4 val_main_cst_3 val_main_cst_2
  pointwise []
  simp only [raw_k]
  rfl

variable (k : Fin 2) (a : Fin 4)

/-- The scores of a query, as one function of the key. -/
abbrev scores : Fin 256 → EReal :=
  Heads.score (query p q (token b t) ⟨k.val * 4 + a.val, by omega⟩) fun j => key p g (token b j) k

theorem read_score (s : Fin 256) : val_main_v42 (F := Ideal) p q g (ix5 b k a t s) = scores p q g b t k a s := by
  unfold val_main_v42 val_main_v41 val_main_v40 val_main_v39 val_main_v38 val_main_cst_5
  pointwise []
  simp only [read_q, read_k]
  exact (Heads.score_eq (query p q (token b t) ⟨k.val * 4 + a.val, by omega⟩) (fun j => key p g (token b j) k) s).symm

theorem read_top : val_main_v45 (F := Ideal) p q g (ix4 b k a t) = Heads.top (scores p q g b t k a) := by
  rw [val_main_v45_apply, val_main_v44_apply, val_main_cst_7_apply]
  unfold val_main_v43
  rw [fold_max]
  simp only [read_score]
  show max (Ideal.ofBits FTy.f32 0xFF800000#32) _ = _
  rw [Heads.start_bot, max_eq_right bot_le]
  exact congrArg (fun z => Finset.fold max z _ _) Heads.start_bot.symm

theorem read_weight (s : Fin 256) : val_main_v49 (F := Ideal) p q g (ix5 b k a t s) = Heads.weight (scores p q g b t k a) s := by
  unfold val_main_v49 val_main_v48 val_main_v47 val_main_v46
  pointwise []
  rw [read_score, read_top]
  rfl

theorem read_share (s : Fin 256) : val_main_v53 (F := Ideal) p q g (ix5 b k a t s)
    = Ideal.div (Heads.weight (scores p q g b t k a) s) (∑ j, Heads.weight (scores p q g b t k a) j) := by
  unfold val_main_v53 val_main_v52 val_main_v51 val_main_v50 val_main_cst_8
  pointwise []
  simp only [read_weight]

theorem read_o (d : Fin 128) (hq : ∀ d, Heads.Real' (q (ix2 0 d))) (hg : ∀ d, Heads.Real' (g (ix2 0 d))) : val_main_v54 (F := Ideal) p q g (ix5 b k d a t)
    = Heads.head (query p q (token b t) ⟨k.val * 4 + a.val, by omega⟩) (fun j => key p g (token b j) k) fun j => value p (token b j) k d := by
  unfold val_main_v54
  pointwise []
  simp only [read_share, read_v]
  exact (Heads.head_eq _ _ _ (Heads.rms_real _ _ hq) fun j => Heads.rms_real _ _ hg).symm

end

/-- The reference's attention. -/
theorem result_o (hq : ∀ d, Heads.Real' (q (ix2 0 d))) (hg : ∀ d, Heads.Real' (g (ix2 0 d))) : val_main_v57 (F := Ideal) p q g = heads p q g := by
  funext y
  idx_vars y
  show val_main_v57 (F := Ideal) p q g (ix2 y0 y1) = _
  unfold val_main_v57 val_main_v56 val_main_v55
  pointwise []
  rw [read_o _ _ _ _ _ _ _ _ hq hg]
  unfold heads attend
  have h0 : token ⟨y0.val / 256, by omega⟩ ⟨y0.val % 256, by omega⟩ = y0 := Fin.ext (by show y0.val / 256 * 256 + y0.val % 256 = _; omega)
  have h1 : y1.val / 512 * 4 + y1.val / 128 % 4 = y1.val / 128 := by omega
  simp only [h0, h1]
  rfl

/-- The reference's keys. -/
theorem result_k : val_main_v58 (F := Ideal) p g = keys p g := by
  funext y
  idx_vars y
  show val_main_v58 (F := Ideal) p g (ix2 y0 y1) = _
  unfold val_main_v58
  pointwise []
  rw [read_k]
  have h0 : token ⟨y0.val / 256, by omega⟩ ⟨y0.val % 256, by omega⟩ = y0 := Fin.ext (by show y0.val / 256 * 256 + y0.val % 256 = _; omega)
  rw [h0]
  rfl

/-- The reference's values. -/
theorem result_v : val_main_v59 (F := Ideal) p = values p := by
  funext y
  idx_vars y
  show val_main_v59 (F := Ideal) p (ix2 y0 y1) = _
  unfold val_main_v59
  pointwise []
  rw [read_v]
  have h0 : token ⟨y0.val / 256, by omega⟩ ⟨y0.val % 256, by omega⟩ = y0 := Fin.ext (by show y0.val / 256 * 256 + y0.val % 256 = _; omega)
  rw [h0]
  rfl

end Cert.AttnCall

end
-- ==== Proof.AttnCall.lean ====
/- The prompts' attention: its runs, the three arrays it leaves, and that the reference's results are the same when the norms' weights are finite. -/
module

public import proofs.«01_k».proof.Defs
public import proofs.«01_k».proof.Proof.Gen.Attn.Frame
public import proofs.«01_k».proof.Proof.Gen.AttnIdeal.Value
public import proofs.«01_k».proof.Proof.Gen.Pre_finite
public import proofs.«01_k».proof.Proof.Attn
public import proofs.«01_k».proof.Proof.AttnReference
public import Idealize.ShloMosaic.Lib.Claim
public import Idealize.ShloMosaic.Lib.Quiescent

@[expose] public section

set_option maxRecDepth 16384

noncomputable section

namespace Cert.AttnCall

open Idealize.ShloMosaic Idealize.ShloMosaic.TcCoe Idealize.SL.Sem

instance : Cert.Attn.Facts := Cert.Attn.Gen.facts
instance : Cert.AttnIdeal.Facts := Cert.AttnIdeal.Gen.facts
instance : Cert.AttnReferenceIdeal.Facts := Cert.AttnReferenceIdeal.Gen.facts
instance : Cert.Pre_finite.Facts := Cert.Pre_finite.Gen.facts

/-- The call terminates, leaves its arguments as they were and every counter at zero. -/
theorem frame_P : Cert.quiescent_Attn := fun m ρ _ => Cert.Attn.Gen.frame m ρ

/-- The same over the extended reals. -/
theorem frame_PI : Cert.quiescent_AttnIdeal := fun m ρ _ => Cert.AttnIdeal.Gen.frame m ρ

/-- The same where the norms' weights are finite. -/
theorem frame_PI_finite : Cert.quiescent_AttnIdeal_pre_finite := fun m ρ _ => Cert.AttnIdeal.Gen.frame m ρ

/-- The same of the reference over the extended reals, which has no counter. -/
theorem frame_RI : Cert.quiescent_AttnReferenceIdeal := fun m ρ _ =>
  (θ_run _ _ _).mono (fun r h => ⟨fun c => (h c).2.2.2, sem_eq_zero_of_no_sems (by decide) r.2⟩)
    (Cert.AttnReferenceIdeal.Value.run m ρ)

/-- The same where the norms' weights are finite. -/
theorem frame_RI_finite : Cert.quiescent_AttnReferenceIdeal_pre_finite := fun m ρ _ => frame_RI m ρ trivial

/-- No operation was rewritten for the extended reals. -/
theorem preserves : Cert.preserves_Attn_AttnIdeal := trivial

section
open Cert.AttnIdeal Cert.AttnIdeal.Gen

variable (m : (ℓ : Loc nD τ sig) → Buf (Elt Ideal) ℓ) (c : Dev nD)

/-- Each window's block at a grid point: a prompt and a group of heads. -/
theorem idx : ∀ t : Fin cfg0.N, win0_0.index t = ![t.val / 2, 4 + t.val % 2] ∧ win0_1.index t = ![t.val / 2, 24 + t.val % 2] ∧ win0_2.index t = ![t.val / 2, 26 + t.val % 2]
    ∧ win0_3.index t = ![0, 0] ∧ win0_4.index t = ![0, 0] ∧ win0_5.index t = ![t.val / 2, t.val % 2] ∧ win0_6.index t = ![t.val / 2, t.val % 2]
    ∧ win0_7.index t = ![t.val / 2, t.val % 2] ∧ t.val < 64 :=
  (by decide +kernel : ∀ t : Fin grid0.N, _)

/-- The weights of the queries' norm as a row. -/
theorem gain_q (d : Fin 128) : (V m c main_v4 : FVec Ideal S1x128 .f32) (ix2 0 d) = m (c, Proc.tc.devRef main_arg1) (ix2 0 d) := by
  have h : (V m c main_v4 : FVec Ideal S1x128 .f32) = shapeCast S1x128 (shapeCast S128 (extractStridedSlice S1x128 ![0, 0] (m (c, Proc.tc.devRef main_arg1)) slices_S2x128_S1x128_0_0) shapeCasts_S1x128_S128) shapeCasts_S128_S1x128 := by
    entry_read; rfl
  rw [h]; pointwise []

/-- The weights of the keys' norm as a row. -/
theorem gain_k (d : Fin 128) : (V m c main_v5 : FVec Ideal S1x128 .f32) (ix2 0 d) = m (c, Proc.tc.devRef main_arg2) (ix2 0 d) := by
  have h : (V m c main_v5 : FVec Ideal S1x128 .f32) = shapeCast S1x128 (shapeCast S128 (extractStridedSlice S1x128 ![0, 0] (m (c, Proc.tc.devRef main_arg2)) slices_S2x128_S1x128_0_0) shapeCasts_S1x128_S128) shapeCasts_S128_S1x128 := by
    entry_read; rfl
  rw [h]; pointwise []

section
variable (t : Fin cfg0.N) (r : Fin 256) (R : Fin 16384) (hR : R.val = t.val / 2 * 256 + r.val)
include hR

theorem rd_q (C : Fin 512) (D : Fin 3584) (hD : D.val = 2048 + (t.val % 2 * 512 + C.val)) : (iblk m c 0 t : FVec Ideal S256x512 .f32) (ix2 r C)
    = m ((c : Thread nD τ).loc main_arg0) (ix2 R D) := by
  blk_ext [iblk, V, idx t]

theorem rd_k (d : Fin 128) (D : Fin 3584) (hD : D.val = 3072 + (t.val % 2 * 128 + d.val)) : (iblk m c 1 t : FVec Ideal S256x128 .f32) (ix2 r d)
    = m ((c : Thread nD τ).loc main_arg0) (ix2 R D) := by
  blk_ext [iblk, V, idx t]

theorem rd_v (d : Fin 128) (D : Fin 3584) (hD : D.val = 3328 + (t.val % 2 * 128 + d.val)) : (iblk m c 2 t : FVec Ideal S256x128 .f32) (ix2 r d)
    = m ((c : Thread nD τ).loc main_arg0) (ix2 R D) := by
  blk_ext [iblk, V, idx t]

end

section
variable (t : Fin cfg0.N)

theorem rd_gq (d : Fin 128) : (iblk m c 3 t : FVec Ideal S1x128 .f32) (ix2 0 d) = m ((c : Thread nD τ).loc main_arg1) (ix2 0 d) := by
  refine Eq.trans ?_ (gain_q m c d)
  blk_ext [iblk, idx t]

theorem rd_gk (d : Fin 128) : (iblk m c 4 t : FVec Ideal S1x128 .f32) (ix2 0 d) = m ((c : Thread nD τ).loc main_arg2) (ix2 0 d) := by
  refine Eq.trans ?_ (gain_k m c d)
  blk_ext [iblk, idx t]

/-- What a point stores of the attention. -/
theorem stored_o (r : Fin 256) (C : Fin 512) (R : Fin 8192) (D : Fin 1024) (hR : R.val = t.val / 2 * 256 + r.val) (hD : D.val = t.val % 2 * 512 + C.val) :
    out0_5 (F := Ideal) (iblk m c 0 t) (iblk m c 1 t) (iblk m c 2 t) (iblk m c 3 t) (iblk m c 4 t) (ix2 r C)
    = attend (m ((c : Thread nD τ).loc main_arg0)) (m ((c : Thread nD τ).loc main_arg1)) (m ((c : Thread nD τ).loc main_arg2)) R D := by
  have hr := r.isLt
  have hC := C.isLt
  rw [Attn.block_heads]
  unfold attend query key value token
  refine congr (congrArg₂ Heads.head (congrArg₂ Heads.rms (funext fun d => ?_) (funext fun d => ?_))
    (funext fun j => congrArg₂ Heads.rms (funext fun d => ?_) (funext fun d => ?_))) (funext fun j => ?_)
  · exact rd_q m c t r _ hR _ _ (by have := d.isLt; show 2048 + (D.val / 128 * 128 + d.val) = 2048 + (t.val % 2 * 512 + (C.val / 128 * 128 + d.val)); omega)
  · exact rd_gq m c t d
  · exact rd_k m c t j _ (by have := j.isLt; show R.val / 256 * 256 + j.val = _; omega) d _ (by show 3072 + (D.val / 512 * 128 + d.val) = _; omega)
  · exact rd_gk m c t d
  · exact rd_v m c t j _ (by have := j.isLt; show R.val / 256 * 256 + j.val = _; omega) _ _
      (by show 3328 + (D.val / 512 * 128 + D.val % 128) = 3328 + (t.val % 2 * 128 + C.val % 128); omega)

/-- What a point stores of the keys. -/
theorem stored_k (r : Fin 256) (d : Fin 128) (R : Fin 8192) (D : Fin 256) (hR : R.val = t.val / 2 * 256 + r.val) (hD : D.val = t.val % 2 * 128 + d.val) :
    out0_6 (F := Ideal) (iblk m c 0 t) (iblk m c 1 t) (iblk m c 2 t) (iblk m c 3 t) (iblk m c 4 t) (ix2 r d)
    = keys (m ((c : Thread nD τ).loc main_arg0)) (m ((c : Thread nD τ).loc main_arg2)) (ix2 R D) := by
  rw [Attn.block_keys]
  unfold keys key
  refine congr (congrArg₂ Heads.rms (funext fun e => ?_) (funext fun e => ?_)) (Fin.ext ?_)
  · exact rd_k m c t r _ hR _ _ (by show 3072 + (D.val / 128 * 128 + e.val) = _; have := d.isLt; omega)
  · exact rd_gk m c t e
  · show d.val = D.val % 128
    have := d.isLt
    omega

/-- What a point stores of the values. -/
theorem stored_v (r : Fin 256) (d : Fin 128) (R : Fin 8192) (D : Fin 256) (hR : R.val = t.val / 2 * 256 + r.val) (hD : D.val = t.val % 2 * 128 + d.val) :
    out0_7 (F := Ideal) (iblk m c 0 t) (iblk m c 1 t) (iblk m c 2 t) (iblk m c 3 t) (iblk m c 4 t) (ix2 r d)
    = values (m ((c : Thread nD τ).loc main_arg0)) (ix2 R D) := by
  rw [Attn.block_values]
  unfold values value
  exact rd_v m c t r _ hR _ _ (by show 3328 + (D.val / 128 * 128 + D.val % 128) = _; omega)

end

/-- The attention the call leaves. -/
theorem final_o : (dats m 0 c).arrAt 5 (cfgs 0).N
    = heads (m ((c : Thread nD τ).loc main_arg0)) (m ((c : Thread nD τ).loc main_arg1)) (m ((c : Thread nD τ).loc main_arg2)) := by
  refine (dats m 0 c).arrAt_eq_of_covers 5 (heads (m ((c : Thread nD τ).loc main_arg0)) (m ((c : Thread nD τ).loc main_arg1)) (m ((c : Thread nD τ).loc main_arg2)))
    (by decide +kernel) fun t _ y => ?_
  blk_simp
  rw [after0_5]
  idx_vars y
  have h64 := (idx t).2.2.2.2.2.2.2.2
  refine (stored_o m c t y0 y1 ⟨t.val / 2 * 256 + y0.val, by omega⟩ ⟨t.val % 2 * 512 + y1.val, by omega⟩ rfl rfl).trans ?_
  unfold heads
  blk_simp [idx t]

/-- The keys the call leaves. -/
theorem final_k : (dats m 0 c).arrAt 6 (cfgs 0).N
    = keys (m ((c : Thread nD τ).loc main_arg0)) (m ((c : Thread nD τ).loc main_arg2)) := by
  refine (dats m 0 c).arrAt_eq_of_covers 6 (keys (m ((c : Thread nD τ).loc main_arg0)) (m ((c : Thread nD τ).loc main_arg2)))
    (by decide +kernel) fun t _ y => ?_
  blk_simp
  rw [after0_6]
  idx_vars y
  have h64 := (idx t).2.2.2.2.2.2.2.2
  refine (stored_k m c t y0 y1 ⟨t.val / 2 * 256 + y0.val, by omega⟩ ⟨t.val % 2 * 128 + y1.val, by omega⟩ rfl rfl).trans ?_
  unfold keys
  blk_simp [idx t]

/-- The values the call leaves. -/
theorem final_v : (dats m 0 c).arrAt 7 (cfgs 0).N = values (m ((c : Thread nD τ).loc main_arg0)) := by
  refine (dats m 0 c).arrAt_eq_of_covers 7 (values (m ((c : Thread nD τ).loc main_arg0))) (by decide +kernel) fun t _ y => ?_
  blk_simp
  rw [after0_7]
  idx_vars y
  have h64 := (idx t).2.2.2.2.2.2.2.2
  refine (stored_v m c t y0 y1 ⟨t.val / 2 * 256 + y0.val, by omega⟩ ⟨t.val % 2 * 128 + y1.val, by omega⟩ rfl rfl).trans ?_
  unfold values
  blk_simp [idx t]

end

/-- A number whose magnitude is below infinity is real. -/
theorem real_of (x : EReal) (h : BitVec.ofBool (decide (max x (-x) < Ideal.ofBits FTy.f32 0x7F800000#32)) = 1#1) : Heads.Real' x := by
  have ht : Ideal.ofBits FTy.f32 0x7F800000#32 = ⊤ := by simp [Ideal.ofBits, Ideal.ieee]
  rw [ht] at h
  induction x with
  | bot => simp at h
  | coe r => exact ⟨r, rfl⟩
  | top => simp at h

/-- The predicate says that the first row of each norm's weights is finite. -/
theorem finite_of (p : FVec Ideal Cert.Pre_finite.S16384x3584 .f32) (q g : FVec Ideal Cert.Pre_finite.S2x128 .f32)
    (h : (Cert.Pre_finite.fn (F := Ideal) p q g).1 = (fun _ => 1#1) ∧ (Cert.Pre_finite.fn (F := Ideal) p q g).2 = fun _ => 1#1) (d : Fin 128) :
    Heads.Real' (q (ix2 0 d)) ∧ Heads.Real' (g (ix2 0 d)) := by
  have h1 := congrFun h.1 (ix1 d)
  have h2 := congrFun h.2 (ix1 d)
  unfold Cert.Pre_finite.fn at h1 h2
  dsimp only at h1 h2
  pointwise [] at h1 h2
  exact ⟨real_of _ h1, real_of _ h2⟩

/-- The call leaves the reference's results, where the norms' weights are finite. -/
theorem equal : Cert.algebraic_AttnIdeal_AttnReferenceIdeal_pre_finite := fun m g m' g' hp hag =>
  ⟨fun c => (Cert.AttnIdeal.Gen.dats m 0 c).arrAt 5 Cert.AttnIdeal.cfg0.N, fun c => (Cert.AttnIdeal.Gen.dats m 0 c).arrAt 6 Cert.AttnIdeal.cfg0.N,
    fun c => (Cert.AttnIdeal.Gen.dats m 0 c).arrAt 7 Cert.AttnIdeal.cfg0.N, Cert.AttnIdeal.Value.run_blocks m g,
    (θ_run _ _ _).mono (fun _ h c => ⟨(h c).1.trans (by
        rw [Cert.AttnReferenceIdeal.Read.val_main_v57_eq]
        obtain ⟨h0, h1, h2⟩ := hag c
        refine Eq.trans ?_ (final_o m c).symm
        rw [h0, h1, h2]
        exact result_o _ _ _ (fun d => (finite_of _ _ _ (hp c) d).1) fun d => (finite_of _ _ _ (hp c) d).2), (h c).2.1.trans (by
        rw [Cert.AttnReferenceIdeal.Read.val_main_v58_eq]
        obtain ⟨h0, h1, h2⟩ := hag c
        refine Eq.trans ?_ (final_k m c).symm
        refine Eq.trans ?_ (result_k _ _)
        rw [← h0, ← h2]), (h c).2.2.1.trans (by
        rw [Cert.AttnReferenceIdeal.Read.val_main_v59_eq]
        obtain ⟨h0, h1, h2⟩ := hag c
        refine Eq.trans ?_ (final_v m c).symm
        refine Eq.trans ?_ (result_v _)
        rw [← h0]), (h c).2.2.2⟩) (Cert.AttnReferenceIdeal.Value.run m' g')⟩

end Cert.AttnCall

end
-- ==== Proof.Lat.lean ====
/- The samples' attention: what a grid point stores of a group of heads, and the keys and values kept between the points of a group. -/
module

public import proofs.«01_k».proof.Proof.Gen.LatIdeal.Frame
public import proofs.«01_k».proof.Proof.Heads

@[expose] public section

set_option maxRecDepth 16384

noncomputable section

namespace Cert.Lat

open Cert.LatIdeal Cert.LatIdeal.Gen Idealize.ShloMosaic Idealize.ShloMosaic.TcCoe Idealize.SL.Sem

/-- The lanes' parity, as the rotation tests it. -/
theorem select_even (d : Fin 128) (a b : EReal) :
    Scalar.select (IntOp.cmpi CmpIPredicate.eq (IntOp.andi (BitVec.ofNat 32 d.val) 1#32) 0#32) a b = if d.val % 2 = 0 then a else b := by
  revert d
  have h : ∀ d : Fin 128, IntOp.cmpi CmpIPredicate.eq (IntOp.andi (BitVec.ofNat 32 d.val) 1#32) 0#32 = if d.val % 2 = 0 then 1#1 else 0#1 := by decide +kernel
  intro d
  rw [h d]
  split
  · rfl
  · rfl

section
variable (x : Vec Ideal S256x128 .f32) (g : Vec Ideal S1x128 .f32) (C S : Vec Ideal S256x128 .f32) (K V : Vec Ideal S2560x128 .bf16)

/-- A row group's keys, from its loads. -/
theorem keys (r : Fin 256) (d : Fin 128) : k0_pay2 (F := Ideal) x g C S (ix2 r d)
    = Heads.turn (fun d => C (ix2 r d)) (fun d => S (ix2 r d)) (Heads.rms (fun d => x (ix2 r d)) fun d => g (ix2 0 d)) d := by
  unfold k0_pay2
  pointwise []
  simp only [select_even]
  rfl

/-- The queries of the first head, from its loads. -/
theorem queries (r : Fin 256) (d : Fin 128) : k0_pay28 (F := Ideal) C S x g (ix2 r d)
    = Heads.turn (fun d => C (ix2 r d)) (fun d => S (ix2 r d)) (Heads.rms (fun d => x (ix2 r d)) fun d => g (ix2 0 d)) d := by
  unfold k0_pay28 k0_pay27 k0_pay26
  pointwise []
  simp only [select_even]
  rfl

/-- The first head a point stores, from its loads and the kept keys and values. -/
theorem head0 (r : Fin 256) (d : Fin 128) : k0_pay29 (F := Ideal) K V (k0_pay28 C S x g) (ix2 r d)
    = Heads.head (Heads.turn (fun d => C (ix2 r d)) (fun d => S (ix2 r d)) (Heads.rms (fun d => x (ix2 r d)) fun d => g (ix2 0 d)))
        (fun j d => K (ix2 j d)) fun j => V (ix2 j d) := by
  unfold k0_pay29
  pointwise []
  simp only [queries]
  rfl

/-- The second head is the same of its own lanes. -/
theorem head1 : k0_pay33 (F := Ideal) (k0_pay27 S) K V (k0_pay31 x g) (k0_pay32 (k0_pay26 C) x g) = k0_pay29 K V (k0_pay28 C S x g) := rfl

/-- The third. -/
theorem head2 : k0_pay38 (F := Ideal) (k0_pay26 C) (k0_pay27 S) K V (k0_pay34 x g) k0_pay35 (k0_pay36 x g) (k0_pay37 x g)
    = k0_pay29 K V (k0_pay28 C S x g) := rfl

/-- The fourth. -/
theorem head3 : k0_pay1 (F := Ideal) (k0_pay26 C) (k0_pay27 S) K V (k0_pay39 x g) k0_pay40 (k0_pay41 x g) = k0_pay29 K V (k0_pay28 C S x g) := rfl

end

section
variable (X : Vec Ideal S256x512 .f32) (K W : Vec Ideal S2048x128 .f32) (P Q : Vec Ideal S1x512x128 .f32) (C S : Vec Ideal S256x128 .f32)
  (D T : Vec Ideal S2048x128 .f32) (G H : Vec Ideal S1x128 .f32) (Y Z : Vec Ideal S2560x128 .bf16)

/-- The rows from 0 of the keys, and the same of the kept keys. -/
abbrev k0 : Rect S2048x128 := Rect.unit (s := S2048x128) ![0, 0] S256x128.size inb_S2048x128_S256x128_0_0
abbrev s0 : Rect S2560x128 := Rect.unit (s := S2560x128) ![0, 0] S256x128.size inb_S2560x128_S256x128_0_0
/-- The rows from 256 of the keys, and the same of the kept keys. -/
abbrev k256 : Rect S2048x128 := Rect.unit (s := S2048x128) ![256, 0] S256x128.size inb_S2048x128_S256x128_256_0
abbrev s256 : Rect S2560x128 := Rect.unit (s := S2560x128) ![256, 0] S256x128.size inb_S2560x128_S256x128_256_0
/-- The rows from 512 of the keys, and the same of the kept keys. -/
abbrev k512 : Rect S2048x128 := Rect.unit (s := S2048x128) ![512, 0] S256x128.size inb_S2048x128_S256x128_512_0
abbrev s512 : Rect S2560x128 := Rect.unit (s := S2560x128) ![512, 0] S256x128.size inb_S2560x128_S256x128_512_0
/-- The rows from 768 of the keys, and the same of the kept keys. -/
abbrev k768 : Rect S2048x128 := Rect.unit (s := S2048x128) ![768, 0] S256x128.size inb_S2048x128_S256x128_768_0
abbrev s768 : Rect S2560x128 := Rect.unit (s := S2560x128) ![768, 0] S256x128.size inb_S2560x128_S256x128_768_0
/-- The rows from 1024 of the keys, and the same of the kept keys. -/
abbrev k1024 : Rect S2048x128 := Rect.unit (s := S2048x128) ![1024, 0] S256x128.size inb_S2048x128_S256x128_1024_0
abbrev s1024 : Rect S2560x128 := Rect.unit (s := S2560x128) ![1024, 0] S256x128.size inb_S2560x128_S256x128_1024_0
/-- The rows from 1280 of the keys, and the same of the kept keys. -/
abbrev k1280 : Rect S2048x128 := Rect.unit (s := S2048x128) ![1280, 0] S256x128.size inb_S2048x128_S256x128_1280_0
abbrev s1280 : Rect S2560x128 := Rect.unit (s := S2560x128) ![1280, 0] S256x128.size inb_S2560x128_S256x128_1280_0
/-- The rows from 1536 of the keys, and the same of the kept keys. -/
abbrev k1536 : Rect S2048x128 := Rect.unit (s := S2048x128) ![1536, 0] S256x128.size inb_S2048x128_S256x128_1536_0
abbrev s1536 : Rect S2560x128 := Rect.unit (s := S2560x128) ![1536, 0] S256x128.size inb_S2560x128_S256x128_1536_0
/-- The rows from 1792 of the keys, and the same of the kept keys. -/
abbrev k1792 : Rect S2048x128 := Rect.unit (s := S2048x128) ![1792, 0] S256x128.size inb_S2048x128_S256x128_1792_0
abbrev s1792 : Rect S2560x128 := Rect.unit (s := S2560x128) ![1792, 0] S256x128.size inb_S2560x128_S256x128_1792_0
/-- The cached rows among the kept ones. -/
abbrev s2048 : Rect S2560x128 := Rect.unit (s := S2560x128) ![2048, 0] S512x128.size inb_S2560x128_S512x128_2048_0
/-- The four heads' lanes. -/
abbrev q0 : Rect S256x512 := Rect.unit (s := S256x512) ![0, 0] S256x128.size inb_S256x512_S256x128_0_0
abbrev q128 : Rect S256x512 := Rect.unit (s := S256x512) ![0, 128] S256x128.size inb_S256x512_S256x128_0_128
abbrev q256 : Rect S256x512 := Rect.unit (s := S256x512) ![0, 256] S256x128.size inb_S256x512_S256x128_0_256
abbrev q384 : Rect S256x512 := Rect.unit (s := S256x512) ![0, 384] S256x128.size inb_S256x512_S256x128_0_384

/-- The keys a group's first point keeps. -/
def keptK : Vec Ideal S2560x128 .bf16 :=
  View.canon [⟨s2048, k0_pay24 P⟩,
    ⟨s1792, k0_pay22 (k0_pay21 (View.ld K k1792) H (View.ld D k1792) (View.ld T k1792))⟩,
    ⟨s1536, k0_pay19 (k0_pay18 (View.ld K k1536) H (View.ld D k1536) (View.ld T k1536))⟩,
    ⟨s1280, k0_pay16 (k0_pay15 (View.ld K k1280) H (View.ld D k1280) (View.ld T k1280))⟩,
    ⟨s1024, k0_pay13 (View.ld K k1024) H (View.ld D k1024) (View.ld T k1024)⟩,
    ⟨s768, k0_pay11 (View.ld K k768) H (View.ld D k768) (View.ld T k768)⟩,
    ⟨s512, k0_pay8 (View.ld K k512) H (View.ld D k512) (View.ld T k512)⟩,
    ⟨s256, k0_pay5 (View.ld K k256) H (View.ld D k256) (View.ld T k256)⟩,
    ⟨s0, k0_pay2 (View.ld K k0) H (View.ld D k0) (View.ld T k0)⟩]

/-- The values a group's first point keeps. -/
def keptV : Vec Ideal S2560x128 .bf16 :=
  View.canon [⟨s2048, k0_pay25 Q⟩,
    ⟨s1792, k0_pay23 (View.ld W k1792)⟩,
    ⟨s1536, k0_pay20 (View.ld W k1536)⟩,
    ⟨s1280, k0_pay17 (View.ld W k1280)⟩,
    ⟨s1024, k0_pay14 (View.ld W k1024)⟩,
    ⟨s768, k0_pay12 (View.ld W k768)⟩,
    ⟨s512, k0_pay10 (k0_pay9 (View.ld W k512))⟩,
    ⟨s256, k0_pay7 (k0_pay6 (View.ld W k256))⟩,
    ⟨s0, k0_pay4 (k0_pay3 (View.ld W k0))⟩]

/-- The group of heads a point stores, from the kept keys and values. -/
def block : Vec Ideal S256x512 .bf16 :=
  View.canon [⟨q384, k0_pay1 (k0_pay26 C) (k0_pay27 S) Y Z (k0_pay39 (View.ld X q384) G) k0_pay40 (k0_pay41 (View.ld X q384) G)⟩,
    ⟨q256, k0_pay38 (k0_pay26 C) (k0_pay27 S) Y Z (k0_pay34 (View.ld X q256) G) k0_pay35 (k0_pay36 (View.ld X q256) G) (k0_pay37 (View.ld X q256) G)⟩,
    ⟨q128, k0_pay33 (k0_pay27 S) Y Z (k0_pay31 (View.ld X q128) G) (k0_pay32 (k0_pay26 C) (View.ld X q128) G)⟩,
    ⟨q0, k0_pay29 Y Z (k0_pay28 C S (View.ld X q0) G)⟩]

theorem ld_k0 (A : Vec Ideal S2048x128 .f32) (r : Fin 256) (d : Fin 128) (n : Fin 2048) (h : n.val = 0 + r.val) : View.ld A k0 (ix2 r d) = A (ix2 n d) :=
  View.ld_unit_apply_of _ _ _ _ _ _ (by intro a; fin_cases a; exacts [h, (Nat.zero_add _).symm])

theorem ld_k256 (A : Vec Ideal S2048x128 .f32) (r : Fin 256) (d : Fin 128) (n : Fin 2048) (h : n.val = 256 + r.val) : View.ld A k256 (ix2 r d) = A (ix2 n d) :=
  View.ld_unit_apply_of _ _ _ _ _ _ (by intro a; fin_cases a; exacts [h, (Nat.zero_add _).symm])

theorem ld_k512 (A : Vec Ideal S2048x128 .f32) (r : Fin 256) (d : Fin 128) (n : Fin 2048) (h : n.val = 512 + r.val) : View.ld A k512 (ix2 r d) = A (ix2 n d) :=
  View.ld_unit_apply_of _ _ _ _ _ _ (by intro a; fin_cases a; exacts [h, (Nat.zero_add _).symm])

theorem ld_k768 (A : Vec Ideal S2048x128 .f32) (r : Fin 256) (d : Fin 128) (n : Fin 2048) (h : n.val = 768 + r.val) : View.ld A k768 (ix2 r d) = A (ix2 n d) :=
  View.ld_unit_apply_of _ _ _ _ _ _ (by intro a; fin_cases a; exacts [h, (Nat.zero_add _).symm])

theorem ld_k1024 (A : Vec Ideal S2048x128 .f32) (r : Fin 256) (d : Fin 128) (n : Fin 2048) (h : n.val = 1024 + r.val) : View.ld A k1024 (ix2 r d) = A (ix2 n d) :=
  View.ld_unit_apply_of _ _ _ _ _ _ (by intro a; fin_cases a; exacts [h, (Nat.zero_add _).symm])

theorem ld_k1280 (A : Vec Ideal S2048x128 .f32) (r : Fin 256) (d : Fin 128) (n : Fin 2048) (h : n.val = 1280 + r.val) : View.ld A k1280 (ix2 r d) = A (ix2 n d) :=
  View.ld_unit_apply_of _ _ _ _ _ _ (by intro a; fin_cases a; exacts [h, (Nat.zero_add _).symm])

theorem ld_k1536 (A : Vec Ideal S2048x128 .f32) (r : Fin 256) (d : Fin 128) (n : Fin 2048) (h : n.val = 1536 + r.val) : View.ld A k1536 (ix2 r d) = A (ix2 n d) :=
  View.ld_unit_apply_of _ _ _ _ _ _ (by intro a; fin_cases a; exacts [h, (Nat.zero_add _).symm])

theorem ld_k1792 (A : Vec Ideal S2048x128 .f32) (r : Fin 256) (d : Fin 128) (n : Fin 2048) (h : n.val = 1792 + r.val) : View.ld A k1792 (ix2 r d) = A (ix2 n d) :=
  View.ld_unit_apply_of _ _ _ _ _ _ (by intro a; fin_cases a; exacts [h, (Nat.zero_add _).symm])

/-- The kept keys, row by row: first the sample's own, rotated, then the cached ones. -/
theorem keptK_at (r : Fin 2560) (d : Fin 128) : keptK K P D T H (ix2 r d)
    = if h : r.val < 2048 then Heads.turn (fun d => D (ix2 ⟨r.val, h⟩ d)) (fun d => T (ix2 ⟨r.val, h⟩ d)) (Heads.rms (fun d => K (ix2 ⟨r.val, h⟩ d)) fun d => H (ix2 0 d)) d
      else P (ix3 0 ⟨r.val - 2048, by have := r.isLt; omega⟩ d) := by
  unfold keptK
  generalize hy : (ix2 r d : S2560x128.Idx) = y
  canon_tiles x using View.cover_of_tiledBy _ ![256, 128] (by sl_kernel_rfl) y
  case piece0 =>
    subst hy
    idx_vars x
    obtain rfl : x1 = d := Fin.ext h1.symm
    have hr : ¬r.val < 2048 := by omega
    have hn : (⟨r.val - 2048, by have := r.isLt; omega⟩ : Fin 512) = x0 := Fin.ext (by simp only; omega)
    rw [dif_neg hr, hn]
    unfold k0_pay24
    pointwise []
  case piece1 =>
    subst hy
    idx_vars x
    obtain rfl : x1 = d := Fin.ext h1.symm
    have hr : r.val < 2048 := by have := x0.isLt; omega
    rw [dif_pos hr]
    refine (keys _ _ _ _ x0 x1).trans ?_
    have hl := fun (A : Vec Ideal S2048x128 .f32) (d : Fin 128) => ld_k1792 A x0 d ⟨r.val, hr⟩ h0
    exact congrFun (congr (congrArg₂ Heads.turn (funext (hl D)) (funext (hl T))) (congrArg (Heads.rms · _) (funext (hl K)))) x1
  case piece2 =>
    subst hy
    idx_vars x
    obtain rfl : x1 = d := Fin.ext h1.symm
    have hr : r.val < 2048 := by have := x0.isLt; omega
    rw [dif_pos hr]
    refine (keys _ _ _ _ x0 x1).trans ?_
    have hl := fun (A : Vec Ideal S2048x128 .f32) (d : Fin 128) => ld_k1536 A x0 d ⟨r.val, hr⟩ h0
    exact congrFun (congr (congrArg₂ Heads.turn (funext (hl D)) (funext (hl T))) (congrArg (Heads.rms · _) (funext (hl K)))) x1
  case piece3 =>
    subst hy
    idx_vars x
    obtain rfl : x1 = d := Fin.ext h1.symm
    have hr : r.val < 2048 := by have := x0.isLt; omega
    rw [dif_pos hr]
    refine (keys _ _ _ _ x0 x1).trans ?_
    have hl := fun (A : Vec Ideal S2048x128 .f32) (d : Fin 128) => ld_k1280 A x0 d ⟨r.val, hr⟩ h0
    exact congrFun (congr (congrArg₂ Heads.turn (funext (hl D)) (funext (hl T))) (congrArg (Heads.rms · _) (funext (hl K)))) x1
  case piece4 =>
    subst hy
    idx_vars x
    obtain rfl : x1 = d := Fin.ext h1.symm
    have hr : r.val < 2048 := by have := x0.isLt; omega
    rw [dif_pos hr]
    refine (keys _ _ _ _ x0 x1).trans ?_
    have hl := fun (A : Vec Ideal S2048x128 .f32) (d : Fin 128) => ld_k1024 A x0 d ⟨r.val, hr⟩ h0
    exact congrFun (congr (congrArg₂ Heads.turn (funext (hl D)) (funext (hl T))) (congrArg (Heads.rms · _) (funext (hl K)))) x1
  case piece5 =>
    subst hy
    idx_vars x
    obtain rfl : x1 = d := Fin.ext h1.symm
    have hr : r.val < 2048 := by have := x0.isLt; omega
    rw [dif_pos hr]
    refine (keys _ _ _ _ x0 x1).trans ?_
    have hl := fun (A : Vec Ideal S2048x128 .f32) (d : Fin 128) => ld_k768 A x0 d ⟨r.val, hr⟩ h0
    exact congrFun (congr (congrArg₂ Heads.turn (funext (hl D)) (funext (hl T))) (congrArg (Heads.rms · _) (funext (hl K)))) x1
  case piece6 =>
    subst hy
    idx_vars x
    obtain rfl : x1 = d := Fin.ext h1.symm
    have hr : r.val < 2048 := by have := x0.isLt; omega
    rw [dif_pos hr]
    refine (keys _ _ _ _ x0 x1).trans ?_
    have hl := fun (A : Vec Ideal S2048x128 .f32) (d : Fin 128) => ld_k512 A x0 d ⟨r.val, hr⟩ h0
    exact congrFun (congr (congrArg₂ Heads.turn (funext (hl D)) (funext (hl T))) (congrArg (Heads.rms · _) (funext (hl K)))) x1
  case piece7 =>
    subst hy
    idx_vars x
    obtain rfl : x1 = d := Fin.ext h1.symm
    have hr : r.val < 2048 := by have := x0.isLt; omega
    rw [dif_pos hr]
    refine (keys _ _ _ _ x0 x1).trans ?_
    have hl := fun (A : Vec Ideal S2048x128 .f32) (d : Fin 128) => ld_k256 A x0 d ⟨r.val, hr⟩ h0
    exact congrFun (congr (congrArg₂ Heads.turn (funext (hl D)) (funext (hl T))) (congrArg (Heads.rms · _) (funext (hl K)))) x1
  case piece8 =>
    subst hy
    idx_vars x
    obtain rfl : x1 = d := Fin.ext h1.symm
    have hr : r.val < 2048 := by have := x0.isLt; omega
    rw [dif_pos hr]
    refine (keys _ _ _ _ x0 x1).trans ?_
    have hl := fun (A : Vec Ideal S2048x128 .f32) (d : Fin 128) => ld_k0 A x0 d ⟨r.val, hr⟩ (h0.trans (Nat.zero_add _).symm)
    exact congrFun (congr (congrArg₂ Heads.turn (funext (hl D)) (funext (hl T))) (congrArg (Heads.rms · _) (funext (hl K)))) x1

/-- The kept values: first the sample's own, then the cached ones. -/
theorem keptV_at (r : Fin 2560) (d : Fin 128) : keptV W Q (ix2 r d)
    = if h : r.val < 2048 then W (ix2 ⟨r.val, h⟩ d) else Q (ix3 0 ⟨r.val - 2048, by have := r.isLt; omega⟩ d) := by
  unfold keptV
  generalize hy : (ix2 r d : S2560x128.Idx) = y
  canon_tiles x using View.cover_of_tiledBy _ ![256, 128] (by sl_kernel_rfl) y
  case piece0 =>
    subst hy
    idx_vars x
    obtain rfl : x1 = d := Fin.ext h1.symm
    have hr : ¬r.val < 2048 := by omega
    have hn : (⟨r.val - 2048, by have := r.isLt; omega⟩ : Fin 512) = x0 := Fin.ext (by simp only; omega)
    rw [dif_neg hr, hn]
    unfold k0_pay25
    pointwise []
  case piece1 =>
    subst hy
    idx_vars x
    obtain rfl : x1 = d := Fin.ext h1.symm
    have hr : r.val < 2048 := by have := x0.isLt; omega
    rw [dif_pos hr, ← ld_k1792 W x0 x1 ⟨r.val, hr⟩ h0]
    unfold k0_pay23
    pointwise []
  case piece2 =>
    subst hy
    idx_vars x
    obtain rfl : x1 = d := Fin.ext h1.symm
    have hr : r.val < 2048 := by have := x0.isLt; omega
    rw [dif_pos hr, ← ld_k1536 W x0 x1 ⟨r.val, hr⟩ h0]
    unfold k0_pay20
    pointwise []
  case piece3 =>
    subst hy
    idx_vars x
    obtain rfl : x1 = d := Fin.ext h1.symm
    have hr : r.val < 2048 := by have := x0.isLt; omega
    rw [dif_pos hr, ← ld_k1280 W x0 x1 ⟨r.val, hr⟩ h0]
    unfold k0_pay17
    pointwise []
  case piece4 =>
    subst hy
    idx_vars x
    obtain rfl : x1 = d := Fin.ext h1.symm
    have hr : r.val < 2048 := by have := x0.isLt; omega
    rw [dif_pos hr, ← ld_k1024 W x0 x1 ⟨r.val, hr⟩ h0]
    unfold k0_pay14
    pointwise []
  case piece5 =>
    subst hy
    idx_vars x
    obtain rfl : x1 = d := Fin.ext h1.symm
    have hr : r.val < 2048 := by have := x0.isLt; omega
    rw [dif_pos hr, ← ld_k768 W x0 x1 ⟨r.val, hr⟩ h0]
    unfold k0_pay12
    pointwise []
  case piece6 =>
    subst hy
    idx_vars x
    obtain rfl : x1 = d := Fin.ext h1.symm
    have hr : r.val < 2048 := by have := x0.isLt; omega
    rw [dif_pos hr, ← ld_k512 W x0 x1 ⟨r.val, hr⟩ h0]
    unfold k0_pay10 k0_pay9
    pointwise []
  case piece7 =>
    subst hy
    idx_vars x
    obtain rfl : x1 = d := Fin.ext h1.symm
    have hr : r.val < 2048 := by have := x0.isLt; omega
    rw [dif_pos hr, ← ld_k256 W x0 x1 ⟨r.val, hr⟩ h0]
    unfold k0_pay7 k0_pay6
    pointwise []
  case piece8 =>
    subst hy
    idx_vars x
    obtain rfl : x1 = d := Fin.ext h1.symm
    have hr : r.val < 2048 := by have := x0.isLt; omega
    rw [dif_pos hr, ← ld_k0 W x0 x1 ⟨r.val, hr⟩ (h0.trans (Nat.zero_add _).symm)]
    unfold k0_pay4 k0_pay3
    pointwise []

/-- The group of heads a point stores, row by row. -/
theorem block_at (r : Fin 256) (c : Fin 512) : block X C S G Y Z (ix2 r c)
    = Heads.head (Heads.turn (fun d => C (ix2 r d)) (fun d => S (ix2 r d))
          (Heads.rms (fun d => X (ix2 r ⟨c.val / 128 * 128 + d.val, by omega⟩)) fun d => G (ix2 0 d)))
        (fun j d => Y (ix2 j d)) fun j => Z (ix2 j ⟨c.val % 128, by omega⟩) := by
  unfold block
  generalize hy : (ix2 r c : S256x512.Idx) = y
  canon_tiles x
  case piece0 =>
    subst hy
    idx_vars x
    obtain rfl : x0 = r := Fin.ext h0.symm
    have hq : c.val / 128 * 128 = 384 := by omega
    have hd : c.val % 128 = x1.val := by omega
    refine (head0 _ _ _ _ _ _ x0 x1).trans ?_
    refine congr (congrArg (Heads.head · _) (congrArg (Heads.turn _ _) (congrArg (Heads.rms · _) (funext fun d => ?_)))) (funext fun j => congrArg (fun d => Z (ix2 j d)) (Fin.ext hd.symm))
    exact View.ld_unit_apply_of _ _ _ _ _ _ (by intro a; fin_cases a; exacts [(Nat.zero_add _).symm, congrArg (· + d.val) hq])
  case piece1 =>
    subst hy
    idx_vars x
    obtain rfl : x0 = r := Fin.ext h0.symm
    have hq : c.val / 128 * 128 = 256 := by omega
    have hd : c.val % 128 = x1.val := by omega
    refine (head0 _ _ _ _ _ _ x0 x1).trans ?_
    refine congr (congrArg (Heads.head · _) (congrArg (Heads.turn _ _) (congrArg (Heads.rms · _) (funext fun d => ?_)))) (funext fun j => congrArg (fun d => Z (ix2 j d)) (Fin.ext hd.symm))
    exact View.ld_unit_apply_of _ _ _ _ _ _ (by intro a; fin_cases a; exacts [(Nat.zero_add _).symm, congrArg (· + d.val) hq])
  case piece2 =>
    subst hy
    idx_vars x
    obtain rfl : x0 = r := Fin.ext h0.symm
    have hq : c.val / 128 * 128 = 128 := by omega
    have hd : c.val % 128 = x1.val := by omega
    refine (head0 _ _ _ _ _ _ x0 x1).trans ?_
    refine congr (congrArg (Heads.head · _) (congrArg (Heads.turn _ _) (congrArg (Heads.rms · _) (funext fun d => ?_)))) (funext fun j => congrArg (fun d => Z (ix2 j d)) (Fin.ext hd.symm))
    exact View.ld_unit_apply_of _ _ _ _ _ _ (by intro a; fin_cases a; exacts [(Nat.zero_add _).symm, congrArg (· + d.val) hq])
  case piece3 =>
    subst hy
    idx_vars x
    obtain rfl : x0 = r := Fin.ext h0.symm
    have hq : c.val / 128 * 128 = 0 := by omega
    have hd : c.val % 128 = x1.val := by omega
    refine (head0 _ _ _ _ _ _ x0 x1).trans ?_
    refine congr (congrArg (Heads.head · _) (congrArg (Heads.turn _ _) (congrArg (Heads.rms · _) (funext fun d => ?_)))) (funext fun j => congrArg (fun d => Z (ix2 j d)) (Fin.ext hd.symm))
    exact View.ld_unit_apply_of _ _ _ _ _ _ (by intro a; fin_cases a; exacts [(Nat.zero_add _).symm, congrArg (· + d.val) hq])

end

/-- A load of all the kept rows reads what was stored. -/
theorem readCov_whole {sig : RefSig} {κ : Kind} {sp : Space} (v : View sig κ sp S2560x128 .bf16) (L : List (View.Piece (Elt Ideal) S2560x128 .bf16)) :
    v.readCov L (Rect.unit (s := S2560x128) ![0, 0] ![2560, 128] inb_S2560x128_S2560x128_0_0).toLoadRect = View.canon L :=
  (View.readCov_eq_canon' v L _).trans (View.ld_unit_zero (by funext a; fin_cases a <;> rfl) inb_S2560x128_S2560x128_0_0 (View.canon L))

/-- Kept rows are read as they were left. -/
theorem read_kept {κ : Kind} (b : Ref sig κ) (h : (Memref.whole b).IsWhole) (X : b.ty.shape.Idx → Elt Ideal b.ty.elt) : View.read (Elt Ideal) (View.whole b) (h.unread X) = X :=
  h.read_unread X

section
variable (m : (ℓ : Loc nD τ sig) → Buf (Elt Ideal) ℓ) (c : Dev nD) (t : Fin cfg0.N)

/-- A group's first point keeps the keys and the values and stores its heads from them. -/
theorem outs_first (h0 : t.val % 8 = 0) : outsAt0 m c t.val t.isLt
    = (block (iblk m c 0 t) (iblk m c 5 t) (iblk m c 6 t) (iblk m c 9 t) (keptK (iblk m c 1 t) (iblk m c 3 t) (iblk m c 7 t) (iblk m c 8 t) (iblk m c 10 t))
        (keptV (iblk m c 2 t) (iblk m c 4 t)),
      keptK (iblk m c 1 t) (iblk m c 3 t) (iblk m c 7 t) (iblk m c 8 t) (iblk m c 10 t), keptV (iblk m c 2 t) (iblk m c 4 t)) := by
  rw [outsAt0_A m c t h0]
  refine Prod.ext ?_ (Prod.ext ?_ ?_)
  · frame_out
    simp only [readCov_whole]
  · frame_out
  · frame_out

/-- A later point of the group reads what is kept and leaves it. -/
theorem outs_later (h0 : ¬t.val % 8 = 0) (n : ℕ) (hn : t.val = n + 1) (Y Z : Vec Ideal S2560x128 .bf16)
    (hY : (outsAt0 m c n (by have := t.isLt; omega)).2.1 = Y) (hZ : (outsAt0 m c n (by have := t.isLt; omega)).2.2 = Z) :
    outsAt0 m c t.val t.isLt = (block (iblk m c 0 t) (iblk m c 5 t) (iblk m c 6 t) (iblk m c 9 t) Y Z, Y, Z) := by
  have e : t.val - 1 = n := by omega
  subst e
  rw [outsAt0_B m c t h0]
  refine Prod.ext ?_ (Prod.ext ?_ ?_)
  · frame_out
    rw [read_kept, read_kept, hY, hZ]
  · dsimp only
    unfold sout0_B_0
    exact hY
  · dsimp only
    unfold sout0_B_1
    exact hZ

end

end Cert.Lat

end
-- ==== Proof.LatReference.lean ====
/- The samples' attention in closed form, and that the reference computes it. -/
module

public import proofs.«01_k».proof.Proof.Gen.LatReferenceIdeal.Run
public import proofs.«01_k».proof.Proof.Gen.LatReferenceIdeal.Read
public import proofs.«01_k».proof.Proof.Heads

@[expose] public section

set_option maxRecDepth 16384

noncomputable section

namespace Cert.LatCall

open Idealize.ShloMosaic Idealize.ShloMosaic.TcCoe Idealize.SL.Sem
open Cert.LatReferenceIdeal Cert.LatReferenceIdeal.Gen Cert.LatReferenceIdeal.Read

variable (p : FVec Ideal S16384x3584 .f32) (ck cv : FVec Ideal S4x2x512x2x128 .f32) (q g : FVec Ideal S2x128 .f32)

/-- Token `t` of sample `b` among the samples' rows. -/
def token (b : Fin 4) (t : Fin 2048) : Fin 8192 := ⟨b.val * 2048 + t.val, by omega⟩

/-- A samples' row among all rows. -/
def row (R : Fin 8192) : Fin 16384 := ⟨8192 + R.val, by omega⟩

/-- The angles a token's pairs of lanes are rotated by: the reference's table, of the token's row and column on the grid. -/
def angle (t : Fin 2048) (i : Fin 64) : EReal := val_main_v25 (F := Ideal) (ix2 t i)

/-- A head's row rotated by its token's angles. -/
def rotated (t : Fin 2048) (x : Fin 128 → EReal) : Fin 128 → EReal :=
  Heads.rope (fun i => Ideal.cos (angle t i)) (fun i => Ideal.sin (angle t i)) x

/-- Head `h`'s normalised query of row `R`, not yet rotated. -/
def plainQ (R : Fin 8192) (h : Fin 8) : Fin 128 → EReal :=
  Heads.rms (fun d => p (ix2 (row R) ⟨2048 + (h.val * 128 + d.val), by omega⟩)) fun d => q (ix2 0 d)

/-- Head `h`'s normalised key of row `R`, not yet rotated. -/
def plainK (R : Fin 8192) (h : Fin 2) : Fin 128 → EReal :=
  Heads.rms (fun d => p (ix2 (row R) ⟨3072 + (h.val * 128 + d.val), by omega⟩)) fun d => g (ix2 0 d)

/-- Head `h`'s query of token `t` of sample `b`. -/
def query (b : Fin 4) (t : Fin 2048) (h : Fin 8) : Fin 128 → EReal := rotated t (plainQ p q (token b t) h)

/-- Head `h`'s keys of sample `b`: its tokens', then the cached ones. -/
def key (b : Fin 4) (h : Fin 2) (j : Fin 2560) (d : Fin 128) : EReal :=
  if hj : j.val < 2048 then rotated ⟨j.val, hj⟩ (plainK p g (token b ⟨j.val, hj⟩) h) d else ck (ix5 b 0 ⟨j.val - 2048, by omega⟩ h d)

/-- Head `h`'s values of sample `b`: its tokens', then the cached ones. -/
def value (b : Fin 4) (h : Fin 2) (j : Fin 2560) (d : Fin 128) : EReal :=
  if hj : j.val < 2048 then p (ix2 (row (token b ⟨j.val, hj⟩)) ⟨3328 + (h.val * 128 + d.val), by omega⟩) else cv (ix5 b 0 ⟨j.val - 2048, by omega⟩ h d)

/-- The attention of row `R` at channel `C`: its query head over the keys and values of its sample. -/
def attend (R : Fin 8192) (C : Fin 1024) : EReal :=
  Heads.head (query p q ⟨R.val / 2048, by omega⟩ ⟨R.val % 2048, by omega⟩ ⟨C.val / 128, by omega⟩) (key p ck g ⟨R.val / 2048, by omega⟩ ⟨C.val / 512, by omega⟩)
    fun j => value p cv ⟨R.val / 2048, by omega⟩ ⟨C.val / 512, by omega⟩ j ⟨C.val % 128, by omega⟩

/-- The attention of the samples. -/
def heads : FVec Ideal S8192x1024 .bf16 := fun y => attend p ck cv q g ⟨(y 0).val, (y 0).isLt⟩ ⟨(y 1).val, (y 1).isLt⟩

/-- A maximum over the keys, at an index. -/
theorem fold_max (z : FVec Ideal S4x2x4x2048x2560 .f32) (b : Fin 4) (k : Fin 2) (a : Fin 4) (t : Fin 2048) :
    Host.reduce FloatOps.maximumf z (val_main_cst_8 (F := Ideal)) reducesTo_S4x2x4x2048x2560_S4x2x4x2048_d4 h_S_ (ix4 b k a t)
      = Finset.fold max (Ideal.ofBits FTy.f32 0xFF800000#32) (fun s => z (ix5 b k a t s)) Finset.univ := by
  rw [Host.reduce_eq_fold_single FloatOps.maximumf z _ reducesTo_S4x2x4x2048x2560_S4x2x4x2048_d4 (by decide)]
  refine congrArg (fun f : Fin 2560 → EReal => Finset.fold max (Ideal.ofBits FTy.f32 0xFF800000#32) f Finset.univ) (funext fun s => ?_)
  exact congrArg z (funext fun a => Fin.ext (by match a with | ⟨0, _⟩ => rfl | ⟨1, _⟩ => rfl | ⟨2, _⟩ => rfl | ⟨3, _⟩ => rfl | ⟨4, _⟩ => rfl))

/-- The rotation, its two lanes of a pair read apart. -/
theorem pairs (c s : Fin 64 → EReal) (x : Fin 128 → EReal) (d : Fin 128) :
    (if _ : d.val % 2 < 1 then
        x ⟨d.val / 2 * 2, by omega⟩ * c ⟨d.val / 2, by omega⟩ - x ⟨d.val / 2 * 2 + 1, by omega⟩ * s ⟨d.val / 2, by omega⟩
      else x ⟨d.val / 2 * 2, by omega⟩ * s ⟨d.val / 2, by omega⟩ + x ⟨d.val / 2 * 2 + 1, by omega⟩ * c ⟨d.val / 2, by omega⟩) = Heads.rope c s x d := by
  unfold Heads.rope
  by_cases h : d.val % 2 = 0
  · have e0 : (⟨d.val / 2 * 2, by omega⟩ : Fin 128) = d := Fin.ext (by show d.val / 2 * 2 = d.val; omega)
    have e1 : (⟨d.val / 2 * 2 + 1, by omega⟩ : Fin 128) = ⟨(d.val + 1) % 128, by omega⟩ := Fin.ext (by show d.val / 2 * 2 + 1 = (d.val + 1) % 128; omega)
    rw [if_pos h, dif_pos (by omega), e0, e1]
  · have e0 : (⟨d.val / 2 * 2, by omega⟩ : Fin 128) = ⟨d.val - 1, by omega⟩ := Fin.ext (by show d.val / 2 * 2 = d.val - 1; omega)
    have e1 : (⟨d.val / 2 * 2 + 1, by omega⟩ : Fin 128) = d := Fin.ext (by show d.val / 2 * 2 + 1 = d.val; omega)
    rw [if_neg h, dif_neg (by omega), e0, e1]

theorem ten_thousand : Ideal.ofBits FTy.f32 0x461C4000#32 = ((10000 : ℝ) : EReal) := by
  simp [Ideal.ofBits, Ideal.ieee]
  rw [← EReal.coe_mul]
  norm_num

theorem thirty_two : Ideal.ofBits FTy.f32 0x42000000#32 = ((32 : ℝ) : EReal) := by
  simp [Ideal.ofBits, Ideal.ieee]
  rw [← EReal.coe_mul]
  norm_num

section
variable (b : Fin 4) (t : Fin 2048)

theorem raw_q (h : Fin 8) (d : Fin 128) : val_main_v31 (F := Ideal) p (ix4 b t h d) = p (ix2 (row (token b t)) ⟨2048 + (h.val * 128 + d.val), by omega⟩) := by
  unfold val_main_v31 val_main_v30 val_main_v29 val_main_v28
  pointwise []
  rfl

theorem raw_k (h : Fin 2) (d : Fin 128) : val_main_v48 (F := Ideal) p (ix4 b t h d) = p (ix2 (row (token b t)) ⟨3072 + (h.val * 128 + d.val), by omega⟩) := by
  unfold val_main_v48 val_main_v47 val_main_v29 val_main_v28
  pointwise []
  rfl

theorem raw_v (h : Fin 2) (d : Fin 128) : val_main_v65 (F := Ideal) p (ix4 b t h d) = p (ix2 (row (token b t)) ⟨3328 + (h.val * 128 + d.val), by omega⟩) := by
  unfold val_main_v65 val_main_v64 val_main_v29 val_main_v28
  pointwise []
  rfl

theorem norm_q (h : Fin 8) (d : Fin 128) : val_main_v46 (F := Ideal) p q (ix4 b t h d) = plainQ p q (token b t) h d := by
  unfold val_main_v46 val_main_v45 val_main_v44 val_main_v43 val_main_v42 val_main_v41 val_main_v40 val_main_v39 val_main_v38 val_main_v37 val_main_v36 val_main_v35
    val_main_v34 val_main_v33 val_main_v32 val_main_cst_3 val_main_cst_2 val_main_cst_1
  pointwise []
  simp only [raw_q]
  rfl

theorem norm_k (h : Fin 2) (d : Fin 128) : val_main_v63 (F := Ideal) p g (ix4 b t h d) = plainK p g (token b t) h d := by
  unfold val_main_v63 val_main_v62 val_main_v61 val_main_v60 val_main_v59 val_main_v58 val_main_v57 val_main_v56 val_main_v55 val_main_v54 val_main_v53 val_main_v52
    val_main_v51 val_main_v50 val_main_v49 val_main_cst_6 val_main_cst_5 val_main_cst_4
  pointwise []
  simp only [raw_k]
  rfl

theorem even_q (h : Fin 8) (i : Fin 64) : val_main_v77 (F := Ideal) p q (ix4 b t h i)
    = plainQ p q (token b t) h ⟨i.val * 2, by omega⟩ * Ideal.cos (angle t i) - plainQ p q (token b t) h ⟨i.val * 2 + 1, by omega⟩ * Ideal.sin (angle t i) := by
  unfold val_main_v77 val_main_v76 val_main_v75 val_main_v74 val_main_v73 val_main_v72 val_main_v71 val_main_v70 val_main_v69 val_main_v68 val_main_v67 val_main_v66
    val_main_v27 val_main_v26
  pointwise []
  simp only [norm_q]
  rfl

theorem odd_q (h : Fin 8) (i : Fin 64) : val_main_v82 (F := Ideal) p q (ix4 b t h i)
    = plainQ p q (token b t) h ⟨i.val * 2, by omega⟩ * Ideal.sin (angle t i) + plainQ p q (token b t) h ⟨i.val * 2 + 1, by omega⟩ * Ideal.cos (angle t i) := by
  unfold val_main_v82 val_main_v81 val_main_v80 val_main_v79 val_main_v78 val_main_v72 val_main_v71 val_main_v70 val_main_v69 val_main_v68 val_main_v67 val_main_v66
    val_main_v27 val_main_v26
  pointwise []
  simp only [norm_q]
  rfl

theorem rot_q (h : Fin 8) (d : Fin 128) : val_main_v86 (F := Ideal) p q (ix4 b t h d) = query p q b t h d := by
  unfold val_main_v86 val_main_v85 val_main_v84 val_main_v83
  pointwise []
  unfold query rotated
  rw [← pairs]
  simp only [even_q, odd_q]

theorem even_k (h : Fin 2) (i : Fin 64) : val_main_v99 (F := Ideal) p g (ix4 b t h i)
    = plainK p g (token b t) h ⟨i.val * 2, by omega⟩ * Ideal.cos (angle t i) - plainK p g (token b t) h ⟨i.val * 2 + 1, by omega⟩ * Ideal.sin (angle t i) := by
  unfold val_main_v99 val_main_v98 val_main_v97 val_main_v96 val_main_v95 val_main_v94 val_main_v93 val_main_v92 val_main_v91 val_main_v90 val_main_v89 val_main_v88
    val_main_v27 val_main_v26
  pointwise []
  simp only [norm_k]
  rfl

theorem odd_k (h : Fin 2) (i : Fin 64) : val_main_v104 (F := Ideal) p g (ix4 b t h i)
    = plainK p g (token b t) h ⟨i.val * 2, by omega⟩ * Ideal.sin (angle t i) + plainK p g (token b t) h ⟨i.val * 2 + 1, by omega⟩ * Ideal.cos (angle t i) := by
  unfold val_main_v104 val_main_v103 val_main_v102 val_main_v101 val_main_v100 val_main_v94 val_main_v93 val_main_v92 val_main_v91 val_main_v90 val_main_v89 val_main_v88
    val_main_v27 val_main_v26
  pointwise []
  simp only [norm_k]
  rfl

theorem rot_k (h : Fin 2) (d : Fin 128) : val_main_v108 (F := Ideal) p g (ix4 b t h d) = rotated t (plainK p g (token b t) h) d := by
  unfold val_main_v108 val_main_v107 val_main_v106 val_main_v105
  pointwise []
  unfold rotated
  rw [← pairs]
  simp only [even_k, odd_k]

theorem read_q (k : Fin 2) (a : Fin 4) (d : Fin 128) : val_main_v87 (F := Ideal) p q (ix5 b t k a d) = query p q b t ⟨k.val * 4 + a.val, by omega⟩ d := by
  unfold val_main_v87
  pointwise []
  rw [rot_q]

theorem read_k (h : Fin 2) (j : Fin 2560) (d : Fin 128) : val_main_v111 (F := Ideal) p ck g (ix4 b j h d) = key p ck g b h j d := by
  unfold val_main_v111 val_main_v110 val_main_v109
  pointwise []
  simp only [rot_k]
  rfl

theorem read_v (h : Fin 2) (j : Fin 2560) (d : Fin 128) : val_main_v114 (F := Ideal) p cv (ix4 b j h d) = value p cv b h j d := by
  unfold val_main_v114 val_main_v113 val_main_v112
  pointwise []
  simp only [raw_v]
  rfl

/-- An angle is real: a whole number times a power of ten thousand. -/
theorem angle_real (i : Fin 64) : Heads.Real' (angle t i) := by
  have hz : ∀ b : BitVec 32, Heads.Real' (FloatOps.sitofp (F := Ideal) FTy.f32 b) := fun b => ⟨((b.toInt : ℤ) : ℝ), rfl⟩
  have hp : ∀ b : BitVec 32, Heads.Real' (Ideal.pow (Ideal.ofBits FTy.f32 1176256512#32) (Ideal.div (-FloatOps.sitofp (F := Ideal) FTy.f32 b) (Ideal.ofBits FTy.f32 1107296256#32))) := fun b => by
    obtain ⟨x, hx⟩ := hz b
    rw [hx, ten_thousand, thirty_two]
    have h0 : ((32 : ℝ) : EReal) ≠ 0 := by exact_mod_cast (by norm_num : (32 : ℝ) ≠ 0)
    unfold Ideal.div
    rw [if_neg h0, ← EReal.coe_neg, ← EReal.coe_inv, ← EReal.coe_mul]
    exact ⟨_, rfl⟩
  unfold angle val_main_v25 val_main_v24 val_main_v23 val_main_v22 val_main_v21 val_main_v20 val_main_v19 val_main_v18 val_main_v17 val_main_v16 val_main_v15
    val_main_v14 val_main_v13 val_main_v12 val_main_v11 val_main_v10 val_main_v9 val_main_v8 val_main_v7 val_main_v6 val_main_v5 val_main_v4 val_main_v3 val_main_v2 val_main_v1 val_main_v0
    val_main_cst_0 val_main_cst
  pointwise []
  split
  · exact Heads.real_mul (hz _) (hp _)
  · exact Heads.real_mul (hz _) (hp _)

theorem cos_real (i : Fin 64) : Heads.Real' (Ideal.cos (angle t i)) := by
  obtain ⟨x, hx⟩ := angle_real t i
  rw [hx]
  exact ⟨_, rfl⟩

theorem sin_real (i : Fin 64) : Heads.Real' (Ideal.sin (angle t i)) := by
  obtain ⟨x, hx⟩ := angle_real t i
  rw [hx]
  exact ⟨_, rfl⟩

theorem query_real (hq : ∀ d, Heads.Real' (q (ix2 0 d))) (h : Fin 8) (d : Fin 128) : Heads.Real' (query p q b t h d) :=
  Heads.rope_real _ _ _ (cos_real t) (sin_real t) (Heads.rms_real _ _ hq) d

theorem key_real (hg : ∀ d, Heads.Real' (g (ix2 0 d))) (hc : ∀ b s h d, Heads.Real' (ck (ix5 b 0 s h d))) (h : Fin 2) (j : Fin 2560) (d : Fin 128) :
    Heads.Real' (key p ck g b h j d) := by
  unfold key
  split
  · exact Heads.rope_real _ _ _ (cos_real _) (sin_real _) (Heads.rms_real _ _ hg) d
  · exact hc _ _ _ _

variable (k : Fin 2) (a : Fin 4)

/-- The scores of a query, as one function of the key. -/
abbrev scores : Fin 2560 → EReal :=
  Heads.score (query p q b t ⟨k.val * 4 + a.val, by omega⟩) (key p ck g b k)

theorem read_score (s : Fin 2560) : val_main_v118 (F := Ideal) p ck q g (ix5 b k a t s) = scores p ck q g b t k a s := by
  unfold val_main_v118 val_main_v117 val_main_v116 val_main_v115 val_main_cst_7
  pointwise []
  simp only [read_q, read_k]
  exact (Heads.score_eq (query p q b t ⟨k.val * 4 + a.val, by omega⟩) (key p ck g b k) s).symm

theorem read_top : val_main_v121 (F := Ideal) p ck q g (ix4 b k a t) = Heads.top (scores p ck q g b t k a) := by
  rw [val_main_v121_apply, val_main_v120_apply, val_main_cst_9_apply]
  unfold val_main_v119
  rw [fold_max]
  simp only [read_score]
  show max (Ideal.ofBits FTy.f32 0xFF800000#32) _ = _
  rw [Heads.start_bot, max_eq_right bot_le]
  exact congrArg (fun z => Finset.fold max z _ _) Heads.start_bot.symm

theorem read_weight (s : Fin 2560) : val_main_v125 (F := Ideal) p ck q g (ix5 b k a t s) = Heads.weight (scores p ck q g b t k a) s := by
  unfold val_main_v125 val_main_v124 val_main_v123 val_main_v122
  pointwise []
  rw [read_score, read_top]
  rfl

theorem read_share (s : Fin 2560) : val_main_v129 (F := Ideal) p ck q g (ix5 b k a t s)
    = Ideal.div (Heads.weight (scores p ck q g b t k a) s) (∑ j, Heads.weight (scores p ck q g b t k a) j) := by
  unfold val_main_v129 val_main_v128 val_main_v127 val_main_v126 val_main_cst_10
  pointwise []
  simp only [read_weight]

theorem read_o (d : Fin 128) (hq : ∀ d, Heads.Real' (q (ix2 0 d))) (hg : ∀ d, Heads.Real' (g (ix2 0 d))) (hc : ∀ b s h d, Heads.Real' (ck (ix5 b 0 s h d))) :
    val_main_v130 (F := Ideal) p ck cv q g (ix5 b k d a t)
    = Heads.head (query p q b t ⟨k.val * 4 + a.val, by omega⟩) (key p ck g b k) fun j => value p cv b k j d := by
  unfold val_main_v130
  pointwise []
  simp only [read_share, read_v]
  exact (Heads.head_eq _ _ _ (query_real p q b t hq _) fun j => key_real p ck g b hg hc k j).symm

end

/-- The reference's attention. -/
theorem result (hq : ∀ d, Heads.Real' (q (ix2 0 d))) (hg : ∀ d, Heads.Real' (g (ix2 0 d))) (hc : ∀ b s h d, Heads.Real' (ck (ix5 b 0 s h d))) :
    val_main_v133 (F := Ideal) p ck cv q g = heads p ck cv q g := by
  funext y
  idx_vars y
  show val_main_v133 (F := Ideal) p ck cv q g (ix2 y0 y1) = _
  unfold val_main_v133 val_main_v132 val_main_v131
  pointwise []
  rw [read_o _ _ _ _ _ _ _ _ _ _ hq hg hc]
  unfold heads attend
  have h1 : y1.val / 512 * 4 + y1.val / 128 % 4 = y1.val / 128 := by omega
  simp only [h1]
  rfl

end Cert.LatCall

end
-- ==== Proof.LatCall.lean ====
/- The samples' attention: its runs, the array it leaves, and that the reference's result is the same when the norms' weights and the cached keys are finite. -/
module

public import proofs.«01_k».proof.Defs
public import proofs.«01_k».proof.Proof.Gen.Lat.Frame
public import proofs.«01_k».proof.Proof.Gen.LatIdeal.Value
public import proofs.«01_k».proof.Proof.Gen.Pre_finite_lat
public import proofs.«01_k».proof.Proof.Lat
public import proofs.«01_k».proof.Proof.LatReference
public import Idealize.ShloMosaic.Lib.Claim
public import Idealize.ShloMosaic.Lib.Quiescent

@[expose] public section

set_option maxRecDepth 16384

noncomputable section

namespace Cert.LatCall

open Idealize.ShloMosaic Idealize.ShloMosaic.TcCoe Idealize.SL.Sem

instance : Cert.Lat.Facts := Cert.Lat.Gen.facts
instance : Cert.LatIdeal.Facts := Cert.LatIdeal.Gen.facts
instance : Cert.LatReferenceIdeal.Facts := Cert.LatReferenceIdeal.Gen.facts
instance : Cert.Pre_finite_lat.Facts := Cert.Pre_finite_lat.Gen.facts

/-- The call terminates, leaves its arguments as they were and every counter at zero. -/
theorem frame_P : Cert.quiescent_Lat := fun m ρ _ => Cert.Lat.Gen.frame m ρ

/-- The same over the extended reals. -/
theorem frame_PI : Cert.quiescent_LatIdeal := fun m ρ _ => Cert.LatIdeal.Gen.frame m ρ

/-- The same where the norms' weights and the cached keys are finite. -/
theorem frame_PI_finite : Cert.quiescent_LatIdeal_pre_finite_lat := fun m ρ _ => Cert.LatIdeal.Gen.frame m ρ

/-- The same of the reference over the extended reals, which has no counter. -/
theorem frame_RI : Cert.quiescent_LatReferenceIdeal := fun m ρ _ =>
  (θ_run _ _ _).mono (fun r h => ⟨fun c => (h c).2, sem_eq_zero_of_no_sems (by decide) r.2⟩)
    (Cert.LatReferenceIdeal.Value.run m ρ)

/-- The same where the norms' weights and the cached keys are finite. -/
theorem frame_RI_finite : Cert.quiescent_LatReferenceIdeal_pre_finite_lat := fun m ρ _ => frame_RI m ρ trivial

/-- No operation was rewritten for the extended reals. -/
theorem preserves : Cert.preserves_Lat_LatIdeal := trivial

section
open Cert.LatIdeal Cert.LatIdeal.Gen

variable (m : (ℓ : Loc nD τ sig) → Buf (Elt Ideal) ℓ) (c : Dev nD)

/-- Each window's block at a grid point: a sample, a group of heads and a group of rows. -/
theorem idx : ∀ t : Fin cfg0.N, win0_0.index t = ![32 + (t.val / 16 * 8 + t.val % 8), 4 + t.val / 8 % 2] ∧ win0_1.index t = ![4 + t.val / 16, 24 + t.val / 8 % 2]
    ∧ win0_2.index t = ![4 + t.val / 16, 26 + t.val / 8 % 2] ∧ win0_3.index t = ![t.val / 16, 0, t.val / 8 % 2] ∧ win0_4.index t = ![t.val / 16, 0, t.val / 8 % 2]
    ∧ win0_5.index t = ![t.val % 8, 0] ∧ win0_6.index t = ![t.val % 8, 0] ∧ win0_7.index t = ![0, 0] ∧ win0_8.index t = ![0, 0]
    ∧ win0_9.index t = ![0, 0] ∧ win0_10.index t = ![0, 0] ∧ win0_11.index t = ![t.val / 16 * 8 + t.val % 8, t.val / 8 % 2] ∧ t.val < 64 :=
  (by decide +kernel : ∀ t : Fin grid0.N, _)

/-- The weights of the queries' norm as a row. -/
theorem gain_q (d : Fin 128) : (V m c main_v48 : FVec Ideal S1x128 .f32) (ix2 0 d) = m (c, Proc.tc.devRef main_arg3) (ix2 0 d) := by
  have h : (V m c main_v48 : FVec Ideal S1x128 .f32) = shapeCast S1x128 (shapeCast S128 (extractStridedSlice S1x128 ![0, 0] (m (c, Proc.tc.devRef main_arg3)) slices_S2x128_S1x128_0_0) shapeCasts_S1x128_S128) shapeCasts_S128_S1x128 := by
    entry_read; rfl
  rw [h]; pointwise []

/-- The weights of the keys' norm as a row. -/
theorem gain_k (d : Fin 128) : (V m c main_v49 : FVec Ideal S1x128 .f32) (ix2 0 d) = m (c, Proc.tc.devRef main_arg4) (ix2 0 d) := by
  have h : (V m c main_v49 : FVec Ideal S1x128 .f32) = shapeCast S1x128 (shapeCast S128 (extractStridedSlice S1x128 ![0, 0] (m (c, Proc.tc.devRef main_arg4)) slices_S2x128_S1x128_0_0) shapeCasts_S1x128_S128) shapeCasts_S128_S1x128 := by
    entry_read; rfl
  rw [h]; pointwise []

/-- A layer's cache with its heads side by side. -/
theorem cache (x : FVec Ideal S4x2x512x2x128 .f32) (b : Fin 4) (s : Fin 512) (h : Fin 2) (d : Fin 128) :
    shapeCast S4x512x256 (shapeCast S4x512x2x128 (extractStridedSlice S4x1x512x2x128 ![0, 0, 0, 0, 0] x slices_S4x2x512x2x128_S4x1x512x2x128_0_0_0_0_0) shapeCasts_S4x1x512x2x128_S4x512x2x128)
      shapeCasts_S4x512x2x128_S4x512x256 (ix3 b s ⟨h.val * 128 + d.val, by omega⟩) = x (ix5 b 0 s h d) := by
  pointwise []

theorem cache_k (b : Fin 4) (s : Fin 512) (h : Fin 2) (d : Fin 128) :
    (V m c main_v40 : FVec Ideal S4x512x256 .f32) (ix3 b s ⟨h.val * 128 + d.val, by omega⟩) = m (c, Proc.tc.devRef main_arg1) (ix5 b 0 s h d) := by
  refine Eq.trans ?_ (cache (m (c, Proc.tc.devRef main_arg1)) b s h d)
  refine congrFun ?_ _
  entry_read; rfl

theorem cache_v (b : Fin 4) (s : Fin 512) (h : Fin 2) (d : Fin 128) :
    (V m c main_v43 : FVec Ideal S4x512x256 .f32) (ix3 b s ⟨h.val * 128 + d.val, by omega⟩) = m (c, Proc.tc.devRef main_arg2) (ix5 b 0 s h d) := by
  refine Eq.trans ?_ (cache (m (c, Proc.tc.devRef main_arg2)) b s h d)
  refine congrFun ?_ _
  entry_read; rfl

/-- The table of cosines: each lane's, its pair's. -/
theorem cosines (t : Fin 2048) (d : Fin 128) : (V m c main_v28 : FVec Ideal S2048x128 .f32) (ix2 t d) = Ideal.cos (angle t ⟨d.val / 2, by omega⟩) := by
  have h : (V m c main_v28 : FVec Ideal S2048x128 .f32) = (shapeCast S2048x128 (broadcastInDim S2048x64x2 ![0, 1] bcast_S2048x64_S2048x64x2_0_1
      (Host.cos (Cert.LatReferenceIdeal.Read.val_main_v25 (F := Ideal)) : FVec Ideal S2048x64 .f32)) shapeCasts_S2048x64x2_S2048x128 : FVec Ideal S2048x128 .f32) := by
    entry_read; rfl
  rw [h]
  pointwise []
  rfl

/-- The signs of the table of sines. -/
theorem signs (d : Fin 128) : Ideal.ofBits FTy.f32 (lit0 (S2.rowMajor (ix1 (⟨d.val % 2, by omega⟩ : Fin 2)))) = Heads.sign d := by
  have h : ∀ d : Fin 128, lit0 (S2.rowMajor (ix1 (⟨d.val % 2, by omega⟩ : Fin 2))) = if d.val % 2 = 0 then 0xBF800000#32 else 0x3F800000#32 := by decide +kernel
  rw [h d]
  unfold Heads.sign
  split
  · rfl
  · rfl

/-- The table of sines: each lane's, its pair's with the lane's sign. -/
theorem sines (t : Fin 2048) (d : Fin 128) : (V m c main_v37 : FVec Ideal S2048x128 .f32) (ix2 t d) = Ideal.sin (angle t ⟨d.val / 2, by omega⟩) * Heads.sign d := by
  have h : (V m c main_v37 : FVec Ideal S2048x128 .f32) = mulf (shapeCast S2048x128 (broadcastInDim S2048x64x2 ![0, 1] bcast_S2048x64_S2048x64x2_0_1
      (Host.sin (Cert.LatReferenceIdeal.Read.val_main_v25 (F := Ideal)))) shapeCasts_S2048x64x2_S2048x128)
      (broadcastInDim S2048x128 ![0, 1] bcast_S1x128_S2048x128_0_1 (broadcastInDim S1x128 ![1] bcast_S128_S1x128_1 (shapeCast S128 (broadcastInDim S64x2 ![0, 1] bcast_S1x2_S64x2_0_1
        (shapeCast S1x2 (fun i => FloatOps.ofBits FTy.f32 (lit0 (S2.rowMajor i)) : FVec Ideal S2 .f32) shapeCasts_S2_S1x2)) shapeCasts_S64x2_S128))) := by
    entry_read; rfl
  rw [h, ← signs]
  pointwise []
  rfl

section
variable (t : Fin cfg0.N)

theorem rd_q (r : Fin 256) (C : Fin 512) (R : Fin 16384) (D : Fin 3584) (hR : R.val = 8192 + ((t.val / 16 * 8 + t.val % 8) * 256 + r.val)) (hD : D.val = 2048 + (t.val / 8 % 2 * 512 + C.val)) :
    (iblk m c 0 t : FVec Ideal S256x512 .f32) (ix2 r C) = m ((c : Thread nD τ).loc main_arg0) (ix2 R D) := by
  blk_ext [iblk, V, idx t]

theorem rd_k (r : Fin 2048) (d : Fin 128) (R : Fin 16384) (D : Fin 3584) (hR : R.val = 8192 + (t.val / 16 * 2048 + r.val)) (hD : D.val = 3072 + (t.val / 8 % 2 * 128 + d.val)) :
    (iblk m c 1 t : FVec Ideal S2048x128 .f32) (ix2 r d) = m ((c : Thread nD τ).loc main_arg0) (ix2 R D) := by
  blk_ext [iblk, V, idx t]

theorem rd_v (r : Fin 2048) (d : Fin 128) (R : Fin 16384) (D : Fin 3584) (hR : R.val = 8192 + (t.val / 16 * 2048 + r.val)) (hD : D.val = 3328 + (t.val / 8 % 2 * 128 + d.val)) :
    (iblk m c 2 t : FVec Ideal S2048x128 .f32) (ix2 r d) = m ((c : Thread nD τ).loc main_arg0) (ix2 R D) := by
  blk_ext [iblk, V, idx t]

theorem rd_ck (s : Fin 512) (d : Fin 128) (b : Fin 4) (h : Fin 2) (hb : b.val = t.val / 16) (hh : h.val = t.val / 8 % 2) :
    (iblk m c 3 t : FVec Ideal S1x512x128 .f32) (ix3 0 s d) = m ((c : Thread nD τ).loc main_arg1) (ix5 b 0 s h d) := by
  refine Eq.trans ?_ (cache_k m c b s h d)
  blk_ext [iblk, idx t]

theorem rd_cv (s : Fin 512) (d : Fin 128) (b : Fin 4) (h : Fin 2) (hb : b.val = t.val / 16) (hh : h.val = t.val / 8 % 2) :
    (iblk m c 4 t : FVec Ideal S1x512x128 .f32) (ix3 0 s d) = m ((c : Thread nD τ).loc main_arg2) (ix5 b 0 s h d) := by
  refine Eq.trans ?_ (cache_v m c b s h d)
  blk_ext [iblk, idx t]

theorem rd_cos (r : Fin 256) (d : Fin 128) (T : Fin 2048) (hT : T.val = t.val % 8 * 256 + r.val) : (iblk m c 5 t : FVec Ideal S256x128 .f32) (ix2 r d) = Ideal.cos (angle T ⟨d.val / 2, by omega⟩) := by
  refine Eq.trans ?_ (cosines m c T d)
  blk_ext [iblk, idx t]

theorem rd_sin (r : Fin 256) (d : Fin 128) (T : Fin 2048) (hT : T.val = t.val % 8 * 256 + r.val) :
    (iblk m c 6 t : FVec Ideal S256x128 .f32) (ix2 r d) = Ideal.sin (angle T ⟨d.val / 2, by omega⟩) * Heads.sign d := by
  refine Eq.trans ?_ (sines m c T d)
  blk_ext [iblk, idx t]

theorem rd_cosK (r : Fin 2048) (d : Fin 128) : (iblk m c 7 t : FVec Ideal S2048x128 .f32) (ix2 r d) = Ideal.cos (angle r ⟨d.val / 2, by omega⟩) := by
  refine Eq.trans ?_ (cosines m c r d)
  blk_ext [iblk, idx t]

theorem rd_sinK (r : Fin 2048) (d : Fin 128) : (iblk m c 8 t : FVec Ideal S2048x128 .f32) (ix2 r d) = Ideal.sin (angle r ⟨d.val / 2, by omega⟩) * Heads.sign d := by
  refine Eq.trans ?_ (sines m c r d)
  blk_ext [iblk, idx t]

theorem rd_gq (d : Fin 128) : (iblk m c 9 t : FVec Ideal S1x128 .f32) (ix2 0 d) = m ((c : Thread nD τ).loc main_arg3) (ix2 0 d) := by
  refine Eq.trans ?_ (gain_q m c d)
  blk_ext [iblk, idx t]

theorem rd_gk (d : Fin 128) : (iblk m c 10 t : FVec Ideal S1x128 .f32) (ix2 0 d) = m ((c : Thread nD τ).loc main_arg4) (ix2 0 d) := by
  refine Eq.trans ?_ (gain_k m c d)
  blk_ext [iblk, idx t]

/-- A rotation by the tables' rows is the rotation by the token's angles. -/
theorem turned (T : Fin 2048) (C S x y : Fin 128 → EReal) (hC : ∀ d, C d = Ideal.cos (angle T ⟨d.val / 2, by omega⟩))
    (hS : ∀ d, S d = Ideal.sin (angle T ⟨d.val / 2, by omega⟩) * Heads.sign d) (hx : ∀ d, x d = y d) : Heads.turn C S x = rotated T y := by
  rw [funext hC, funext hS, funext hx]
  exact funext fun d => Heads.turn_eq (fun i => Ideal.cos (angle T i)) (fun i => Ideal.sin (angle T i)) y d

section
variable (b : Fin 4) (h : Fin 2) (hb : b.val = t.val / 16) (hh : h.val = t.val / 8 % 2)
include hb hh

/-- The keys a group's first point keeps. -/
theorem first_k (j : Fin 2560) (d : Fin 128) : Cert.Lat.keptK (iblk m c 1 t) (iblk m c 3 t) (iblk m c 7 t) (iblk m c 8 t) (iblk m c 10 t) (ix2 j d)
    = key (m ((c : Thread nD τ).loc main_arg0)) (m ((c : Thread nD τ).loc main_arg1)) (m ((c : Thread nD τ).loc main_arg4)) b h j d := by
  rw [Cert.Lat.keptK_at]
  unfold key
  by_cases hj : j.val < 2048
  · rw [dif_pos hj, dif_pos hj]
    refine congrFun (turned ⟨j.val, hj⟩ _ _ _ _ (fun d => rd_cosK m c t _ d) (fun d => rd_sinK m c t _ d) fun d => ?_) d
    unfold plainK row token
    refine congrFun (congrArg₂ Heads.rms (funext fun e => ?_) (funext fun e => rd_gk m c t e)) d
    exact rd_k m c t _ e _ _ (by show 8192 + (b.val * 2048 + j.val) = 8192 + (t.val / 16 * 2048 + j.val); omega) (by show 3072 + (h.val * 128 + e.val) = _; omega)
  · rw [dif_neg hj, dif_neg hj]
    exact rd_ck m c t _ d b h hb hh

/-- The values it keeps. -/
theorem first_v (j : Fin 2560) (d : Fin 128) : Cert.Lat.keptV (iblk m c 2 t) (iblk m c 4 t) (ix2 j d)
    = value (m ((c : Thread nD τ).loc main_arg0)) (m ((c : Thread nD τ).loc main_arg2)) b h j d := by
  rw [Cert.Lat.keptV_at]
  unfold value
  by_cases hj : j.val < 2048
  · rw [dif_pos hj, dif_pos hj]
    unfold row token
    exact rd_v m c t _ d _ _ (by show 8192 + (b.val * 2048 + j.val) = 8192 + (t.val / 16 * 2048 + j.val); omega) (by show 3328 + (h.val * 128 + d.val) = _; omega)
  · rw [dif_neg hj, dif_neg hj]
    exact rd_cv m c t _ d b h hb hh

end

/-- Every point stores its heads from what it leaves kept. -/
theorem outs_block : (outsAt0 m c t.val t.isLt).1
    = Cert.Lat.block (iblk m c 0 t) (iblk m c 5 t) (iblk m c 6 t) (iblk m c 9 t) (outsAt0 m c t.val t.isLt).2.1 (outsAt0 m c t.val t.isLt).2.2 := by
  by_cases h0 : t.val % 8 = 0
  · rw [Cert.Lat.outs_first m c t h0]
  · rw [Cert.Lat.outs_later m c t h0 (t.val - 1) (by omega) _ _ rfl rfl]

end

/-- The keys after a group's first point. -/
theorem kept_k (t : Fin cfg0.N) (h0 : t.val % 8 = 0) : (outsAt0 m c t.val t.isLt).2.1 = Cert.Lat.keptK (iblk m c 1 t) (iblk m c 3 t) (iblk m c 7 t) (iblk m c 8 t) (iblk m c 10 t) := by
  rw [Cert.Lat.outs_first m c t h0]

/-- The values after it. -/
theorem kept_v (t : Fin cfg0.N) (h0 : t.val % 8 = 0) : (outsAt0 m c t.val t.isLt).2.2 = Cert.Lat.keptV (iblk m c 2 t) (iblk m c 4 t) := by
  rw [Cert.Lat.outs_first m c t h0]

/-- The other points leave both as they are. -/
theorem kept_on (t : Fin cfg0.N) (h0 : ¬t.val % 8 = 0) (n : ℕ) (hn : t.val = n + 1) :
    (outsAt0 m c t.val t.isLt).2 = (outsAt0 m c n (by have := t.isLt; omega)).2 := by
  rw [Cert.Lat.outs_later m c t h0 n hn _ _ rfl rfl]

/-- After any point of a group, the group's keys and values are kept. -/
theorem kept (n : ℕ) : ∀ (t : Fin cfg0.N) (_ : t.val = n) (b : Fin 4) (h : Fin 2), b.val = t.val / 16 → h.val = t.val / 8 % 2 →
    (∀ j d, (outsAt0 m c t.val t.isLt).2.1 (ix2 j d) = key (m ((c : Thread nD τ).loc main_arg0)) (m ((c : Thread nD τ).loc main_arg1)) (m ((c : Thread nD τ).loc main_arg4)) b h j d)
    ∧ ∀ j d, (outsAt0 m c t.val t.isLt).2.2 (ix2 j d) = value (m ((c : Thread nD τ).loc main_arg0)) (m ((c : Thread nD τ).loc main_arg2)) b h j d := by
  induction n with
  | zero =>
    intro t ht b h hb hh
    have h0 : t.val % 8 = 0 := by omega
    rw [kept_k m c t h0, kept_v m c t h0]
    exact ⟨fun j d => first_k m c t b h hb hh j d, fun j d => first_v m c t b h hb hh j d⟩
  | succ n ih =>
    intro t ht b h hb hh
    by_cases h0 : t.val % 8 = 0
    · rw [kept_k m c t h0, kept_v m c t h0]
      exact ⟨fun j d => first_k m c t b h hb hh j d, fun j d => first_v m c t b h hb hh j d⟩
    · obtain ⟨hk, hv⟩ := ih ⟨n, by have := t.isLt; omega⟩ rfl b h (by show b.val = n / 16; omega) (by show h.val = n / 8 % 2; omega)
      rw [kept_on m c t h0 n ht]
      exact ⟨hk, hv⟩

/-- What a point stores. -/
theorem stored (t : Fin cfg0.N) (r : Fin 256) (C : Fin 512) (R : Fin 8192) (D : Fin 1024) (hR : R.val = (t.val / 16 * 8 + t.val % 8) * 256 + r.val) (hD : D.val = t.val / 8 % 2 * 512 + C.val) :
    (outsAt0 m c t.val t.isLt).1 (ix2 r C)
    = attend (m ((c : Thread nD τ).loc main_arg0)) (m ((c : Thread nD τ).loc main_arg1)) (m ((c : Thread nD τ).loc main_arg2)) (m ((c : Thread nD τ).loc main_arg3))
        (m ((c : Thread nD τ).loc main_arg4)) R D := by
  have hr := r.isLt
  have hC := C.isLt
  have h64 := (idx t).2.2.2.2.2.2.2.2.2.2.2.2
  obtain ⟨hk, hv⟩ := kept m c t.val t rfl ⟨R.val / 2048, by omega⟩ ⟨D.val / 512, by omega⟩ (by show R.val / 2048 = _; omega) (by show D.val / 512 = _; omega)
  rw [outs_block, Cert.Lat.block_at]
  simp only [hk, hv]
  unfold attend query plainQ row token
  have hd : (⟨C.val % 128, by omega⟩ : Fin 128) = ⟨D.val % 128, by omega⟩ := Fin.ext (by show C.val % 128 = D.val % 128; omega)
  rw [hd]
  refine congrFun (congrFun (congrArg Heads.head (turned ⟨R.val % 2048, by omega⟩ _ _ _ _ (fun d => rd_cos m c t r d _ ?_) (fun d => rd_sin m c t r d _ ?_) fun d => ?_)) _) _
  · show R.val % 2048 = _
    omega
  · show R.val % 2048 = _
    omega
  · refine congrFun (congrArg₂ Heads.rms (funext fun e => ?_) (funext fun e => rd_gq m c t e)) d
    exact rd_q m c t r _ _ _ (by show 8192 + (R.val / 2048 * 2048 + R.val % 2048) = _; omega)
      (by have := e.isLt; show 2048 + (D.val / 128 * 128 + e.val) = 2048 + (t.val / 8 % 2 * 512 + (C.val / 128 * 128 + e.val)); omega)

/-- The attention the call leaves. -/
theorem final : (dats m 0 c).arrAt 11 (cfgs 0).N
    = heads (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 11 (heads (m ((c : Thread nD τ).loc main_arg0)) (m ((c : Thread nD τ).loc main_arg1)) (m ((c : Thread nD τ).loc main_arg2))
    (m ((c : Thread nD τ).loc main_arg3)) (m ((c : Thread nD τ).loc main_arg4))) (by decide +kernel) fun t _ y => ?_
  blk_simp
  rw [after0_11]
  idx_vars y
  have h64 := (idx t).2.2.2.2.2.2.2.2.2.2.2.2
  refine (stored m c t y0 y1 ⟨(t.val / 16 * 8 + t.val % 8) * 256 + y0.val, by omega⟩ ⟨t.val / 8 % 2 * 512 + y1.val, by omega⟩ rfl rfl).trans ?_
  unfold heads
  blk_simp [idx t]

end

/-- A number whose magnitude is below infinity is real. -/
theorem real_of (x : EReal) (h : BitVec.ofBool (decide (max x (-x) < Ideal.ofBits FTy.f32 0x7F800000#32)) = 1#1) : Heads.Real' x := by
  have ht : Ideal.ofBits FTy.f32 0x7F800000#32 = ⊤ := by simp [Ideal.ofBits, Ideal.ieee]
  rw [ht] at h
  induction x with
  | bot => simp at h
  | coe r => exact ⟨r, rfl⟩
  | top => simp at h

/-- The predicate says that the first row of each norm's weights and the layer's cached keys are finite. -/
theorem finite_of (p : FVec Ideal Cert.Pre_finite_lat.S16384x3584 .f32) (ck cv : FVec Ideal Cert.Pre_finite_lat.S4x2x512x2x128 .f32) (q g : FVec Ideal Cert.Pre_finite_lat.S2x128 .f32)
    (h : (Cert.Pre_finite_lat.fn (F := Ideal) p ck cv q g).1 = (fun _ => 1#1) ∧ (Cert.Pre_finite_lat.fn (F := Ideal) p ck cv q g).2.1 = (fun _ => 1#1)
      ∧ (Cert.Pre_finite_lat.fn (F := Ideal) p ck cv q g).2.2 = fun _ => 1#1) :
    (∀ d, Heads.Real' (q (ix2 0 d))) ∧ (∀ d, Heads.Real' (g (ix2 0 d))) ∧ ∀ b s k d, Heads.Real' (ck (ix5 b 0 s k d)) := by
  refine ⟨fun d => ?_, fun d => ?_, fun b s k d => ?_⟩
  · have h1 := congrFun h.1 (ix1 d)
    unfold Cert.Pre_finite_lat.fn at h1
    dsimp only at h1
    pointwise [] at h1
    exact real_of _ h1
  · have h1 := congrFun h.2.1 (ix1 d)
    unfold Cert.Pre_finite_lat.fn at h1
    dsimp only at h1
    pointwise [] at h1
    exact real_of _ h1
  · have h1 := congrFun h.2.2 (ix4 b s k d)
    unfold Cert.Pre_finite_lat.fn at h1
    dsimp only at h1
    pointwise [] at h1
    exact real_of _ h1

/-- The call leaves the reference's result, where the norms' weights and the cached keys are finite. -/
theorem equal : Cert.algebraic_LatIdeal_LatReferenceIdeal_pre_finite_lat := fun m g m' g' hp hag =>
  ⟨fun c => (Cert.LatIdeal.Gen.dats m 0 c).arrAt 11 Cert.LatIdeal.cfg0.N, Cert.LatIdeal.Value.run_blocks m g,
    (θ_run _ _ _).mono (fun _ h c => ⟨(h c).1.trans (by
        rw [Cert.LatReferenceIdeal.Read.val_main_v133_eq]
        obtain ⟨h0, h1, h2, h3, h4⟩ := hag c
        obtain ⟨hq, hg, hc⟩ := finite_of _ _ _ _ _ (hp c)
        refine Eq.trans ?_ (final m c).symm
        exact (congr (congr (congr (congr (congrArg Cert.LatReferenceIdeal.Read.val_main_v133 h0) h1) h2) h3) h4).trans (result _ _ _ _ _ hq hg hc)), (h c).2⟩) (Cert.LatReferenceIdeal.Value.run m' g')⟩

end Cert.LatCall

end
-- ==== Proof.AdaCall.lean ====
/- The modulation of the four layers: its runs, the array it leaves, and that the reference's result is the same. -/
module

public import proofs.«01_k».proof.Defs
public import proofs.«01_k».proof.Proof.Gen.Ada.Frame
public import proofs.«01_k».proof.Proof.Gen.AdaIdeal.Value
public import proofs.«01_k».proof.Proof.Gen.AdaReferenceIdeal.Run
public import proofs.«01_k».proof.Proof.Gen.AdaReferenceIdeal.Read
public import Idealize.ShloMosaic.Lib.Pipeline.ValueKit
public import Idealize.ShloMosaic.Lib.StableHlo.RunRead
public import Idealize.ShloMosaic.Lib.Claim
public import Idealize.ShloMosaic.Lib.Quiescent

@[expose] public section

set_option maxRecDepth 16384

noncomputable section

namespace Cert.AdaCall

open Idealize.ShloMosaic Idealize.ShloMosaic.TcCoe Idealize.SL.Sem

instance : Cert.Ada.Facts := Cert.Ada.Gen.facts
instance : Cert.AdaIdeal.Facts := Cert.AdaIdeal.Gen.facts
instance : Cert.AdaReferenceIdeal.Facts := Cert.AdaReferenceIdeal.Gen.facts

/-- The call terminates, leaves its arguments as they were and every counter at zero. -/
theorem frame_P : Cert.quiescent_Ada := fun m ρ _ => Cert.Ada.Gen.frame m ρ

/-- The same over the extended reals. -/
theorem frame_PI : Cert.quiescent_AdaIdeal := fun m ρ _ => Cert.AdaIdeal.Gen.frame m ρ

/-- The same of the reference over the extended reals, which has no counter. -/
theorem frame_RI : Cert.quiescent_AdaReferenceIdeal := fun m ρ _ =>
  (θ_run _ _ _).mono (fun r h => ⟨fun c => (h c).2, sem_eq_zero_of_no_sems (by decide) r.2⟩)
    (Cert.AdaReferenceIdeal.Value.run m ρ)

/-- No operation was rewritten for the extended reals. -/
theorem preserves : Cert.preserves_Ada_AdaIdeal := trivial

section
open Cert.AdaIdeal Cert.AdaIdeal.Gen

/-- The conditions: the prompts', one for each sample, and three of zeros. -/
def cond (p : FVec Ideal S2048 .f32) (s : FVec Ideal S4x2048 .f32) : FVec Ideal S8x2048 .f32 :=
  concatenate S8x2048 0 [⟨S1x2048, broadcastInDim S1x2048 ![1] bcast_S2048_S1x2048_1 p⟩, ⟨S4x2048, s⟩,
    ⟨S3x2048, (broadcastInDim S3x2048 ![] bcast_S_S3x2048 (constant (F := Ideal) S_ .f32 0x00000000#32) : FVec Ideal S3x2048 .f32)⟩] concatenates_S1x2048_S4x2048_S3x2048_S8x2048_d0

/-- A layer's modulation of one condition: its product, after the gating, with the layer's weights, and the bias. -/
def row (z : FVec Ideal S8x2048 .f32) (w : FVec Ideal S4x2048x12288 .f32) (b : FVec Ideal S4x12288 .f32) (l : Fin 4) (i : Fin 8) (k : Fin 12288) : EReal :=
  (∑ j : Fin 2048, (z (ix2 i j) * Ideal.logistic (z (ix2 i j))) * w (ix3 l j k)) + b (ix2 l k)

/-- All of them. -/
def rows (p : FVec Ideal S2048 .f32) (s : FVec Ideal S4x2048 .f32) (w : FVec Ideal S4x2048x12288 .f32) (b : FVec Ideal S4x12288 .f32) : FVec Ideal S4x8x12288 .f32 := fun y =>
  row (cond p s) w b ⟨(y 0).val, (y 0).isLt⟩ ⟨(y 1).val, (y 1).isLt⟩ ⟨(y 2).val, (y 2).isLt⟩

/-- What a point stores, from its three blocks. -/
theorem block_apply (z : Vec Ideal S8x2048 .f32) (w : Vec Ideal S1x2048x1024 .f32) (b : Vec Ideal S1x1x1024 .f32) (i : Fin 8) (k : Fin 1024) :
    out0_3 (F := Ideal) z w b (ix3 0 i k) = ((∑ j : Fin 2048, (z (ix2 i j) * Ideal.logistic (z (ix2 i j))) * w (ix3 0 j k)) + b (ix3 0 0 k) : EReal) := by
  have ha : ∀ (a : Vec Ideal S8x2048 .f32), View.ld a r0_0 = a := fun a => View.ld_unit_zero (by funext a; fin_cases a <;> rfl) _ a
  have hb : ∀ (b : Vec Ideal S1x2048x1024 .f32), View.ld b r0_1 = b := fun b => View.ld_unit_zero (by funext a; fin_cases a <;> rfl) _ b
  have hc : ∀ (b : Vec Ideal S1x1x1024 .f32), View.ld b r0_2 = b := fun b => View.ld_unit_zero (by funext a; fin_cases a <;> rfl) _ b
  unfold out0_3
  rw [View.canon_unit_zero (by funext a; fin_cases a <;> rfl), ha, hb, hc]
  unfold k0_pay1
  pointwise []

variable (m : (ℓ : Loc nD τ sig) → Buf (Elt Ideal) ℓ) (c : Dev nD)

/-- Each window's block at a grid point. -/
theorem idx : ∀ t : Fin cfg0.N, win0_0.index t = ![0, 0] ∧ win0_1.index t = ![t.val / 12, 0, t.val % 12] ∧ win0_2.index t = ![t.val / 12, 0, t.val % 12]
    ∧ win0_3.index t = ![t.val / 12, 0, t.val % 12] ∧ t.val < 48 :=
  (by decide +kernel : ∀ t : Fin grid0.N, _)

/-- The conditions the host joins. -/
theorem conds : (V m c main_v2 : FVec Ideal S8x2048 .f32) = cond (m (c, Proc.tc.devRef main_arg0)) (m (c, Proc.tc.devRef main_arg1)) := by
  unfold V hostOps0
  after_reads_simp
  rfl

/-- The bias as a row for each layer. -/
theorem bias (l : Fin 4) (k : Fin 12288) : (V m c main_v3 : FVec Ideal S4x1x12288 .f32) (ix3 l 0 k) = m (c, Proc.tc.devRef main_arg3) (ix2 l k) := by
  have h : (V m c main_v3 : FVec Ideal S4x1x12288 .f32) = shapeCast S4x1x12288 (m (c, Proc.tc.devRef main_arg3)) shapeCasts_S4x12288_S4x1x12288 := by
    unfold V hostOps0
    after_reads_simp
    rfl
  rw [h]
  refine Idealize.ShloMosaic.shapeCast_apply (s := S4x12288) _ _ _ (ix2 l k) ?_
  refine (Shape.rowMajor_val_two _).trans (Eq.trans ?_ (Shape.rowMajor_val_three _).symm)
  show l.val * 12288 + k.val = (l.val * 1 + 0) * 12288 + k.val
  omega

section
variable (t : Fin cfg0.N) (h48 : t.val < 48) (k : Fin 1024)

theorem rd_cond (i : Fin 8) (j : Fin 2048) : (iblk m c 0 t : FVec Ideal S8x2048 .f32) (ix2 i j)
    = cond (m ((c : Thread nD τ).loc main_arg0)) (m ((c : Thread nD τ).loc main_arg1)) (ix2 i j) := by
  refine Eq.trans ?_ (congrFun (conds m c) (ix2 i j))
  blk_ext [iblk, idx t]

theorem rd_w (j : Fin 2048) : (iblk m c 1 t : FVec Ideal S1x2048x1024 .f32) (ix3 0 j k)
    = m ((c : Thread nD τ).loc main_arg2) (ix3 ⟨t.val / 12, by omega⟩ j ⟨t.val % 12 * 1024 + k.val, by omega⟩) := by
  blk_ext [iblk, V, idx t]

theorem rd_b : (iblk m c 2 t : FVec Ideal S1x1x1024 .f32) (ix3 0 0 k)
    = m ((c : Thread nD τ).loc main_arg3) (ix2 ⟨t.val / 12, by omega⟩ ⟨t.val % 12 * 1024 + k.val, by omega⟩) := by
  refine Eq.trans ?_ (bias m c ⟨t.val / 12, by omega⟩ ⟨t.val % 12 * 1024 + k.val, by omega⟩)
  blk_ext [iblk, idx t]

end

/-- What a point stores. -/
theorem stored (t : Fin cfg0.N) (h48 : t.val < 48) (i : Fin 8) (k : Fin 1024) : out0_3 (F := Ideal) (iblk m c 0 t) (iblk m c 1 t) (iblk m c 2 t) (ix3 0 i k)
    = row (cond (m ((c : Thread nD τ).loc main_arg0)) (m ((c : Thread nD τ).loc main_arg1))) (m ((c : Thread nD τ).loc main_arg2)) (m ((c : Thread nD τ).loc main_arg3))
        ⟨t.val / 12, by omega⟩ i ⟨t.val % 12 * 1024 + k.val, by omega⟩ := by
  refine (block_apply _ _ _ i k).trans ?_
  unfold row
  rw [rd_b m c t h48 k]
  refine congrArg (· + _) (Finset.sum_congr rfl fun j _ => ?_)
  rw [rd_cond m c t i j, rd_w m c t h48 k j]

/-- The array the call leaves. -/
theorem final : (dats m 0 c).arrAt 3 (cfgs 0).N = rows (m ((c : Thread nD τ).loc main_arg0)) (m ((c : Thread nD τ).loc main_arg1)) (m ((c : Thread nD τ).loc main_arg2)) (m ((c : Thread nD τ).loc main_arg3)) := by
  refine (dats m 0 c).arrAt_eq_of_covers 3 (rows (m ((c : Thread nD τ).loc main_arg0)) (m ((c : Thread nD τ).loc main_arg1)) (m ((c : Thread nD τ).loc main_arg2)) (m ((c : Thread nD τ).loc main_arg3))) (by decide +kernel) fun t _ y => ?_
  blk_simp
  rw [after0_3]
  idx_vars y
  have h48 := (idx t).2.2.2.2
  obtain rfl : y0 = 0 := Fin.ext (by omega)
  refine (stored m c t h48 y1 y2).trans ?_
  unfold rows
  blk_simp [idx t]
  rfl

end

section
open Cert.AdaReferenceIdeal Cert.AdaReferenceIdeal.Gen Cert.AdaReferenceIdeal.Read

/-- The reference's gated conditions. -/
theorem gated (p : FVec Ideal S2048 .f32) (s : FVec Ideal S4x2048 .f32) (i : Fin 8) (j : Fin 2048) : val_main_v3 (F := Ideal) p s (ix2 i j)
    = cond p s (ix2 i j) * Ideal.logistic (cond p s (ix2 i j)) := by
  have e : val_main_v2 (F := Ideal) p s = cond p s := rfl
  unfold val_main_v3 val_main_call0_v5 val_main_call0_v4 val_main_call0_v3 val_main_call0_v2 val_main_call0_v1 val_main_call0_v0 val_main_call0_cst_0 val_main_call0_cst
  rw [e]
  generalize cond p s = z
  pointwise []
  rfl

/-- The reference's result. -/
theorem result (p : FVec Ideal S2048 .f32) (s : FVec Ideal S4x2048 .f32) (w : FVec Ideal S4x2048x12288 .f32) (b : FVec Ideal S4x12288 .f32) :
    val_main_v8 (F := Ideal) p s w b = rows p s w b := by
  funext y
  idx_vars y
  show val_main_v8 (F := Ideal) p s w b (ix3 y0 y1 y2) = row (cond p s) w b y0 y1 y2
  unfold val_main_v8 val_main_v7 val_main_v6 val_main_v5 val_main_v4 row
  pointwise []
  simp only [gated]
  refine congrArg (· + _) (Finset.sum_congr rfl fun j _ => ?_)
  exact mul_comm _ _

end

/-- The call leaves the reference's result. -/
theorem equal : Cert.algebraic_AdaIdeal_AdaReferenceIdeal := fun m g m' g' _ hag =>
  ⟨fun c => (Cert.AdaIdeal.Gen.dats m 0 c).arrAt 3 Cert.AdaIdeal.cfg0.N, Cert.AdaIdeal.Value.run_blocks m g,
    (θ_run _ _ _).mono (fun _ h c => ⟨(h c).1.trans (by
        rw [Cert.AdaReferenceIdeal.Read.val_main_v8_eq]
        obtain ⟨h0, h1, h2, h3⟩ := hag c
        refine Eq.trans ?_ (final m c).symm
        refine Eq.trans ?_ (result _ _ _ _)
        rw [← h0, ← h1, ← h2, ← h3]), (h c).2⟩) (Cert.AdaReferenceIdeal.Value.run m' g')⟩

end Cert.AdaCall

end
-- ==== Proof.FirstCall.lean ====
/- The first modulated norm: its runs, the array it leaves, and that the reference's result is the same. -/
module

public import proofs.«01_k».proof.Defs
public import proofs.«01_k».proof.Proof.Gen.First.Frame
public import proofs.«01_k».proof.Proof.Gen.FirstIdeal.Value
public import proofs.«01_k».proof.Proof.Gen.FirstReferenceIdeal.Run
public import proofs.«01_k».proof.Proof.Gen.FirstReferenceIdeal.Read
public import proofs.«01_k».proof.Proof.Row
public import Idealize.ShloMosaic.Lib.Claim
public import Idealize.ShloMosaic.Lib.Quiescent

@[expose] public section

set_option maxRecDepth 16384

noncomputable section

namespace Cert.FirstCall

open Idealize.ShloMosaic Idealize.ShloMosaic.TcCoe Idealize.SL.Sem

instance : Cert.First.Facts := Cert.First.Gen.facts
instance : Cert.FirstIdeal.Facts := Cert.FirstIdeal.Gen.facts
instance : Cert.FirstReferenceIdeal.Facts := Cert.FirstReferenceIdeal.Gen.facts

/-- The call terminates, leaves its arguments as they were and every counter at zero. -/
theorem frame_P : Cert.quiescent_First := fun m ρ _ => Cert.First.Gen.frame m ρ

/-- The same over the extended reals. -/
theorem frame_PI : Cert.quiescent_FirstIdeal := fun m ρ _ => Cert.FirstIdeal.Gen.frame m ρ

/-- The same of the reference over the extended reals, which has no counter. -/
theorem frame_RI : Cert.quiescent_FirstReferenceIdeal := fun m ρ _ =>
  (θ_run _ _ _).mono (fun r h => ⟨fun c => (h c).2, sem_eq_zero_of_no_sems (by decide) r.2⟩)
    (Cert.FirstReferenceIdeal.Value.run m ρ)

/-- No operation was rewritten for the extended reals. -/
theorem preserves : Cert.preserves_First_FirstIdeal := trivial

section
open Cert.FirstIdeal Cert.FirstIdeal.Gen

/-- Token `R` of the prompts' sequences of 256 and the samples' of 2048 after them. -/
def tokens_in (xp : FVec Ideal S32x256x2048 .f32) (xs : FVec Ideal S4x2048x2048 .f32) (R : Fin 16384) (k : Fin 2048) : EReal :=
  if h : R.val < 8192 then xp (ix3 ⟨R.val / 256, by omega⟩ ⟨R.val % 256, by omega⟩ k)
  else xs (ix3 ⟨(R.val - 8192) / 2048, by omega⟩ ⟨(R.val - 8192) % 2048, by omega⟩ k)

/-- Row `R` of the first layer's input, modulated by row `b`. -/
def norm (xp : FVec Ideal S32x256x2048 .f32) (xs : FVec Ideal S4x2048x2048 .f32) (g : FVec Ideal S4x2048 .f32) (mod : FVec Ideal S8x6x2048 .f32) (b : Fin 8) (R : Fin 16384) : Fin 2048 → EReal :=
  Row.modulated (fun k => tokens_in xp xs R k) (fun k => g (ix2 0 k)) (fun k => mod (ix3 b 1 k)) fun k => mod (ix3 b 0 k)

/-- The first layer's input. -/
def input (xp : FVec Ideal S32x256x2048 .f32) (xs : FVec Ideal S4x2048x2048 .f32) (g : FVec Ideal S4x2048 .f32) (mod : FVec Ideal S8x6x2048 .f32) : FVec Ideal S16384x2048 .bf16 := fun y =>
  norm xp xs g mod (Row.tok ⟨(y 0).val, (y 0).isLt⟩) ⟨(y 0).val, (y 0).isLt⟩ ⟨(y 1).val, (y 1).isLt⟩

/-- What a point stores, from its loads. -/
theorem store (x : Vec Ideal S256x2048 .f32) (g : Vec Ideal S1x2048 .f32) (s b : Vec Ideal S1x1x2048 .f32) (r : Fin 256) (k : Fin 2048) : k0_pay1 (F := Ideal) x g s b (ix2 r k)
    = Row.modulated (fun k => x (ix2 r k)) (fun k => g (ix2 0 k)) (fun k => s (ix3 0 0 k)) (fun k => b (ix3 0 0 k)) k := by
  unfold k0_pay1
  pointwise []
  rfl

/-- The scale and the shift among the modulation rows. -/
abbrev scale : Rect S1x6x2048 := Rect.unit (s := S1x6x2048) ![0, 1, 0] S1x1x2048.size inb_S1x6x2048_S1x1x2048_0_1_0
abbrev shift : Rect S1x6x2048 := Rect.unit (s := S1x6x2048) ![0, 0, 0] S1x1x2048.size inb_S1x6x2048_S1x1x2048_0_0_0

/-- The block a point stores. -/
def block (X : Vec Ideal S256x2048 .f32) (G : Vec Ideal S1x2048 .f32) (M : Vec Ideal S1x6x2048 .f32) : Vec Ideal S256x2048 .bf16 :=
  k0_pay1 (F := Ideal) X G (View.ld M scale) (View.ld M shift)

theorem ld_scale (M : Vec Ideal S1x6x2048 .f32) (k : Fin 2048) : View.ld M scale (ix3 0 0 k) = M (ix3 0 1 k) :=
  View.ld_unit_apply_of _ _ _ _ _ _ (by intro a; fin_cases a; exacts [rfl, rfl, (Nat.zero_add _).symm])

theorem ld_shift (M : Vec Ideal S1x6x2048 .f32) (k : Fin 2048) : View.ld M shift (ix3 0 0 k) = M (ix3 0 0 k) :=
  View.ld_unit_apply_of _ _ _ _ _ _ (by intro a; fin_cases a; exacts [rfl, rfl, (Nat.zero_add _).symm])

/-- That block, row by row. -/
theorem block_norm (X : Vec Ideal S256x2048 .f32) (G : Vec Ideal S1x2048 .f32) (M : Vec Ideal S1x6x2048 .f32) (r : Fin 256) (k : Fin 2048) : block X G M (ix2 r k)
    = Row.modulated (fun k => X (ix2 r k)) (fun k => G (ix2 0 k)) (fun k => M (ix3 0 1 k)) (fun k => M (ix3 0 0 k)) k := by
  refine (store X G _ _ r k).trans ?_
  exact congrArg₂ (fun s b => Row.modulated (fun k => X (ix2 r k)) (fun k => G (ix2 0 k)) s b k) (funext fun k => ld_scale M k) (funext fun k => ld_shift M k)

variable (m : (ℓ : Loc nD τ sig) → Buf (Elt Ideal) ℓ) (c : Dev nD)

/-- A point of the prompts stores the block of the prompts' rows. -/
theorem outs_prompt (t : Fin cfg0.N) (h0 : t.val < 32) : outsAt0 m c t.val t.isLt = block (iblk m c 0 t) (iblk m c 2 t) (iblk m c 3 t) := by
  rw [outsAt0_A m c t h0 (by omega)]
  frame_out
  rfl

/-- A point of the samples stores the block of the samples' rows. -/
theorem outs_sample (t : Fin cfg0.N) (h0 : ¬t.val < 32) : outsAt0 m c t.val t.isLt = block (iblk m c 1 t) (iblk m c 2 t) (iblk m c 3 t) := by
  rw [outsAt0_B m c t h0 (by omega)]
  frame_out
  rfl

/-- The modulation row of a grid point: the prompts' blocks read row 0, a sample's eight blocks its own. -/
def at_ (t : ℕ) : ℕ := if t < 32 then 0 else 1 + (t - 32) / 8

/-- Each window's block at a grid point. -/
theorem idx : ∀ t : Fin cfg0.N, win0_0.index t = ![min t.val 31, 0] ∧ win0_1.index t = ![t.val - 32, 0] ∧ win0_2.index t = ![0, 0] ∧ win0_3.index t = ![at_ t.val, 0, 0]
    ∧ win0_4.index t = ![t.val, 0] ∧ t.val < 64 :=
  (by decide +kernel : ∀ t : Fin grid0.N, _)

/-- The prompts' tokens as rows. -/
theorem prompts (R : Fin 8192) (k : Fin 2048) : (V m c main_v0 : FVec Ideal S8192x2048 .f32) (ix2 R k)
    = m (c, Proc.tc.devRef main_arg0) (ix3 ⟨R.val / 256, by omega⟩ ⟨R.val % 256, by omega⟩ k) := by
  have h : (V m c main_v0 : FVec Ideal S8192x2048 .f32) = shapeCast S8192x2048 (m (c, Proc.tc.devRef main_arg0)) shapeCasts_S32x256x2048_S8192x2048 := by
    entry_read; rfl
  have hz : ∀ z : FVec Ideal S32x256x2048 .f32, shapeCast S8192x2048 z shapeCasts_S32x256x2048_S8192x2048 (ix2 R k)
      = z (ix3 ⟨R.val / 256, by omega⟩ ⟨R.val % 256, by omega⟩ k) := fun z => by pointwise []
  rw [h]
  exact hz _

/-- The samples' tokens as rows. -/
theorem samples (R : Fin 8192) (k : Fin 2048) : (V m c main_v1 : FVec Ideal S8192x2048 .f32) (ix2 R k)
    = m (c, Proc.tc.devRef main_arg1) (ix3 ⟨R.val / 2048, by omega⟩ ⟨R.val % 2048, by omega⟩ k) := by
  have h : (V m c main_v1 : FVec Ideal S8192x2048 .f32) = shapeCast S8192x2048 (m (c, Proc.tc.devRef main_arg1)) shapeCasts_S4x2048x2048_S8192x2048 := by
    entry_read; rfl
  have hz : ∀ z : FVec Ideal S4x2048x2048 .f32, shapeCast S8192x2048 z shapeCasts_S4x2048x2048_S8192x2048 (ix2 R k)
      = z (ix3 ⟨R.val / 2048, by omega⟩ ⟨R.val % 2048, by omega⟩ k) := fun z => by pointwise []
  rw [h]
  exact hz _

/-- The norm's weights as a row. -/
theorem gain (k : Fin 2048) : (V m c main_v4 : FVec Ideal S1x2048 .f32) (ix2 0 k) = m (c, Proc.tc.devRef main_arg2) (ix2 0 k) := by
  have h : (V m c main_v4 : FVec Ideal S1x2048 .f32) = shapeCast S1x2048 (shapeCast S2048 (extractStridedSlice S1x2048 ![0, 0] (m (c, Proc.tc.devRef main_arg2)) slices_S4x2048_S1x2048_0_0) shapeCasts_S1x2048_S2048) shapeCasts_S2048_S1x2048 := by
    entry_read; rfl
  rw [h]; pointwise []

/-- A point's modulation row is its tokens'. -/
theorem at_tok (t : Fin cfg0.N) (r : Fin 256) (h : t.val * 256 + r.val < 16384) : at_ t.val = (Row.tok ⟨t.val * 256 + r.val, h⟩).val := by
  have := r.isLt
  unfold at_ Row.tok
  split <;> split <;> simp at * <;> omega

theorem rd_gain (t : Fin cfg0.N) (k : Fin 2048) : (iblk m c 2 t : FVec Ideal S1x2048 .f32) (ix2 0 k) = m ((c : Thread nD τ).loc main_arg2) (ix2 0 k) := by
  refine Eq.trans ?_ (gain m c k)
  blk_ext [iblk, idx t]

section
variable (t : Fin cfg0.N) (r : Fin 256) (h : t.val * 256 + r.val < 16384)

theorem rd_xp (h0 : t.val < 32) (k : Fin 2048) : (iblk m c 0 t : FVec Ideal S256x2048 .f32) (ix2 r k)
    = tokens_in (m ((c : Thread nD τ).loc main_arg0)) (m ((c : Thread nD τ).loc main_arg1)) ⟨t.val * 256 + r.val, h⟩ k := by
  have h8 : t.val * 256 + r.val < 8192 := by have := r.isLt; omega
  have h31 : min t.val 31 = t.val := by omega
  have hr : tokens_in (m ((c : Thread nD τ).loc main_arg0)) (m ((c : Thread nD τ).loc main_arg1)) ⟨t.val * 256 + r.val, h⟩ k
      = m ((c : Thread nD τ).loc main_arg0) (ix3 ⟨(t.val * 256 + r.val) / 256, by omega⟩ ⟨(t.val * 256 + r.val) % 256, by omega⟩ k) := dif_pos h8
  rw [hr]
  refine Eq.trans ?_ (prompts m c ⟨t.val * 256 + r.val, h8⟩ k)
  blk_ext [iblk, idx t, h31]

theorem rd_xs (h0 : ¬t.val < 32) (k : Fin 2048) : (iblk m c 1 t : FVec Ideal S256x2048 .f32) (ix2 r k)
    = tokens_in (m ((c : Thread nD τ).loc main_arg0)) (m ((c : Thread nD τ).loc main_arg1)) ⟨t.val * 256 + r.val, h⟩ k := by
  have h8 : ¬t.val * 256 + r.val < 8192 := by omega
  have hr : tokens_in (m ((c : Thread nD τ).loc main_arg0)) (m ((c : Thread nD τ).loc main_arg1)) ⟨t.val * 256 + r.val, h⟩ k
      = m ((c : Thread nD τ).loc main_arg1) (ix3 ⟨(t.val * 256 + r.val - 8192) / 2048, by omega⟩ ⟨(t.val * 256 + r.val - 8192) % 2048, by omega⟩ k) := dif_neg h8
  rw [hr]
  refine Eq.trans ?_ (samples m c ⟨t.val * 256 + r.val - 8192, by omega⟩ k)
  blk_ext [iblk, idx t]

theorem rd_mod (a : Fin 6) (k : Fin 2048) : (iblk m c 3 t : FVec Ideal S1x6x2048 .f32) (ix3 0 a k)
    = m ((c : Thread nD τ).loc main_arg3) (ix3 (Row.tok ⟨t.val * 256 + r.val, h⟩) a k) := by
  blk_ext [iblk, V, idx t, at_tok t r h]

end

/-- What a point stores. -/
theorem stored (t : Fin cfg0.N) (r : Fin 256) (h : t.val * 256 + r.val < 16384) (k : Fin 2048) : outsAt0 m c t.val t.isLt (ix2 r k)
    = norm (m ((c : Thread nD τ).loc main_arg0)) (m ((c : Thread nD τ).loc main_arg1)) (m ((c : Thread nD τ).loc main_arg2)) (m ((c : Thread nD τ).loc main_arg3)) (Row.tok ⟨t.val * 256 + r.val, h⟩) ⟨t.val * 256 + r.val, h⟩ k := by
  by_cases h0 : t.val < 32
  · rw [outs_prompt m c t h0, block_norm]
    simp only [rd_xp m c t r h h0, rd_mod m c t r h, rd_gain m c t]
    rfl
  · rw [outs_sample m c t h0, block_norm]
    simp only [rd_xs m c t r h h0, rd_mod m c t r h, rd_gain m c t]
    rfl

/-- The array the call leaves. -/
theorem final : (dats m 0 c).arrAt 4 (cfgs 0).N = input (m ((c : Thread nD τ).loc main_arg0)) (m ((c : Thread nD τ).loc main_arg1)) (m ((c : Thread nD τ).loc main_arg2)) (m ((c : Thread nD τ).loc main_arg3)) := by
  refine (dats m 0 c).arrAt_eq_of_covers 4 (input (m ((c : Thread nD τ).loc main_arg0)) (m ((c : Thread nD τ).loc main_arg1)) (m ((c : Thread nD τ).loc main_arg2)) (m ((c : Thread nD τ).loc main_arg3))) (by decide +kernel) fun t _ y => ?_
  blk_simp
  rw [after0_4]
  idx_vars y
  have h64 := (idx t).2.2.2.2.2
  have h : t.val * 256 + y0.val < 16384 := by omega
  refine (stored m c t y0 h y1).trans ?_
  unfold input
  blk_simp [idx t]

end

section
open Cert.FirstReferenceIdeal Cert.FirstReferenceIdeal.Gen Cert.FirstReferenceIdeal.Read

/-- The reference's modulation, token by token. -/
theorem tokens (mod : FVec Ideal S8x6x2048 .f32) (R : Fin 16384) (a : Fin 6) (k : Fin 2048) :
    val_main_v6 (F := Ideal) mod (ix3 R a k) = mod (ix3 (Row.tok R) a k) := by
  unfold val_main_v6 val_main_v5 val_main_v4 val_main_v3 val_main_v2 val_main_v1 val_main_v0
  pointwise []
  unfold Row.tok
  split <;> rfl

/-- The reference's tokens. -/
theorem before (xp : FVec Ideal S32x256x2048 .f32) (xs : FVec Ideal S4x2048x2048 .f32) (R : Fin 16384) (k : Fin 2048) :
    val_main_v9 (F := Ideal) xp xs (ix2 R k) = tokens_in xp xs R k := by
  unfold val_main_v9 val_main_v8 val_main_v7
  pointwise []
  rfl

/-- The reference's result. -/
theorem result (xp : FVec Ideal S32x256x2048 .f32) (xs : FVec Ideal S4x2048x2048 .f32) (g : FVec Ideal S4x2048 .f32) (mod : FVec Ideal S8x6x2048 .f32) :
    val_main_v33 (F := Ideal) xp xs g mod = input xp xs g mod := by
  funext y
  idx_vars y
  show val_main_v33 (F := Ideal) xp xs g mod (ix2 y0 y1) = norm xp xs g mod (Row.tok y0) y0 y1
  unfold val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10
    val_main_cst_2 val_main_cst_1 val_main_cst_0 val_main_cst
  pointwise []
  simp only [tokens, before]
  rfl

end

/-- The call leaves the reference's result. -/
theorem equal : Cert.algebraic_FirstIdeal_FirstReferenceIdeal := fun m g m' g' _ hag =>
  ⟨fun c => (Cert.FirstIdeal.Gen.dats m 0 c).arrAt 4 Cert.FirstIdeal.cfg0.N, Cert.FirstIdeal.Value.run_blocks m g,
    (θ_run _ _ _).mono (fun _ h c => ⟨(h c).1.trans (by
        rw [Cert.FirstReferenceIdeal.Read.val_main_v33_eq]
        obtain ⟨h0, h1, h2, h3⟩ := hag c
        refine Eq.trans ?_ (final m c).symm
        refine Eq.trans ?_ (result _ _ _ _)
        rw [← h0, ← h1, ← h2, ← h3]), (h c).2⟩) (Cert.FirstReferenceIdeal.Value.run m' g')⟩

end Cert.FirstCall

end
-- ==== Proof.LowCall.lean ====
/- The product with the gates' low-rank columns: its runs, the array it leaves, and that the reference's result is the same. -/
module

public import proofs.«01_k».proof.Defs
public import proofs.«01_k».proof.Proof.Gen.Low.Frame
public import proofs.«01_k».proof.Proof.Gen.LowIdeal.Value
public import proofs.«01_k».proof.Proof.Gen.LowReferenceIdeal.Run
public import proofs.«01_k».proof.Proof.Gen.LowReferenceIdeal.Read
public import Idealize.ShloMosaic.Lib.Pipeline.ValueKit
public import Idealize.ShloMosaic.Lib.Claim
public import Idealize.ShloMosaic.Lib.Quiescent

@[expose] public section

set_option maxRecDepth 16384

noncomputable section

namespace Cert.LowCall

open Idealize.ShloMosaic Idealize.ShloMosaic.TcCoe Idealize.SL.Sem

instance : Cert.Low.Facts := Cert.Low.Gen.facts
instance : Cert.LowIdeal.Facts := Cert.LowIdeal.Gen.facts
instance : Cert.LowReferenceIdeal.Facts := Cert.LowReferenceIdeal.Gen.facts

/-- The call terminates, leaves its arguments as they were and every counter at zero. -/
theorem frame_P : Cert.quiescent_Low := fun m ρ _ => Cert.Low.Gen.frame m ρ

/-- The same over the extended reals. -/
theorem frame_PI : Cert.quiescent_LowIdeal := fun m ρ _ => Cert.LowIdeal.Gen.frame m ρ

/-- The same of the reference over the extended reals, which has no counter. -/
theorem frame_RI : Cert.quiescent_LowReferenceIdeal := fun m ρ _ =>
  (θ_run _ _ _).mono (fun r h => ⟨fun c => (h c).2, sem_eq_zero_of_no_sems (by decide) r.2⟩)
    (Cert.LowReferenceIdeal.Value.run m ρ)

/-- No operation was rewritten for the extended reals. -/
theorem preserves : Cert.preserves_Low_LowIdeal := trivial

section
open Cert.LowIdeal Cert.LowIdeal.Gen

/-- The product of the activations with the last 32 columns of the first odd layer's weights, and zeros behind them. -/
def product (h : FVec Ideal S16384x2048 .bf16) (w : FVec Ideal S2x2048x6176 .f32) (R : Fin 16384) (C : Fin 128) : EReal :=
  if hC : C.val < 32 then ∑ k : Fin 2048, h (ix2 R k) * w (ix3 0 k ⟨6144 + C.val, by omega⟩) else 0

/-- The same as an array. -/
def low (h : FVec Ideal S16384x2048 .bf16) (w : FVec Ideal S2x2048x6176 .f32) : FVec Ideal S16384x128 .bf16 := fun y =>
  product h w ⟨(y 0).val, (y 0).isLt⟩ ⟨(y 1).val, (y 1).isLt⟩

/-- The integer the padding is made of, as a number. -/
theorem none : (FloatOps.sitofp (F := Ideal) FTy.f32 0#32 : EReal) = 0 := by
  show (((0#32 : BitVec 32).toInt : ℝ) : EReal) = 0
  simp

/-- What a point stores: the product of its two blocks. -/
theorem block_apply (a : Vec Ideal S1024x2048 .bf16) (b : Vec Ideal S2048x128 .bf16) (r : Fin 1024) (k : Fin 128) :
    out0_2 (F := Ideal) a b (ix2 r k) = (∑ j : Fin 2048, a (ix2 r j) * b (ix2 j k) : EReal) := by
  have ha : ∀ (a : Vec Ideal S1024x2048 .bf16), View.ld a r0_0 = a := fun a => View.ld_unit_zero (by funext a; fin_cases a <;> rfl) _ a
  have hb : ∀ (b : Vec Ideal S2048x128 .bf16), View.ld b r0_1 = b := fun b => View.ld_unit_zero (by funext a; fin_cases a <;> rfl) _ b
  unfold out0_2
  rw [View.canon_unit_zero (by funext a; fin_cases a <;> rfl), ha, hb]
  unfold k0_pay1
  pointwise []

/-- The product of such blocks. -/
theorem summed (h : FVec Ideal S16384x2048 .bf16) (w : FVec Ideal S2x2048x6176 .f32) (A : FVec Ideal S1024x2048 .bf16) (B : FVec Ideal S2048x128 .bf16) (r : Fin 1024) (R : Fin 16384) (C : Fin 128)
    (hA : ∀ k : Fin 2048, A (ix2 r k) = h (ix2 R k)) (hB : ∀ k : Fin 2048, B (ix2 k C) = if hk : C.val < 32 then w (ix3 0 k ⟨6144 + C.val, by omega⟩) else (0 : EReal)) :
    (∑ k : Fin 2048, A (ix2 r k) * B (ix2 k C) : EReal) = product h w R C := by
  unfold product
  by_cases hC : C.val < 32
  · rw [dif_pos hC]
    exact Finset.sum_congr rfl fun k _ => by rw [hA k, hB k, dif_pos hC]
  · rw [dif_neg hC]
    exact Finset.sum_eq_zero fun k _ => by rw [hB k, dif_neg hC, mul_zero]

variable (m : (ℓ : Loc nD τ sig) → Buf (Elt Ideal) ℓ) (c : Dev nD)

/-- Each window's block at a grid point. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

/-- The weights the host prepares. -/
theorem weights (j : Fin 2048) (k : Fin 128) : (V m c main_v4 : FVec Ideal S2048x128 .bf16) (ix2 j k)
    = if hk : k.val < 32 then m (c, Proc.tc.devRef main_arg1) (ix3 0 j ⟨6144 + k.val, by omega⟩) else (0 : EReal) := by
  have h : (V m c main_v4 : FVec Ideal S2048x128 .bf16) = truncf (F := Ideal) (φ := .f32) .bf16 (pad S2048x128 ![0, 0] ![0, 96] ![0, 0] (extractStridedSlice S2048x32 ![0, 6144] (shapeCast S2048x6176 (extractStridedSlice S1x2048x6176 ![0, 0, 0] (m (c, Proc.tc.devRef main_arg1)) slices_S2x2048x6176_S1x2048x6176_0_0_0) shapeCasts_S1x2048x6176_S2048x6176) slices_S2048x6176_S2048x32_0_6144)
      (sitofp (F := Ideal) .f32 (constantI S_ 32 0#32)) pads_S2048x32_S2048x128_000_0960 h_S_) bitsLt_bf16_f32 := by
    entry_read; rfl
  rw [h]; pointwise []
  rw [none]

/-- The array the call leaves. -/
theorem final : (dats m 0 c).arrAt 2 (cfgs 0).N = low (m ((c : Thread nD τ).loc main_arg0)) (m ((c : Thread nD τ).loc main_arg1)) := by
  refine (dats m 0 c).arrAt_eq_of_covers 2 (low (m ((c : Thread nD τ).loc main_arg0)) (m ((c : Thread nD τ).loc main_arg1))) (by decide +kernel) fun t _ y => ?_
  blk_simp
  rw [after0_2]
  idx_vars y
  have h16 := (idx t).2.2.2
  refine (block_apply _ _ y0 y1).trans ?_
  have e : ∀ k : Fin 2048, (iblk m c 1 t : FVec Ideal S2048x128 .bf16) (ix2 k y1) = _ := fun k => Eq.trans (by blk_ext [iblk, idx t]) (weights m c k y1)
  have e0 : ∀ k : Fin 2048, (iblk m c 0 t : FVec Ideal S1024x2048 .bf16) (ix2 y0 k) = m ((c : Thread nD τ).loc main_arg0) (ix2 ⟨t.val * 1024 + y0.val, by omega⟩ k) := fun k => by
    blk_ext [iblk, V, idx t]
  refine (summed _ _ _ _ y0 ⟨t.val * 1024 + y0.val, by omega⟩ y1 e0 e).trans ?_
  unfold low
  blk_simp [idx t]

end

section
open Cert.LowReferenceIdeal Cert.LowReferenceIdeal.Gen Cert.LowReferenceIdeal.Read

/-- The reference's result. -/
theorem result (h : FVec Ideal S16384x2048 .bf16) (w : FVec Ideal S2x2048x6176 .f32) : val_main_v6 (F := Ideal) h w = low h w := by
  funext y
  idx_vars y
  show val_main_v6 (F := Ideal) h w (ix2 y0 y1) = product h w y0 y1
  simp only [← val_main_v6_eq]
  pointwise []
  rw [none]
  rfl

end

/-- The call leaves the reference's result. -/
theorem equal : Cert.algebraic_LowIdeal_LowReferenceIdeal := fun m g m' g' _ hag =>
  ⟨fun c => (Cert.LowIdeal.Gen.dats m 0 c).arrAt 2 Cert.LowIdeal.cfg0.N, Cert.LowIdeal.Value.run_blocks m g,
    (θ_run _ _ _).mono (fun _ h c => ⟨(h c).1.trans (by
        rw [Cert.LowReferenceIdeal.Read.val_main_v6_eq]
        obtain ⟨h0, h1⟩ := hag c
        refine Eq.trans ?_ (final m c).symm
        refine Eq.trans ?_ (result _ _)
        rw [← h0, ← h1]), (h c).2⟩) (Cert.LowReferenceIdeal.Value.run m' g')⟩

end Cert.LowCall

end
-- ==== Proof.Decay.lean ====
/- The gates' decays as mathematics: the logarithm of a gate, its sums along a chunk, and the table of weights that two scatters fill. -/
module

public import proofs.«01_k».proof.Defs
public import Idealize.ShloMosaic.Lib.Pipeline.ValueKit
public import Idealize.ShloMosaic.Lib.Routing.OpsSet

@[expose] public section

set_option maxRecDepth 16384

noncomputable section

namespace Cert.Decay

open Idealize.ShloMosaic

/-- The logarithm of a gate's sigmoid, divided by sixteen. -/
def decay (z : EReal) : EReal := (min z 0 - Ideal.log (1 + Ideal.exp (0 - max z (-z)))) * Ideal.ofBits FTy.f32 0x3D800000#32

theorem sixteenth : Ideal.ofBits FTy.f32 0x3D800000#32 = ((1 / 16 : ℝ) : EReal) := by
  simp [Ideal.ofBits, Ideal.ieee]
  norm_num [← EReal.coe_mul]

theorem sixteen : Ideal.ofBits FTy.f32 0x41800000#32 = ((16 : ℝ) : EReal) := by
  simp [Ideal.ofBits, Ideal.ieee]
  norm_num [← EReal.coe_mul]

/-- The logarithm of one and an exponential that is at most one is a number. -/
theorem tail_real (z : EReal) : ∃ r : ℝ, Ideal.log (1 + Ideal.exp (-max z (-z))) = r := by
  have hz : ∀ r : ℝ, 0 < 1 + Real.exp r := fun r => by positivity
  have h0 : Ideal.log (1 + Ideal.exp ⊥) = ((0 : ℝ) : EReal) := by
    show Ideal.log (1 + 0) = _
    rw [add_zero]
    show (if (1 : ℝ) ≤ 0 then (⊥ : EReal) else (Real.log 1 : EReal)) = _
    rw [if_neg (by norm_num), Real.log_one]
  induction z with
  | bot => exact ⟨0, by simpa using h0⟩
  | top => exact ⟨0, by simpa using h0⟩
  | coe r =>
    refine ⟨Real.log (1 + Real.exp (-max r (-r))), ?_⟩
    have e : (-max (r : EReal) (-(r : EReal))) = ((-max r (-r) : ℝ) : EReal) := by
      rw [← EReal.coe_neg, ← EReal.coe_strictMono.monotone.map_max, ← EReal.coe_neg]
    rw [e]
    show Ideal.log (((1 : ℝ) : EReal) + ((Real.exp (-max r (-r)) : ℝ) : EReal)) = _
    rw [← EReal.coe_add]
    show (if 1 + Real.exp (-max r (-r)) ≤ 0 then (⊥ : EReal) else (Real.log (1 + Real.exp (-max r (-r))) : EReal)) = _
    rw [if_neg (not_le.mpr (hz _))]

theorem zero_sub' (x : EReal) : 0 - x = -x := by rw [sub_eq_add_neg, zero_add]

/-- A decay is not infinite upwards. -/
theorem decay_ne_top (z : EReal) : decay z ≠ ⊤ := by
  obtain ⟨r, hr⟩ := tail_real z
  unfold decay
  rw [zero_sub', hr, sixteenth]
  induction z with
  | bot =>
    rw [min_eq_left bot_le, EReal.bot_sub, EReal.bot_mul_coe_of_pos (by norm_num)]
    exact bot_ne_top
  | top =>
    rw [min_eq_right le_top, ← EReal.coe_zero, ← EReal.coe_sub, ← EReal.coe_mul]
    exact EReal.coe_ne_top _
  | coe s =>
    rw [← EReal.coe_zero, ← EReal.coe_strictMono.monotone.map_min, ← EReal.coe_sub, ← EReal.coe_mul]
    exact EReal.coe_ne_top _

theorem neg_max_neg (z : EReal) : -max (-z) 0 = min z 0 := by
  rcases le_total z 0 with h | h
  · rw [min_eq_left h, max_eq_left (EReal.le_neg_of_le_neg (by simpa using h)), neg_neg]
  · rw [min_eq_right h, max_eq_right (EReal.neg_le_of_neg_le (by simpa using h)), neg_zero]

/-- The reference's form of it. -/
theorem decay_eq (z : EReal) :
    Ideal.div (-(max (-z) 0 + Ideal.log1p (Ideal.exp (-max (-z - 0) (-(-z - 0)))))) (Ideal.ofBits FTy.f32 0x41800000#32) = decay z := by
  obtain ⟨r, hr⟩ := tail_real z
  have hm : max (-z - 0) (-(-z - 0)) = max z (-z) := by rw [sub_zero, neg_neg, max_comm]
  unfold decay Ideal.log1p Ideal.div
  rw [hm, zero_sub', hr, sixteen, sixteenth, if_neg (by norm_num), EReal.neg_add (Or.inr (EReal.coe_ne_top _)) (Or.inr (EReal.coe_ne_bot _)), neg_max_neg, ← EReal.coe_inv]
  norm_num

/-- Three sums of the parts of numbers that are not infinite upwards are the sum of the numbers. -/
theorem parts {n : ℕ} (p : Fin n → Prop) [DecidablePred p] (f : Fin n → EReal) (hf : ∀ j, f j ≠ ⊤) :
    ((∑ j, (if p j then (1 : EReal) else 0) * f j) + ∑ j, (if p j then (1 : EReal) else 0) * (f j - f j))
      + (∑ j, (if p j then (1 : EReal) else 0) * ((f j - f j) - (f j - f j))) = ∑ j, if p j then f j else 0 := by
  rw [← Finset.sum_add_distrib, ← Finset.sum_add_distrib]
  refine Finset.sum_congr rfl fun j _ => ?_
  by_cases h : p j
  · simp only [if_pos h, one_mul]
    have hj := hf j
    revert hj
    generalize f j = x
    induction x with
    | bot => intro _; simp
    | top => intro h; exact absurd rfl h
    | coe r =>
      intro _
      rw [← EReal.coe_sub, ← EReal.coe_sub, ← EReal.coe_add, ← EReal.coe_add]
      norm_num
  · simp only [if_neg h, zero_mul, add_zero]

theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The shape of a window of 128 rows. -/
abbrev W : Shape := ⟨3, ![1, 128, 1]⟩

/-- A window's positions. -/
def places : Fin 128 ≃ W.Idx where
  toFun k := ix3 (0 : Fin 1) k (0 : Fin 1)
  invFun p := ⟨(p 1).val, (p 1).isLt⟩
  left_inv k := rfl
  right_inv p := by
    funext a
    fin_cases a
    · exact Fin.ext (by have h : (p 0).val < 1 := (p 0).isLt; show 0 = (p 0).val; omega)
    · rfl
    · exact Fin.ext (by have h : (p 2).val < 1 := (p 2).isLt; show 0 = (p 2).val; omega)

/-- A sum over windows of 128 rows that end at a row, of a chunk of 128 rows: the sum of the chunk's rows up to it. -/
theorem sums (x : FVec Ideal ⟨3, ![128, 128, 1024]⟩ .f32) (init : (⟨0, ![]⟩ : Shape).Idx → EReal) (h0 : ∀ i, init i = 0) (h : (⟨3, ![128, 128, 1024]⟩ : Shape).ReduceWindows (![1, 128, 1] : Fin 3 → ℕ) ![1, 1, 1] ![0, 127, 0] ![0, 0, 0] ⟨3, ![128, 128, 1024]⟩)
    (hu : 0 < (⟨0, ![]⟩ : Shape).numel) (n i : Fin 128) (C : Fin 1024) :
    Host.reduceWindowAdd (F := Ideal) (φ := .f32) (![1, 128, 1] : Fin 3 → ℕ) ![1, 1, 1] ![0, 127, 0] ![0, 0, 0] x init h hu (ix3 n i C) = ∑ k : Fin 128, if k ≤ i then x (ix3 n k C) else 0 := by
  show Host.reduceWindow (· + ·) (![1, 128, 1] : Fin 3 → ℕ) ![1, 1, 1] ![0, 127, 0] ![0, 0, 0] x init h hu (ix3 n i C) = _
  unfold Host.reduceWindow
  rw [h0]
  dsimp only
  rw [foldl_sum (fun q => _), zero_add, ← Fin.sum_univ_def]
  rw [← Equiv.sum_comp (W.rowMajor : W.Idx ≃ Fin W.numel), ← Equiv.sum_comp places]
  refine Eq.trans ?_ (Equiv.sum_comp (Equiv.addLeft (i + 1)) fun k : Fin 128 => if k ≤ i then x (ix3 n k C) else 0)
  refine Finset.sum_congr rfl fun m _ => ?_
  have hm : ((Equiv.addLeft (i + 1)) m).val = (i.val + m.val + 1) % 128 := by
    show (i + 1 + m).val = _
    rw [Fin.val_add, Fin.val_add]
    show ((i.val + 1) % 128 + m.val) % 128 = _
    omega
  simp only [Equiv.symm_apply_apply]
  by_cases hk : 127 ≤ i.val + m.val
  · have hle : (Equiv.addLeft (i + 1)) m ≤ i := by
      show ((Equiv.addLeft (i + 1)) m).val ≤ i.val
      omega
    rw [if_pos hle, dif_pos]
    · refine congrArg x (funext fun a => Fin.ext ?_)
      fin_cases a
      · show n.val * 1 + 0 - 0 = n.val; omega
      · show i.val * 1 + m.val - 127 = ((Equiv.addLeft (i + 1)) m).val; omega
      · show C.val * 1 + 0 - 0 = C.val; omega
    · intro a
      fin_cases a
      · show 0 ≤ n.val * 1 + 0 ∧ n.val * 1 + 0 - 0 < 128; omega
      · show 127 ≤ i.val * 1 + m.val ∧ i.val * 1 + m.val - 127 < 128; omega
      · show 0 ≤ C.val * 1 + 0 ∧ C.val * 1 + 0 - 0 < 1024; omega
  · have hle : ¬(Equiv.addLeft (i + 1)) m ≤ i := by
      show ¬((Equiv.addLeft (i + 1)) m).val ≤ i.val
      omega
    rw [if_neg hle, dif_neg]
    intro hin
    have h1 : 127 ≤ i.val * 1 + m.val := (hin 1).1
    omega

/-- A gate's argument: a direction's 16 low-rank columns by its weights, and its bias. -/
def gate (z : FVec Ideal ⟨2, ![16384, 128]⟩ .bf16) (w : FVec Ideal ⟨4, ![2, 2, 16, 1024]⟩ .f32) (b : FVec Ideal ⟨3, ![2, 2, 1024]⟩ .f32) (d : Fin 2) (R : Fin 16384) (C : Fin 1024) : EReal :=
  (∑ k : Fin 16, z (ix2 R ⟨16 * d.val + k.val, by omega⟩) * w (ix4 0 d k C)) + b (ix3 0 d C)

/-- The rows of a row's chunk. -/
def row (R : Fin 16384) (j : Fin 128) : Fin 16384 := ⟨R.val / 128 * 128 + j.val, by omega⟩

/-- The decays of the chunk's rows up to a row, summed. -/
def forward (z : FVec Ideal ⟨2, ![16384, 128]⟩ .bf16) (w : FVec Ideal ⟨4, ![2, 2, 16, 1024]⟩ .f32) (b : FVec Ideal ⟨3, ![2, 2, 1024]⟩ .f32) : FVec Ideal ⟨2, ![16384, 1024]⟩ .f32 := fun y =>
  ∑ j : Fin 128, if j.val ≤ (y 0).val % 128 then decay (gate z w b 0 (row ⟨(y 0).val, (y 0).isLt⟩ j) ⟨(y 1).val, (y 1).isLt⟩) else 0

/-- The decays of the chunk's rows from a row on, summed. -/
def backward (z : FVec Ideal ⟨2, ![16384, 128]⟩ .bf16) (w : FVec Ideal ⟨4, ![2, 2, 16, 1024]⟩ .f32) (b : FVec Ideal ⟨3, ![2, 2, 1024]⟩ .f32) : FVec Ideal ⟨2, ![16384, 1024]⟩ .f32 := fun y =>
  ∑ j : Fin 128, if (y 0).val % 128 ≤ j.val then decay (gate z w b 1 (row ⟨(y 0).val, (y 0).isLt⟩ j) ⟨(y 1).val, (y 1).isLt⟩) else 0

end Cert.Decay

end
-- ==== Proof.GateBlock.lean ====
/- The blocks the call with the gates' decays stores: sums along a chunk of the logarithms of the gates. -/
module

public import proofs.«01_k».proof.Defs
public import proofs.«01_k».proof.Proof.Gen.GateIdeal.Value
public import proofs.«01_k».proof.Proof.Decay
public import Idealize.ShloMosaic.Lib.Pipeline.ValueKit

@[expose] public section

set_option maxRecDepth 16384

noncomputable section

namespace Cert.GateCall

open Idealize.ShloMosaic Idealize.ShloMosaic.TcCoe Idealize.SL.Sem

instance factsI : Cert.GateIdeal.Facts := Cert.GateIdeal.Gen.facts

open Cert.GateIdeal Cert.GateIdeal.Gen Cert.Decay

/-- The logarithm of a gate that a block's row has. -/
theorem log_gate (z : Vec Ideal S512x128 .bf16) (w : Vec Ideal S1x128x1024 .bf16) (b : Vec Ideal S1x1x1024 .f32) (r : Fin 512) (C : Fin 1024) :
    k0_pay3 (F := Ideal) z w b (ix2 r C) = decay ((∑ k : Fin 128, z (ix2 r k) * w (ix3 0 k C) : EReal) + b (ix3 0 0 C)) := by
  unfold k0_pay3
  pointwise []
  rfl

/-- The other direction's. -/
theorem log_gate' (z : Vec Ideal S512x128 .bf16) (w : Vec Ideal S1x128x1024 .bf16) (b : Vec Ideal S1x1x1024 .f32) (r : Fin 512) (C : Fin 1024) :
    k0_pay16 (F := Ideal) (k0_pay15 z w) b (ix2 r C) = decay ((∑ k : Fin 128, z (ix2 r k) * w (ix3 0 k C) : EReal) + b (ix3 0 0 C)) := by
  unfold k0_pay16 k0_pay15
  pointwise []
  rfl

/-- A triangle of ones on and below the diagonal. -/
theorem lower (i j : Fin 128) : k0_pay8 (F := Ideal) (ix2 i j) = if j ≤ i then (1 : EReal) else 0 := by
  have h : ∀ i j : Fin 128, (IntOp.cmpi .sge (BitVec.ofNat 32 i.val) (BitVec.ofNat 32 j.val) : BitVec 1) = if j ≤ i then 1#1 else 0#1 := by
    decide +kernel
  unfold k0_pay8
  pointwise []
  refine (congrArg (fun q : BitVec 1 => Scalar.select q (1 : EReal) 0) (h i j)).trans ?_
  split <;> rfl

/-- Three products of a table with a chunk of rows. -/
def three (a b c : FVec Ideal S512x1024 .bf16) (t : FVec Ideal S128x128 .bf16) (o : ℕ) (ho : o + 128 ≤ 512) (i : Fin 128) (C : Fin 1024) : EReal :=
  ((∑ j : Fin 128, t (ix2 i j) * a (ix2 ⟨o + j.val, by omega⟩ C)) + ∑ j : Fin 128, t (ix2 i j) * b (ix2 ⟨o + j.val, by omega⟩ C))
    + ∑ j : Fin 128, t (ix2 i j) * c (ix2 ⟨o + j.val, by omega⟩ C)

theorem three1 (a b c : FVec Ideal S512x1024 .bf16) (t : FVec Ideal S128x128 .bf16) (i : Fin 128) (C : Fin 1024) :
    k0_pay12 a b c t (ix2 i C) = three a b c t 128 (by omega) i C := by
  unfold k0_pay12 three
  pointwise []

theorem three2 (a b c : FVec Ideal S512x1024 .bf16) (t : FVec Ideal S128x128 .bf16) (i : Fin 128) (C : Fin 1024) :
    k0_pay13 a b c t (ix2 i C) = three a b c t 256 (by omega) i C := by
  unfold k0_pay13 three
  pointwise []

theorem three3 (a b c : FVec Ideal S512x1024 .bf16) (t : FVec Ideal S128x128 .bf16) (i : Fin 128) (C : Fin 1024) :
    k0_pay14 a b c t (ix2 i C) = three a b c t 384 (by omega) i C := by
  unfold k0_pay14 three
  pointwise []

theorem three0 (z : Vec Ideal S512x128 .bf16) (w : Vec Ideal S1x128x1024 .bf16) (b : Vec Ideal S1x1x1024 .f32) (i : Fin 128) (C : Fin 1024) :
    k0_pay11 (k0_pay9 z w b) (k0_pay10 z w b) (ix2 i C) = three (k0_pay4 z w b) (k0_pay6 z w b) (k0_pay7 z w b) (k0_pay8 (F := Ideal)) 0 (by omega) i C := by
  unfold k0_pay11 k0_pay9 k0_pay10 three
  generalize k0_pay4 z w b = A
  generalize k0_pay6 z w b = B
  generalize k0_pay7 z w b = D
  generalize k0_pay8 (F := Ideal) = T
  pointwise []

theorem three0' (z : Vec Ideal S512x128 .bf16) (w : Vec Ideal S1x128x1024 .bf16) (b : Vec Ideal S1x1x1024 .f32) (i : Fin 128) (C : Fin 1024) (s s' : IVec S128x128 32) :
    k0_pay22 s s' (k0_pay15 z w) b (ix2 i C) = three (k0_pay17 (k0_pay15 z w) b) (k0_pay19 (k0_pay15 z w) b) (k0_pay20 (k0_pay15 z w) b) (k0_pay21 (F := Ideal) s s') 0 (by omega) i C := by
  unfold k0_pay22 three
  generalize k0_pay15 z w = Z
  generalize k0_pay17 Z b = A
  generalize k0_pay19 Z b = B
  generalize k0_pay20 Z b = D
  generalize k0_pay21 (F := Ideal) s s' = T
  pointwise []

theorem three1' (z : Vec Ideal S512x128 .bf16) (w : Vec Ideal S1x128x1024 .bf16) (b : Vec Ideal S1x1x1024 .f32) (i : Fin 128) (C : Fin 1024) (s s' : IVec S128x128 32) :
    k0_pay23 s s' (k0_pay15 z w) b (ix2 i C) = three (k0_pay17 (k0_pay15 z w) b) (k0_pay19 (k0_pay15 z w) b) (k0_pay20 (k0_pay15 z w) b) (k0_pay21 (F := Ideal) s s') 128 (by omega) i C := by
  unfold k0_pay23 three
  generalize k0_pay15 z w = Z
  generalize k0_pay17 Z b = A
  generalize k0_pay19 Z b = B
  generalize k0_pay20 Z b = D
  generalize k0_pay21 (F := Ideal) s s' = T
  pointwise []

theorem three2' (a b c : FVec Ideal S512x1024 .bf16) (t : FVec Ideal S128x128 .bf16) (i : Fin 128) (C : Fin 1024) :
    k0_pay1 a b c t (ix2 i C) = three a b c t 256 (by omega) i C := by
  unfold k0_pay1 three
  pointwise []

theorem three3' (a b c : FVec Ideal S512x1024 .bf16) (t : FVec Ideal S128x128 .bf16) (i : Fin 128) (C : Fin 1024) :
    k0_pay2 a b c t (ix2 i C) = three a b c t 384 (by omega) i C := by
  unfold k0_pay2 three
  pointwise []

/-- A triangle of ones on and above the diagonal. -/
theorem upper (i j : Fin 128) : k0_pay21 (F := Ideal) (iota .tc S128x128 32 [0] iota_S128x128_d0_w32) (iota .tc S128x128 32 [1] iota_S128x128_d1_w32) (ix2 i j) = if i ≤ j then (1 : EReal) else 0 := by
  have h : ∀ i j : Fin 128, (IntOp.cmpi .sle (BitVec.ofNat 32 i.val) (BitVec.ofNat 32 j.val) : BitVec 1) = if i ≤ j then 1#1 else 0#1 := by
    decide +kernel
  unfold k0_pay21
  pointwise []
  refine (congrArg (fun q : BitVec 1 => Scalar.select q (1 : EReal) 0) (h i j)).trans ?_
  split <;> rfl

/-- Three such products of a number's parts: the sum of the chunk's rows that the table keeps. -/
theorem three_parts (a b c : FVec Ideal S512x1024 .bf16) (t : FVec Ideal S128x128 .bf16) (o : ℕ) (ho : o + 128 ≤ 512) (i : Fin 128) (C : Fin 1024) (f : Fin 512 → EReal)
    (p : Fin 128 → Prop) [DecidablePred p] (ha : ∀ r, a (ix2 r C) = f r) (hb : ∀ r, b (ix2 r C) = f r - f r) (hc : ∀ r, c (ix2 r C) = (f r - f r) - (f r - f r))
    (ht : ∀ j, t (ix2 i j) = if p j then (1 : EReal) else 0) (hf : ∀ r, f r ≠ ⊤) :
    three a b c t o ho i C = ∑ j : Fin 128, if p j then f ⟨o + j.val, by omega⟩ else 0 := by
  unfold three
  simp only [ha, hb, hc, ht]
  exact parts p (fun j : Fin 128 => f ⟨o + j.val, by omega⟩) fun j => hf _

/-- A gate's argument in a block. -/
def pre (z : Vec Ideal S512x128 .bf16) (w : Vec Ideal S2x128x1024 .bf16) (b : Vec Ideal S2x1x1024 .f32) (d : Fin 2) (r : Fin 512) (C : Fin 1024) : EReal :=
  (∑ k : Fin 128, z (ix2 r k) * w (ix3 d k C) : EReal) + b (ix3 d 0 C)

theorem ld_z (z : Vec Ideal S512x128 .bf16) : View.ld z r0_0 = z := View.ld_unit_zero (by funext a; fin_cases a <;> rfl) _ z

theorem ld_w0 (w : Vec Ideal S2x128x1024 .bf16) (k : Fin 128) (C : Fin 1024) : View.ld w r0_1 (ix3 0 k C) = w (ix3 0 k C) :=
  View.ld_unit_apply_of _ _ _ _ _ _ (by intro a; fin_cases a; exacts [rfl, (Nat.zero_add _).symm, (Nat.zero_add _).symm])

theorem ld_w1 (w : Vec Ideal S2x128x1024 .bf16) (k : Fin 128) (C : Fin 1024) : View.ld w r0_7 (ix3 0 k C) = w (ix3 1 k C) :=
  View.ld_unit_apply_of _ _ _ _ _ _ (by intro a; fin_cases a; exacts [rfl, (Nat.zero_add _).symm, (Nat.zero_add _).symm])

theorem ld_b0 (b : Vec Ideal S2x1x1024 .f32) (C : Fin 1024) : View.ld b r0_2 (ix3 0 0 C) = b (ix3 0 0 C) :=
  View.ld_unit_apply_of _ _ _ _ _ _ (by intro a; fin_cases a; exacts [rfl, rfl, (Nat.zero_add _).symm])

theorem ld_b1 (b : Vec Ideal S2x1x1024 .f32) (C : Fin 1024) : View.ld b r0_8 (ix3 0 0 C) = b (ix3 1 0 C) :=
  View.ld_unit_apply_of _ _ _ _ _ _ (by intro a; fin_cases a; exacts [rfl, rfl, (Nat.zero_add _).symm])

theorem pre0 (z : Vec Ideal S512x128 .bf16) (w : Vec Ideal S2x128x1024 .bf16) (b : Vec Ideal S2x1x1024 .f32) (r : Fin 512) (C : Fin 1024) :
    k0_pay3 (F := Ideal) (View.ld z r0_0) (View.ld w r0_1) (View.ld b r0_2) (ix2 r C) = decay (pre z w b 0 r C) := by
  rw [ld_z]
  refine (log_gate _ _ _ r C).trans (congrArg decay ?_)
  exact congrArg₂ (fun x y : EReal => x + y) (Finset.sum_congr rfl fun k _ => congrArg (fun x : EReal => z (ix2 r k) * x) (ld_w0 w k C)) (ld_b0 b C)

theorem pre1 (z : Vec Ideal S512x128 .bf16) (w : Vec Ideal S2x128x1024 .bf16) (b : Vec Ideal S2x1x1024 .f32) (r : Fin 512) (C : Fin 1024) :
    k0_pay16 (F := Ideal) (k0_pay15 (View.ld z r0_0) (View.ld w r0_7)) (View.ld b r0_8) (ix2 r C) = decay (pre z w b 1 r C) := by
  rw [ld_z]
  refine (log_gate' _ _ _ r C).trans (congrArg decay ?_)
  exact congrArg₂ (fun x y : EReal => x + y) (Finset.sum_congr rfl fun k _ => congrArg (fun x : EReal => z (ix2 r k) * x) (ld_w1 w k C)) (ld_b1 b C)

theorem sub2 {x y : EReal} (h : x = y) : x - x = y - y := by rw [h]

/-- The first block a point stores. -/
theorem block_f (z : Vec Ideal S512x128 .bf16) (w : Vec Ideal S2x128x1024 .bf16) (b : Vec Ideal S2x1x1024 .f32) (r : Fin 512) (C : Fin 1024) :
    out0_3 (F := Ideal) z w b (ix2 r C) = ∑ j : Fin 128, if j.val ≤ r.val % 128 then decay (pre z w b 0 ⟨r.val / 128 * 128 + j.val, by omega⟩ C) else 0 := by
  have key : ∀ (o : ℕ) (ho : o + 128 ≤ 512) (i : Fin 128), o % 128 = 0 → r.val = o + i.val →
      three (k0_pay4 (View.ld z r0_0) (View.ld w r0_1) (View.ld b r0_2)) (k0_pay6 (View.ld z r0_0) (View.ld w r0_1) (View.ld b r0_2)) (k0_pay7 (View.ld z r0_0) (View.ld w r0_1) (View.ld b r0_2)) (k0_pay8 (F := Ideal)) o ho i C
        = ∑ j : Fin 128, if j.val ≤ r.val % 128 then decay (pre z w b 0 ⟨r.val / 128 * 128 + j.val, by omega⟩ C) else 0 := fun o ho i h0 hr => by
    refine (three_parts _ _ _ _ o ho i C (fun r => decay (pre z w b 0 r C)) (fun j => j ≤ i) (fun r => pre0 z w b r C) (fun r => sub2 (pre0 z w b r C)) (fun r => sub2 (sub2 (pre0 z w b r C))) (fun j => lower i j) fun r => decay_ne_top _).trans ?_
    refine Finset.sum_congr rfl fun j _ => ?_
    have hp : (j ≤ i) = (j.val ≤ r.val % 128) := by rw [Fin.le_def]; congr 1; omega
    have hq : (⟨o + j.val, by omega⟩ : Fin 512) = ⟨r.val / 128 * 128 + j.val, by omega⟩ := Fin.ext (by show o + j.val = r.val / 128 * 128 + j.val; omega)
    simp only [hp, hq]
  unfold_out out0_3
  generalize hy : (ix2 r C : S512x1024.Idx) = y
  canon_tiles x
  case piece0 =>
    subst hy
    idx_vars x
    obtain rfl : x1 = C := Fin.ext h1.symm
    exact (three3 _ _ _ _ _ _).trans (key 384 _ x0 rfl h0)
  case piece1 =>
    subst hy
    idx_vars x
    obtain rfl : x1 = C := Fin.ext h1.symm
    exact (three2 _ _ _ _ _ _).trans (key 256 _ x0 rfl h0)
  case piece2 =>
    subst hy
    idx_vars x
    obtain rfl : x1 = C := Fin.ext h1.symm
    exact (three1 _ _ _ _ _ _).trans (key 128 _ x0 rfl h0)
  case piece3 =>
    subst hy
    idx_vars x
    obtain rfl : x1 = C := Fin.ext h1.symm
    exact (three0 _ _ _ _ _).trans (key 0 _ x0 rfl (h0.trans (Nat.zero_add _).symm))

/-- The second block a point stores. -/
theorem block_b (z : Vec Ideal S512x128 .bf16) (w : Vec Ideal S2x128x1024 .bf16) (b : Vec Ideal S2x1x1024 .f32) (r : Fin 512) (C : Fin 1024) :
    out0_4 (F := Ideal) z w b (ix2 r C) = ∑ j : Fin 128, if r.val % 128 ≤ j.val then decay (pre z w b 1 ⟨r.val / 128 * 128 + j.val, by omega⟩ C) else 0 := by
  have key : ∀ (o : ℕ) (ho : o + 128 ≤ 512) (i : Fin 128), o % 128 = 0 → r.val = o + i.val →
      three (k0_pay17 (k0_pay15 (View.ld z r0_0) (View.ld w r0_7)) (View.ld b r0_8)) (k0_pay19 (k0_pay15 (View.ld z r0_0) (View.ld w r0_7)) (View.ld b r0_8)) (k0_pay20 (k0_pay15 (View.ld z r0_0) (View.ld w r0_7)) (View.ld b r0_8)) (k0_pay21 (F := Ideal) (iota .tc S128x128 32 [0] iota_S128x128_d0_w32) (iota .tc S128x128 32 [1] iota_S128x128_d1_w32)) o ho i C
        = ∑ j : Fin 128, if r.val % 128 ≤ j.val then decay (pre z w b 1 ⟨r.val / 128 * 128 + j.val, by omega⟩ C) else 0 := fun o ho i h0 hr => by
    refine (three_parts _ _ _ _ o ho i C (fun r => decay (pre z w b 1 r C)) (fun j => i ≤ j) (fun r => pre1 z w b r C) (fun r => sub2 (pre1 z w b r C)) (fun r => sub2 (sub2 (pre1 z w b r C))) (fun j => upper i j) fun r => decay_ne_top _).trans ?_
    refine Finset.sum_congr rfl fun j _ => ?_
    have hp : (i ≤ j) = (r.val % 128 ≤ j.val) := by rw [Fin.le_def]; congr 1; omega
    have hq : (⟨o + j.val, by omega⟩ : Fin 512) = ⟨r.val / 128 * 128 + j.val, by omega⟩ := Fin.ext (by show o + j.val = r.val / 128 * 128 + j.val; omega)
    simp only [hp, hq]
  unfold_out out0_4
  generalize hy : (ix2 r C : S512x1024.Idx) = y
  canon_tiles x
  case piece0 =>
    subst hy
    idx_vars x
    obtain rfl : x1 = C := Fin.ext h1.symm
    exact (three3' _ _ _ _ _ _).trans (key 384 _ x0 rfl h0)
  case piece1 =>
    subst hy
    idx_vars x
    obtain rfl : x1 = C := Fin.ext h1.symm
    exact (three2' _ _ _ _ _ _).trans (key 256 _ x0 rfl h0)
  case piece2 =>
    subst hy
    idx_vars x
    obtain rfl : x1 = C := Fin.ext h1.symm
    exact (three1' _ _ _ _ _ _ _).trans (key 128 _ x0 rfl h0)
  case piece3 =>
    subst hy
    idx_vars x
    obtain rfl : x1 = C := Fin.ext h1.symm
    exact (three0' _ _ _ _ _ _ _).trans (key 0 _ x0 rfl (h0.trans (Nat.zero_add _).symm))

end Cert.GateCall

end
-- ==== Proof.GateResult.lean ====
/- The reference's results with the gates' decays. -/
module

public import proofs.«01_k».proof.Defs
public import proofs.«01_k».proof.Proof.Gen.GateReferenceIdeal.Run
public import proofs.«01_k».proof.Proof.Gen.GateReferenceIdeal.Read
public import proofs.«01_k».proof.Proof.Decay
public import Idealize.ShloMosaic.Lib.Pipeline.ValueKit

@[expose] public section

set_option maxRecDepth 16384

noncomputable section

namespace Cert.GateCall

open Idealize.ShloMosaic Idealize.ShloMosaic.TcCoe Idealize.SL.Sem

instance factsR : Cert.GateReferenceIdeal.Facts := Cert.GateReferenceIdeal.Gen.facts

open Cert.GateReferenceIdeal Cert.GateReferenceIdeal.Gen Cert.GateReferenceIdeal.Read Cert.Decay

variable (z : FVec Ideal S16384x128 .bf16) (w : FVec Ideal S2x2x16x1024 .f32) (b : FVec Ideal S2x2x1024 .f32)

theorem arg0 (R : Fin 16384) (C : Fin 1024) : val_main_v9 (F := Ideal) z w b (ix2 R C) = gate z w b 0 R C := by
  unfold gate
  unfold val_main_v9 val_main_v8 val_main_v7 val_main_v6 val_main_v5 val_main_v4 val_main_v3 val_main_v2 val_main_v1 val_main_v0
  pointwise []

theorem arg1 (R : Fin 16384) (C : Fin 1024) : val_main_v18 (F := Ideal) z w b (ix2 R C) = gate z w b 1 R C := by
  unfold gate
  unfold val_main_v18 val_main_v17 val_main_v16 val_main_v15 val_main_v14 val_main_v13 val_main_v12 val_main_v11 val_main_v10 val_main_v0
  pointwise []

theorem log0 (R : Fin 16384) (C : Fin 1024) : val_main_v21 (F := Ideal) z w b (ix2 R C) = decay (gate z w b 0 R C) := by
  rw [← decay_eq, ← arg0]
  unfold val_main_v21 val_main_v20 val_main_v19 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_v0 val_main_cst val_main_call0_call0_cst
  generalize val_main_v9 (F := Ideal) z w b = A
  pointwise []
  rw [if_neg fun h => h rfl]
  rfl

theorem log1 (R : Fin 16384) (C : Fin 1024) : val_main_v25 (F := Ideal) z w b (ix2 R C) = decay (gate z w b 1 R C) := by
  rw [← decay_eq, ← arg1]
  unfold val_main_v25 val_main_v24 val_main_v23 val_main_call1_v1 val_main_call1_call0_v11 val_main_call1_call0_v10 val_main_call1_call0_v9 val_main_call1_call0_v8 val_main_call1_call0_v7 val_main_call1_call0_v6 val_main_call1_call0_v5 val_main_call1_call0_v4 val_main_call1_call0_v3 val_main_call1_call0_v2 val_main_call1_call0_v1 val_main_call1_call0_v0 val_main_call1_v0 val_main_cst_0 val_main_call1_call0_cst
  generalize val_main_v18 (F := Ideal) z w b = A
  pointwise []
  rw [if_neg fun h => h rfl]
  rfl

theorem rev_apply {α : Type} (x : S128x128x1024.Idx → α) (n i : Fin 128) (C : Fin 1024) : Host.reverse [1] x (ix3 n i C) = x (ix3 n i.rev C) := by
  unfold Host.reverse
  refine congrArg x (funext fun a => Fin.ext ?_)
  fin_cases a
  · rfl
  · show _ = 128 - (i.val + 1)
    rfl
  · rfl

theorem chunked (x : FVec Ideal S16384x1024 .f32) (h : S16384x1024.ShapeCasts S128x128x1024) (n i : Fin 128) (C : Fin 1024) :
    shapeCast S128x128x1024 x h (ix3 n i C) = x (ix2 ⟨n.val * 128 + i.val, by omega⟩ C) := by
  refine Idealize.ShloMosaic.shapeCast_apply (s := S16384x1024) _ _ _ (ix2 ⟨n.val * 128 + i.val, by omega⟩ C) ?_
  refine (Shape.rowMajor_val_two _).trans (Eq.trans ?_ (Shape.rowMajor_val_three _).symm)
  rfl

theorem flat (x : FVec Ideal S128x128x1024 .f32) (h : S128x128x1024.ShapeCasts S16384x1024) (R : Fin 16384) (C : Fin 1024) :
    shapeCast S16384x1024 x h (ix2 R C) = x (ix3 ⟨R.val / 128, by omega⟩ ⟨R.val % 128, by omega⟩ C) := by
  refine Idealize.ShloMosaic.shapeCast_apply (s := S128x128x1024) _ _ _ (ix3 ⟨R.val / 128, by omega⟩ ⟨R.val % 128, by omega⟩ C) ?_
  refine (Shape.rowMajor_val_three _).trans (Eq.trans ?_ (Shape.rowMajor_val_two _).symm)
  show (R.val / 128 * 128 + R.val % 128) * 1024 + C.val = R.val * 1024 + C.val
  omega

/-- The reference's first result. -/
theorem result_f : val_main_v31 (F := Ideal) z w b = forward z w b := by
  funext y
  idx_vars y
  show val_main_v31 (F := Ideal) z w b (ix2 y0 y1) = ∑ j : Fin 128, if j.val ≤ y0.val % 128 then decay (gate z w b 0 (row y0 j) y1) else 0
  unfold val_main_v31
  rw [flat]
  unfold val_main_v27
  rw [sums]
  · refine Finset.sum_congr rfl fun j _ => ?_
    unfold val_main_v22
    rw [chunked, log0]
    rfl
  · intro i
    unfold val_main_call2_call0_v0 val_main_call2_call0_cst
    pointwise []

/-- The reference's second result. -/
theorem result_b : val_main_v32 (F := Ideal) z w b = backward z w b := by
  funext y
  idx_vars y
  show val_main_v32 (F := Ideal) z w b (ix2 y0 y1) = ∑ j : Fin 128, if y0.val % 128 ≤ j.val then decay (gate z w b 1 (row y0 j) y1) else 0
  unfold val_main_v32
  rw [flat]
  unfold val_main_v30
  rw [rev_apply]
  unfold val_main_v29
  rw [sums]
  · rw [← Equiv.sum_comp Fin.revPerm]
    refine Finset.sum_congr rfl fun j _ => ?_
    unfold val_main_v28 val_main_v26
    rw [rev_apply, chunked, log1]
    have hp : (Fin.revPerm j ≤ (⟨y0.val % 128, by omega⟩ : Fin 128).rev) = (y0.val % 128 ≤ j.val) := propext (Fin.rev_le_rev (i := j))
    have hj : (Fin.revPerm j).rev = j := Fin.rev_rev j
    simp only [hp, hj]
    rfl
  · intro i
    unfold val_main_call3_call0_v0 val_main_call3_call0_cst
    pointwise []

end Cert.GateCall

end
-- ==== Proof.GateCall.lean ====
/- The call with the gates' decays: its runs, the arrays it leaves, and that the reference's results are the same. -/
module

public import proofs.«01_k».proof.Defs
public import proofs.«01_k».proof.Proof.Gen.Gate.Frame
public import proofs.«01_k».proof.Proof.GateBlock
public import proofs.«01_k».proof.Proof.GateResult
public import Idealize.ShloMosaic.Lib.Pipeline.ValueKit
public import Idealize.ShloMosaic.Lib.StableHlo.RunRead
public import Idealize.ShloMosaic.Lib.Claim
public import Idealize.ShloMosaic.Lib.Quiescent

@[expose] public section

set_option maxRecDepth 16384

noncomputable section

namespace Cert.GateCall

open Idealize.ShloMosaic Idealize.ShloMosaic.TcCoe Idealize.SL.Sem Cert.Decay

instance factsP : Cert.Gate.Facts := Cert.Gate.Gen.facts

/-- The call terminates, leaves its arguments as they were and every counter at zero. -/
theorem frame_P : Cert.quiescent_Gate := fun m ρ _ => Cert.Gate.Gen.frame m ρ

/-- The same over the extended reals. -/
theorem frame_PI : Cert.quiescent_GateIdeal := fun m ρ _ => Cert.GateIdeal.Gen.frame m ρ

/-- The same of the reference over the extended reals, which has no counter. -/
theorem frame_RI : Cert.quiescent_GateReferenceIdeal := fun m ρ _ =>
  (θ_run _ _ _).mono (fun r h => ⟨fun c => (h c).2.2, sem_eq_zero_of_no_sems (by decide) r.2⟩)
    (Cert.GateReferenceIdeal.Value.run m ρ)

/-- No operation was rewritten for the extended reals. -/
theorem preserves : Cert.preserves_Gate_GateIdeal := trivial

section
open Cert.GateIdeal Cert.GateIdeal.Gen

/-- Where an update of 16 rows lands. -/
theorem lands (I : IVec S2 32) (l : Fin 2) (o : ℕ) (ho : o + 16 ≤ 128) (h0 : (I (ix1 0)).toInt = l.val) (h1 : (I (ix1 1)).toInt = o) (a : Fin 16) (b : Fin 1024) :
    scatter_S2x128x1024_S2_S16x1024_01_0_01_0.resultIdx? (ix2 a b) I = some (ix3 l ⟨o + a.val, by omega⟩ b) := by
  have s0 : scatter_S2x128x1024_S2_S16x1024_01_0_01_0.start (ix2 a b) I (0 : Fin 3) = l.val := by
    unfold ScatterDims.start
    refine (dif_pos (show (0 : Fin 3) ∈ [(0 : Fin 3), 1] by decide)).trans ?_
    refine Eq.trans (congrArg (fun q => (I q).toInt) (funext fun x => ?_)) h0
    fin_cases x
    rfl
  have s1 : scatter_S2x128x1024_S2_S16x1024_01_0_01_0.start (ix2 a b) I (1 : Fin 3) = o := by
    unfold ScatterDims.start
    refine (dif_pos (show (1 : Fin 3) ∈ [(0 : Fin 3), 1] by decide)).trans ?_
    refine Eq.trans (congrArg (fun q => (I q).toInt) (funext fun x => ?_)) h1
    fin_cases x
    rfl
  have s2 : scatter_S2x128x1024_S2_S16x1024_01_0_01_0.start (ix2 a b) I (2 : Fin 3) = 0 := by
    unfold ScatterDims.start
    exact dif_neg (show ¬(2 : Fin 3) ∈ [(0 : Fin 3), 1] by decide)
  have w0 : scatter_S2x128x1024_S2_S16x1024_01_0_01_0.window (ix2 a b) (0 : Fin 3) = 0 := rfl
  have w1 : scatter_S2x128x1024_S2_S16x1024_01_0_01_0.window (ix2 a b) (1 : Fin 3) = a.val := rfl
  have w2 : scatter_S2x128x1024_S2_S16x1024_01_0_01_0.window (ix2 a b) (2 : Fin 3) = b.val := rfl
  unfold ScatterDims.resultIdx?
  rw [dif_pos]
  · refine congrArg some (funext fun x => Fin.ext ?_)
    fin_cases x
    · show (scatter_S2x128x1024_S2_S16x1024_01_0_01_0.start (ix2 a b) I (0 : Fin 3) + scatter_S2x128x1024_S2_S16x1024_01_0_01_0.window (ix2 a b) (0 : Fin 3)).toNat = l.val
      rw [s0, w0]; omega
    · show (scatter_S2x128x1024_S2_S16x1024_01_0_01_0.start (ix2 a b) I (1 : Fin 3) + scatter_S2x128x1024_S2_S16x1024_01_0_01_0.window (ix2 a b) (1 : Fin 3)).toNat = o + a.val
      rw [s1, w1]; omega
    · show (scatter_S2x128x1024_S2_S16x1024_01_0_01_0.start (ix2 a b) I (2 : Fin 3) + scatter_S2x128x1024_S2_S16x1024_01_0_01_0.window (ix2 a b) (2 : Fin 3)).toNat = b.val
      rw [s2, w2]; omega
  · intro x
    fin_cases x
    · show 0 ≤ scatter_S2x128x1024_S2_S16x1024_01_0_01_0.start (ix2 a b) I (0 : Fin 3) + scatter_S2x128x1024_S2_S16x1024_01_0_01_0.window (ix2 a b) (0 : Fin 3) ∧ scatter_S2x128x1024_S2_S16x1024_01_0_01_0.start (ix2 a b) I (0 : Fin 3) + scatter_S2x128x1024_S2_S16x1024_01_0_01_0.window (ix2 a b) (0 : Fin 3) < (2 : ℕ)
      rw [s0, w0]; omega
    · show 0 ≤ scatter_S2x128x1024_S2_S16x1024_01_0_01_0.start (ix2 a b) I (1 : Fin 3) + scatter_S2x128x1024_S2_S16x1024_01_0_01_0.window (ix2 a b) (1 : Fin 3) ∧ scatter_S2x128x1024_S2_S16x1024_01_0_01_0.start (ix2 a b) I (1 : Fin 3) + scatter_S2x128x1024_S2_S16x1024_01_0_01_0.window (ix2 a b) (1 : Fin 3) < (128 : ℕ)
      rw [s1, w1]; omega
    · show 0 ≤ scatter_S2x128x1024_S2_S16x1024_01_0_01_0.start (ix2 a b) I (2 : Fin 3) + scatter_S2x128x1024_S2_S16x1024_01_0_01_0.window (ix2 a b) (2 : Fin 3) ∧ scatter_S2x128x1024_S2_S16x1024_01_0_01_0.start (ix2 a b) I (2 : Fin 3) + scatter_S2x128x1024_S2_S16x1024_01_0_01_0.window (ix2 a b) (2 : Fin 3) < (1024 : ℕ)
      rw [s2, w2]; omega

/-- A table into which 16 rows were set. -/
theorem placed (x : FVec Ideal S2x128x1024 .f32) (I : IVec S2 32) (u : FVec Ideal S16x1024 .f32) (l : Fin 2) (o : ℕ) (ho : o + 16 ≤ 128) (h0 : (I (ix1 0)).toInt = l.val) (h1 : (I (ix1 1)).toInt = o)
    (e : Fin 2) (k : Fin 128) (C : Fin 1024) :
    Host.scatter scatter_S2x128x1024_S2_S16x1024_01_0_01_0 (fun _ b => b) x I u (ix3 e k C)
      = if h : e = l ∧ o ≤ k.val ∧ k.val < o + 16 then u (ix2 ⟨k.val - o, by omega⟩ C) else x (ix3 e k C) := by
  have inj : ∀ (a : Fin 16) (b : Fin 1024), scatter_S2x128x1024_S2_S16x1024_01_0_01_0.resultIdx? (ix2 a b) I = some (ix3 e k C) → l = e ∧ o + a.val = k.val ∧ b = C := fun a b hk => by
    rw [lands I l o ho h0 h1 a b] at hk
    have hk := Option.some.inj hk
    exact ⟨congrFun hk 0, congrArg Fin.val (congrFun hk 1), congrFun hk 2⟩
  by_cases h : e = l ∧ o ≤ k.val ∧ k.val < o + 16
  · rw [dif_pos h]
    refine Routing.scatter_set_hit _ x I u _ _ (fun j hj => ?_) (ix2 ⟨k.val - o, by omega⟩ C) ?_
    · idx_vars j
      obtain ⟨-, ha, hb⟩ := inj j0 j1 hj
      subst hb
      exact congrArg u (congrArg (ix2 · j1) (Fin.ext (by show j0.val = k.val - o; omega)))
    · rw [lands I l o ho h0 h1]
      obtain ⟨rfl, h2, h3⟩ := h
      exact congrArg some (congrArg (ix3 e · C) (Fin.ext (by show o + (k.val - o) = k.val; omega)))
  · rw [dif_neg h]
    refine Routing.scatter_set_miss _ x I u _ fun j hj => ?_
    idx_vars j
    obtain ⟨ha, hb, -⟩ := inj j0 j1 hj
    exact h ⟨ha.symm, by omega, by omega⟩

variable (m : (ℓ : Loc nD τ sig) → Buf (Elt Ideal) ℓ) (c : Dev nD)

/-- Each window's block at a grid point. -/
theorem idx : ∀ t : Fin cfg0.N, win0_0.index t = ![t.val, 0] ∧ win0_1.index t = ![0, 0, 0] ∧ win0_2.index t = ![0, 0, 0] ∧ win0_3.index t = ![t.val, 0] ∧ win0_4.index t = ![t.val, 0] ∧ t.val < 32 :=
  (by decide +kernel : ∀ t : Fin grid0.N, _)

theorem narrow (x : FVec Ideal S2x128x1024 .f32) (y : S2x128x1024.Idx) : (truncf (F := Ideal) (φ := .f32) .bf16 x bitsLt_bf16_f32 y : EReal) = x y := rfl

/-- The table of weights the host prepares. -/
theorem weights (e : Fin 2) (k : Fin 128) (C : Fin 1024) : (V m c main_v15 : FVec Ideal S2x128x1024 .bf16) (ix3 e k C)
    = if h : 16 * e.val ≤ k.val ∧ k.val < 16 * e.val + 16 then m (c, Proc.tc.devRef main_arg1) (ix4 0 e ⟨k.val - 16 * e.val, by omega⟩ C) else (0 : EReal) := by
  have h : (V m c main_v15 : FVec Ideal S2x128x1024 .bf16) = truncf (F := Ideal) (φ := .f32) .bf16 (Host.scatter scatter_S2x128x1024_S2_S16x1024_01_0_01_0 (fun _ b => b) (Host.scatter scatter_S2x128x1024_S2_S16x1024_01_0_01_0 (fun _ b => b)
        (broadcastInDim S2x128x1024 ![] bcast_S_S2x128x1024 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (shapeCast S16x1024 (extractStridedSlice S1x16x1024 ![0, 0, 0] (shapeCast S2x16x1024 (extractStridedSlice S1x2x16x1024 ![0, 0, 0, 0] (m (c, Proc.tc.devRef main_arg1)) slices_S2x2x16x1024_S1x2x16x1024_0_0_0_0) shapeCasts_S1x2x16x1024_S2x16x1024) slices_S2x16x1024_S1x16x1024_0_0_0) shapeCasts_S1x16x1024_S16x1024))
        (concatenate S2 0 [⟨S1, broadcastInDim S1 ![] bcast_S_S1 (constantI S_ 32 1#32)⟩, ⟨S1, broadcastInDim S1 ![] bcast_S_S1 (constantI S_ 32 16#32)⟩] concatenates_S1_S1_S2_d0)
        (shapeCast S16x1024 (extractStridedSlice S1x16x1024 ![1, 0, 0] (shapeCast S2x16x1024 (extractStridedSlice S1x2x16x1024 ![0, 0, 0, 0] (m (c, Proc.tc.devRef main_arg1)) slices_S2x2x16x1024_S1x2x16x1024_0_0_0_0) shapeCasts_S1x2x16x1024_S2x16x1024) slices_S2x16x1024_S1x16x1024_1_0_0) shapeCasts_S1x16x1024_S16x1024)) bitsLt_bf16_f32 := by
    unfold V hostOps0
    after_reads_simp
    rfl
  rw [h, narrow]
  rw [placed _ _ _ 1 16 (by omega) (by rfl) (by rfl), placed _ _ _ 0 0 (by omega) (by rfl) (by rfl)]
  pointwise []
  fin_cases e
  · show (if h : (0 : Fin 2) = 1 ∧ 16 ≤ k.val ∧ k.val < 32 then m (c, Proc.tc.devRef main_arg1) (ix4 0 1 ⟨k.val - 16, _⟩ C)
      else if h : (0 : Fin 2) = 0 ∧ k.val < 16 then m (c, Proc.tc.devRef main_arg1) (ix4 0 0 ⟨k.val, _⟩ C) else (0 : EReal))
      = if h : 16 * 0 ≤ k.val ∧ k.val < 16 * 0 + 16 then m (c, Proc.tc.devRef main_arg1) (ix4 0 0 ⟨k.val - 16 * 0, _⟩ C) else (0 : EReal)
    rw [dif_neg fun h => absurd h.1 (by decide)]
    by_cases hk : k.val < 16
    · rw [dif_pos ⟨rfl, hk⟩, dif_pos ⟨by omega, by omega⟩]
      rfl
    · rw [dif_neg fun h => hk h.2, dif_neg fun h => hk (by omega)]
  · show (if h : (1 : Fin 2) = 1 ∧ 16 ≤ k.val ∧ k.val < 32 then m (c, Proc.tc.devRef main_arg1) (ix4 0 1 ⟨k.val - 16, _⟩ C)
      else if h : (1 : Fin 2) = 0 ∧ k.val < 16 then m (c, Proc.tc.devRef main_arg1) (ix4 0 0 ⟨k.val, _⟩ C) else (0 : EReal))
      = if h : 16 * 1 ≤ k.val ∧ k.val < 16 * 1 + 16 then m (c, Proc.tc.devRef main_arg1) (ix4 0 1 ⟨k.val - 16 * 1, _⟩ C) else (0 : EReal)
    by_cases hk : 16 ≤ k.val ∧ k.val < 32
    · rw [dif_pos ⟨rfl, hk⟩, dif_pos ⟨by omega, by omega⟩]
    · rw [dif_neg fun h => hk h.2, dif_neg fun h => absurd h.1 (by decide), dif_neg fun h => hk (by omega)]

/-- The biases the host prepares. -/
theorem biases (e : Fin 2) (C : Fin 1024) : (V m c main_v18 : FVec Ideal S2x1x1024 .f32) (ix3 e 0 C) = m (c, Proc.tc.devRef main_arg2) (ix3 0 e C) := by
  have h : (V m c main_v18 : FVec Ideal S2x1x1024 .f32) = shapeCast S2x1x1024 (shapeCast S2x1024 (extractStridedSlice S1x2x1024 ![0, 0, 0] (m (c, Proc.tc.devRef main_arg2)) slices_S2x2x1024_S1x2x1024_0_0_0) shapeCasts_S1x2x1024_S2x1024) shapeCasts_S2x1024_S2x1x1024 := by
    unfold V hostOps0
    after_reads_simp
    rfl
  rw [h]
  pointwise []

/-- A product with a table that is zero off 16 of its rows. -/
theorem sixteen_rows (f : Fin 128 → EReal) (g : Fin 16 → EReal) (W : Fin 128 → EReal) (o : ℕ) (ho : o + 16 ≤ 128)
    (hW : ∀ k : Fin 128, W k = if h : o ≤ k.val ∧ k.val < o + 16 then g ⟨k.val - o, by omega⟩ else 0) :
    ∑ k : Fin 128, f k * W k = ∑ k : Fin 16, f ⟨o + k.val, by omega⟩ * g k := by
  symm
  refine Finset.sum_of_injOn (fun k : Fin 16 => (⟨o + k.val, by omega⟩ : Fin 128)) (fun a _ b _ h => Fin.ext (by have := congrArg Fin.val h; dsimp only at this; omega)) (fun _ _ => Finset.mem_coe.2 (Finset.mem_univ _)) (fun k _ hk => ?_) fun k _ => ?_
  · rw [hW, dif_neg, mul_zero]
    intro h
    exact hk ⟨⟨k.val - o, by omega⟩, Finset.mem_coe.2 (Finset.mem_univ _), Fin.ext (by show o + (k.val - o) = k.val; omega)⟩
  · rw [hW, dif_pos ⟨Nat.le_add_right _ _, by show o + k.val < o + 16; omega⟩]
    exact congrArg (fun q => f _ * g q) (Fin.ext (by show k.val = o + k.val - o; omega))

/-- A gate's argument in a point's blocks. -/
theorem pre_eq (t : Fin cfg0.N) (h32 : t.val < 32) (d : Fin 2) (r : Fin 512) (C : Fin 1024) :
    pre (iblk m c 0 t) (iblk m c 1 t) (iblk m c 2 t) d r C
      = gate (m ((c : Thread nD τ).loc main_arg0)) (m ((c : Thread nD τ).loc main_arg1)) (m ((c : Thread nD τ).loc main_arg2)) d ⟨t.val * 512 + r.val, by omega⟩ C := by
  have e0 : ∀ k : Fin 128, (iblk m c 0 t : FVec Ideal S512x128 .bf16) (ix2 r k) = m ((c : Thread nD τ).loc main_arg0) (ix2 ⟨t.val * 512 + r.val, by omega⟩ k) := fun k => by
    blk_ext [iblk, V, idx t]
  have e1 : ∀ k : Fin 128, (iblk m c 1 t : FVec Ideal S2x128x1024 .bf16) (ix3 d k C)
      = if h : 16 * d.val ≤ k.val ∧ k.val < 16 * d.val + 16 then m ((c : Thread nD τ).loc main_arg1) (ix4 0 d ⟨k.val - 16 * d.val, by omega⟩ C) else (0 : EReal) := fun k => by
    refine Eq.trans ?_ (weights m c d k C)
    simp only [iblk]
    generalize (V m c main_v15 : FVec Ideal S2x128x1024 .bf16) = W
    blk_ext [idx t]
  have e2 : (iblk m c 2 t : FVec Ideal S2x1x1024 .f32) (ix3 d 0 C) = m ((c : Thread nD τ).loc main_arg2) (ix3 0 d C) := by
    refine Eq.trans ?_ (biases m c d C)
    blk_ext [iblk, idx t]
  unfold pre gate
  refine congrArg₂ (fun x y : EReal => x + y) ?_ e2
  refine (sixteen_rows (fun k => (iblk m c 0 t : FVec Ideal S512x128 .bf16) (ix2 r k)) (fun k => m ((c : Thread nD τ).loc main_arg1) (ix4 0 d k C)) (fun k => (iblk m c 1 t : FVec Ideal S2x128x1024 .bf16) (ix3 d k C)) (16 * d.val) (by omega) e1).trans ?_
  exact Finset.sum_congr rfl fun k _ => congrArg (fun x : EReal => x * m ((c : Thread nD τ).loc main_arg1) (ix4 0 d k C)) (e0 _)

/-- The first array the call leaves. -/
theorem final_f : (dats m 0 c).arrAt 3 (cfgs 0).N = forward (m ((c : Thread nD τ).loc main_arg0)) (m ((c : Thread nD τ).loc main_arg1)) (m ((c : Thread nD τ).loc main_arg2)) := by
  refine (dats m 0 c).arrAt_eq_of_covers 3 (forward (m ((c : Thread nD τ).loc main_arg0)) (m ((c : Thread nD τ).loc main_arg1)) (m ((c : Thread nD τ).loc main_arg2))) (by decide +kernel) fun t _ y => ?_
  blk_simp
  rw [after0_3]
  idx_vars y
  have h32 := (idx t).2.2.2.2.2
  refine (block_f _ _ _ y0 y1).trans ?_
  simp only [pre_eq m c t h32]
  unfold forward
  blk_simp [idx t]
  refine Finset.sum_congr rfl fun j _ => ?_
  have hp : (j.val ≤ y0.val % 128) = (j.val ≤ (t.val * 512 + y0.val) % 128) := by congr 1; omega
  have hq : (⟨t.val * 512 + (y0.val / 128 * 128 + j.val), by omega⟩ : Fin 16384) = row ⟨t.val * 512 + y0.val, by omega⟩ j := Fin.ext (by show t.val * 512 + (y0.val / 128 * 128 + j.val) = (t.val * 512 + y0.val) / 128 * 128 + j.val; omega)
  simp only [hp, hq]

/-- The second array the call leaves. -/
theorem final_b : (dats m 0 c).arrAt 4 (cfgs 0).N = backward (m ((c : Thread nD τ).loc main_arg0)) (m ((c : Thread nD τ).loc main_arg1)) (m ((c : Thread nD τ).loc main_arg2)) := by
  refine (dats m 0 c).arrAt_eq_of_covers 4 (backward (m ((c : Thread nD τ).loc main_arg0)) (m ((c : Thread nD τ).loc main_arg1)) (m ((c : Thread nD τ).loc main_arg2))) (by decide +kernel) fun t _ y => ?_
  blk_simp
  rw [after0_4]
  idx_vars y
  have h32 := (idx t).2.2.2.2.2
  refine (block_b _ _ _ y0 y1).trans ?_
  simp only [pre_eq m c t h32]
  unfold backward
  blk_simp [idx t]
  refine Finset.sum_congr rfl fun j _ => ?_
  have hp : (y0.val % 128 ≤ j.val) = ((t.val * 512 + y0.val) % 128 ≤ j.val) := by congr 1; omega
  have hq : (⟨t.val * 512 + (y0.val / 128 * 128 + j.val), by omega⟩ : Fin 16384) = row ⟨t.val * 512 + y0.val, by omega⟩ j := Fin.ext (by show t.val * 512 + (y0.val / 128 * 128 + j.val) = (t.val * 512 + y0.val) / 128 * 128 + j.val; omega)
  simp only [hp, hq]

end

/-- The call leaves the reference's results. -/
theorem equal : Cert.algebraic_GateIdeal_GateReferenceIdeal := fun m g m' g' _ hag =>
  ⟨fun c => (Cert.GateIdeal.Gen.dats m 0 c).arrAt 3 Cert.GateIdeal.cfg0.N, fun c => (Cert.GateIdeal.Gen.dats m 0 c).arrAt 4 Cert.GateIdeal.cfg0.N, Cert.GateIdeal.Value.run_blocks m g,
    (θ_run _ _ _).mono (fun _ h c => ⟨(h c).1.trans (by
        rw [Cert.GateReferenceIdeal.Read.val_main_v31_eq]
        obtain ⟨h0, h1, h2⟩ := hag c
        refine Eq.trans ?_ (final_f m c).symm
        refine Eq.trans ?_ (result_f _ _ _)
        rw [← h0, ← h1, ← h2]), (h c).2.1.trans (by
        rw [Cert.GateReferenceIdeal.Read.val_main_v32_eq]
        obtain ⟨h0, h1, h2⟩ := hag c
        refine Eq.trans ?_ (final_b m c).symm
        refine Eq.trans ?_ (result_b _ _ _)
        rw [← h0, ← h1, ← h2]), (h c).2.2⟩) (Cert.GateReferenceIdeal.Value.run m' g')⟩

end Cert.GateCall

end
-- ==== Proof.lean ====
/- The claims of all programs, assembled. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.Attn.Value
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnReferenceIdeal
public import proofs.«01_k».proof.Proof.Gen.Pre_finite
public import proofs.«01_k».proof.Proof.Gen.AttnReferenceIdeal.Run
public import proofs.«01_k».proof.Proof.Gen.AttnReferenceIdeal.Read
public import proofs.«01_k».proof.Proof.Gen.Lat
public import proofs.«01_k».proof.Proof.Gen.Lat.Skeleton
public import proofs.«01_k».proof.Proof.Gen.Lat.Launch
public import proofs.«01_k».proof.Proof.Gen.Lat.Points
public import proofs.«01_k».proof.Proof.Gen.Lat.Frame
public import proofs.«01_k».proof.Proof.Gen.Lat.Value
public import proofs.«01_k».proof.Proof.Gen.LatIdeal
public import proofs.«01_k».proof.Proof.Gen.LatIdeal.Skeleton
public import proofs.«01_k».proof.Proof.Gen.LatIdeal.Launch
public import proofs.«01_k».proof.Proof.Gen.LatIdeal.Points
public import proofs.«01_k».proof.Proof.Gen.LatIdeal.Frame
public import proofs.«01_k».proof.Proof.Gen.LatIdeal.Value
public import proofs.«01_k».proof.Proof.Gen.LatReferenceIdeal
public import proofs.«01_k».proof.Proof.Gen.LatReferenceIdeal.Run
public import proofs.«01_k».proof.Proof.Gen.LatReferenceIdeal.Read
public import proofs.«01_k».proof.Proof.Gen.Pre_finite_lat
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.Ada.Value
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.First.Value
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstIdeal.Value
public import proofs.«01_k».proof.Proof.Gen.FirstReferenceIdeal
public import proofs.«01_k».proof.Proof.Gen.FirstReferenceIdeal.Run
public import proofs.«01_k».proof.Proof.Gen.FirstReferenceIdeal.Read
public import proofs.«01_k».proof.Proof.Gen.Low
public import proofs.«01_k».proof.Proof.Gen.Low.Skeleton
public import proofs.«01_k».proof.Proof.Gen.Low.Launch
public import proofs.«01_k».proof.Proof.Gen.Low.Points
public import proofs.«01_k».proof.Proof.Gen.Low.Frame
public import proofs.«01_k».proof.Proof.Gen.Low.Value
public import proofs.«01_k».proof.Proof.Gen.LowIdeal
public import proofs.«01_k».proof.Proof.Gen.LowIdeal.Skeleton
public import proofs.«01_k».proof.Proof.Gen.LowIdeal.Launch
public import proofs.«01_k».proof.Proof.Gen.LowIdeal.Points
public import proofs.«01_k».proof.Proof.Gen.LowIdeal.Frame
public import proofs.«01_k».proof.Proof.Gen.LowIdeal.Value
public import proofs.«01_k».proof.Proof.Gen.LowReferenceIdeal
public import proofs.«01_k».proof.Proof.Gen.LowReferenceIdeal.Run
public import proofs.«01_k».proof.Proof.Gen.LowReferenceIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.Gate.Value
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Halves
public import proofs.«01_k».proof.Proof.Gen.Halves.Skeleton
public import proofs.«01_k».proof.Proof.Gen.Halves.Launch
public import proofs.«01_k».proof.Proof.Gen.Halves.Points
public import proofs.«01_k».proof.Proof.Gen.Halves.Frame
public import proofs.«01_k».proof.Proof.Gen.HalvesIdeal
public import proofs.«01_k».proof.Proof.Gen.HalvesIdeal.Skeleton
public import proofs.«01_k».proof.Proof.Gen.HalvesIdeal.Launch
public import proofs.«01_k».proof.Proof.Gen.HalvesIdeal.Points
public import proofs.«01_k».proof.Proof.Gen.HalvesIdeal.Frame
public import proofs.«01_k».proof.Proof.Gen.ReferenceIdeal
public import proofs.«01_k».proof.Proof.Gen.Kernel.Value
public import proofs.«01_k».proof.Proof.Gen.Halves.Value
public import proofs.«01_k».proof.Proof.Gen.HalvesIdeal.Value
public import proofs.«01_k».proof.Proof.Gen.ReferenceIdeal.Run
public import proofs.«01_k».proof.Proof.Gen.ReferenceIdeal.Read
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.Prompt.Value
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptIdeal.Value
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.Sample.Value
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleIdeal.Value
public import proofs.«01_k».proof.Proof.Gen.PromptReferenceIdeal
public import proofs.«01_k».proof.Proof.Gen.PromptReferenceIdeal.Run
public import proofs.«01_k».proof.Proof.Gen.PromptReferenceIdeal.Read
public import proofs.«01_k».proof.Proof.Gen.SampleReferenceIdeal
public import proofs.«01_k».proof.Proof.Gen.SampleReferenceIdeal.Run
public import proofs.«01_k».proof.Proof.Gen.SampleReferenceIdeal.Read
public import proofs.«01_k».proof.Proof.Runs
public import proofs.«01_k».proof.Proof.Equal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.Down.Value
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenIn.Value
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInIdeal.Value
public import proofs.«01_k».proof.Proof.Gen.EvenInReferenceIdeal
public import proofs.«01_k».proof.Proof.Gen.EvenInReferenceIdeal.Run
public import proofs.«01_k».proof.Proof.Gen.EvenInReferenceIdeal.Read
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddIn.Value
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInIdeal.Value
public import proofs.«01_k».proof.Proof.Gen.OddInReferenceIdeal
public import proofs.«01_k».proof.Proof.Gen.OddInReferenceIdeal.Run
public import proofs.«01_k».proof.Proof.Gen.OddInReferenceIdeal.Read
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOut.Value
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutIdeal.Value
public import proofs.«01_k».proof.Proof.Gen.EvenOutReferenceIdeal
public import proofs.«01_k».proof.Proof.Gen.EvenOutReferenceIdeal.Run
public import proofs.«01_k».proof.Proof.Gen.EvenOutReferenceIdeal.Read
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOut.Value
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutIdeal.Value
public import proofs.«01_k».proof.Proof.Gen.OddOutReferenceIdeal
public import proofs.«01_k».proof.Proof.Gen.OddOutReferenceIdeal.Run
public import proofs.«01_k».proof.Proof.Gen.OddOutReferenceIdeal.Read
public import proofs.«01_k».proof.Proof.LastPrompt
public import proofs.«01_k».proof.Proof.LastSample
public import proofs.«01_k».proof.Proof.DownCall
public import proofs.«01_k».proof.Proof.Even
public import proofs.«01_k».proof.Proof.Odd
public import proofs.«01_k».proof.Proof.EvenProjCall
public import proofs.«01_k».proof.Proof.OddProjCall
public import proofs.«01_k».proof.Proof.AttnCall
public import proofs.«01_k».proof.Proof.LatCall
public import proofs.«01_k».proof.Proof.AdaCall
public import proofs.«01_k».proof.Proof.FirstCall
public import proofs.«01_k».proof.Proof.LowCall
public import proofs.«01_k».proof.Proof.GateCall
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.Halves.Gen.facts, Cert.HalvesIdeal.Gen.facts, Cert.ReferenceIdeal.Gen.facts,
  Cert.Prompt.Gen.facts, Cert.PromptIdeal.Gen.facts, Cert.PromptReferenceIdeal.Gen.facts,
  Cert.Sample.Gen.facts, Cert.SampleIdeal.Gen.facts, Cert.SampleReferenceIdeal.Gen.facts,
  Cert.Down.Gen.facts, Cert.DownIdeal.Gen.facts, Cert.DownReferenceIdeal.Gen.facts,
  Cert.EvenIn.Gen.facts, Cert.EvenInIdeal.Gen.facts, Cert.EvenInReferenceIdeal.Gen.facts,
  Cert.OddIn.Gen.facts, Cert.OddInIdeal.Gen.facts, Cert.OddInReferenceIdeal.Gen.facts,
  Cert.EvenOut.Gen.facts, Cert.EvenOutIdeal.Gen.facts, Cert.EvenOutReferenceIdeal.Gen.facts,
  Cert.OddOut.Gen.facts, Cert.OddOutIdeal.Gen.facts, Cert.OddOutReferenceIdeal.Gen.facts,
  Cert.Attn.Gen.facts, Cert.AttnIdeal.Gen.facts, Cert.AttnReferenceIdeal.Gen.facts,
  Cert.Lat.Gen.facts, Cert.LatIdeal.Gen.facts, Cert.LatReferenceIdeal.Gen.facts,
  Cert.Ada.Gen.facts, Cert.AdaIdeal.Gen.facts, Cert.AdaReferenceIdeal.Gen.facts,
  Cert.First.Gen.facts, Cert.FirstIdeal.Gen.facts, Cert.FirstReferenceIdeal.Gen.facts,
  Cert.Low.Gen.facts, Cert.LowIdeal.Gen.facts, Cert.LowReferenceIdeal.Gen.facts,
  Cert.Gate.Gen.facts, Cert.GateIdeal.Gen.facts, Cert.GateReferenceIdeal.Gen.facts,
  Cert.Pre_finite.Gen.facts, Cert.Pre_finite_lat.Gen.facts,
  Cert.Runs.frame_P, Cert.Runs.frame_H, Cert.Runs.frame_HI, Cert.Runs.frame_RI,
  Cert.LastPrompt.frame_P, Cert.LastPrompt.frame_PI, Cert.LastPrompt.frame_RI,
  Cert.LastSample.frame_P, Cert.LastSample.frame_PI, Cert.LastSample.frame_RI,
  Cert.DownCall.frame_P, Cert.DownCall.frame_PI, Cert.DownCall.frame_RI,
  Cert.Even.frame_P, Cert.Even.frame_PI, Cert.Even.frame_RI,
  Cert.Odd.frame_P, Cert.Odd.frame_PI, Cert.Odd.frame_RI,
  Cert.EvenProjCall.frame_P, Cert.EvenProjCall.frame_PI, Cert.EvenProjCall.frame_RI,
  Cert.OddProjCall.frame_P, Cert.OddProjCall.frame_PI, Cert.OddProjCall.frame_RI,
  Cert.AttnCall.frame_P, Cert.AttnCall.frame_PI, Cert.AttnCall.frame_PI_finite, Cert.AttnCall.frame_RI, Cert.AttnCall.frame_RI_finite,
  Cert.LatCall.frame_P, Cert.LatCall.frame_PI, Cert.LatCall.frame_PI_finite, Cert.LatCall.frame_RI, Cert.LatCall.frame_RI_finite,
  Cert.AdaCall.frame_P, Cert.AdaCall.frame_PI, Cert.AdaCall.frame_RI,
  Cert.FirstCall.frame_P, Cert.FirstCall.frame_PI, Cert.FirstCall.frame_RI,
  Cert.LowCall.frame_P, Cert.LowCall.frame_PI, Cert.LowCall.frame_RI,
  Cert.GateCall.frame_P, Cert.GateCall.frame_PI, Cert.GateCall.frame_RI,
  Cert.Runs.bitexact, Cert.Runs.preserves, Cert.Equal.ffn_up,
  Cert.LastPrompt.preserves, Cert.LastPrompt.equal,
  Cert.LastSample.preserves, Cert.LastSample.equal,
  Cert.DownCall.preserves, Cert.DownCall.equal,
  Cert.Even.preserves, Cert.Even.equal,
  Cert.Odd.preserves, Cert.Odd.equal,
  Cert.EvenProjCall.preserves, Cert.EvenProjCall.equal,
  Cert.OddProjCall.preserves, Cert.OddProjCall.equal,
  Cert.AttnCall.preserves, Cert.AttnCall.equal,
  Cert.LatCall.preserves, Cert.LatCall.equal,
  Cert.AdaCall.preserves, Cert.AdaCall.equal,
  Cert.FirstCall.preserves, Cert.FirstCall.equal,
  Cert.LowCall.preserves, Cert.LowCall.equal,
  Cert.GateCall.preserves, Cert.GateCall.equal⟩

end Cert.Proof

end
